-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_RefAIdeal (m : (ℓ : Loc Cert.RefAIdeal.nD Cert.RefAIdeal.τ Cert.RefAIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_RefBIdeal (m : (ℓ : Loc Cert.RefBIdeal.nD Cert.RefBIdeal.τ Cert.RefBIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_RefQIdeal (m : (ℓ : Loc Cert.RefQIdeal.nD Cert.RefQIdeal.τ Cert.RefQIdeal.sig) → Buf (Elt Ideal) ℓ) : Prop :=
  True

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_RefVIdeal (m : (ℓ : Loc Cert.RefVIdeal.nD Cert.RefVIdeal.τ Cert.RefVIdeal.sig) → Buf (Elt Ideal) ℓ) : Prop :=
  True

def Pre_ProjD (m : (ℓ : Loc Cert.ProjD.nD Cert.ProjD.τ Cert.ProjD.sig) → Buf (Elt Bits) ℓ) : Prop :=
  True

def Pre_ProjDIdeal (m : (ℓ : Loc Cert.ProjDIdeal.nD Cert.ProjDIdeal.τ Cert.ProjDIdeal.sig) → Buf (Elt Ideal) ℓ) : Prop :=
  True

def Pre_RefDIdeal (m : (ℓ : Loc Cert.RefDIdeal.nD Cert.RefDIdeal.τ Cert.RefDIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_RefZIdeal (m : (ℓ : Loc Cert.RefZIdeal.nD Cert.RefZIdeal.τ Cert.RefZIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_RefGIdeal (m : (ℓ : Loc Cert.RefGIdeal.nD Cert.RefGIdeal.τ Cert.RefGIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMIdeal (m : (ℓ : Loc Cert.RefMIdeal.nD Cert.RefMIdeal.τ Cert.RefMIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_RefOIdeal (m : (ℓ : Loc Cert.RefOIdeal.nD Cert.RefOIdeal.τ Cert.RefOIdeal.sig) → Buf (Elt Ideal) ℓ) : Prop :=
  True

def Pre_SampA (m : (ℓ : Loc Cert.SampA.nD Cert.SampA.τ Cert.SampA.sig) → Buf (Elt Bits) ℓ) : Prop :=
  True

def Pre_SampAIdeal (m : (ℓ : Loc Cert.SampAIdeal.nD Cert.SampAIdeal.τ Cert.SampAIdeal.sig) → Buf (Elt Ideal) ℓ) : Prop :=
  True

def Pre_RefSAIdeal (m : (ℓ : Loc Cert.RefSAIdeal.nD Cert.RefSAIdeal.τ Cert.RefSAIdeal.sig) → Buf (Elt Ideal) ℓ) : Prop :=
  True

def Pre_SampB (m : (ℓ : Loc Cert.SampB.nD Cert.SampB.τ Cert.SampB.sig) → Buf (Elt Bits) ℓ) : Prop :=
  True

def Pre_SampBIdeal (m : (ℓ : Loc Cert.SampBIdeal.nD Cert.SampBIdeal.τ Cert.SampBIdeal.sig) → Buf (Elt Ideal) ℓ) : Prop :=
  True

def Pre_RefSBIdeal (m : (ℓ : Loc Cert.RefSBIdeal.nD Cert.RefSBIdeal.τ Cert.RefSBIdeal.sig) → Buf (Elt Ideal) ℓ) : Prop :=
  True

def Pre_SampQ (m : (ℓ : Loc Cert.SampQ.nD Cert.SampQ.τ Cert.SampQ.sig) → Buf (Elt Bits) ℓ) : Prop :=
  True

def Pre_SampQIdeal (m : (ℓ : Loc Cert.SampQIdeal.nD Cert.SampQIdeal.τ Cert.SampQIdeal.sig) → Buf (Elt Ideal) ℓ) : Prop :=
  True

def Pre_RefSQIdeal (m : (ℓ : Loc Cert.RefSQIdeal.nD Cert.RefSQIdeal.τ Cert.RefSQIdeal.sig) → Buf (Elt Ideal) ℓ) : Prop :=
  True

def Pre_SampO (m : (ℓ : Loc Cert.SampO.nD Cert.SampO.τ Cert.SampO.sig) → Buf (Elt Bits) ℓ) : Prop :=
  True

def Pre_SampOIdeal (m : (ℓ : Loc Cert.SampOIdeal.nD Cert.SampOIdeal.τ Cert.SampOIdeal.sig) → Buf (Elt Ideal) ℓ) : Prop :=
  True

def Pre_RefSOIdeal (m : (ℓ : Loc Cert.RefSOIdeal.nD Cert.RefSOIdeal.τ Cert.RefSOIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_RefWIdeal (m : (ℓ : Loc Cert.RefWIdeal.nD Cert.RefWIdeal.τ Cert.RefWIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_RefCIdeal (m : (ℓ : Loc Cert.RefCIdeal.nD Cert.RefCIdeal.τ Cert.RefCIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_RefAIdeal [hRefAIdeal : Cert.RefAIdeal.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_RefBIdeal [hRefBIdeal : Cert.RefBIdeal.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0)
      ∧ r.2.mem ((c.tc : Thread Cert.RefBIdeal.nD Cert.RefBIdeal.τ).loc Cert.RefBIdeal.main_arg1) = m ((c.tc : Thread Cert.RefBIdeal.nD Cert.RefBIdeal.τ).loc Cert.RefBIdeal.main_arg1))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ r.2.sem = fun _ => 0)

def quiescent_RefQIdeal [hRefQIdeal : Cert.RefQIdeal.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ r.2.sem = fun _ => 0)

def quiescent_RefVIdeal [hRefVIdeal : Cert.RefVIdeal.Facts] : Prop :=
  ∀ (m : (ℓ : Loc Cert.RefVIdeal.nD Cert.RefVIdeal.τ Cert.RefVIdeal.sig) → Buf (Elt Ideal) ℓ) (g : Dev Cert.RefVIdeal.nD → PrngReg), Pre_RefVIdeal m →
    θ_run (Cert.RefVIdeal.defs (F := Ideal)) (onTc (τ := Cert.RefVIdeal.τ) (Cert.RefVIdeal.main (F := Ideal))) ⟨m, fun _ => 0, g⟩ (fun r => (∀ c : Dev Cert.RefVIdeal.nD,
      r.2.mem ((c.tc : Thread Cert.RefVIdeal.nD Cert.RefVIdeal.τ).loc Cert.RefVIdeal.main_arg0) = m ((c.tc : Thread Cert.RefVIdeal.nD Cert.RefVIdeal.τ).loc Cert.RefVIdeal.main_arg0)
      ∧ r.2.mem ((c.tc : Thread Cert.RefVIdeal.nD Cert.RefVIdeal.τ).loc Cert.RefVIdeal.main_arg1) = m ((c.tc : Thread Cert.RefVIdeal.nD Cert.RefVIdeal.τ).loc Cert.RefVIdeal.main_arg1))
      ∧ r.2.sem = fun _ => 0)

def quiescent_ProjD [hProjD : Cert.ProjD.Facts] : Prop :=
  ∀ (m : (ℓ : Loc Cert.ProjD.nD Cert.ProjD.τ Cert.ProjD.sig) → Buf (Elt Bits) ℓ) (g : Dev Cert.ProjD.nD → PrngReg), Pre_ProjD m →
    θ_run (Cert.ProjD.defs (F := Bits)) (onTc (τ := Cert.ProjD.τ) (Cert.ProjD.main (F := Bits))) ⟨m, fun _ => 0, g⟩ (fun r => (∀ c : Dev Cert.ProjD.nD,
      r.2.mem ((c.tc : Thread Cert.ProjD.nD Cert.ProjD.τ).loc Cert.ProjD.main_arg0) = m ((c.tc : Thread Cert.ProjD.nD Cert.ProjD.τ).loc Cert.ProjD.main_arg0)
      ∧ r.2.mem ((c.tc : Thread Cert.ProjD.nD Cert.ProjD.τ).loc Cert.ProjD.main_arg1) = m ((c.tc : Thread Cert.ProjD.nD Cert.ProjD.τ).loc Cert.ProjD.main_arg1))
      ∧ r.2.sem = fun _ => 0)

def quiescent_ProjDIdeal [hProjDIdeal : Cert.ProjDIdeal.Facts] : Prop :=
  ∀ (m : (ℓ : Loc Cert.ProjDIdeal.nD Cert.ProjDIdeal.τ Cert.ProjDIdeal.sig) → Buf (Elt Ideal) ℓ) (g : Dev Cert.ProjDIdeal.nD → PrngReg), Pre_ProjDIdeal m →
    θ_run (Cert.ProjDIdeal.defs (F := Ideal)) (onTc (τ := Cert.ProjDIdeal.τ) (Cert.ProjDIdeal.main (F := Ideal))) ⟨m, fun _ => 0, g⟩ (fun r => (∀ c : Dev Cert.ProjDIdeal.nD,
      r.2.mem ((c.tc : Thread Cert.ProjDIdeal.nD Cert.ProjDIdeal.τ).loc Cert.ProjDIdeal.main_arg0) = m ((c.tc : Thread Cert.ProjDIdeal.nD Cert.ProjDIdeal.τ).loc Cert.ProjDIdeal.main_arg0)
      ∧ r.2.mem ((c.tc : Thread Cert.ProjDIdeal.nD Cert.ProjDIdeal.τ).loc Cert.ProjDIdeal.main_arg1) = m ((c.tc : Thread Cert.ProjDIdeal.nD Cert.ProjDIdeal.τ).loc Cert.ProjDIdeal.main_arg1))
      ∧ r.2.sem = fun _ => 0)

def quiescent_RefDIdeal [hRefDIdeal : Cert.RefDIdeal.Facts] : Prop :=
  ∀ (m : (ℓ : Loc Cert.RefDIdeal.nD Cert.RefDIdeal.τ Cert.RefDIdeal.sig) → Buf (Elt Ideal) ℓ) (g : Dev Cert.RefDIdeal.nD → PrngReg), Pre_RefDIdeal m →
    θ_run (Cert.RefDIdeal.defs (F := Ideal)) (onTc (τ := Cert.RefDIdeal.τ) (Cert.RefDIdeal.main (F := Ideal))) ⟨m, fun _ => 0, g⟩ (fun r => (∀ c : Dev Cert.RefDIdeal.nD,
      r.2.mem ((c.tc : Thread Cert.RefDIdeal.nD Cert.RefDIdeal.τ).loc Cert.RefDIdeal.main_arg0) = m ((c.tc : Thread Cert.RefDIdeal.nD Cert.RefDIdeal.τ).loc Cert.RefDIdeal.main_arg0)
      ∧ r.2.mem ((c.tc : Thread Cert.RefDIdeal.nD Cert.RefDIdeal.τ).loc Cert.RefDIdeal.main_arg1) = m ((c.tc : Thread Cert.RefDIdeal.nD Cert.RefDIdeal.τ).loc Cert.RefDIdeal.main_arg1))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ r.2.sem = fun _ => 0)

def quiescent_RefZIdeal [hRefZIdeal : Cert.RefZIdeal.Facts] : Prop :=
  ∀ (m : (ℓ : Loc Cert.RefZIdeal.nD Cert.RefZIdeal.τ Cert.RefZIdeal.sig) → Buf (Elt Ideal) ℓ) (g : Dev Cert.RefZIdeal.nD → PrngReg), Pre_RefZIdeal m →
    θ_run (Cert.RefZIdeal.defs (F := Ideal)) (onTc (τ := Cert.RefZIdeal.τ) (Cert.RefZIdeal.main (F := Ideal))) ⟨m, fun _ => 0, g⟩ (fun r => (∀ c : Dev Cert.RefZIdeal.nD,
      r.2.mem ((c.tc : Thread Cert.RefZIdeal.nD Cert.RefZIdeal.τ).loc Cert.RefZIdeal.main_arg0) = m ((c.tc : Thread Cert.RefZIdeal.nD Cert.RefZIdeal.τ).loc Cert.RefZIdeal.main_arg0)
      ∧ r.2.mem ((c.tc : Thread Cert.RefZIdeal.nD Cert.RefZIdeal.τ).loc Cert.RefZIdeal.main_arg1) = m ((c.tc : Thread Cert.RefZIdeal.nD Cert.RefZIdeal.τ).loc Cert.RefZIdeal.main_arg1))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ r.2.sem = fun _ => 0)

def quiescent_RefGIdeal [hRefGIdeal : Cert.RefGIdeal.Facts] : Prop :=
  ∀ (m : (ℓ : Loc Cert.RefGIdeal.nD Cert.RefGIdeal.τ Cert.RefGIdeal.sig) → Buf (Elt Ideal) ℓ) (g : Dev Cert.RefGIdeal.nD → PrngReg), Pre_RefGIdeal m →
    θ_run (Cert.RefGIdeal.defs (F := Ideal)) (onTc (τ := Cert.RefGIdeal.τ) (Cert.RefGIdeal.main (F := Ideal))) ⟨m, fun _ => 0, g⟩ (fun r => (∀ c : Dev Cert.RefGIdeal.nD,
      r.2.mem ((c.tc : Thread Cert.RefGIdeal.nD Cert.RefGIdeal.τ).loc Cert.RefGIdeal.main_arg0) = m ((c.tc : Thread Cert.RefGIdeal.nD Cert.RefGIdeal.τ).loc Cert.RefGIdeal.main_arg0)
      ∧ r.2.mem ((c.tc : Thread Cert.RefGIdeal.nD Cert.RefGIdeal.τ).loc Cert.RefGIdeal.main_arg1) = m ((c.tc : Thread Cert.RefGIdeal.nD Cert.RefGIdeal.τ).loc Cert.RefGIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_RefMIdeal [hRefMIdeal : Cert.RefMIdeal.Facts] : Prop :=
  ∀ (m : (ℓ : Loc Cert.RefMIdeal.nD Cert.RefMIdeal.τ Cert.RefMIdeal.sig) → Buf (Elt Ideal) ℓ) (g : Dev Cert.RefMIdeal.nD → PrngReg), Pre_RefMIdeal m →
    θ_run (Cert.RefMIdeal.defs (F := Ideal)) (onTc (τ := Cert.RefMIdeal.τ) (Cert.RefMIdeal.main (F := Ideal))) ⟨m, fun _ => 0, g⟩ (fun r => (∀ c : Dev Cert.RefMIdeal.nD,
      r.2.mem ((c.tc : Thread Cert.RefMIdeal.nD Cert.RefMIdeal.τ).loc Cert.RefMIdeal.main_arg0) = m ((c.tc : Thread Cert.RefMIdeal.nD Cert.RefMIdeal.τ).loc Cert.RefMIdeal.main_arg0)
      ∧ r.2.mem ((c.tc : Thread Cert.RefMIdeal.nD Cert.RefMIdeal.τ).loc Cert.RefMIdeal.main_arg1) = m ((c.tc : Thread Cert.RefMIdeal.nD Cert.RefMIdeal.τ).loc Cert.RefMIdeal.main_arg1)
      ∧ r.2.mem ((c.tc : Thread Cert.RefMIdeal.nD Cert.RefMIdeal.τ).loc Cert.RefMIdeal.main_arg2) = m ((c.tc : Thread Cert.RefMIdeal.nD Cert.RefMIdeal.τ).loc Cert.RefMIdeal.main_arg2)
      ∧ r.2.mem ((c.tc : Thread Cert.RefMIdeal.nD Cert.RefMIdeal.τ).loc Cert.RefMIdeal.main_arg3) = m ((c.tc : Thread Cert.RefMIdeal.nD Cert.RefMIdeal.τ).loc Cert.RefMIdeal.main_arg3)
      ∧ r.2.mem ((c.tc : Thread Cert.RefMIdeal.nD Cert.RefMIdeal.τ).loc Cert.RefMIdeal.main_arg4) = m ((c.tc : Thread Cert.RefMIdeal.nD Cert.RefMIdeal.τ).loc Cert.RefMIdeal.main_arg4)
      ∧ r.2.mem ((c.tc : Thread Cert.RefMIdeal.nD Cert.RefMIdeal.τ).loc Cert.RefMIdeal.main_arg5) = m ((c.tc : Thread Cert.RefMIdeal.nD Cert.RefMIdeal.τ).loc Cert.RefMIdeal.main_arg5))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_RefOIdeal [hRefOIdeal : Cert.RefOIdeal.Facts] : Prop :=
  ∀ (m : (ℓ : Loc Cert.RefOIdeal.nD Cert.RefOIdeal.τ Cert.RefOIdeal.sig) → Buf (Elt Ideal) ℓ) (g : Dev Cert.RefOIdeal.nD → PrngReg), Pre_RefOIdeal m →
    θ_run (Cert.RefOIdeal.defs (F := Ideal)) (onTc (τ := Cert.RefOIdeal.τ) (Cert.RefOIdeal.main (F := Ideal))) ⟨m, fun _ => 0, g⟩ (fun r => (∀ c : Dev Cert.RefOIdeal.nD,
      r.2.mem ((c.tc : Thread Cert.RefOIdeal.nD Cert.RefOIdeal.τ).loc Cert.RefOIdeal.main_arg0) = m ((c.tc : Thread Cert.RefOIdeal.nD Cert.RefOIdeal.τ).loc Cert.RefOIdeal.main_arg0)
      ∧ r.2.mem ((c.tc : Thread Cert.RefOIdeal.nD Cert.RefOIdeal.τ).loc Cert.RefOIdeal.main_arg1) = m ((c.tc : Thread Cert.RefOIdeal.nD Cert.RefOIdeal.τ).loc Cert.RefOIdeal.main_arg1)
      ∧ r.2.mem ((c.tc : Thread Cert.RefOIdeal.nD Cert.RefOIdeal.τ).loc Cert.RefOIdeal.main_arg2) = m ((c.tc : Thread Cert.RefOIdeal.nD Cert.RefOIdeal.τ).loc Cert.RefOIdeal.main_arg2)
      ∧ r.2.mem ((c.tc : Thread Cert.RefOIdeal.nD Cert.RefOIdeal.τ).loc Cert.RefOIdeal.main_arg3) = m ((c.tc : Thread Cert.RefOIdeal.nD Cert.RefOIdeal.τ).loc Cert.RefOIdeal.main_arg3)
      ∧ r.2.mem ((c.tc : Thread Cert.RefOIdeal.nD Cert.RefOIdeal.τ).loc Cert.RefOIdeal.main_arg4) = m ((c.tc : Thread Cert.RefOIdeal.nD Cert.RefOIdeal.τ).loc Cert.RefOIdeal.main_arg4))
      ∧ r.2.sem = fun _ => 0)

def quiescent_SampA [hSampA : Cert.SampA.Facts] : Prop :=
  ∀ (m : (ℓ : Loc Cert.SampA.nD Cert.SampA.τ Cert.SampA.sig) → Buf (Elt Bits) ℓ) (g : Dev Cert.SampA.nD → PrngReg), Pre_SampA m →
    θ_run (Cert.SampA.defs (F := Bits)) (onTc (τ := Cert.SampA.τ) (Cert.SampA.main (F := Bits))) ⟨m, fun _ => 0, g⟩ (fun r => (∀ c : Dev Cert.SampA.nD,
      r.2.mem ((c.tc : Thread Cert.SampA.nD Cert.SampA.τ).loc Cert.SampA.main_arg0) = m ((c.tc : Thread Cert.SampA.nD Cert.SampA.τ).loc Cert.SampA.main_arg0)
      ∧ r.2.mem ((c.tc : Thread Cert.SampA.nD Cert.SampA.τ).loc Cert.SampA.main_arg1) = m ((c.tc : Thread Cert.SampA.nD Cert.SampA.τ).loc Cert.SampA.main_arg1))
      ∧ r.2.sem = fun _ => 0)

def quiescent_SampAIdeal [hSampAIdeal : Cert.SampAIdeal.Facts] : Prop :=
  ∀ (m : (ℓ : Loc Cert.SampAIdeal.nD Cert.SampAIdeal.τ Cert.SampAIdeal.sig) → Buf (Elt Ideal) ℓ) (g : Dev Cert.SampAIdeal.nD → PrngReg), Pre_SampAIdeal m →
    θ_run (Cert.SampAIdeal.defs (F := Ideal)) (onTc (τ := Cert.SampAIdeal.τ) (Cert.SampAIdeal.main (F := Ideal))) ⟨m, fun _ => 0, g⟩ (fun r => (∀ c : Dev Cert.SampAIdeal.nD,
      r.2.mem ((c.tc : Thread Cert.SampAIdeal.nD Cert.SampAIdeal.τ).loc Cert.SampAIdeal.main_arg0) = m ((c.tc : Thread Cert.SampAIdeal.nD Cert.SampAIdeal.τ).loc Cert.SampAIdeal.main_arg0)
      ∧ r.2.mem ((c.tc : Thread Cert.SampAIdeal.nD Cert.SampAIdeal.τ).loc Cert.SampAIdeal.main_arg1) = m ((c.tc : Thread Cert.SampAIdeal.nD Cert.SampAIdeal.τ).loc Cert.SampAIdeal.main_arg1))
      ∧ r.2.sem = fun _ => 0)

def quiescent_RefSAIdeal [hRefSAIdeal : Cert.RefSAIdeal.Facts] : Prop :=
  ∀ (m : (ℓ : Loc Cert.RefSAIdeal.nD Cert.RefSAIdeal.τ Cert.RefSAIdeal.sig) → Buf (Elt Ideal) ℓ) (g : Dev Cert.RefSAIdeal.nD → PrngReg), Pre_RefSAIdeal m →
    θ_run (Cert.RefSAIdeal.defs (F := Ideal)) (onTc (τ := Cert.RefSAIdeal.τ) (Cert.RefSAIdeal.main (F := Ideal))) ⟨m, fun _ => 0, g⟩ (fun r => (∀ c : Dev Cert.RefSAIdeal.nD,
      r.2.mem ((c.tc : Thread Cert.RefSAIdeal.nD Cert.RefSAIdeal.τ).loc Cert.RefSAIdeal.main_arg0) = m ((c.tc : Thread Cert.RefSAIdeal.nD Cert.RefSAIdeal.τ).loc Cert.RefSAIdeal.main_arg0)
      ∧ r.2.mem ((c.tc : Thread Cert.RefSAIdeal.nD Cert.RefSAIdeal.τ).loc Cert.RefSAIdeal.main_arg1) = m ((c.tc : Thread Cert.RefSAIdeal.nD Cert.RefSAIdeal.τ).loc Cert.RefSAIdeal.main_arg1))
      ∧ r.2.sem = fun _ => 0)

def quiescent_SampB [hSampB : Cert.SampB.Facts] : Prop :=
  ∀ (m : (ℓ : Loc Cert.SampB.nD Cert.SampB.τ Cert.SampB.sig) → Buf (Elt Bits) ℓ) (g : Dev Cert.SampB.nD → PrngReg), Pre_SampB m →
    θ_run (Cert.SampB.defs (F := Bits)) (onTc (τ := Cert.SampB.τ) (Cert.SampB.main (F := Bits))) ⟨m, fun _ => 0, g⟩ (fun r => (∀ c : Dev Cert.SampB.nD,
      r.2.mem ((c.tc : Thread Cert.SampB.nD Cert.SampB.τ).loc Cert.SampB.main_arg0) = m ((c.tc : Thread Cert.SampB.nD Cert.SampB.τ).loc Cert.SampB.main_arg0)
      ∧ r.2.mem ((c.tc : Thread Cert.SampB.nD Cert.SampB.τ).loc Cert.SampB.main_arg1) = m ((c.tc : Thread Cert.SampB.nD Cert.SampB.τ).loc Cert.SampB.main_arg1))
      ∧ r.2.sem = fun _ => 0)

def quiescent_SampBIdeal [hSampBIdeal : Cert.SampBIdeal.Facts] : Prop :=
  ∀ (m : (ℓ : Loc Cert.SampBIdeal.nD Cert.SampBIdeal.τ Cert.SampBIdeal.sig) → Buf (Elt Ideal) ℓ) (g : Dev Cert.SampBIdeal.nD → PrngReg), Pre_SampBIdeal m →
    θ_run (Cert.SampBIdeal.defs (F := Ideal)) (onTc (τ := Cert.SampBIdeal.τ) (Cert.SampBIdeal.main (F := Ideal))) ⟨m, fun _ => 0, g⟩ (fun r => (∀ c : Dev Cert.SampBIdeal.nD,
      r.2.mem ((c.tc : Thread Cert.SampBIdeal.nD Cert.SampBIdeal.τ).loc Cert.SampBIdeal.main_arg0) = m ((c.tc : Thread Cert.SampBIdeal.nD Cert.SampBIdeal.τ).loc Cert.SampBIdeal.main_arg0)
      ∧ r.2.mem ((c.tc : Thread Cert.SampBIdeal.nD Cert.SampBIdeal.τ).loc Cert.SampBIdeal.main_arg1) = m ((c.tc : Thread Cert.SampBIdeal.nD Cert.SampBIdeal.τ).loc Cert.SampBIdeal.main_arg1))
      ∧ r.2.sem = fun _ => 0)

def quiescent_RefSBIdeal [hRefSBIdeal : Cert.RefSBIdeal.Facts] : Prop :=
  ∀ (m : (ℓ : Loc Cert.RefSBIdeal.nD Cert.RefSBIdeal.τ Cert.RefSBIdeal.sig) → Buf (Elt Ideal) ℓ) (g : Dev Cert.RefSBIdeal.nD → PrngReg), Pre_RefSBIdeal m →
    θ_run (Cert.RefSBIdeal.defs (F := Ideal)) (onTc (τ := Cert.RefSBIdeal.τ) (Cert.RefSBIdeal.main (F := Ideal))) ⟨m, fun _ => 0, g⟩ (fun r => (∀ c : Dev Cert.RefSBIdeal.nD,
      r.2.mem ((c.tc : Thread Cert.RefSBIdeal.nD Cert.RefSBIdeal.τ).loc Cert.RefSBIdeal.main_arg0) = m ((c.tc : Thread Cert.RefSBIdeal.nD Cert.RefSBIdeal.τ).loc Cert.RefSBIdeal.main_arg0)
      ∧ r.2.mem ((c.tc : Thread Cert.RefSBIdeal.nD Cert.RefSBIdeal.τ).loc Cert.RefSBIdeal.main_arg1) = m ((c.tc : Thread Cert.RefSBIdeal.nD Cert.RefSBIdeal.τ).loc Cert.RefSBIdeal.main_arg1))
      ∧ r.2.sem = fun _ => 0)

def quiescent_SampQ [hSampQ : Cert.SampQ.Facts] : Prop :=
  ∀ (m : (ℓ : Loc Cert.SampQ.nD Cert.SampQ.τ Cert.SampQ.sig) → Buf (Elt Bits) ℓ) (g : Dev Cert.SampQ.nD → PrngReg), Pre_SampQ m →
    θ_run (Cert.SampQ.defs (F := Bits)) (onTc (τ := Cert.SampQ.τ) (Cert.SampQ.main (F := Bits))) ⟨m, fun _ => 0, g⟩ (fun r => (∀ c : Dev Cert.SampQ.nD,
      r.2.mem ((c.tc : Thread Cert.SampQ.nD Cert.SampQ.τ).loc Cert.SampQ.main_arg0) = m ((c.tc : Thread Cert.SampQ.nD Cert.SampQ.τ).loc Cert.SampQ.main_arg0)
      ∧ r.2.mem ((c.tc : Thread Cert.SampQ.nD Cert.SampQ.τ).loc Cert.SampQ.main_arg1) = m ((c.tc : Thread Cert.SampQ.nD Cert.SampQ.τ).loc Cert.SampQ.main_arg1))
      ∧ r.2.sem = fun _ => 0)

def quiescent_SampQIdeal [hSampQIdeal : Cert.SampQIdeal.Facts] : Prop :=
  ∀ (m : (ℓ : Loc Cert.SampQIdeal.nD Cert.SampQIdeal.τ Cert.SampQIdeal.sig) → Buf (Elt Ideal) ℓ) (g : Dev Cert.SampQIdeal.nD → PrngReg), Pre_SampQIdeal m →
    θ_run (Cert.SampQIdeal.defs (F := Ideal)) (onTc (τ := Cert.SampQIdeal.τ) (Cert.SampQIdeal.main (F := Ideal))) ⟨m, fun _ => 0, g⟩ (fun r => (∀ c : Dev Cert.SampQIdeal.nD,
      r.2.mem ((c.tc : Thread Cert.SampQIdeal.nD Cert.SampQIdeal.τ).loc Cert.SampQIdeal.main_arg0) = m ((c.tc : Thread Cert.SampQIdeal.nD Cert.SampQIdeal.τ).loc Cert.SampQIdeal.main_arg0)
      ∧ r.2.mem ((c.tc : Thread Cert.SampQIdeal.nD Cert.SampQIdeal.τ).loc Cert.SampQIdeal.main_arg1) = m ((c.tc : Thread Cert.SampQIdeal.nD Cert.SampQIdeal.τ).loc Cert.SampQIdeal.main_arg1))
      ∧ r.2.sem = fun _ => 0)

def quiescent_RefSQIdeal [hRefSQIdeal : Cert.RefSQIdeal.Facts] : Prop :=
  ∀ (m : (ℓ : Loc Cert.RefSQIdeal.nD Cert.RefSQIdeal.τ Cert.RefSQIdeal.sig) → Buf (Elt Ideal) ℓ) (g : Dev Cert.RefSQIdeal.nD → PrngReg), Pre_RefSQIdeal m →
    θ_run (Cert.RefSQIdeal.defs (F := Ideal)) (onTc (τ := Cert.RefSQIdeal.τ) (Cert.RefSQIdeal.main (F := Ideal))) ⟨m, fun _ => 0, g⟩ (fun r => (∀ c : Dev Cert.RefSQIdeal.nD,
      r.2.mem ((c.tc : Thread Cert.RefSQIdeal.nD Cert.RefSQIdeal.τ).loc Cert.RefSQIdeal.main_arg0) = m ((c.tc : Thread Cert.RefSQIdeal.nD Cert.RefSQIdeal.τ).loc Cert.RefSQIdeal.main_arg0)
      ∧ r.2.mem ((c.tc : Thread Cert.RefSQIdeal.nD Cert.RefSQIdeal.τ).loc Cert.RefSQIdeal.main_arg1) = m ((c.tc : Thread Cert.RefSQIdeal.nD Cert.RefSQIdeal.τ).loc Cert.RefSQIdeal.main_arg1))
      ∧ r.2.sem = fun _ => 0)

def quiescent_SampO [hSampO : Cert.SampO.Facts] : Prop :=
  ∀ (m : (ℓ : Loc Cert.SampO.nD Cert.SampO.τ Cert.SampO.sig) → Buf (Elt Bits) ℓ) (g : Dev Cert.SampO.nD → PrngReg), Pre_SampO m →
    θ_run (Cert.SampO.defs (F := Bits)) (onTc (τ := Cert.SampO.τ) (Cert.SampO.main (F := Bits))) ⟨m, fun _ => 0, g⟩ (fun r => (∀ c : Dev Cert.SampO.nD,
      r.2.mem ((c.tc : Thread Cert.SampO.nD Cert.SampO.τ).loc Cert.SampO.main_arg0) = m ((c.tc : Thread Cert.SampO.nD Cert.SampO.τ).loc Cert.SampO.main_arg0)
      ∧ r.2.mem ((c.tc : Thread Cert.SampO.nD Cert.SampO.τ).loc Cert.SampO.main_arg1) = m ((c.tc : Thread Cert.SampO.nD Cert.SampO.τ).loc Cert.SampO.main_arg1)
      ∧ r.2.mem ((c.tc : Thread Cert.SampO.nD Cert.SampO.τ).loc Cert.SampO.main_arg2) = m ((c.tc : Thread Cert.SampO.nD Cert.SampO.τ).loc Cert.SampO.main_arg2)
      ∧ r.2.mem ((c.tc : Thread Cert.SampO.nD Cert.SampO.τ).loc Cert.SampO.main_arg3) = m ((c.tc : Thread Cert.SampO.nD Cert.SampO.τ).loc Cert.SampO.main_arg3)
      ∧ r.2.mem ((c.tc : Thread Cert.SampO.nD Cert.SampO.τ).loc Cert.SampO.main_arg4) = m ((c.tc : Thread Cert.SampO.nD Cert.SampO.τ).loc Cert.SampO.main_arg4))
      ∧ r.2.sem = fun _ => 0)

def quiescent_SampOIdeal [hSampOIdeal : Cert.SampOIdeal.Facts] : Prop :=
  ∀ (m : (ℓ : Loc Cert.SampOIdeal.nD Cert.SampOIdeal.τ Cert.SampOIdeal.sig) → Buf (Elt Ideal) ℓ) (g : Dev Cert.SampOIdeal.nD → PrngReg), Pre_SampOIdeal m →
    θ_run (Cert.SampOIdeal.defs (F := Ideal)) (onTc (τ := Cert.SampOIdeal.τ) (Cert.SampOIdeal.main (F := Ideal))) ⟨m, fun _ => 0, g⟩ (fun r => (∀ c : Dev Cert.SampOIdeal.nD,
      r.2.mem ((c.tc : Thread Cert.SampOIdeal.nD Cert.SampOIdeal.τ).loc Cert.SampOIdeal.main_arg0) = m ((c.tc : Thread Cert.SampOIdeal.nD Cert.SampOIdeal.τ).loc Cert.SampOIdeal.main_arg0)
      ∧ r.2.mem ((c.tc : Thread Cert.SampOIdeal.nD Cert.SampOIdeal.τ).loc Cert.SampOIdeal.main_arg1) = m ((c.tc : Thread Cert.SampOIdeal.nD Cert.SampOIdeal.τ).loc Cert.SampOIdeal.main_arg1)
      ∧ r.2.mem ((c.tc : Thread Cert.SampOIdeal.nD Cert.SampOIdeal.τ).loc Cert.SampOIdeal.main_arg2) = m ((c.tc : Thread Cert.SampOIdeal.nD Cert.SampOIdeal.τ).loc Cert.SampOIdeal.main_arg2)
      ∧ r.2.mem ((c.tc : Thread Cert.SampOIdeal.nD Cert.SampOIdeal.τ).loc Cert.SampOIdeal.main_arg3) = m ((c.tc : Thread Cert.SampOIdeal.nD Cert.SampOIdeal.τ).loc Cert.SampOIdeal.main_arg3)
      ∧ r.2.mem ((c.tc : Thread Cert.SampOIdeal.nD Cert.SampOIdeal.τ).loc Cert.SampOIdeal.main_arg4) = m ((c.tc : Thread Cert.SampOIdeal.nD Cert.SampOIdeal.τ).loc Cert.SampOIdeal.main_arg4))
      ∧ r.2.sem = fun _ => 0)

def quiescent_RefSOIdeal [hRefSOIdeal : Cert.RefSOIdeal.Facts] : Prop :=
  ∀ (m : (ℓ : Loc Cert.RefSOIdeal.nD Cert.RefSOIdeal.τ Cert.RefSOIdeal.sig) → Buf (Elt Ideal) ℓ) (g : Dev Cert.RefSOIdeal.nD → PrngReg), Pre_RefSOIdeal m →
    θ_run (Cert.RefSOIdeal.defs (F := Ideal)) (onTc (τ := Cert.RefSOIdeal.τ) (Cert.RefSOIdeal.main (F := Ideal))) ⟨m, fun _ => 0, g⟩ (fun r => (∀ c : Dev Cert.RefSOIdeal.nD,
      r.2.mem ((c.tc : Thread Cert.RefSOIdeal.nD Cert.RefSOIdeal.τ).loc Cert.RefSOIdeal.main_arg0) = m ((c.tc : Thread Cert.RefSOIdeal.nD Cert.RefSOIdeal.τ).loc Cert.RefSOIdeal.main_arg0)
      ∧ r.2.mem ((c.tc : Thread Cert.RefSOIdeal.nD Cert.RefSOIdeal.τ).loc Cert.RefSOIdeal.main_arg1) = m ((c.tc : Thread Cert.RefSOIdeal.nD Cert.RefSOIdeal.τ).loc Cert.RefSOIdeal.main_arg1)
      ∧ r.2.mem ((c.tc : Thread Cert.RefSOIdeal.nD Cert.RefSOIdeal.τ).loc Cert.RefSOIdeal.main_arg2) = m ((c.tc : Thread Cert.RefSOIdeal.nD Cert.RefSOIdeal.τ).loc Cert.RefSOIdeal.main_arg2)
      ∧ r.2.mem ((c.tc : Thread Cert.RefSOIdeal.nD Cert.RefSOIdeal.τ).loc Cert.RefSOIdeal.main_arg3) = m ((c.tc : Thread Cert.RefSOIdeal.nD Cert.RefSOIdeal.τ).loc Cert.RefSOIdeal.main_arg3)
      ∧ r.2.mem ((c.tc : Thread Cert.RefSOIdeal.nD Cert.RefSOIdeal.τ).loc Cert.RefSOIdeal.main_arg4) = m ((c.tc : Thread Cert.RefSOIdeal.nD Cert.RefSOIdeal.τ).loc Cert.RefSOIdeal.main_arg4))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ r.2.sem = fun _ => 0)

def quiescent_RefWIdeal [hRefWIdeal : Cert.RefWIdeal.Facts] : Prop :=
  ∀ (m : (ℓ : Loc Cert.RefWIdeal.nD Cert.RefWIdeal.τ Cert.RefWIdeal.sig) → Buf (Elt Ideal) ℓ) (g : Dev Cert.RefWIdeal.nD → PrngReg), Pre_RefWIdeal m →
    θ_run (Cert.RefWIdeal.defs (F := Ideal)) (onTc (τ := Cert.RefWIdeal.τ) (Cert.RefWIdeal.main (F := Ideal))) ⟨m, fun _ => 0, g⟩ (fun r => (∀ c : Dev Cert.RefWIdeal.nD,
      r.2.mem ((c.tc : Thread Cert.RefWIdeal.nD Cert.RefWIdeal.τ).loc Cert.RefWIdeal.main_arg0) = m ((c.tc : Thread Cert.RefWIdeal.nD Cert.RefWIdeal.τ).loc Cert.RefWIdeal.main_arg0)
      ∧ r.2.mem ((c.tc : Thread Cert.RefWIdeal.nD Cert.RefWIdeal.τ).loc Cert.RefWIdeal.main_arg1) = m ((c.tc : Thread Cert.RefWIdeal.nD Cert.RefWIdeal.τ).loc Cert.RefWIdeal.main_arg1)
      ∧ r.2.mem ((c.tc : Thread Cert.RefWIdeal.nD Cert.RefWIdeal.τ).loc Cert.RefWIdeal.main_arg2) = m ((c.tc : Thread Cert.RefWIdeal.nD Cert.RefWIdeal.τ).loc Cert.RefWIdeal.main_arg2)
      ∧ r.2.mem ((c.tc : Thread Cert.RefWIdeal.nD Cert.RefWIdeal.τ).loc Cert.RefWIdeal.main_arg3) = m ((c.tc : Thread Cert.RefWIdeal.nD Cert.RefWIdeal.τ).loc Cert.RefWIdeal.main_arg3)
      ∧ r.2.mem ((c.tc : Thread Cert.RefWIdeal.nD Cert.RefWIdeal.τ).loc Cert.RefWIdeal.main_arg4) = m ((c.tc : Thread Cert.RefWIdeal.nD Cert.RefWIdeal.τ).loc Cert.RefWIdeal.main_arg4))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ r.2.sem = fun _ => 0)

def quiescent_RefCIdeal [hRefCIdeal : Cert.RefCIdeal.Facts] : Prop :=
  ∀ (m : (ℓ : Loc Cert.RefCIdeal.nD Cert.RefCIdeal.τ Cert.RefCIdeal.sig) → Buf (Elt Ideal) ℓ) (g : Dev Cert.RefCIdeal.nD → PrngReg), Pre_RefCIdeal m →
    θ_run (Cert.RefCIdeal.defs (F := Ideal)) (onTc (τ := Cert.RefCIdeal.τ) (Cert.RefCIdeal.main (F := Ideal))) ⟨m, fun _ => 0, g⟩ (fun r => (∀ c : Dev Cert.RefCIdeal.nD,
      r.2.mem ((c.tc : Thread Cert.RefCIdeal.nD Cert.RefCIdeal.τ).loc Cert.RefCIdeal.main_arg0) = m ((c.tc : Thread Cert.RefCIdeal.nD Cert.RefCIdeal.τ).loc Cert.RefCIdeal.main_arg0)
      ∧ r.2.mem ((c.tc : Thread Cert.RefCIdeal.nD Cert.RefCIdeal.τ).loc Cert.RefCIdeal.main_arg1) = m ((c.tc : Thread Cert.RefCIdeal.nD Cert.RefCIdeal.τ).loc Cert.RefCIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v87_0)) (v1 : (c : Dev Cert.KernelIdeal.nD) → Buf (Elt Ideal) ((c.tc : Thread Cert.KernelIdeal.nD Cert.KernelIdeal.τ).loc Cert.KernelIdeal.main_v87_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_0) = v0 c
          ∧ r.2.mem ((c.tc : Thread Cert.KernelIdeal.nD Cert.KernelIdeal.τ).loc Cert.KernelIdeal.main_v87_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v130_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ProjA_ProjAIdeal : Prop :=
  True

def algebraic_ProjAIdeal_RefAIdeal [hProjAIdeal : Cert.ProjAIdeal.Facts] [hRefAIdeal : Cert.RefAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.RefAIdeal.nD Cert.RefAIdeal.τ Cert.RefAIdeal.sig) → Buf (Elt Ideal) ℓ) (g' : Dev Cert.RefAIdeal.nD → PrngReg), Pre_ProjAIdeal m →
    (∀ c : Dev Cert.ProjAIdeal.nD,
      m' ((c.tc : Thread Cert.RefAIdeal.nD Cert.RefAIdeal.τ).loc Cert.RefAIdeal.main_arg0) = m ((c.tc : Thread Cert.ProjAIdeal.nD Cert.ProjAIdeal.τ).loc Cert.ProjAIdeal.main_arg0)
      ∧ m' ((c.tc : Thread Cert.RefAIdeal.nD Cert.RefAIdeal.τ).loc Cert.RefAIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v6)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v6) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.RefAIdeal.defs (F := Ideal)) (onTc (τ := Cert.RefAIdeal.τ) (Cert.RefAIdeal.main (F := Ideal))) ⟨m', fun _ => 0, g'⟩ (fun r => ∀ c : Dev Cert.RefAIdeal.nD,
          r.2.mem ((c.tc : Thread Cert.RefAIdeal.nD Cert.RefAIdeal.τ).loc Cert.RefAIdeal.main_v4) = v0 c
          ∧ r.2.mem ((c.tc : Thread Cert.RefAIdeal.nD Cert.RefAIdeal.τ).loc Cert.RefAIdeal.main_arg0) = m' ((c.tc : Thread Cert.RefAIdeal.nD Cert.RefAIdeal.τ).loc Cert.RefAIdeal.main_arg0)
          ∧ r.2.mem ((c.tc : Thread Cert.RefAIdeal.nD Cert.RefAIdeal.τ).loc Cert.RefAIdeal.main_arg1) = m' ((c.tc : Thread Cert.RefAIdeal.nD Cert.RefAIdeal.τ).loc Cert.RefAIdeal.main_arg1))

def preserves_ProjB_ProjBIdeal : Prop :=
  True

def algebraic_ProjBIdeal_RefBIdeal [hProjBIdeal : Cert.ProjBIdeal.Facts] [hRefBIdeal : Cert.RefBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.RefBIdeal.nD Cert.RefBIdeal.τ Cert.RefBIdeal.sig) → Buf (Elt Ideal) ℓ) (g' : Dev Cert.RefBIdeal.nD → PrngReg), Pre_ProjBIdeal m →
    (∀ c : Dev Cert.ProjBIdeal.nD,
      m' ((c.tc : Thread Cert.RefBIdeal.nD Cert.RefBIdeal.τ).loc Cert.RefBIdeal.main_arg0) = m ((c.tc : Thread Cert.ProjBIdeal.nD Cert.ProjBIdeal.τ).loc Cert.ProjBIdeal.main_arg0)
      ∧ m' ((c.tc : Thread Cert.RefBIdeal.nD Cert.RefBIdeal.τ).loc Cert.RefBIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v6)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v6) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.RefBIdeal.defs (F := Ideal)) (onTc (τ := Cert.RefBIdeal.τ) (Cert.RefBIdeal.main (F := Ideal))) ⟨m', fun _ => 0, g'⟩ (fun r => ∀ c : Dev Cert.RefBIdeal.nD,
          r.2.mem ((c.tc : Thread Cert.RefBIdeal.nD Cert.RefBIdeal.τ).loc Cert.RefBIdeal.main_v4) = v0 c
          ∧ r.2.mem ((c.tc : Thread Cert.RefBIdeal.nD Cert.RefBIdeal.τ).loc Cert.RefBIdeal.main_arg0) = m' ((c.tc : Thread Cert.RefBIdeal.nD Cert.RefBIdeal.τ).loc Cert.RefBIdeal.main_arg0)
          ∧ r.2.mem ((c.tc : Thread Cert.RefBIdeal.nD Cert.RefBIdeal.τ).loc Cert.RefBIdeal.main_arg1) = m' ((c.tc : Thread Cert.RefBIdeal.nD Cert.RefBIdeal.τ).loc Cert.RefBIdeal.main_arg1))

def preserves_ProjQ_ProjQIdeal : Prop :=
  True

def algebraic_ProjQIdeal_RefQIdeal [hProjQIdeal : Cert.ProjQIdeal.Facts] [hRefQIdeal : Cert.RefQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.RefQIdeal.nD Cert.RefQIdeal.τ Cert.RefQIdeal.sig) → Buf (Elt Ideal) ℓ) (g' : Dev Cert.RefQIdeal.nD → PrngReg), Pre_ProjQIdeal m →
    (∀ c : Dev Cert.ProjQIdeal.nD,
      m' ((c.tc : Thread Cert.RefQIdeal.nD Cert.RefQIdeal.τ).loc Cert.RefQIdeal.main_arg0) = m ((c.tc : Thread Cert.ProjQIdeal.nD Cert.ProjQIdeal.τ).loc Cert.ProjQIdeal.main_arg0)
      ∧ m' ((c.tc : Thread Cert.RefQIdeal.nD Cert.RefQIdeal.τ).loc Cert.RefQIdeal.main_arg1) = m ((c.tc : Thread Cert.ProjQIdeal.nD Cert.ProjQIdeal.τ).loc Cert.ProjQIdeal.main_arg1)) →
    ∃ (v0 : (c : Dev Cert.ProjQIdeal.nD) → Buf (Elt Ideal) ((c.tc : Thread Cert.ProjQIdeal.nD Cert.ProjQIdeal.τ).loc Cert.ProjQIdeal.main_v6)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v6) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ θ_run (Cert.RefQIdeal.defs (F := Ideal)) (onTc (τ := Cert.RefQIdeal.τ) (Cert.RefQIdeal.main (F := Ideal))) ⟨m', fun _ => 0, g'⟩ (fun r => ∀ c : Dev Cert.RefQIdeal.nD,
          r.2.mem ((c.tc : Thread Cert.RefQIdeal.nD Cert.RefQIdeal.τ).loc Cert.RefQIdeal.main_v4) = v0 c
          ∧ r.2.mem ((c.tc : Thread Cert.RefQIdeal.nD Cert.RefQIdeal.τ).loc Cert.RefQIdeal.main_arg0) = m' ((c.tc : Thread Cert.RefQIdeal.nD Cert.RefQIdeal.τ).loc Cert.RefQIdeal.main_arg0)
          ∧ r.2.mem ((c.tc : Thread Cert.RefQIdeal.nD Cert.RefQIdeal.τ).loc Cert.RefQIdeal.main_arg1) = m' ((c.tc : Thread Cert.RefQIdeal.nD Cert.RefQIdeal.τ).loc Cert.RefQIdeal.main_arg1))

def preserves_ProjV_ProjVIdeal : Prop :=
  True

def algebraic_ProjVIdeal_RefVIdeal [hProjVIdeal : Cert.ProjVIdeal.Facts] [hRefVIdeal : Cert.RefVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.RefVIdeal.nD Cert.RefVIdeal.τ Cert.RefVIdeal.sig) → Buf (Elt Ideal) ℓ) (g' : Dev Cert.RefVIdeal.nD → PrngReg), Pre_ProjVIdeal m →
    (∀ c : Dev Cert.ProjVIdeal.nD,
      m' ((c.tc : Thread Cert.RefVIdeal.nD Cert.RefVIdeal.τ).loc Cert.RefVIdeal.main_arg0) = m ((c.tc : Thread Cert.ProjVIdeal.nD Cert.ProjVIdeal.τ).loc Cert.ProjVIdeal.main_arg0)
      ∧ m' ((c.tc : Thread Cert.RefVIdeal.nD Cert.RefVIdeal.τ).loc Cert.RefVIdeal.main_arg1) = m ((c.tc : Thread Cert.ProjVIdeal.nD Cert.ProjVIdeal.τ).loc Cert.ProjVIdeal.main_arg1)) →
    ∃ (v0 : (c : Dev Cert.ProjVIdeal.nD) → Buf (Elt Ideal) ((c.tc : Thread Cert.ProjVIdeal.nD Cert.ProjVIdeal.τ).loc Cert.ProjVIdeal.main_v6)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v6) = v0 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ θ_run (Cert.RefVIdeal.defs (F := Ideal)) (onTc (τ := Cert.RefVIdeal.τ) (Cert.RefVIdeal.main (F := Ideal))) ⟨m', fun _ => 0, g'⟩ (fun r => ∀ c : Dev Cert.RefVIdeal.nD,
          r.2.mem ((c.tc : Thread Cert.RefVIdeal.nD Cert.RefVIdeal.τ).loc Cert.RefVIdeal.main_v4) = v0 c
          ∧ r.2.mem ((c.tc : Thread Cert.RefVIdeal.nD Cert.RefVIdeal.τ).loc Cert.RefVIdeal.main_arg0) = m' ((c.tc : Thread Cert.RefVIdeal.nD Cert.RefVIdeal.τ).loc Cert.RefVIdeal.main_arg0)
          ∧ r.2.mem ((c.tc : Thread Cert.RefVIdeal.nD Cert.RefVIdeal.τ).loc Cert.RefVIdeal.main_arg1) = m' ((c.tc : Thread Cert.RefVIdeal.nD Cert.RefVIdeal.τ).loc Cert.RefVIdeal.main_arg1))

def preserves_ProjD_ProjDIdeal : Prop :=
  True

def algebraic_ProjDIdeal_RefDIdeal [hProjDIdeal : Cert.ProjDIdeal.Facts] [hRefDIdeal : Cert.RefDIdeal.Facts] : Prop :=
  ∀ (m : (ℓ : Loc Cert.ProjDIdeal.nD Cert.ProjDIdeal.τ Cert.ProjDIdeal.sig) → Buf (Elt Ideal) ℓ) (g : Dev Cert.ProjDIdeal.nD → PrngReg)
    (m' : (ℓ : Loc Cert.RefDIdeal.nD Cert.RefDIdeal.τ Cert.RefDIdeal.sig) → Buf (Elt Ideal) ℓ) (g' : Dev Cert.RefDIdeal.nD → PrngReg), Pre_ProjDIdeal m →
    (∀ c : Dev Cert.ProjDIdeal.nD,
      m' ((c.tc : Thread Cert.RefDIdeal.nD Cert.RefDIdeal.τ).loc Cert.RefDIdeal.main_arg0) = m ((c.tc : Thread Cert.ProjDIdeal.nD Cert.ProjDIdeal.τ).loc Cert.ProjDIdeal.main_arg0)
      ∧ m' ((c.tc : Thread Cert.RefDIdeal.nD Cert.RefDIdeal.τ).loc Cert.RefDIdeal.main_arg1) = m ((c.tc : Thread Cert.ProjDIdeal.nD Cert.ProjDIdeal.τ).loc Cert.ProjDIdeal.main_arg1)) →
    ∃ (v0 : (c : Dev Cert.ProjDIdeal.nD) → Buf (Elt Ideal) ((c.tc : Thread Cert.ProjDIdeal.nD Cert.ProjDIdeal.τ).loc Cert.ProjDIdeal.main_v6)),
      θ_run (Cert.ProjDIdeal.defs (F := Ideal)) (onTc (τ := Cert.ProjDIdeal.τ) (Cert.ProjDIdeal.main (F := Ideal))) ⟨m, fun _ => 0, g⟩ (fun r => ∀ c : Dev Cert.ProjDIdeal.nD,
          r.2.mem ((c.tc : Thread Cert.ProjDIdeal.nD Cert.ProjDIdeal.τ).loc Cert.ProjDIdeal.main_v6) = v0 c
          ∧ r.2.mem ((c.tc : Thread Cert.ProjDIdeal.nD Cert.ProjDIdeal.τ).loc Cert.ProjDIdeal.main_arg0) = m ((c.tc : Thread Cert.ProjDIdeal.nD Cert.ProjDIdeal.τ).loc Cert.ProjDIdeal.main_arg0)
          ∧ r.2.mem ((c.tc : Thread Cert.ProjDIdeal.nD Cert.ProjDIdeal.τ).loc Cert.ProjDIdeal.main_arg1) = m ((c.tc : Thread Cert.ProjDIdeal.nD Cert.ProjDIdeal.τ).loc Cert.ProjDIdeal.main_arg1))
      ∧ θ_run (Cert.RefDIdeal.defs (F := Ideal)) (onTc (τ := Cert.RefDIdeal.τ) (Cert.RefDIdeal.main (F := Ideal))) ⟨m', fun _ => 0, g'⟩ (fun r => ∀ c : Dev Cert.RefDIdeal.nD,
          r.2.mem ((c.tc : Thread Cert.RefDIdeal.nD Cert.RefDIdeal.τ).loc Cert.RefDIdeal.main_v4) = v0 c
          ∧ r.2.mem ((c.tc : Thread Cert.RefDIdeal.nD Cert.RefDIdeal.τ).loc Cert.RefDIdeal.main_arg0) = m' ((c.tc : Thread Cert.RefDIdeal.nD Cert.RefDIdeal.τ).loc Cert.RefDIdeal.main_arg0)
          ∧ r.2.mem ((c.tc : Thread Cert.RefDIdeal.nD Cert.RefDIdeal.τ).loc Cert.RefDIdeal.main_arg1) = m' ((c.tc : Thread Cert.RefDIdeal.nD Cert.RefDIdeal.τ).loc Cert.RefDIdeal.main_arg1))

def preserves_ProjZ_ProjZIdeal : Prop :=
  True

def algebraic_ProjZIdeal_RefZIdeal [hProjZIdeal : Cert.ProjZIdeal.Facts] [hRefZIdeal : Cert.RefZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.RefZIdeal.nD Cert.RefZIdeal.τ Cert.RefZIdeal.sig) → Buf (Elt Ideal) ℓ) (g' : Dev Cert.RefZIdeal.nD → PrngReg), Pre_ProjZIdeal m →
    (∀ c : Dev Cert.ProjZIdeal.nD,
      m' ((c.tc : Thread Cert.RefZIdeal.nD Cert.RefZIdeal.τ).loc Cert.RefZIdeal.main_arg0) = m ((c.tc : Thread Cert.ProjZIdeal.nD Cert.ProjZIdeal.τ).loc Cert.ProjZIdeal.main_arg0)
      ∧ m' ((c.tc : Thread Cert.RefZIdeal.nD Cert.RefZIdeal.τ).loc Cert.RefZIdeal.main_arg1) = m ((c.tc : Thread Cert.ProjZIdeal.nD Cert.ProjZIdeal.τ).loc Cert.ProjZIdeal.main_arg1)) →
    ∃ (v0 : (c : Dev Cert.ProjZIdeal.nD) → Buf (Elt Ideal) ((c.tc : Thread Cert.ProjZIdeal.nD Cert.ProjZIdeal.τ).loc Cert.ProjZIdeal.main_v6)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v6) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ θ_run (Cert.RefZIdeal.defs (F := Ideal)) (onTc (τ := Cert.RefZIdeal.τ) (Cert.RefZIdeal.main (F := Ideal))) ⟨m', fun _ => 0, g'⟩ (fun r => ∀ c : Dev Cert.RefZIdeal.nD,
          r.2.mem ((c.tc : Thread Cert.RefZIdeal.nD Cert.RefZIdeal.τ).loc Cert.RefZIdeal.main_v5) = v0 c
          ∧ r.2.mem ((c.tc : Thread Cert.RefZIdeal.nD Cert.RefZIdeal.τ).loc Cert.RefZIdeal.main_arg0) = m' ((c.tc : Thread Cert.RefZIdeal.nD Cert.RefZIdeal.τ).loc Cert.RefZIdeal.main_arg0)
          ∧ r.2.mem ((c.tc : Thread Cert.RefZIdeal.nD Cert.RefZIdeal.τ).loc Cert.RefZIdeal.main_arg1) = m' ((c.tc : Thread Cert.RefZIdeal.nD Cert.RefZIdeal.τ).loc Cert.RefZIdeal.main_arg1))

def preserves_ProjG_ProjGIdeal : Prop :=
  True

def algebraic_ProjGIdeal_RefGIdeal [hProjGIdeal : Cert.ProjGIdeal.Facts] [hRefGIdeal : Cert.RefGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.RefGIdeal.nD Cert.RefGIdeal.τ Cert.RefGIdeal.sig) → Buf (Elt Ideal) ℓ) (g' : Dev Cert.RefGIdeal.nD → PrngReg), Pre_ProjGIdeal m →
    (∀ c : Dev Cert.ProjGIdeal.nD,
      m' ((c.tc : Thread Cert.RefGIdeal.nD Cert.RefGIdeal.τ).loc Cert.RefGIdeal.main_arg0) = m ((c.tc : Thread Cert.ProjGIdeal.nD Cert.ProjGIdeal.τ).loc Cert.ProjGIdeal.main_arg0)
      ∧ m' ((c.tc : Thread Cert.RefGIdeal.nD Cert.RefGIdeal.τ).loc Cert.RefGIdeal.main_arg1) = m ((c.tc : Thread Cert.ProjGIdeal.nD Cert.ProjGIdeal.τ).loc Cert.ProjGIdeal.main_arg1)) →
    ∃ (v0 : (c : Dev Cert.ProjGIdeal.nD) → Buf (Elt Ideal) ((c.tc : Thread Cert.ProjGIdeal.nD Cert.ProjGIdeal.τ).loc Cert.ProjGIdeal.main_v6)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v6) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ θ_run (Cert.RefGIdeal.defs (F := Ideal)) (onTc (τ := Cert.RefGIdeal.τ) (Cert.RefGIdeal.main (F := Ideal))) ⟨m', fun _ => 0, g'⟩ (fun r => ∀ c : Dev Cert.RefGIdeal.nD,
          r.2.mem ((c.tc : Thread Cert.RefGIdeal.nD Cert.RefGIdeal.τ).loc Cert.RefGIdeal.main_v10) = v0 c
          ∧ r.2.mem ((c.tc : Thread Cert.RefGIdeal.nD Cert.RefGIdeal.τ).loc Cert.RefGIdeal.main_arg0) = m' ((c.tc : Thread Cert.RefGIdeal.nD Cert.RefGIdeal.τ).loc Cert.RefGIdeal.main_arg0)
          ∧ r.2.mem ((c.tc : Thread Cert.RefGIdeal.nD Cert.RefGIdeal.τ).loc Cert.RefGIdeal.main_arg1) = m' ((c.tc : Thread Cert.RefGIdeal.nD Cert.RefGIdeal.τ).loc Cert.RefGIdeal.main_arg1))

def preserves_Merge_MergeIdeal : Prop :=
  True

def algebraic_MergeIdeal_RefMIdeal [hMergeIdeal : Cert.MergeIdeal.Facts] [hRefMIdeal : Cert.RefMIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMIdeal.nD Cert.RefMIdeal.τ Cert.RefMIdeal.sig) → Buf (Elt Ideal) ℓ) (g' : Dev Cert.RefMIdeal.nD → PrngReg), Pre_MergeIdeal m →
    (∀ c : Dev Cert.MergeIdeal.nD,
      m' ((c.tc : Thread Cert.RefMIdeal.nD Cert.RefMIdeal.τ).loc Cert.RefMIdeal.main_arg0) = m ((c.tc : Thread Cert.MergeIdeal.nD Cert.MergeIdeal.τ).loc Cert.MergeIdeal.main_arg0)
      ∧ m' ((c.tc : Thread Cert.RefMIdeal.nD Cert.RefMIdeal.τ).loc Cert.RefMIdeal.main_arg1) = m ((c.tc : Thread Cert.MergeIdeal.nD Cert.MergeIdeal.τ).loc Cert.MergeIdeal.main_arg1)
      ∧ m' ((c.tc : Thread Cert.RefMIdeal.nD Cert.RefMIdeal.τ).loc Cert.RefMIdeal.main_arg2) = m ((c.tc : Thread Cert.MergeIdeal.nD Cert.MergeIdeal.τ).loc Cert.MergeIdeal.main_arg2)
      ∧ m' ((c.tc : Thread Cert.RefMIdeal.nD Cert.RefMIdeal.τ).loc Cert.RefMIdeal.main_arg3) = m ((c.tc : Thread Cert.MergeIdeal.nD Cert.MergeIdeal.τ).loc Cert.MergeIdeal.main_arg3)
      ∧ m' ((c.tc : Thread Cert.RefMIdeal.nD Cert.RefMIdeal.τ).loc Cert.RefMIdeal.main_arg4) = m ((c.tc : Thread Cert.MergeIdeal.nD Cert.MergeIdeal.τ).loc Cert.MergeIdeal.main_arg4)
      ∧ m' ((c.tc : Thread Cert.RefMIdeal.nD Cert.RefMIdeal.τ).loc Cert.RefMIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.RefMIdeal.defs (F := Ideal)) (onTc (τ := Cert.RefMIdeal.τ) (Cert.RefMIdeal.main (F := Ideal))) ⟨m', fun _ => 0, g'⟩ (fun r => ∀ c : Dev Cert.RefMIdeal.nD,
          r.2.mem ((c.tc : Thread Cert.RefMIdeal.nD Cert.RefMIdeal.τ).loc Cert.RefMIdeal.main_v34) = v0 c
          ∧ r.2.mem ((c.tc : Thread Cert.RefMIdeal.nD Cert.RefMIdeal.τ).loc Cert.RefMIdeal.main_arg0) = m' ((c.tc : Thread Cert.RefMIdeal.nD Cert.RefMIdeal.τ).loc Cert.RefMIdeal.main_arg0)
          ∧ r.2.mem ((c.tc : Thread Cert.RefMIdeal.nD Cert.RefMIdeal.τ).loc Cert.RefMIdeal.main_arg1) = m' ((c.tc : Thread Cert.RefMIdeal.nD Cert.RefMIdeal.τ).loc Cert.RefMIdeal.main_arg1)
          ∧ r.2.mem ((c.tc : Thread Cert.RefMIdeal.nD Cert.RefMIdeal.τ).loc Cert.RefMIdeal.main_arg2) = m' ((c.tc : Thread Cert.RefMIdeal.nD Cert.RefMIdeal.τ).loc Cert.RefMIdeal.main_arg2)
          ∧ r.2.mem ((c.tc : Thread Cert.RefMIdeal.nD Cert.RefMIdeal.τ).loc Cert.RefMIdeal.main_arg3) = m' ((c.tc : Thread Cert.RefMIdeal.nD Cert.RefMIdeal.τ).loc Cert.RefMIdeal.main_arg3)
          ∧ r.2.mem ((c.tc : Thread Cert.RefMIdeal.nD Cert.RefMIdeal.τ).loc Cert.RefMIdeal.main_arg4) = m' ((c.tc : Thread Cert.RefMIdeal.nD Cert.RefMIdeal.τ).loc Cert.RefMIdeal.main_arg4)
          ∧ r.2.mem ((c.tc : Thread Cert.RefMIdeal.nD Cert.RefMIdeal.τ).loc Cert.RefMIdeal.main_arg5) = m' ((c.tc : Thread Cert.RefMIdeal.nD Cert.RefMIdeal.τ).loc Cert.RefMIdeal.main_arg5))

def preserves_OutLn_OutLnIdeal : Prop :=
  True

def algebraic_OutLnIdeal_RefOIdeal [hOutLnIdeal : Cert.OutLnIdeal.Facts] [hRefOIdeal : Cert.RefOIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.RefOIdeal.nD Cert.RefOIdeal.τ Cert.RefOIdeal.sig) → Buf (Elt Ideal) ℓ) (g' : Dev Cert.RefOIdeal.nD → PrngReg), Pre_OutLnIdeal m →
    (∀ c : Dev Cert.OutLnIdeal.nD,
      m' ((c.tc : Thread Cert.RefOIdeal.nD Cert.RefOIdeal.τ).loc Cert.RefOIdeal.main_arg0) = m ((c.tc : Thread Cert.OutLnIdeal.nD Cert.OutLnIdeal.τ).loc Cert.OutLnIdeal.main_arg0)
      ∧ m' ((c.tc : Thread Cert.RefOIdeal.nD Cert.RefOIdeal.τ).loc Cert.RefOIdeal.main_arg1) = m ((c.tc : Thread Cert.OutLnIdeal.nD Cert.OutLnIdeal.τ).loc Cert.OutLnIdeal.main_arg1)
      ∧ m' ((c.tc : Thread Cert.RefOIdeal.nD Cert.RefOIdeal.τ).loc Cert.RefOIdeal.main_arg2) = m ((c.tc : Thread Cert.OutLnIdeal.nD Cert.OutLnIdeal.τ).loc Cert.OutLnIdeal.main_arg2)
      ∧ m' ((c.tc : Thread Cert.RefOIdeal.nD Cert.RefOIdeal.τ).loc Cert.RefOIdeal.main_arg3) = m ((c.tc : Thread Cert.OutLnIdeal.nD Cert.OutLnIdeal.τ).loc Cert.OutLnIdeal.main_arg3)
      ∧ m' ((c.tc : Thread Cert.RefOIdeal.nD Cert.RefOIdeal.τ).loc Cert.RefOIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v10_0)) (v1 : (c : Dev Cert.OutLnIdeal.nD) → Buf (Elt Ideal) ((c.tc : Thread Cert.OutLnIdeal.nD Cert.OutLnIdeal.τ).loc Cert.OutLnIdeal.main_v10_1)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v10_0) = v0 c
          ∧ r.2.mem ((c.tc : Thread Cert.OutLnIdeal.nD Cert.OutLnIdeal.τ).loc Cert.OutLnIdeal.main_v10_1) = v1 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.RefOIdeal.defs (F := Ideal)) (onTc (τ := Cert.RefOIdeal.τ) (Cert.RefOIdeal.main (F := Ideal))) ⟨m', fun _ => 0, g'⟩ (fun r => ∀ c : Dev Cert.RefOIdeal.nD,
          r.2.mem ((c.tc : Thread Cert.RefOIdeal.nD Cert.RefOIdeal.τ).loc Cert.RefOIdeal.main_v35) = v0 c
          ∧ r.2.mem ((c.tc : Thread Cert.RefOIdeal.nD Cert.RefOIdeal.τ).loc Cert.RefOIdeal.main_v36) = v1 c
          ∧ r.2.mem ((c.tc : Thread Cert.RefOIdeal.nD Cert.RefOIdeal.τ).loc Cert.RefOIdeal.main_arg0) = m' ((c.tc : Thread Cert.RefOIdeal.nD Cert.RefOIdeal.τ).loc Cert.RefOIdeal.main_arg0)
          ∧ r.2.mem ((c.tc : Thread Cert.RefOIdeal.nD Cert.RefOIdeal.τ).loc Cert.RefOIdeal.main_arg1) = m' ((c.tc : Thread Cert.RefOIdeal.nD Cert.RefOIdeal.τ).loc Cert.RefOIdeal.main_arg1)
          ∧ r.2.mem ((c.tc : Thread Cert.RefOIdeal.nD Cert.RefOIdeal.τ).loc Cert.RefOIdeal.main_arg2) = m' ((c.tc : Thread Cert.RefOIdeal.nD Cert.RefOIdeal.τ).loc Cert.RefOIdeal.main_arg2)
          ∧ r.2.mem ((c.tc : Thread Cert.RefOIdeal.nD Cert.RefOIdeal.τ).loc Cert.RefOIdeal.main_arg3) = m' ((c.tc : Thread Cert.RefOIdeal.nD Cert.RefOIdeal.τ).loc Cert.RefOIdeal.main_arg3)
          ∧ r.2.mem ((c.tc : Thread Cert.RefOIdeal.nD Cert.RefOIdeal.τ).loc Cert.RefOIdeal.main_arg4) = m' ((c.tc : Thread Cert.RefOIdeal.nD Cert.RefOIdeal.τ).loc Cert.RefOIdeal.main_arg4))

def preserves_SampA_SampAIdeal : Prop :=
  True

def algebraic_SampAIdeal_RefSAIdeal [hSampAIdeal : Cert.SampAIdeal.Facts] [hRefSAIdeal : Cert.RefSAIdeal.Facts] : Prop :=
  ∀ (m : (ℓ : Loc Cert.SampAIdeal.nD Cert.SampAIdeal.τ Cert.SampAIdeal.sig) → Buf (Elt Ideal) ℓ) (g : Dev Cert.SampAIdeal.nD → PrngReg)
    (m' : (ℓ : Loc Cert.RefSAIdeal.nD Cert.RefSAIdeal.τ Cert.RefSAIdeal.sig) → Buf (Elt Ideal) ℓ) (g' : Dev Cert.RefSAIdeal.nD → PrngReg), Pre_SampAIdeal m →
    (∀ c : Dev Cert.SampAIdeal.nD,
      m' ((c.tc : Thread Cert.RefSAIdeal.nD Cert.RefSAIdeal.τ).loc Cert.RefSAIdeal.main_arg0) = m ((c.tc : Thread Cert.SampAIdeal.nD Cert.SampAIdeal.τ).loc Cert.SampAIdeal.main_arg0)
      ∧ m' ((c.tc : Thread Cert.RefSAIdeal.nD Cert.RefSAIdeal.τ).loc Cert.RefSAIdeal.main_arg1) = m ((c.tc : Thread Cert.SampAIdeal.nD Cert.SampAIdeal.τ).loc Cert.SampAIdeal.main_arg1)) →
    ∃ (v0 : (c : Dev Cert.SampAIdeal.nD) → Buf (Elt Ideal) ((c.tc : Thread Cert.SampAIdeal.nD Cert.SampAIdeal.τ).loc Cert.SampAIdeal.main_v6)),
      θ_run (Cert.SampAIdeal.defs (F := Ideal)) (onTc (τ := Cert.SampAIdeal.τ) (Cert.SampAIdeal.main (F := Ideal))) ⟨m, fun _ => 0, g⟩ (fun r => ∀ c : Dev Cert.SampAIdeal.nD,
          r.2.mem ((c.tc : Thread Cert.SampAIdeal.nD Cert.SampAIdeal.τ).loc Cert.SampAIdeal.main_v6) = v0 c
          ∧ r.2.mem ((c.tc : Thread Cert.SampAIdeal.nD Cert.SampAIdeal.τ).loc Cert.SampAIdeal.main_arg0) = m ((c.tc : Thread Cert.SampAIdeal.nD Cert.SampAIdeal.τ).loc Cert.SampAIdeal.main_arg0)
          ∧ r.2.mem ((c.tc : Thread Cert.SampAIdeal.nD Cert.SampAIdeal.τ).loc Cert.SampAIdeal.main_arg1) = m ((c.tc : Thread Cert.SampAIdeal.nD Cert.SampAIdeal.τ).loc Cert.SampAIdeal.main_arg1))
      ∧ θ_run (Cert.RefSAIdeal.defs (F := Ideal)) (onTc (τ := Cert.RefSAIdeal.τ) (Cert.RefSAIdeal.main (F := Ideal))) ⟨m', fun _ => 0, g'⟩ (fun r => ∀ c : Dev Cert.RefSAIdeal.nD,
          r.2.mem ((c.tc : Thread Cert.RefSAIdeal.nD Cert.RefSAIdeal.τ).loc Cert.RefSAIdeal.main_v4) = v0 c
          ∧ r.2.mem ((c.tc : Thread Cert.RefSAIdeal.nD Cert.RefSAIdeal.τ).loc Cert.RefSAIdeal.main_arg0) = m' ((c.tc : Thread Cert.RefSAIdeal.nD Cert.RefSAIdeal.τ).loc Cert.RefSAIdeal.main_arg0)
          ∧ r.2.mem ((c.tc : Thread Cert.RefSAIdeal.nD Cert.RefSAIdeal.τ).loc Cert.RefSAIdeal.main_arg1) = m' ((c.tc : Thread Cert.RefSAIdeal.nD Cert.RefSAIdeal.τ).loc Cert.RefSAIdeal.main_arg1))

def preserves_SampB_SampBIdeal : Prop :=
  True

def algebraic_SampBIdeal_RefSBIdeal [hSampBIdeal : Cert.SampBIdeal.Facts] [hRefSBIdeal : Cert.RefSBIdeal.Facts] : Prop :=
  ∀ (m : (ℓ : Loc Cert.SampBIdeal.nD Cert.SampBIdeal.τ Cert.SampBIdeal.sig) → Buf (Elt Ideal) ℓ) (g : Dev Cert.SampBIdeal.nD → PrngReg)
    (m' : (ℓ : Loc Cert.RefSBIdeal.nD Cert.RefSBIdeal.τ Cert.RefSBIdeal.sig) → Buf (Elt Ideal) ℓ) (g' : Dev Cert.RefSBIdeal.nD → PrngReg), Pre_SampBIdeal m →
    (∀ c : Dev Cert.SampBIdeal.nD,
      m' ((c.tc : Thread Cert.RefSBIdeal.nD Cert.RefSBIdeal.τ).loc Cert.RefSBIdeal.main_arg0) = m ((c.tc : Thread Cert.SampBIdeal.nD Cert.SampBIdeal.τ).loc Cert.SampBIdeal.main_arg0)
      ∧ m' ((c.tc : Thread Cert.RefSBIdeal.nD Cert.RefSBIdeal.τ).loc Cert.RefSBIdeal.main_arg1) = m ((c.tc : Thread Cert.SampBIdeal.nD Cert.SampBIdeal.τ).loc Cert.SampBIdeal.main_arg1)) →
    ∃ (v0 : (c : Dev Cert.SampBIdeal.nD) → Buf (Elt Ideal) ((c.tc : Thread Cert.SampBIdeal.nD Cert.SampBIdeal.τ).loc Cert.SampBIdeal.main_v6)),
      θ_run (Cert.SampBIdeal.defs (F := Ideal)) (onTc (τ := Cert.SampBIdeal.τ) (Cert.SampBIdeal.main (F := Ideal))) ⟨m, fun _ => 0, g⟩ (fun r => ∀ c : Dev Cert.SampBIdeal.nD,
          r.2.mem ((c.tc : Thread Cert.SampBIdeal.nD Cert.SampBIdeal.τ).loc Cert.SampBIdeal.main_v6) = v0 c
          ∧ r.2.mem ((c.tc : Thread Cert.SampBIdeal.nD Cert.SampBIdeal.τ).loc Cert.SampBIdeal.main_arg0) = m ((c.tc : Thread Cert.SampBIdeal.nD Cert.SampBIdeal.τ).loc Cert.SampBIdeal.main_arg0)
          ∧ r.2.mem ((c.tc : Thread Cert.SampBIdeal.nD Cert.SampBIdeal.τ).loc Cert.SampBIdeal.main_arg1) = m ((c.tc : Thread Cert.SampBIdeal.nD Cert.SampBIdeal.τ).loc Cert.SampBIdeal.main_arg1))
      ∧ θ_run (Cert.RefSBIdeal.defs (F := Ideal)) (onTc (τ := Cert.RefSBIdeal.τ) (Cert.RefSBIdeal.main (F := Ideal))) ⟨m', fun _ => 0, g'⟩ (fun r => ∀ c : Dev Cert.RefSBIdeal.nD,
          r.2.mem ((c.tc : Thread Cert.RefSBIdeal.nD Cert.RefSBIdeal.τ).loc Cert.RefSBIdeal.main_v4) = v0 c
          ∧ r.2.mem ((c.tc : Thread Cert.RefSBIdeal.nD Cert.RefSBIdeal.τ).loc Cert.RefSBIdeal.main_arg0) = m' ((c.tc : Thread Cert.RefSBIdeal.nD Cert.RefSBIdeal.τ).loc Cert.RefSBIdeal.main_arg0)
          ∧ r.2.mem ((c.tc : Thread Cert.RefSBIdeal.nD Cert.RefSBIdeal.τ).loc Cert.RefSBIdeal.main_arg1) = m' ((c.tc : Thread Cert.RefSBIdeal.nD Cert.RefSBIdeal.τ).loc Cert.RefSBIdeal.main_arg1))

def preserves_SampQ_SampQIdeal : Prop :=
  True

def algebraic_SampQIdeal_RefSQIdeal [hSampQIdeal : Cert.SampQIdeal.Facts] [hRefSQIdeal : Cert.RefSQIdeal.Facts] : Prop :=
  ∀ (m : (ℓ : Loc Cert.SampQIdeal.nD Cert.SampQIdeal.τ Cert.SampQIdeal.sig) → Buf (Elt Ideal) ℓ) (g : Dev Cert.SampQIdeal.nD → PrngReg)
    (m' : (ℓ : Loc Cert.RefSQIdeal.nD Cert.RefSQIdeal.τ Cert.RefSQIdeal.sig) → Buf (Elt Ideal) ℓ) (g' : Dev Cert.RefSQIdeal.nD → PrngReg), Pre_SampQIdeal m →
    (∀ c : Dev Cert.SampQIdeal.nD,
      m' ((c.tc : Thread Cert.RefSQIdeal.nD Cert.RefSQIdeal.τ).loc Cert.RefSQIdeal.main_arg0) = m ((c.tc : Thread Cert.SampQIdeal.nD Cert.SampQIdeal.τ).loc Cert.SampQIdeal.main_arg0)
      ∧ m' ((c.tc : Thread Cert.RefSQIdeal.nD Cert.RefSQIdeal.τ).loc Cert.RefSQIdeal.main_arg1) = m ((c.tc : Thread Cert.SampQIdeal.nD Cert.SampQIdeal.τ).loc Cert.SampQIdeal.main_arg1)) →
    ∃ (v0 : (c : Dev Cert.SampQIdeal.nD) → Buf (Elt Ideal) ((c.tc : Thread Cert.SampQIdeal.nD Cert.SampQIdeal.τ).loc Cert.SampQIdeal.main_v6)),
      θ_run (Cert.SampQIdeal.defs (F := Ideal)) (onTc (τ := Cert.SampQIdeal.τ) (Cert.SampQIdeal.main (F := Ideal))) ⟨m, fun _ => 0, g⟩ (fun r => ∀ c : Dev Cert.SampQIdeal.nD,
          r.2.mem ((c.tc : Thread Cert.SampQIdeal.nD Cert.SampQIdeal.τ).loc Cert.SampQIdeal.main_v6) = v0 c
          ∧ r.2.mem ((c.tc : Thread Cert.SampQIdeal.nD Cert.SampQIdeal.τ).loc Cert.SampQIdeal.main_arg0) = m ((c.tc : Thread Cert.SampQIdeal.nD Cert.SampQIdeal.τ).loc Cert.SampQIdeal.main_arg0)
          ∧ r.2.mem ((c.tc : Thread Cert.SampQIdeal.nD Cert.SampQIdeal.τ).loc Cert.SampQIdeal.main_arg1) = m ((c.tc : Thread Cert.SampQIdeal.nD Cert.SampQIdeal.τ).loc Cert.SampQIdeal.main_arg1))
      ∧ θ_run (Cert.RefSQIdeal.defs (F := Ideal)) (onTc (τ := Cert.RefSQIdeal.τ) (Cert.RefSQIdeal.main (F := Ideal))) ⟨m', fun _ => 0, g'⟩ (fun r => ∀ c : Dev Cert.RefSQIdeal.nD,
          r.2.mem ((c.tc : Thread Cert.RefSQIdeal.nD Cert.RefSQIdeal.τ).loc Cert.RefSQIdeal.main_v4) = v0 c
          ∧ r.2.mem ((c.tc : Thread Cert.RefSQIdeal.nD Cert.RefSQIdeal.τ).loc Cert.RefSQIdeal.main_arg0) = m' ((c.tc : Thread Cert.RefSQIdeal.nD Cert.RefSQIdeal.τ).loc Cert.RefSQIdeal.main_arg0)
          ∧ r.2.mem ((c.tc : Thread Cert.RefSQIdeal.nD Cert.RefSQIdeal.τ).loc Cert.RefSQIdeal.main_arg1) = m' ((c.tc : Thread Cert.RefSQIdeal.nD Cert.RefSQIdeal.τ).loc Cert.RefSQIdeal.main_arg1))

def preserves_SampO_SampOIdeal : Prop :=
  True

def algebraic_SampOIdeal_RefSOIdeal [hSampOIdeal : Cert.SampOIdeal.Facts] [hRefSOIdeal : Cert.RefSOIdeal.Facts] : Prop :=
  ∀ (m : (ℓ : Loc Cert.SampOIdeal.nD Cert.SampOIdeal.τ Cert.SampOIdeal.sig) → Buf (Elt Ideal) ℓ) (g : Dev Cert.SampOIdeal.nD → PrngReg)
    (m' : (ℓ : Loc Cert.RefSOIdeal.nD Cert.RefSOIdeal.τ Cert.RefSOIdeal.sig) → Buf (Elt Ideal) ℓ) (g' : Dev Cert.RefSOIdeal.nD → PrngReg), Pre_SampOIdeal m →
    (∀ c : Dev Cert.SampOIdeal.nD,
      m' ((c.tc : Thread Cert.RefSOIdeal.nD Cert.RefSOIdeal.τ).loc Cert.RefSOIdeal.main_arg0) = m ((c.tc : Thread Cert.SampOIdeal.nD Cert.SampOIdeal.τ).loc Cert.SampOIdeal.main_arg0)
      ∧ m' ((c.tc : Thread Cert.RefSOIdeal.nD Cert.RefSOIdeal.τ).loc Cert.RefSOIdeal.main_arg1) = m ((c.tc : Thread Cert.SampOIdeal.nD Cert.SampOIdeal.τ).loc Cert.SampOIdeal.main_arg1)
      ∧ m' ((c.tc : Thread Cert.RefSOIdeal.nD Cert.RefSOIdeal.τ).loc Cert.RefSOIdeal.main_arg2) = m ((c.tc : Thread Cert.SampOIdeal.nD Cert.SampOIdeal.τ).loc Cert.SampOIdeal.main_arg2)
      ∧ m' ((c.tc : Thread Cert.RefSOIdeal.nD Cert.RefSOIdeal.τ).loc Cert.RefSOIdeal.main_arg3) = m ((c.tc : Thread Cert.SampOIdeal.nD Cert.SampOIdeal.τ).loc Cert.SampOIdeal.main_arg3)
      ∧ m' ((c.tc : Thread Cert.RefSOIdeal.nD Cert.RefSOIdeal.τ).loc Cert.RefSOIdeal.main_arg4) = m ((c.tc : Thread Cert.SampOIdeal.nD Cert.SampOIdeal.τ).loc Cert.SampOIdeal.main_arg4)) →
    ∃ (v0 : (c : Dev Cert.SampOIdeal.nD) → Buf (Elt Ideal) ((c.tc : Thread Cert.SampOIdeal.nD Cert.SampOIdeal.τ).loc Cert.SampOIdeal.main_v10_0)) (v1 : (c : Dev Cert.SampOIdeal.nD) → Buf (Elt Ideal) ((c.tc : Thread Cert.SampOIdeal.nD Cert.SampOIdeal.τ).loc Cert.SampOIdeal.main_v10_1)),
      θ_run (Cert.SampOIdeal.defs (F := Ideal)) (onTc (τ := Cert.SampOIdeal.τ) (Cert.SampOIdeal.main (F := Ideal))) ⟨m, fun _ => 0, g⟩ (fun r => ∀ c : Dev Cert.SampOIdeal.nD,
          r.2.mem ((c.tc : Thread Cert.SampOIdeal.nD Cert.SampOIdeal.τ).loc Cert.SampOIdeal.main_v10_0) = v0 c
          ∧ r.2.mem ((c.tc : Thread Cert.SampOIdeal.nD Cert.SampOIdeal.τ).loc Cert.SampOIdeal.main_v10_1) = v1 c
          ∧ r.2.mem ((c.tc : Thread Cert.SampOIdeal.nD Cert.SampOIdeal.τ).loc Cert.SampOIdeal.main_arg0) = m ((c.tc : Thread Cert.SampOIdeal.nD Cert.SampOIdeal.τ).loc Cert.SampOIdeal.main_arg0)
          ∧ r.2.mem ((c.tc : Thread Cert.SampOIdeal.nD Cert.SampOIdeal.τ).loc Cert.SampOIdeal.main_arg1) = m ((c.tc : Thread Cert.SampOIdeal.nD Cert.SampOIdeal.τ).loc Cert.SampOIdeal.main_arg1)
          ∧ r.2.mem ((c.tc : Thread Cert.SampOIdeal.nD Cert.SampOIdeal.τ).loc Cert.SampOIdeal.main_arg2) = m ((c.tc : Thread Cert.SampOIdeal.nD Cert.SampOIdeal.τ).loc Cert.SampOIdeal.main_arg2)
          ∧ r.2.mem ((c.tc : Thread Cert.SampOIdeal.nD Cert.SampOIdeal.τ).loc Cert.SampOIdeal.main_arg3) = m ((c.tc : Thread Cert.SampOIdeal.nD Cert.SampOIdeal.τ).loc Cert.SampOIdeal.main_arg3)
          ∧ r.2.mem ((c.tc : Thread Cert.SampOIdeal.nD Cert.SampOIdeal.τ).loc Cert.SampOIdeal.main_arg4) = m ((c.tc : Thread Cert.SampOIdeal.nD Cert.SampOIdeal.τ).loc Cert.SampOIdeal.main_arg4))
      ∧ θ_run (Cert.RefSOIdeal.defs (F := Ideal)) (onTc (τ := Cert.RefSOIdeal.τ) (Cert.RefSOIdeal.main (F := Ideal))) ⟨m', fun _ => 0, g'⟩ (fun r => ∀ c : Dev Cert.RefSOIdeal.nD,
          r.2.mem ((c.tc : Thread Cert.RefSOIdeal.nD Cert.RefSOIdeal.τ).loc Cert.RefSOIdeal.main_v35) = v0 c
          ∧ r.2.mem ((c.tc : Thread Cert.RefSOIdeal.nD Cert.RefSOIdeal.τ).loc Cert.RefSOIdeal.main_v36) = v1 c
          ∧ r.2.mem ((c.tc : Thread Cert.RefSOIdeal.nD Cert.RefSOIdeal.τ).loc Cert.RefSOIdeal.main_arg0) = m' ((c.tc : Thread Cert.RefSOIdeal.nD Cert.RefSOIdeal.τ).loc Cert.RefSOIdeal.main_arg0)
          ∧ r.2.mem ((c.tc : Thread Cert.RefSOIdeal.nD Cert.RefSOIdeal.τ).loc Cert.RefSOIdeal.main_arg1) = m' ((c.tc : Thread Cert.RefSOIdeal.nD Cert.RefSOIdeal.τ).loc Cert.RefSOIdeal.main_arg1)
          ∧ r.2.mem ((c.tc : Thread Cert.RefSOIdeal.nD Cert.RefSOIdeal.τ).loc Cert.RefSOIdeal.main_arg2) = m' ((c.tc : Thread Cert.RefSOIdeal.nD Cert.RefSOIdeal.τ).loc Cert.RefSOIdeal.main_arg2)
          ∧ r.2.mem ((c.tc : Thread Cert.RefSOIdeal.nD Cert.RefSOIdeal.τ).loc Cert.RefSOIdeal.main_arg3) = m' ((c.tc : Thread Cert.RefSOIdeal.nD Cert.RefSOIdeal.τ).loc Cert.RefSOIdeal.main_arg3)
          ∧ r.2.mem ((c.tc : Thread Cert.RefSOIdeal.nD Cert.RefSOIdeal.τ).loc Cert.RefSOIdeal.main_arg4) = m' ((c.tc : Thread Cert.RefSOIdeal.nD Cert.RefSOIdeal.τ).loc Cert.RefSOIdeal.main_arg4))

def preserves_Swa_SwaIdeal : Prop :=
  True

def algebraic_SwaIdeal_RefWIdeal [hSwaIdeal : Cert.SwaIdeal.Facts] [hRefWIdeal : Cert.RefWIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.RefWIdeal.nD Cert.RefWIdeal.τ Cert.RefWIdeal.sig) → Buf (Elt Ideal) ℓ) (g' : Dev Cert.RefWIdeal.nD → PrngReg), Pre_SwaIdeal m →
    (∀ c : Dev Cert.SwaIdeal.nD,
      m' ((c.tc : Thread Cert.RefWIdeal.nD Cert.RefWIdeal.τ).loc Cert.RefWIdeal.main_arg0) = m ((c.tc : Thread Cert.SwaIdeal.nD Cert.SwaIdeal.τ).loc Cert.SwaIdeal.main_arg0)
      ∧ m' ((c.tc : Thread Cert.RefWIdeal.nD Cert.RefWIdeal.τ).loc Cert.RefWIdeal.main_arg1) = m ((c.tc : Thread Cert.SwaIdeal.nD Cert.SwaIdeal.τ).loc Cert.SwaIdeal.main_arg1)
      ∧ m' ((c.tc : Thread Cert.RefWIdeal.nD Cert.RefWIdeal.τ).loc Cert.RefWIdeal.main_arg2) = m ((c.tc : Thread Cert.SwaIdeal.nD Cert.SwaIdeal.τ).loc Cert.SwaIdeal.main_arg2)
      ∧ m' ((c.tc : Thread Cert.RefWIdeal.nD Cert.RefWIdeal.τ).loc Cert.RefWIdeal.main_arg3) = m ((c.tc : Thread Cert.SwaIdeal.nD Cert.SwaIdeal.τ).loc Cert.SwaIdeal.main_arg3)
      ∧ m' ((c.tc : Thread Cert.RefWIdeal.nD Cert.RefWIdeal.τ).loc Cert.RefWIdeal.main_arg4) = m ((c.tc : Thread Cert.SwaIdeal.nD Cert.SwaIdeal.τ).loc Cert.SwaIdeal.main_arg4)) →
    ∃ (v0 : (c : Dev Cert.SwaIdeal.nD) → Buf (Elt Ideal) ((c.tc : Thread Cert.SwaIdeal.nD Cert.SwaIdeal.τ).loc Cert.SwaIdeal.main_v34_1)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v34_1) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4))
      ∧ θ_run (Cert.RefWIdeal.defs (F := Ideal)) (onTc (τ := Cert.RefWIdeal.τ) (Cert.RefWIdeal.main (F := Ideal))) ⟨m', fun _ => 0, g'⟩ (fun r => ∀ c : Dev Cert.RefWIdeal.nD,
          r.2.mem ((c.tc : Thread Cert.RefWIdeal.nD Cert.RefWIdeal.τ).loc Cert.RefWIdeal.main_v36) = v0 c
          ∧ r.2.mem ((c.tc : Thread Cert.RefWIdeal.nD Cert.RefWIdeal.τ).loc Cert.RefWIdeal.main_arg0) = m' ((c.tc : Thread Cert.RefWIdeal.nD Cert.RefWIdeal.τ).loc Cert.RefWIdeal.main_arg0)
          ∧ r.2.mem ((c.tc : Thread Cert.RefWIdeal.nD Cert.RefWIdeal.τ).loc Cert.RefWIdeal.main_arg1) = m' ((c.tc : Thread Cert.RefWIdeal.nD Cert.RefWIdeal.τ).loc Cert.RefWIdeal.main_arg1)
          ∧ r.2.mem ((c.tc : Thread Cert.RefWIdeal.nD Cert.RefWIdeal.τ).loc Cert.RefWIdeal.main_arg2) = m' ((c.tc : Thread Cert.RefWIdeal.nD Cert.RefWIdeal.τ).loc Cert.RefWIdeal.main_arg2)
          ∧ r.2.mem ((c.tc : Thread Cert.RefWIdeal.nD Cert.RefWIdeal.τ).loc Cert.RefWIdeal.main_arg3) = m' ((c.tc : Thread Cert.RefWIdeal.nD Cert.RefWIdeal.τ).loc Cert.RefWIdeal.main_arg3)
          ∧ r.2.mem ((c.tc : Thread Cert.RefWIdeal.nD Cert.RefWIdeal.τ).loc Cert.RefWIdeal.main_arg4) = m' ((c.tc : Thread Cert.RefWIdeal.nD Cert.RefWIdeal.τ).loc Cert.RefWIdeal.main_arg4))

def preserves_ProjC_ProjCIdeal : Prop :=
  True

def algebraic_ProjCIdeal_RefCIdeal [hProjCIdeal : Cert.ProjCIdeal.Facts] [hRefCIdeal : Cert.RefCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.RefCIdeal.nD Cert.RefCIdeal.τ Cert.RefCIdeal.sig) → Buf (Elt Ideal) ℓ) (g' : Dev Cert.RefCIdeal.nD → PrngReg), Pre_ProjCIdeal m →
    (∀ c : Dev Cert.ProjCIdeal.nD,
      m' ((c.tc : Thread Cert.RefCIdeal.nD Cert.RefCIdeal.τ).loc Cert.RefCIdeal.main_arg0) = m ((c.tc : Thread Cert.ProjCIdeal.nD Cert.ProjCIdeal.τ).loc Cert.ProjCIdeal.main_arg0)
      ∧ m' ((c.tc : Thread Cert.RefCIdeal.nD Cert.RefCIdeal.τ).loc Cert.RefCIdeal.main_arg1) = m ((c.tc : Thread Cert.ProjCIdeal.nD Cert.ProjCIdeal.τ).loc Cert.ProjCIdeal.main_arg1)) →
    ∃ (v0 : (c : Dev Cert.ProjCIdeal.nD) → Buf (Elt Ideal) ((c.tc : Thread Cert.ProjCIdeal.nD Cert.ProjCIdeal.τ).loc Cert.ProjCIdeal.main_v7)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v7) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ θ_run (Cert.RefCIdeal.defs (F := Ideal)) (onTc (τ := Cert.RefCIdeal.τ) (Cert.RefCIdeal.main (F := Ideal))) ⟨m', fun _ => 0, g'⟩ (fun r => ∀ c : Dev Cert.RefCIdeal.nD,
          r.2.mem ((c.tc : Thread Cert.RefCIdeal.nD Cert.RefCIdeal.τ).loc Cert.RefCIdeal.main_v5) = v0 c
          ∧ r.2.mem ((c.tc : Thread Cert.RefCIdeal.nD Cert.RefCIdeal.τ).loc Cert.RefCIdeal.main_arg0) = m' ((c.tc : Thread Cert.RefCIdeal.nD Cert.RefCIdeal.τ).loc Cert.RefCIdeal.main_arg0)
          ∧ r.2.mem ((c.tc : Thread Cert.RefCIdeal.nD Cert.RefCIdeal.τ).loc Cert.RefCIdeal.main_arg1) = m' ((c.tc : Thread Cert.RefCIdeal.nD Cert.RefCIdeal.τ).loc Cert.RefCIdeal.main_arg1))

def Claim : Prop :=
  ∃ (hKernel : Cert.Kernel.Facts) (hKernelIdeal : Cert.KernelIdeal.Facts) (hReferenceIdeal : Cert.ReferenceIdeal.Facts) (hProjA : Cert.ProjA.Facts) (hProjAIdeal : Cert.ProjAIdeal.Facts) (hRefAIdeal : Cert.RefAIdeal.Facts) (hProjB : Cert.ProjB.Facts) (hProjBIdeal : Cert.ProjBIdeal.Facts) (hRefBIdeal : Cert.RefBIdeal.Facts) (hProjQ : Cert.ProjQ.Facts) (hProjQIdeal : Cert.ProjQIdeal.Facts) (hRefQIdeal : Cert.RefQIdeal.Facts) (hProjV : Cert.ProjV.Facts) (hProjVIdeal : Cert.ProjVIdeal.Facts) (hRefVIdeal : Cert.RefVIdeal.Facts) (hProjD : Cert.ProjD.Facts) (hProjDIdeal : Cert.ProjDIdeal.Facts) (hRefDIdeal : Cert.RefDIdeal.Facts) (hProjZ : Cert.ProjZ.Facts) (hProjZIdeal : Cert.ProjZIdeal.Facts) (hRefZIdeal : Cert.RefZIdeal.Facts) (hProjG : Cert.ProjG.Facts) (hProjGIdeal : Cert.ProjGIdeal.Facts) (hRefGIdeal : Cert.RefGIdeal.Facts) (hMerge : Cert.Merge.Facts) (hMergeIdeal : Cert.MergeIdeal.Facts) (hRefMIdeal : Cert.RefMIdeal.Facts) (hOutLn : Cert.OutLn.Facts) (hOutLnIdeal : Cert.OutLnIdeal.Facts) (hRefOIdeal : Cert.RefOIdeal.Facts) (hSampA : Cert.SampA.Facts) (hSampAIdeal : Cert.SampAIdeal.Facts) (hRefSAIdeal : Cert.RefSAIdeal.Facts) (hSampB : Cert.SampB.Facts) (hSampBIdeal : Cert.SampBIdeal.Facts) (hRefSBIdeal : Cert.RefSBIdeal.Facts) (hSampQ : Cert.SampQ.Facts) (hSampQIdeal : Cert.SampQIdeal.Facts) (hRefSQIdeal : Cert.RefSQIdeal.Facts) (hSampO : Cert.SampO.Facts) (hSampOIdeal : Cert.SampOIdeal.Facts) (hRefSOIdeal : Cert.RefSOIdeal.Facts) (hSwa : Cert.Swa.Facts) (hSwaIdeal : Cert.SwaIdeal.Facts) (hRefWIdeal : Cert.RefWIdeal.Facts) (hProjC : Cert.ProjC.Facts) (hProjCIdeal : Cert.ProjCIdeal.Facts) (hRefCIdeal : Cert.RefCIdeal.Facts),
    quiescent_Kernel (hKernel := hKernel)
    ∧ quiescent_KernelIdeal (hKernelIdeal := hKernelIdeal)
    ∧ quiescent_ReferenceIdeal (hReferenceIdeal := hReferenceIdeal)
    ∧ quiescent_ProjA (hProjA := hProjA)
    ∧ quiescent_ProjAIdeal (hProjAIdeal := hProjAIdeal)
    ∧ quiescent_RefAIdeal (hRefAIdeal := hRefAIdeal)
    ∧ quiescent_ProjB (hProjB := hProjB)
    ∧ quiescent_ProjBIdeal (hProjBIdeal := hProjBIdeal)
    ∧ quiescent_RefBIdeal (hRefBIdeal := hRefBIdeal)
    ∧ quiescent_ProjQ (hProjQ := hProjQ)
    ∧ quiescent_ProjQIdeal (hProjQIdeal := hProjQIdeal)
    ∧ quiescent_RefQIdeal (hRefQIdeal := hRefQIdeal)
    ∧ quiescent_ProjV (hProjV := hProjV)
    ∧ quiescent_ProjVIdeal (hProjVIdeal := hProjVIdeal)
    ∧ quiescent_RefVIdeal (hRefVIdeal := hRefVIdeal)
    ∧ quiescent_ProjD (hProjD := hProjD)
    ∧ quiescent_ProjDIdeal (hProjDIdeal := hProjDIdeal)
    ∧ quiescent_RefDIdeal (hRefDIdeal := hRefDIdeal)
    ∧ quiescent_ProjZ (hProjZ := hProjZ)
    ∧ quiescent_ProjZIdeal (hProjZIdeal := hProjZIdeal)
    ∧ quiescent_RefZIdeal (hRefZIdeal := hRefZIdeal)
    ∧ quiescent_ProjG (hProjG := hProjG)
    ∧ quiescent_ProjGIdeal (hProjGIdeal := hProjGIdeal)
    ∧ quiescent_RefGIdeal (hRefGIdeal := hRefGIdeal)
    ∧ quiescent_Merge (hMerge := hMerge)
    ∧ quiescent_MergeIdeal (hMergeIdeal := hMergeIdeal)
    ∧ quiescent_RefMIdeal (hRefMIdeal := hRefMIdeal)
    ∧ quiescent_OutLn (hOutLn := hOutLn)
    ∧ quiescent_OutLnIdeal (hOutLnIdeal := hOutLnIdeal)
    ∧ quiescent_RefOIdeal (hRefOIdeal := hRefOIdeal)
    ∧ quiescent_SampA (hSampA := hSampA)
    ∧ quiescent_SampAIdeal (hSampAIdeal := hSampAIdeal)
    ∧ quiescent_RefSAIdeal (hRefSAIdeal := hRefSAIdeal)
    ∧ quiescent_SampB (hSampB := hSampB)
    ∧ quiescent_SampBIdeal (hSampBIdeal := hSampBIdeal)
    ∧ quiescent_RefSBIdeal (hRefSBIdeal := hRefSBIdeal)
    ∧ quiescent_SampQ (hSampQ := hSampQ)
    ∧ quiescent_SampQIdeal (hSampQIdeal := hSampQIdeal)
    ∧ quiescent_RefSQIdeal (hRefSQIdeal := hRefSQIdeal)
    ∧ quiescent_SampO (hSampO := hSampO)
    ∧ quiescent_SampOIdeal (hSampOIdeal := hSampOIdeal)
    ∧ quiescent_RefSOIdeal (hRefSOIdeal := hRefSOIdeal)
    ∧ quiescent_Swa (hSwa := hSwa)
    ∧ quiescent_SwaIdeal (hSwaIdeal := hSwaIdeal)
    ∧ quiescent_RefWIdeal (hRefWIdeal := hRefWIdeal)
    ∧ quiescent_ProjC (hProjC := hProjC)
    ∧ quiescent_ProjCIdeal (hProjCIdeal := hProjCIdeal)
    ∧ quiescent_RefCIdeal (hRefCIdeal := hRefCIdeal)
    ∧ preserves_Kernel_KernelIdeal
    ∧ algebraic_KernelIdeal_ReferenceIdeal (hKernelIdeal := hKernelIdeal) (hReferenceIdeal := hReferenceIdeal)
    ∧ preserves_ProjA_ProjAIdeal
    ∧ algebraic_ProjAIdeal_RefAIdeal (hProjAIdeal := hProjAIdeal) (hRefAIdeal := hRefAIdeal)
    ∧ preserves_ProjB_ProjBIdeal
    ∧ algebraic_ProjBIdeal_RefBIdeal (hProjBIdeal := hProjBIdeal) (hRefBIdeal := hRefBIdeal)
    ∧ preserves_ProjQ_ProjQIdeal
    ∧ algebraic_ProjQIdeal_RefQIdeal (hProjQIdeal := hProjQIdeal) (hRefQIdeal := hRefQIdeal)
    ∧ preserves_ProjV_ProjVIdeal
    ∧ algebraic_ProjVIdeal_RefVIdeal (hProjVIdeal := hProjVIdeal) (hRefVIdeal := hRefVIdeal)
    ∧ preserves_ProjD_ProjDIdeal
    ∧ algebraic_ProjDIdeal_RefDIdeal (hProjDIdeal := hProjDIdeal) (hRefDIdeal := hRefDIdeal)
    ∧ preserves_ProjZ_ProjZIdeal
    ∧ algebraic_ProjZIdeal_RefZIdeal (hProjZIdeal := hProjZIdeal) (hRefZIdeal := hRefZIdeal)
    ∧ preserves_ProjG_ProjGIdeal
    ∧ algebraic_ProjGIdeal_RefGIdeal (hProjGIdeal := hProjGIdeal) (hRefGIdeal := hRefGIdeal)
    ∧ preserves_Merge_MergeIdeal
    ∧ algebraic_MergeIdeal_RefMIdeal (hMergeIdeal := hMergeIdeal) (hRefMIdeal := hRefMIdeal)
    ∧ preserves_OutLn_OutLnIdeal
    ∧ algebraic_OutLnIdeal_RefOIdeal (hOutLnIdeal := hOutLnIdeal) (hRefOIdeal := hRefOIdeal)
    ∧ preserves_SampA_SampAIdeal
    ∧ algebraic_SampAIdeal_RefSAIdeal (hSampAIdeal := hSampAIdeal) (hRefSAIdeal := hRefSAIdeal)
    ∧ preserves_SampB_SampBIdeal
    ∧ algebraic_SampBIdeal_RefSBIdeal (hSampBIdeal := hSampBIdeal) (hRefSBIdeal := hRefSBIdeal)
    ∧ preserves_SampQ_SampQIdeal
    ∧ algebraic_SampQIdeal_RefSQIdeal (hSampQIdeal := hSampQIdeal) (hRefSQIdeal := hRefSQIdeal)
    ∧ preserves_SampO_SampOIdeal
    ∧ algebraic_SampOIdeal_RefSOIdeal (hSampOIdeal := hSampOIdeal) (hRefSOIdeal := hRefSOIdeal)
    ∧ preserves_Swa_SwaIdeal
    ∧ algebraic_SwaIdeal_RefWIdeal (hSwaIdeal := hSwaIdeal) (hRefWIdeal := hRefWIdeal)
    ∧ preserves_ProjC_ProjCIdeal
    ∧ algebraic_ProjCIdeal_RefCIdeal (hProjCIdeal := hProjCIdeal) (hRefCIdeal := hRefCIdeal)
-- ==== Kernel.lean ====
abbrev S4x2048x3072 : Shape := ⟨3, ![4, 2048, 3072]⟩
abbrev S4x2048x4096 : Shape := ⟨3, ![4, 2048, 4096]⟩
abbrev S2x4x8x128x128 : Shape := ⟨5, ![2, 4, 8, 128, 128]⟩
abbrev S2x1024 : Shape := ⟨2, ![2, 1024]⟩
abbrev S8 : Shape := ⟨1, ![8]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S8x64x128 : Shape := ⟨3, ![8, 64, 128]⟩
abbrev S8x1x128 : Shape := ⟨3, ![8, 1, 128]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩
abbrev S2048x64 : Shape := ⟨2, ![2048, 64]⟩
abbrev S2048x128 : Shape := ⟨2, ![2048, 128]⟩
abbrev S1x2048x1x128 : Shape := ⟨4, ![1, 2048, 1, 128]⟩
abbrev S4x2048x1024 : Shape := ⟨3, ![4, 2048, 1024]⟩
abbrev S4x8x128x128 : Shape := ⟨4, ![4, 8, 128, 128]⟩
abbrev S1x256x1024 : Shape := ⟨3, ![1, 256, 1024]⟩
abbrev S256x128 : Shape := ⟨2, ![256, 128]⟩
abbrev S1x1x8x128x128 : Shape := ⟨5, ![1, 1, 8, 128, 128]⟩
abbrev S1x8x128x128 : Shape := ⟨4, ![1, 8, 128, 128]⟩
abbrev S64x128 : Shape := ⟨2, ![64, 128]⟩
abbrev S1x64x128 : Shape := ⟨3, ![1, 64, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 110
  | .vmem => 25
  | .smem => 0
  | _ => 0

abbrev bufTy : (tb : Table) → Fin (tcTables nBuf tb) → BufTy
  | .hbm, ⟨0, _⟩ => ⟨S4x2048x3072, .f32⟩
  | .hbm, ⟨1, _⟩ => ⟨S4x2048x4096, .f32⟩
  | .hbm, ⟨2, _⟩ => ⟨S2x4x8x128x128, .f32⟩
  | .hbm, ⟨3, _⟩ => ⟨S2x1024, .f32⟩
  | .hbm, ⟨4, _⟩ => ⟨S2x1024, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S64, .f32⟩
  | .hbm, ⟨16, _⟩ => ⟨S64x1, .f32⟩
  | .hbm, ⟨17, _⟩ => ⟨S1x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .i1⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S8x1x1, .f32⟩
  | .hbm, ⟨28, _⟩ => ⟨S1x64x64, .f32⟩
  | .hbm, ⟨29, _⟩ => ⟨S8x64x64, .f32⟩
  | .hbm, ⟨30, _⟩ => ⟨S8x64x64, .f32⟩
  | .hbm, ⟨31, _⟩ => ⟨S8x64x64, .f32⟩
  | .hbm, ⟨32, _⟩ => ⟨S8x64x64, .f32⟩
  | .hbm, ⟨33, _⟩ => ⟨S_, .f32⟩
  | .hbm, ⟨34, _⟩ => ⟨S_, .f32⟩
  | .hbm, ⟨35, _⟩ => ⟨S8x64x64, .i1⟩
  | .hbm, ⟨36, _⟩ => ⟨S8x64x64, .f32⟩
  | .hbm, ⟨37, _⟩ => ⟨S8x64x64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S1x64, .f32⟩
  | .hbm, ⟨42, _⟩ => ⟨S8x1, .f32⟩
  | .hbm, ⟨43, _⟩ => ⟨S8x64, .f32⟩
  | .hbm, ⟨44, _⟩ => ⟨S8x64, .f32⟩
  | .hbm, ⟨45, _⟩ => ⟨S8x64, .f32⟩
  | .hbm, ⟨46, _⟩ => ⟨S8x64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S8x1, .f32⟩
  | .hbm, ⟨52, _⟩ => ⟨S8x64, .f32⟩
  | .hbm, ⟨53, _⟩ => ⟨S8x64, .f32⟩
  | .hbm, ⟨54, _⟩ => ⟨S8x64, .f32⟩
  | .hbm, ⟨55, _⟩ => ⟨S8x64, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S8, .f32⟩
  | .hbm, ⟨60, _⟩ => ⟨S8x64x1, .f32⟩
  | .hbm, ⟨61, _⟩ => ⟨S8x64x128, .f32⟩
  | .hbm, ⟨62, _⟩ => ⟨S8x64x1, .f32⟩
  | .hbm, ⟨63, _⟩ => ⟨S8x64x128, .f32⟩
  | .hbm, ⟨64, _⟩ => ⟨S8x1, .f32⟩
  | .hbm, ⟨65, _⟩ => ⟨S8x1x1, .f32⟩
  | .hbm, ⟨66, _⟩ => ⟨S8x1x128, .f32⟩
  | .hbm, ⟨67, _⟩ => ⟨S1x1024, .f32⟩
  | .hbm, ⟨68, _⟩ => ⟨S1024, .f32⟩
  | .hbm, ⟨69, _⟩ => ⟨S1x1024, .f32⟩
  | .hbm, ⟨70, _⟩ => ⟨S1x1024, .f32⟩
  | .hbm, ⟨71, _⟩ => ⟨S1024, .f32⟩
  | .hbm, ⟨72, _⟩ => ⟨S1x1024, .f32⟩
  | .hbm, ⟨73, _⟩ => ⟨S2048, .i32⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S2048, .f32⟩
  | .hbm, ⟨92, _⟩ => ⟨S2048x1, .f32⟩
  | .hbm, ⟨93, _⟩ => ⟨S1x64, .f32⟩
  | .hbm, ⟨94, _⟩ => ⟨S2048x64, .f32⟩
  | .hbm, ⟨95, _⟩ => ⟨S2048x64, .f32⟩
  | .hbm, ⟨96, _⟩ => ⟨S2048x64, .f32⟩
  | .hbm, ⟨97, _⟩ => ⟨S2048x64, .f32⟩
  | .hbm, ⟨98, _⟩ => ⟨S2048x64, .f32⟩
  | .hbm, ⟨99, _⟩ => ⟨S2048x128, .f32⟩
  | .hbm, ⟨100, _⟩ => ⟨S1x2048x1x128, .f32⟩
  | .hbm, ⟨101, _⟩ => ⟨S1x2048x1x128, .f32⟩
  | .hbm, ⟨102, _⟩ => ⟨S2048x128, .f32⟩
  | .hbm, ⟨103, _⟩ => ⟨S2048x64, .f32⟩
  | .hbm, ⟨104, _⟩ => ⟨S2048x128, .f32⟩
  | .hbm, ⟨105, _⟩ => ⟨S1x2048x1x128, .f32⟩
  | .hbm, ⟨106, _⟩ => ⟨S1x2048x1x128, .f32⟩
  | .hbm, ⟨107, _⟩ => ⟨S2048x128, .f32⟩
  | .hbm, ⟨108, _⟩ => ⟨S4x2048x1024, .bf16⟩
  | .hbm, ⟨109, _⟩ => ⟨S4x8x128x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8x64x64, .f32⟩
  | .local _ .vmem, ⟨13, _⟩ => ⟨S8x64x128, .f32⟩
  | .local _ .vmem, ⟨14, _⟩ => ⟨S8x64x128, .f32⟩
  | .local _ .vmem, ⟨15, _⟩ => ⟨S8x1x128, .f32⟩
  | .local _ .vmem, ⟨16, _⟩ => ⟨S1x1x8x128x128, .f32⟩
  | .local _ .vmem, ⟨17, _⟩ => ⟨S1x1x8x128x128, .f32⟩
  | .local _ .vmem, ⟨18, _⟩ => ⟨S1x1024, .f32⟩
  | .local _ .vmem, ⟨19, _⟩ => ⟨S1x1024, .f32⟩
  | .local _ .vmem, ⟨20, _⟩ => ⟨S1x256x1024, .bf16⟩
  | .local _ .vmem, ⟨21, _⟩ => ⟨S1x256x1024, .bf16⟩
  | .local _ .vmem, ⟨22, _⟩ => ⟨S1x8x128x128, .f32⟩
  | .local _ .vmem, ⟨23, _⟩ => ⟨S1x8x128x128, .f32⟩
  | .local _ .vmem, ⟨24, _⟩ => ⟨S1x8x128x128, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_7 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87_0 : Ref sig .tc := ⟨.hbm, 108, rfl⟩
abbrev main_v87_1 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_2 : BitVec 32 := 0#32
  let c4_i32 : BitVec 32 := 4#32
  let v3 : BitVec 32 := Scalar.addi c0_i32_2 c4_i32
  let c1_i32 : BitVec 32 := 1#32
  ⟨c0_i32_2, v3, c1_i32⟩
def k0_mult1 (k0_t1 : Fin k0_t1_loop.trips) : BitVec 32 :=
  let c0_i32_2 : BitVec 32 := 0#32
  let c1_i32 : BitVec 32 := 1#32
  let arg18 : BitVec 32 := Scf.iv c0_i32_2 c1_i32 k0_t1
  let c64_i32 : BitVec 32 := 64#32
  let v7 : BitVec 32 := Scalar.muli arg18 c64_i32
  v7
def k0_off1 (k0_t1 : Fin k0_t1_loop.trips) : Fin 2 → Nat :=
  let c0_i32_2 : BitVec 32 := 0#32
  let c1_i32 : BitVec 32 := 1#32
  let arg18 : BitVec 32 := Scf.iv c0_i32_2 c1_i32 k0_t1
  let c64_i32 : BitVec 32 := 64#32
  let v7 : BitVec 32 := Scalar.muli arg18 c64_i32
  let v8 : BitVec 32 := v7
  let v9 : Index := Scalar.indexCast v8
  let c0 : Index := 0#32
  ![v9.toNat, 0]
def k0_off2 (k0_t1 : Fin k0_t1_loop.trips) : Fin 3 → Nat :=
  let c0_i32_1 : BitVec 32 := 0#32
  let v15 : Index := Scalar.indexCast c0_i32_1
  let c0_i32_2 : BitVec 32 := 0#32
  let c1_i32 : BitVec 32 := 1#32
  let arg18 : BitVec 32 := Scf.iv c0_i32_2 c1_i32 k0_t1
  let c64_i32 : BitVec 32 := 64#32
  let v7 : BitVec 32 := Scalar.muli arg18 c64_i32
  let v8 : BitVec 32 := v7
  let v16 : Index := Scalar.indexCast v8
  let c0_7 : Index := 0#32
  ![0, v16.toNat, 0]
def k0_off3 (k0_t1 : Fin k0_t1_loop.trips) : Fin 3 → Nat :=
  let c0_i32_1 : BitVec 32 := 0#32
  let v46 : Index := Scalar.indexCast c0_i32_1
  let c0_i32_2 : BitVec 32 := 0#32
  let c1_i32 : BitVec 32 := 1#32
  let arg18 : BitVec 32 := Scf.iv c0_i32_2 c1_i32 k0_t1
  let c64_i32 : BitVec 32 := 64#32
  let v7 : BitVec 32 := Scalar.muli arg18 c64_i32
  let v8 : BitVec 32 := v7
  let v47 : Index := Scalar.indexCast v8
  let c128 : Index := 128#32
  ![0, v47.toNat, 128]
def k0_off4 (k0_t1 : Fin k0_t1_loop.trips) : Fin 3 → Nat :=
  let c0_i32_1 : BitVec 32 := 0#32
  let v77 : Index := Scalar.indexCast c0_i32_1
  let c0_i32_2 : BitVec 32 := 0#32
  let c1_i32 : BitVec 32 := 1#32
  let arg18 : BitVec 32 := Scf.iv c0_i32_2 c1_i32 k0_t1
  let c64_i32 : BitVec 32 := 64#32
  let v7 : BitVec 32 := Scalar.muli arg18 c64_i32
  let v8 : BitVec 32 := v7
  let v78 : Index := Scalar.indexCast v8
  let c256 : Index := 256#32
  ![0, v78.toNat, 256]
def k0_off5 (k0_t1 : Fin k0_t1_loop.trips) : Fin 3 → Nat :=
  let c0_i32_1 : BitVec 32 := 0#32
  let v108 : Index := Scalar.indexCast c0_i32_1
  let c0_i32_2 : BitVec 32 := 0#32
  let c1_i32 : BitVec 32 := 1#32
  let arg18 : BitVec 32 := Scf.iv c0_i32_2 c1_i32 k0_t1
  let c64_i32 : BitVec 32 := 64#32
  let v7 : BitVec 32 := Scalar.muli arg18 c64_i32
  let v8 : BitVec 32 := v7
  let v109 : Index := Scalar.indexCast v8
  let c384 : Index := 384#32
  ![0, v109.toNat, 384]
def k0_off6 (k0_t1 : Fin k0_t1_loop.trips) : Fin 3 → Nat :=
  let c0_i32_1 : BitVec 32 := 0#32
  let v139 : Index := Scalar.indexCast c0_i32_1
  let c0_i32_2 : BitVec 32 := 0#32
  let c1_i32 : BitVec 32 := 1#32
  let arg18 : BitVec 32 := Scf.iv c0_i32_2 c1_i32 k0_t1
  let c64_i32 : BitVec 32 := 64#32
  let v7 : BitVec 32 := Scalar.muli arg18 c64_i32
  let v8 : BitVec 32 := v7
  let v140 : Index := Scalar.indexCast v8
  let c512 : Index := 512#32
  ![0, v140.toNat, 512]
def k0_off7 (k0_t1 : Fin k0_t1_loop.trips) : Fin 3 → Nat :=
  let c0_i32_1 : BitVec 32 := 0#32
  let v170 : Index := Scalar.indexCast c0_i32_1
  let c0_i32_2 : BitVec 32 := 0#32
  let c1_i32 : BitVec 32 := 1#32
  let arg18 : BitVec 32 := Scf.iv c0_i32_2 c1_i32 k0_t1
  let c64_i32 : BitVec 32 := 64#32
  let v7 : BitVec 32 := Scalar.muli arg18 c64_i32
  let v8 : BitVec 32 := v7
  let v171 : Index := Scalar.indexCast v8
  let c640 : Index := 640#32
  ![0, v171.toNat, 640]
def k0_off8 (k0_t1 : Fin k0_t1_loop.trips) : Fin 3 → Nat :=
  let c0_i32_1 : BitVec 32 := 0#32
  let v201 : Index := Scalar.indexCast c0_i32_1
  let c0_i32_2 : BitVec 32 := 0#32
  let c1_i32 : BitVec 32 := 1#32
  let arg18 : BitVec 32 := Scf.iv c0_i32_2 c1_i32 k0_t1
  let c64_i32 : BitVec 32 := 64#32
  let v7 : BitVec 32 := Scalar.muli arg18 c64_i32
  let v8 : BitVec 32 := v7
  let v202 : Index := Scalar.indexCast v8
  let c768 : Index := 768#32
  ![0, v202.toNat, 768]
def k0_off9 (k0_t1 : Fin k0_t1_loop.trips) : Fin 3 → Nat :=
  let c0_i32_1 : BitVec 32 := 0#32
  let v232 : Index := Scalar.indexCast c0_i32_1
  let c0_i32_2 : BitVec 32 := 0#32
  let c1_i32 : BitVec 32 := 1#32
  let arg18 : BitVec 32 := Scf.iv c0_i32_2 c1_i32 k0_t1
  let c64_i32 : BitVec 32 := 64#32
  let v7 : BitVec 32 := Scalar.muli arg18 c64_i32
  let v8 : BitVec 32 := v7
  let v233 : Index := Scalar.indexCast v8
  let c896 : Index := 896#32
  ![0, v233.toNat, 896]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_5 : BitVec 32 := 0#32
  let v6 : BitVec 1 := Scalar.cmpi .ne v5 c0_i32_5
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S4x2048x3072 : Shape := ⟨3, ![4, 2048, 3072]⟩
abbrev S4x2048x4096 : Shape := ⟨3, ![4, 2048, 4096]⟩
abbrev S2x4x8x128x128 : Shape := ⟨5, ![2, 4, 8, 128, 128]⟩
abbrev S2x1024 : Shape := ⟨2, ![2, 1024]⟩
abbrev S2048 : Shape := ⟨1, ![2048]⟩
abbrev S_ : Shape := ⟨0, ![]⟩
abbrev S4x2048x1024 : Shape := ⟨3, ![4, 2048, 1024]⟩
abbrev S4x2048x8x128 : Shape := ⟨4, ![4, 2048, 8, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x8x64 : Shape := ⟨4, ![4, 2048, 8, 64]⟩
abbrev S8 : Shape := ⟨1, ![8]⟩
abbrev S64x1 : Shape := ⟨2, ![64, 1]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S1x4x8x128x128 : Shape := ⟨5, ![1, 4, 8, 128, 128]⟩
abbrev S4x8x128x128 : Shape := ⟨4, ![4, 8, 128, 128]⟩
abbrev S4x32x64x8x128 : Shape := ⟨5, ![4, 32, 64, 8, 128]⟩
abbrev S32x4x64x8x128 : Shape := ⟨5, ![32, 4, 64, 8, 128]⟩
abbrev S1x4x64x8x128 : Shape := ⟨5, ![1, 4, 64, 8, 128]⟩
abbrev S4x64x8x128 : Shape := ⟨4, ![4, 64, 8, 128]⟩
abbrev S4x8x64x64 : Shape := ⟨4, ![4, 8, 64, 64]⟩
abbrev S1x8x64x64 : Shape := ⟨4, ![1, 8, 64, 64]⟩
abbrev S4x8x128x64 : Shape := ⟨4, ![4, 8, 128, 64]⟩
abbrev S64x8 : Shape := ⟨2, ![64, 8]⟩
abbrev S1x64x8x1 : Shape := ⟨4, ![1, 64, 8, 1]⟩
abbrev S1x8x1x1 : Shape := ⟨4, ![1, 8, 1, 1]⟩
abbrev S1x1024 : Shape := ⟨2, ![1, 1024]⟩
abbrev S1024 : Shape := ⟨1, ![1024]⟩
abbrev S4x2048x8 : Shape := ⟨3, ![4, 2048, 8]⟩
abbrev S4x2048x8x1 : Shape := ⟨4, ![4, 2048, 8, 1]⟩
abbrev S1x1x1024 : Shape := ⟨3, ![1, 1, 1024]⟩

abbrev nBuf : Space → Nat
  | .hbm => 257
  | .vmem => 0
  | .smem => 0
  | _ => 0

abbrev hbmTy0_0 (i : Nat) : BufTy := match i % 128 with
  | 0 => ⟨S4x2048x3072, .f32⟩
  | 1 => ⟨S4x2048x4096, .f32⟩
  | 2 => ⟨S2x4x8x128x128, .f32⟩
  | 3 => ⟨S2x1024, .f32⟩
  | 4 => ⟨S2x1024, .f32⟩
  | 5 => ⟨S2048, .i32⟩
  | 6 => ⟨S_, .i32⟩
  | 7 => ⟨S2048, .i32⟩
  | 8 => ⟨S2048, .i32⟩
  | 9 => ⟨S4x2048x1024, .f32⟩
  | 10 => ⟨S4x2048x8x128, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S2048, .f32⟩
  | 26 => ⟨S2048x1, .f32⟩
  | 27 => ⟨S1x64, .f32⟩
  | 28 => ⟨S2048x64, .f32⟩
  | 29 => ⟨S2048x64, .f32⟩
  | 30 => ⟨S2048x64, .f32⟩
  | 31 => ⟨S2048x64, .f32⟩
  | 32 => ⟨S1x2048x1x64, .f32⟩
  | 33 => ⟨S2048x64, .f32⟩
  | 34 => ⟨S1x2048x1x64, .f32⟩
  | 35 => ⟨S4x2048x8x64, .f32⟩
  | 36 => ⟨S4x2048x8x64, .f32⟩
  | 37 => ⟨S4x2048x8x64, .f32⟩
  | 38 => ⟨S4x2048x8x64, .f32⟩
  | 39 => ⟨S4x2048x8x64, .f32⟩
  | 40 => ⟨S4x2048x8x64, .f32⟩
  | 41 => ⟨S4x2048x8x64, .f32⟩
  | 42 => ⟨S4x2048x8x64, .f32⟩
  | 43 => ⟨S4x2048x8x64, .f32⟩
  | 44 => ⟨S4x2048x8x64, .f32⟩
  | 45 => ⟨S4x2048x8x64, .f32⟩
  | 46 => ⟨S4x2048x8x64, .f32⟩
  | 47 => ⟨S4x2048x8x128, .f32⟩
  | 48 => ⟨S4x2048x1024, .f32⟩
  | 49 => ⟨S4x2048x8x128, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S64, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S2048, .f32⟩
  | 65 => ⟨S2048x1, .f32⟩
  | 66 => ⟨S1x64, .f32⟩
  | 67 => ⟨S2048x64, .f32⟩
  | 68 => ⟨S2048x64, .f32⟩
  | 69 => ⟨S2048x64, .f32⟩
  | 70 => ⟨S2048x64, .f32⟩
  | 71 => ⟨S1x2048x1x64, .f32⟩
  | 72 => ⟨S2048x64, .f32⟩
  | 73 => ⟨S1x2048x1x64, .f32⟩
  | 74 => ⟨S4x2048x8x64, .f32⟩
  | 75 => ⟨S4x2048x8x64, .f32⟩
  | 76 => ⟨S4x2048x8x64, .f32⟩
  | 77 => ⟨S4x2048x8x64, .f32⟩
  | 78 => ⟨S4x2048x8x64, .f32⟩
  | 79 => ⟨S4x2048x8x64, .f32⟩
  | 80 => ⟨S4x2048x8x64, .f32⟩
  | 81 => ⟨S4x2048x8x64, .f32⟩
  | 82 => ⟨S4x2048x8x64, .f32⟩
  | 83 => ⟨S4x2048x8x64, .f32⟩
  | 84 => ⟨S4x2048x8x64, .f32⟩
  | 85 => ⟨S4x2048x8x64, .f32⟩
  | 86 => ⟨S4x2048x8x128, .f32⟩
  | 87 => ⟨S_, .f32⟩
  | 88 => ⟨S4x2048x8x128, .f32⟩
  | 89 => ⟨S4x2048x8x128, .f32⟩
  | 90 => ⟨S4x2048x1024, .f32⟩
  | 91 => ⟨S4x2048x8x128, .f32⟩
  | 92 => ⟨S8, .f32⟩
  | 93 => ⟨S_, .f32⟩
  | 94 => ⟨S8, .f32⟩
  | 95 => ⟨S8, .f32⟩
  | 96 => ⟨S_, .f32⟩
  | 97 => ⟨S8, .f32⟩
  | 98 => ⟨S8, .f32⟩
  | 99 => ⟨S8, .f32⟩
  | 100 => ⟨S8, .f32⟩
  | 101 => ⟨S8, .f32⟩
  | 102 => ⟨S64, .f32⟩
  | 103 => ⟨S64x1, .f32⟩
  | 104 => ⟨S1x64, .f32⟩
  | 105 => ⟨S64x64, .f32⟩
  | 106 => ⟨S64x64, .f32⟩
  | 107 => ⟨S64x64, .f32⟩
  | 108 => ⟨S_, .f32⟩
  | 109 => ⟨S64x64, .f32⟩
  | 110 => ⟨S64x64, .i1⟩
  | 111 => ⟨S_, .f32⟩
  | 112 => ⟨S64x64, .f32⟩
  | 113 => ⟨S64x64, .f32⟩
  | 114 => ⟨S8x1x1, .f32⟩
  | 115 => ⟨S1x64x64, .f32⟩
  | 116 => ⟨S8x64x64, .f32⟩
  | 117 => ⟨S8x64x64, .f32⟩
  | 118 => ⟨S8x64x64, .f32⟩
  | 119 => ⟨S8x64x64, .f32⟩
  | 120 => ⟨S_, .f32⟩
  | 121 => ⟨S_, .f32⟩
  | 122 => ⟨S8x64x64, .i1⟩
  | 123 => ⟨S8x64x64, .f32⟩
  | 124 => ⟨S8x64x64, .f32⟩
  | 125 => ⟨S_, .f32⟩
  | 126 => ⟨S64, .f32⟩
  | 127 => ⟨S64, .f32⟩
  | _ => ⟨S4x2048x3072, .f32⟩

abbrev hbmTy0_1 (i : Nat) : BufTy := match i % 128 with
  | 0 => ⟨S1x64, .f32⟩
  | 1 => ⟨S8x1, .f32⟩
  | 2 => ⟨S8x64, .f32⟩
  | 3 => ⟨S8x64, .f32⟩
  | 4 => ⟨S8x64, .f32⟩
  | 5 => ⟨S8x64, .f32⟩
  | 6 => ⟨S_, .f32⟩
  | 7 => ⟨S64, .f32⟩
  | 8 => ⟨S64, .f32⟩
  | 9 => ⟨S1x64, .f32⟩
  | 10 => ⟨S8x1, .f32⟩
  | 11 => ⟨S8x64, .f32⟩
  | 12 => ⟨S8x64, .f32⟩
  | 13 => ⟨S8x64, .f32⟩
  | 14 => ⟨S8x64, .f32⟩
  | 15 => ⟨S_, .f32⟩
  | 16 => ⟨S8, .f32⟩
  | 17 => ⟨S8, .f32⟩
  | 18 => ⟨S8, .f32⟩
  | 19 => ⟨S1x4x8x128x128, .f32⟩
  | 20 => ⟨S4x8x128x128, .f32⟩
  | 21 => ⟨S4x32x64x8x128, .f32⟩
  | 22 => ⟨S32x4x64x8x128, .f32⟩
  | 23 => ⟨S4x32x64x8x128, .f32⟩
  | 24 => ⟨S32x4x64x8x128, .f32⟩
  | 25 => ⟨S4x32x64x8x128, .f32⟩
  | 26 => ⟨S32x4x64x8x128, .f32⟩
  | 27 => ⟨S_, .f32⟩
  | 28 => ⟨S32x4x64x8x128, .f32⟩
  | 29 => ⟨S_, .i32⟩
  | 30 => ⟨S32x4x64x8x128, .f32⟩
  | 31 => ⟨S32x4x64x8x128, .f32⟩
  | 32 => ⟨S32x4x64x8x128, .f32⟩
  | 33 => ⟨S8x64x64, .f32⟩
  | 34 => ⟨S8x64, .f32⟩
  | 35 => ⟨S8, .f32⟩
  | 36 => ⟨S8x64, .f32⟩
  | 37 => ⟨S_, .i32⟩
  | 38 => ⟨S4x8x128x128, .f32⟩
  | 39 => ⟨S32x4x64x8x128, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S1x4x64x8x128, .f32⟩
  | 47 => ⟨S4x64x8x128, .f32⟩
  | 48 => ⟨S_, .i32⟩
  | 49 => ⟨S_, .i32⟩
  | 50 => ⟨S_, .i32⟩
  | 51 => ⟨S_, .i32⟩
  | 52 => ⟨S1x4x64x8x128, .f32⟩
  | 53 => ⟨S4x64x8x128, .f32⟩
  | 54 => ⟨S_, .i32⟩
  | 55 => ⟨S_, .i32⟩
  | 56 => ⟨S_, .i32⟩
  | 57 => ⟨S_, .i32⟩
  | 58 => ⟨S1x4x64x8x128, .f32⟩
  | 59 => ⟨S4x64x8x128, .f32⟩
  | 60 => ⟨S4x8x64x64, .f32⟩
  | 61 => ⟨S1x8x64x64, .f32⟩
  | 62 => ⟨S4x8x64x64, .f32⟩
  | 63 => ⟨S4x8x64x64, .f32⟩
  | 64 => ⟨S4x8x128x64, .f32⟩
  | 65 => ⟨S4x64x8x128, .f32⟩
  | 66 => ⟨S4x8x128x64, .f32⟩
  | 67 => ⟨S4x64x8x128, .f32⟩
  | 68 => ⟨S64x8, .f32⟩
  | 69 => ⟨S1x64x8x1, .f32⟩
  | 70 => ⟨S4x64x8x128, .f32⟩
  | 71 => ⟨S4x64x8x128, .f32⟩
  | 72 => ⟨S4x64x8x128, .f32⟩
  | 73 => ⟨S1x8x1x1, .f32⟩
  | 74 => ⟨S4x8x128x128, .f32⟩
  | 75 => ⟨S4x8x128x128, .f32⟩
  | 76 => ⟨S64x8, .f32⟩
  | 77 => ⟨S1x64x8x1, .f32⟩
  | 78 => ⟨S4x64x8x128, .f32⟩
  | 79 => ⟨S4x64x8x128, .f32⟩
  | 80 => ⟨S4x8x128x128, .f32⟩
  | 81 => ⟨S4x8x128x128, .f32⟩
  | 82 => ⟨S1x4x64x8x128, .f32⟩
  | 83 => ⟨S_, .i32⟩
  | 84 => ⟨S_, .i32⟩
  | 85 => ⟨S_, .i32⟩
  | 86 => ⟨S_, .i32⟩
  | 87 => ⟨S32x4x64x8x128, .f32⟩
  | 88 => ⟨S_, .i32⟩
  | 89 => ⟨S_, .i32⟩
  | 90 => ⟨S4x32x64x8x128, .f32⟩
  | 91 => ⟨S4x2048x8x128, .f32⟩
  | 92 => ⟨S1x1024, .f32⟩
  | 93 => ⟨S1024, .f32⟩
  | 94 => ⟨S1x1024, .f32⟩
  | 95 => ⟨S1024, .f32⟩
  | 96 => ⟨S_, .f32⟩
  | 97 => ⟨S4x2048x8, .f32⟩
  | 98 => ⟨S4x2048x8x1, .f32⟩
  | 99 => ⟨S_, .f32⟩
  | 100 => ⟨S4x2048x8x1, .f32⟩
  | 101 => ⟨S4x2048x8x1, .f32⟩
  | 102 => ⟨S4x2048x8x128, .f32⟩
  | 103 => ⟨S4x2048x8x128, .f32⟩
  | 104 => ⟨S4x2048x8x128, .f32⟩
  | 105 => ⟨S_, .f32⟩
  | 106 => ⟨S4x2048x8, .f32⟩
  | 107 => ⟨S4x2048x8x1, .f32⟩
  | 108 => ⟨S_, .f32⟩
  | 109 => ⟨S4x2048x8x1, .f32⟩
  | 110 => ⟨S4x2048x8x1, .f32⟩
  | 111 => ⟨S4x2048x8x128, .f32⟩
  | 112 => ⟨S4x2048x8x128, .f32⟩
  | 113 => ⟨S_, .f32⟩
  | 114 => ⟨S4x2048x8x1, .f32⟩
  | 115 => ⟨S4x2048x8x1, .f32⟩
  | 116 => ⟨S4x2048x8x1, .f32⟩
  | 117 => ⟨S4x2048x8x128, .f32⟩
  | 118 => ⟨S4x2048x8x128, .f32⟩
  | 119 => ⟨S4x2048x1024, .f32⟩
  | 120 => ⟨S1x1x1024, .f32⟩
  | 121 => ⟨S4x2048x1024, .f32⟩
  | 122 => ⟨S4x2048x1024, .f32⟩
  | 123 => ⟨S1x1x1024, .f32⟩
  | 124 => ⟨S4x2048x1024, .f32⟩
  | 125 => ⟨S4x2048x1024, .f32⟩
  | 126 => ⟨S4x2048x1024, .f32⟩
  | 127 => ⟨S4x2048x1024, .f32⟩
  | _ => ⟨S4x2048x3072, .f32⟩

abbrev hbmTy0_2 (i : Nat) : BufTy := match i % 128 with
  | 0 => ⟨S4x2048x1024, .bf16⟩
  | _ => ⟨S4x2048x3072, .f32⟩

abbrev hbmTy (i : Nat) : BufTy := match i / 128 with
  | 0 => hbmTy0_0 i
  | 1 => hbmTy0_1 i
  | 2 => hbmTy0_2 i
  | _ => ⟨S4x2048x3072, .f32⟩

abbrev bufTy : (tb : Table) → Fin (tcTables nBuf tb) → BufTy
  | .hbm, ⟨i, _⟩ => hbmTy i
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_10 : Ref sig .tc := ⟨.hbm, 108, rfl⟩
abbrev main_v91 : Ref sig .tc := ⟨.hbm, 109, rfl⟩
abbrev main_v92 : Ref sig .tc := ⟨.hbm, 110, rfl⟩
abbrev main_cst_11 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_12 : Ref sig .tc := ⟨.hbm, 120, rfl⟩
abbrev main_call0_v0 : Ref sig .tc := ⟨.hbm, 121, rfl⟩
abbrev main_call0_v1 : Ref sig .tc := ⟨.hbm, 122, rfl⟩
abbrev main_call0_v2 : Ref sig .tc := ⟨.hbm, 123, rfl⟩
abbrev main_v101 : Ref sig .tc := ⟨.hbm, 124, rfl⟩
abbrev main_cst_13 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_14 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_15 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_cst_16 : Ref sig .tc := ⟨.hbm, 155, rfl⟩
abbrev main_v129 : Ref sig .tc := ⟨.hbm, 156, rfl⟩
abbrev main_c_17 : Ref sig .tc := ⟨.hbm, 157, rfl⟩
abbrev main_v130_0 : Ref sig .tc := ⟨.hbm, 158, rfl⟩
abbrev main_v130_1 : Ref sig .tc := ⟨.hbm, 159, rfl⟩
abbrev main_v130_2 : Ref sig .tc := ⟨.hbm, 160, rfl⟩
abbrev main_v130_3 : Ref sig .tc := ⟨.hbm, 161, rfl⟩
abbrev main_v130_4 : Ref sig .tc := ⟨.hbm, 162, rfl⟩
abbrev main_v130_5 : Ref sig .tc := ⟨.hbm, 163, rfl⟩
abbrev main_v130_6 : Ref sig .tc := ⟨.hbm, 164, rfl⟩
abbrev main_v130_7 : Ref sig .tc := ⟨.hbm, 165, rfl⟩
abbrev main_v130_8 : Ref sig .tc := ⟨.hbm, 166, rfl⟩
abbrev main_v130_9 : Ref sig .tc := ⟨.hbm, 167, rfl⟩
abbrev main_while0c_c_32 : Ref sig .tc := ⟨.hbm, 168, rfl⟩
abbrev main_while0c_v165 : Ref sig .tc := ⟨.hbm, 169, rfl⟩
abbrev main_while0b_call1_c : Ref sig .tc := ⟨.hbm, 170, rfl⟩
abbrev main_while0b_call1_c_0 : Ref sig .tc := ⟨.hbm, 171, rfl⟩
abbrev main_while0b_call1_c_1 : Ref sig .tc := ⟨.hbm, 172, rfl⟩
abbrev main_while0b_call1_c_2 : Ref sig .tc := ⟨.hbm, 173, rfl⟩
abbrev main_while0b_call1_v0 : Ref sig .tc := ⟨.hbm, 174, rfl⟩
abbrev main_while0b_v165 : Ref sig .tc := ⟨.hbm, 175, rfl⟩
abbrev main_while0b_call2_c : Ref sig .tc := ⟨.hbm, 176, rfl⟩
abbrev main_while0b_call2_c_0 : Ref sig .tc := ⟨.hbm, 177, rfl⟩
abbrev main_while0b_call2_c_1 : Ref sig .tc := ⟨.hbm, 178, rfl⟩
abbrev main_while0b_call2_c_2 : Ref sig .tc := ⟨.hbm, 179, rfl⟩
abbrev main_while0b_call2_v0 : Ref sig .tc := ⟨.hbm, 180, rfl⟩
abbrev main_while0b_v166 : Ref sig .tc := ⟨.hbm, 181, rfl⟩
abbrev main_while0b_call3_c : Ref sig .tc := ⟨.hbm, 182, rfl⟩
abbrev main_while0b_call3_c_0 : Ref sig .tc := ⟨.hbm, 183, rfl⟩
abbrev main_while0b_call3_c_1 : Ref sig .tc := ⟨.hbm, 184, rfl⟩
abbrev main_while0b_call3_c_2 : Ref sig .tc := ⟨.hbm, 185, rfl⟩
abbrev main_while0b_call3_v0 : Ref sig .tc := ⟨.hbm, 186, rfl⟩
abbrev main_while0b_v167 : Ref sig .tc := ⟨.hbm, 187, rfl⟩
abbrev main_while0b_v168 : Ref sig .tc := ⟨.hbm, 188, rfl⟩
abbrev main_while0b_v169 : Ref sig .tc := ⟨.hbm, 189, rfl⟩
abbrev main_while0b_v170 : Ref sig .tc := ⟨.hbm, 190, rfl⟩
abbrev main_while0b_v171 : Ref sig .tc := ⟨.hbm, 191, rfl⟩
abbrev main_while0b_v172 : Ref sig .tc := ⟨.hbm, 192, rfl⟩
abbrev main_while0b_v173 : Ref sig .tc := ⟨.hbm, 193, rfl⟩
abbrev main_while0b_v174 : Ref sig .tc := ⟨.hbm, 194, rfl⟩
abbrev main_while0b_v175 : Ref sig .tc := ⟨.hbm, 195, rfl⟩
abbrev main_while0b_v176 : Ref sig .tc := ⟨.hbm, 196, rfl⟩
abbrev main_while0b_v177 : Ref sig .tc := ⟨.hbm, 197, rfl⟩
abbrev main_while0b_v178 : Ref sig .tc := ⟨.hbm, 198, rfl⟩
abbrev main_while0b_v179 : Ref sig .tc := ⟨.hbm, 199, rfl⟩
abbrev main_while0b_v180 : Ref sig .tc := ⟨.hbm, 200, rfl⟩
abbrev main_while0b_v181 : Ref sig .tc := ⟨.hbm, 201, rfl⟩
abbrev main_while0b_v182 : Ref sig .tc := ⟨.hbm, 202, rfl⟩
abbrev main_while0b_v183 : Ref sig .tc := ⟨.hbm, 203, rfl⟩
abbrev main_while0b_v184 : Ref sig .tc := ⟨.hbm, 204, rfl⟩
abbrev main_while0b_v185 : Ref sig .tc := ⟨.hbm, 205, rfl⟩
abbrev main_while0b_v186 : Ref sig .tc := ⟨.hbm, 206, rfl⟩
abbrev main_while0b_v187 : Ref sig .tc := ⟨.hbm, 207, rfl⟩
abbrev main_while0b_v188 : Ref sig .tc := ⟨.hbm, 208, rfl⟩
abbrev main_while0b_v189 : Ref sig .tc := ⟨.hbm, 209, rfl⟩
abbrev main_while0b_call4_v0 : Ref sig .tc := ⟨.hbm, 210, rfl⟩
abbrev main_while0b_call4_c : Ref sig .tc := ⟨.hbm, 211, rfl⟩
abbrev main_while0b_call4_c_0 : Ref sig .tc := ⟨.hbm, 212, rfl⟩
abbrev main_while0b_call4_c_1 : Ref sig .tc := ⟨.hbm, 213, rfl⟩
abbrev main_while0b_call4_c_2 : Ref sig .tc := ⟨.hbm, 214, rfl⟩
abbrev main_while0b_v190 : Ref sig .tc := ⟨.hbm, 215, rfl⟩
abbrev main_while0b_c_32 : Ref sig .tc := ⟨.hbm, 216, rfl⟩
abbrev main_while0b_v191 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_cst_18 : Ref sig .tc := ⟨.hbm, 224, rfl⟩
abbrev main_v137 : Ref sig .tc := ⟨.hbm, 225, rfl⟩
abbrev main_v138 : Ref sig .tc := ⟨.hbm, 226, rfl⟩
abbrev main_cst_19 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_cst_20 : Ref sig .tc := ⟨.hbm, 233, rfl⟩
abbrev main_v144 : Ref sig .tc := ⟨.hbm, 234, rfl⟩
abbrev main_v145 : Ref sig .tc := ⟨.hbm, 235, rfl⟩
abbrev main_cst_21 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_cst_22 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩

abbrev nD : Nat := 1
abbrev τ : Topo := Topo.v7x

variable {F : FTy → Type} [FloatOps F]

abbrev main_while0_count : Scf.Loop 32 := ⟨0#32, 32#32, 1#32⟩
-- ==== ProjA.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x3200 : Shape := ⟨2, ![2048, 3200]⟩
abbrev S8192x3200 : Shape := ⟨2, ![8192, 3200]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x3200, .f32⟩
  | .hbm, ⟨7, _⟩ => ⟨S2048x3200, .bf16⟩
  | .hbm, ⟨8, _⟩ => ⟨S8192x3200, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjAIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x3200 : Shape := ⟨2, ![2048, 3200]⟩
abbrev S8192x3200 : Shape := ⟨2, ![8192, 3200]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x3200, .f32⟩
  | .hbm, ⟨7, _⟩ => ⟨S2048x3200, .bf16⟩
  | .hbm, ⟨8, _⟩ => ⟨S8192x3200, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefAIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S8192x21904 : Shape := ⟨2, ![8192, 21904]⟩
abbrev S8192x3200 : Shape := ⟨2, ![8192, 3200]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S1x2048x21904, .f32⟩
  | .hbm, ⟨4, _⟩ => ⟨S2048x21904, .f32⟩
  | .hbm, ⟨5, _⟩ => ⟨S8192x21904, .f32⟩
  | .hbm, ⟨6, _⟩ => ⟨S8192x3200, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjB.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x1280 : Shape := ⟨2, ![2048, 1280]⟩
abbrev S8192x1280 : Shape := ⟨2, ![8192, 1280]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x1280, .f32⟩
  | .hbm, ⟨7, _⟩ => ⟨S2048x1280, .bf16⟩
  | .hbm, ⟨8, _⟩ => ⟨S8192x1280, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x1280 : Shape := ⟨2, ![2048, 1280]⟩
abbrev S8192x1280 : Shape := ⟨2, ![8192, 1280]⟩
abbrev S1024x2048 : Shape := ⟨2, ![1024, 2048]⟩
abbrev S2048x640 : Shape := ⟨2, ![2048, 640]⟩
abbrev S1024x640 : Shape := ⟨2, ![1024, 640]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x1280, .f32⟩
  | .hbm, ⟨7, _⟩ => ⟨S2048x1280, .bf16⟩
  | .hbm, ⟨8, _⟩ => ⟨S8192x1280, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1024x640, .f32⟩
  | .local _ .vmem, ⟨5, _⟩ => ⟨S1024x640, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefBIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S8192x21904 : Shape := ⟨2, ![8192, 21904]⟩
abbrev S8192x1280 : Shape := ⟨2, ![8192, 1280]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S1x2048x21904, .f32⟩
  | .hbm, ⟨4, _⟩ => ⟨S2048x21904, .f32⟩
  | .hbm, ⟨5, _⟩ => ⟨S8192x21904, .f32⟩
  | .hbm, ⟨6, _⟩ => ⟨S8192x1280, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjQ.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x1024, .f32⟩
  | .hbm, ⟨7, _⟩ => ⟨S2048x1024, .bf16⟩
  | .hbm, ⟨8, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x1024, .f32⟩
  | .hbm, ⟨7, _⟩ => ⟨S2048x1024, .bf16⟩
  | .hbm, ⟨8, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefQIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S8192x21904 : Shape := ⟨2, ![8192, 21904]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S1x2048x21904, .f32⟩
  | .hbm, ⟨4, _⟩ => ⟨S2048x21904, .f32⟩
  | .hbm, ⟨5, _⟩ => ⟨S8192x21904, .f32⟩
  | .hbm, ⟨6, _⟩ => ⟨S8192x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjV.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x1024, .f32⟩
  | .hbm, ⟨7, _⟩ => ⟨S2048x1024, .bf16⟩
  | .hbm, ⟨8, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefVIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S8192x21904 : Shape := ⟨2, ![8192, 21904]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S1x2048x21904, .f32⟩
  | .hbm, ⟨4, _⟩ => ⟨S2048x21904, .f32⟩
  | .hbm, ⟨5, _⟩ => ⟨S8192x21904, .f32⟩
  | .hbm, ⟨6, _⟩ => ⟨S8192x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjD.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x3072, .f32⟩
  | .hbm, ⟨7, _⟩ => ⟨S2048x3072, .bf16⟩
  | .hbm, ⟨8, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S8192x21904 : Shape := ⟨2, ![8192, 21904]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S1x2048x21904, .f32⟩
  | .hbm, ⟨4, _⟩ => ⟨S2048x21904, .f32⟩
  | .hbm, ⟨5, _⟩ => ⟨S8192x21904, .f32⟩
  | .hbm, ⟨6, _⟩ => ⟨S8192x3072, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjZ.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x4096, .f32⟩
  | .hbm, ⟨7, _⟩ => ⟨S2048x4096, .bf16⟩
  | .hbm, ⟨8, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefZIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S8192x21904 : Shape := ⟨2, ![8192, 21904]⟩
abbrev S8192x4096 : Shape := ⟨2, ![8192, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S1x2048x21904, .f32⟩
  | .hbm, ⟨4, _⟩ => ⟨S2048x21904, .f32⟩
  | .hbm, ⟨5, _⟩ => ⟨S8192x21904, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== ProjG.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x8192, .f32⟩
  | .hbm, ⟨7, _⟩ => ⟨S2048x8192, .bf16⟩
  | .hbm, ⟨8, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S8192x21904 : Shape := ⟨2, ![8192, 21904]⟩
abbrev S8192x8192 : Shape := ⟨2, ![8192, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S1x2048x21904, .f32⟩
  | .hbm, ⟨4, _⟩ => ⟨S2048x21904, .f32⟩
  | .hbm, ⟨5, _⟩ => ⟨S8192x21904, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Merge.lean ====
abbrev S8192x1024 : Shape := ⟨2, ![8192, 1024]⟩
abbrev S8192x8192 : Shape := ⟨2, ![8192, 8192]⟩
abbrev S2x4x1024x2048 : Shape := ⟨4, ![2, 4, 1024, 2048]⟩
abbrev S1x4x1024x2048 : Shape := ⟨4, ![1, 4, 1024, 2048]⟩
abbrev S4x1024x2048 : Shape := ⟨3, ![4, 1024, 2048]⟩
abbrev S8192x2048 : Shape := ⟨2, ![8192, 2048]⟩
abbrev S512x1024 : Shape := ⟨2, ![512, 1024]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x8192, .f32⟩
  | .hbm, ⟨5, _⟩ => ⟨S2x4x1024x2048, .f32⟩
  | .hbm, ⟨6, _⟩ => ⟨S1x4x1024x2048, .f32⟩
  | .hbm, ⟨7, _⟩ => ⟨S4x1024x2048, .f32⟩
  | .hbm, ⟨8, _⟩ => ⟨S4x1024x2048, .bf16⟩
  | .hbm, ⟨9, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .f32⟩
  | .local _ .vmem, ⟨9, _⟩ => ⟨S512x2048, .f32⟩
  | .local _ .vmem, ⟨10, _⟩ => ⟨S1x1024x2048, .bf16⟩
  | .local _ .vmem, ⟨11, _⟩ => ⟨S1x1024x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond6 (i : grid0.Coords) : BitVec 1 :=
  let arg1 : BitVec 32 := BitVec.ofNat 32 (i 1).val
  let c3_i32_6 : BitVec 32 := 3#32
  let v15 : BitVec 1 := Scalar.cmpi .eq arg1 c3_i32_6
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefMIdeal.lean ====
abbrev S8192x1024 : Shape := ⟨2, ![8192, 1024]⟩
abbrev S8192x8192 : Shape := ⟨2, ![8192, 8192]⟩
abbrev S2x4x1024x2048 : Shape := ⟨4, ![2, 4, 1024, 2048]⟩
abbrev S8192x4x2048 : Shape := ⟨3, ![8192, 4, 2048]⟩
abbrev S_ : Shape := ⟨0, ![]⟩
abbrev S8192x2048 : Shape := ⟨2, ![8192, 2048]⟩
abbrev S1x1x1024x2048 : Shape := ⟨4, ![1, 1, 1024, 2048]⟩
abbrev S1024x2048 : Shape := ⟨2, ![1024, 2048]⟩
abbrev S8192x1x2048 : Shape := ⟨3, ![8192, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x8192, .f32⟩
  | .hbm, ⟨5, _⟩ => ⟨S2x4x1024x2048, .f32⟩
  | .hbm, ⟨6, _⟩ => ⟨S8192x4x2048, .f32⟩
  | .hbm, ⟨7, _⟩ => ⟨S_, .f32⟩
  | .hbm, ⟨8, _⟩ => ⟨S8192x2048, .f32⟩
  | .hbm, ⟨9, _⟩ => ⟨S8192x1024, .f32⟩
  | .hbm, ⟨10, _⟩ => ⟨S1x1x1024x2048, .f32⟩
  | .hbm, ⟨11, _⟩ => ⟨S1024x2048, .f32⟩
  | .hbm, ⟨12, _⟩ => ⟨S8192x2048, .f32⟩
  | .hbm, ⟨13, _⟩ => ⟨S8192x1x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S1x1x1024x2048, .f32⟩
  | .hbm, ⟨19, _⟩ => ⟨S1024x2048, .f32⟩
  | .hbm, ⟨20, _⟩ => ⟨S8192x2048, .f32⟩
  | .hbm, ⟨21, _⟩ => ⟨S8192x1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x1024, .f32⟩
  | .hbm, ⟨26, _⟩ => ⟨S1x1x1024x2048, .f32⟩
  | .hbm, ⟨27, _⟩ => ⟨S1024x2048, .f32⟩
  | .hbm, ⟨28, _⟩ => ⟨S8192x2048, .f32⟩
  | .hbm, ⟨29, _⟩ => ⟨S8192x1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x1024, .f32⟩
  | .hbm, ⟨34, _⟩ => ⟨S1x1x1024x2048, .f32⟩
  | .hbm, ⟨35, _⟩ => ⟨S1024x2048, .f32⟩
  | .hbm, ⟨36, _⟩ => ⟨S8192x2048, .f32⟩
  | .hbm, ⟨37, _⟩ => ⟨S8192x1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== OutLn.lean ====
abbrev S8192x2048 : Shape := ⟨2, ![8192, 2048]⟩
abbrev S2x2048x2048 : Shape := ⟨3, ![2, 2048, 2048]⟩
abbrev S4x2048x2048 : Shape := ⟨3, ![4, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S4x2048x2048, .f32⟩
  | .hbm, ⟨3, _⟩ => ⟨S2x2048, .f32⟩
  | .hbm, ⟨4, _⟩ => ⟨S2x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S8192x2048, .f32⟩
  | .hbm, ⟨16, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutLnIdeal.lean ====
abbrev S8192x2048 : Shape := ⟨2, ![8192, 2048]⟩
abbrev S2x2048x2048 : Shape := ⟨3, ![2, 2048, 2048]⟩
abbrev S4x2048x2048 : Shape := ⟨3, ![4, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S4x2048x2048, .f32⟩
  | .hbm, ⟨3, _⟩ => ⟨S2x2048, .f32⟩
  | .hbm, ⟨4, _⟩ => ⟨S2x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S8192x2048, .f32⟩
  | .hbm, ⟨16, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefOIdeal.lean ====
abbrev S8192x2048 : Shape := ⟨2, ![8192, 2048]⟩
abbrev S2x2048x2048 : Shape := ⟨3, ![2, 2048, 2048]⟩
abbrev S4x2048x2048 : Shape := ⟨3, ![4, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S4x2048x2048, .f32⟩
  | .hbm, ⟨3, _⟩ => ⟨S2x2048, .f32⟩
  | .hbm, ⟨4, _⟩ => ⟨S2x2048, .f32⟩
  | .hbm, ⟨5, _⟩ => ⟨S8192x2048, .f32⟩
  | .hbm, ⟨6, _⟩ => ⟨S1x2048x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== SampA.lean ====
abbrev S128x8x2048 : Shape := ⟨3, ![128, 8, 2048]⟩
abbrev S2x2048x21904 : Shape := ⟨3, ![2, 2048, 21904]⟩
abbrev S1024x2048 : Shape := ⟨2, ![1024, 2048]⟩
abbrev S1x2048x21904 : Shape := ⟨3, ![1, 2048, 21904]⟩
abbrev S2048x21904 : Shape := ⟨2, ![2048, 21904]⟩
abbrev S2048x3200 : Shape := ⟨2, ![2048, 3200]⟩
abbrev S1024x3200 : Shape := ⟨2, ![1024, 3200]⟩
abbrev S2048x640 : Shape := ⟨2, ![2048, 640]⟩
abbrev S1024x640 : Shape := ⟨2, ![1024, 640]⟩

abbrev nBuf : Space → Nat
  | .hbm => 9
  | .vmem => 5
  | .smem => 0
  | _ => 0

abbrev bufTy : (tb : Table) → Fin (tcTables nBuf tb) → BufTy
  | .hbm, ⟨0, _⟩ => ⟨S128x8x2048, .f32⟩
  | .hbm, ⟨1, _⟩ => ⟨S2x2048x21904, .f32⟩
  | .hbm, ⟨2, _⟩ => ⟨S1024x2048, .f32⟩
  | .hbm, ⟨3, _⟩ => ⟨S1024x2048, .bf16⟩
  | .hbm, ⟨4, _⟩ => ⟨S1x2048x21904, .f32⟩
  | .hbm, ⟨5, _⟩ => ⟨S2048x21904, .f32⟩
  | .hbm, ⟨6, _⟩ => ⟨S2048x3200, .f32⟩
  | .hbm, ⟨7, _⟩ => ⟨S2048x3200, .bf16⟩
  | .hbm, ⟨8, _⟩ => ⟨S1024x3200, .f32⟩
  | .local _ .vmem, ⟨0, _⟩ => ⟨S1024x2048, .bf16⟩
  | .local _ .vmem, ⟨1, _⟩ => ⟨S2048x640, .bf16⟩
  | .local _ .vmem, ⟨2, _⟩ => ⟨S2048x640, .bf16⟩
  | .local _ .vmem, ⟨3, _⟩ => ⟨S1024x640, .f32⟩
  | .local _ .vmem, ⟨4, _⟩ => ⟨S1024x640, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefSAIdeal.lean ====
abbrev S128x8x2048 : Shape := ⟨3, ![128, 8, 2048]⟩
abbrev S2x2048x21904 : Shape := ⟨3, ![2, 2048, 21904]⟩
abbrev S1024x2048 : Shape := ⟨2, ![1024, 2048]⟩
abbrev S1x2048x21904 : Shape := ⟨3, ![1, 2048, 21904]⟩
abbrev S2048x21904 : Shape := ⟨2, ![2048, 21904]⟩
abbrev S1024x21904 : Shape := ⟨2, ![1024, 21904]⟩
abbrev S1024x3200 : Shape := ⟨2, ![1024, 3200]⟩

abbrev nBuf : Space → Nat
  | .hbm => 7
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S2x2048x21904, .f32⟩
  | .hbm, ⟨2, _⟩ => ⟨S1024x2048, .f32⟩
  | .hbm, ⟨3, _⟩ => ⟨S1x2048x21904, .f32⟩
  | .hbm, ⟨4, _⟩ => ⟨S2048x21904, .f32⟩
  | .hbm, ⟨5, _⟩ => ⟨S1024x21904, .f32⟩
  | .hbm, ⟨6, _⟩ => ⟨S1024x3200, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SampB.lean ====
abbrev S128x8x2048 : Shape := ⟨3, ![128, 8, 2048]⟩
abbrev S2x2048x21904 : Shape := ⟨3, ![2, 2048, 21904]⟩
abbrev S1024x2048 : Shape := ⟨2, ![1024, 2048]⟩
abbrev S1x2048x21904 : Shape := ⟨3, ![1, 2048, 21904]⟩
abbrev S2048x21904 : Shape := ⟨2, ![2048, 21904]⟩
abbrev S2048x1280 : Shape := ⟨2, ![2048, 1280]⟩
abbrev S1024x1280 : Shape := ⟨2, ![1024, 1280]⟩
abbrev S2048x640 : Shape := ⟨2, ![2048, 640]⟩
abbrev S1024x640 : Shape := ⟨2, ![1024, 640]⟩

abbrev nBuf : Space → Nat
  | .hbm => 9
  | .vmem => 5
  | .smem => 0
  | _ => 0

abbrev bufTy : (tb : Table) → Fin (tcTables nBuf tb) → BufTy
  | .hbm, ⟨0, _⟩ => ⟨S128x8x2048, .f32⟩
  | .hbm, ⟨1, _⟩ => ⟨S2x2048x21904, .f32⟩
  | .hbm, ⟨2, _⟩ => ⟨S1024x2048, .f32⟩
  | .hbm, ⟨3, _⟩ => ⟨S1024x2048, .bf16⟩
  | .hbm, ⟨4, _⟩ => ⟨S1x2048x21904, .f32⟩
  | .hbm, ⟨5, _⟩ => ⟨S2048x21904, .f32⟩
  | .hbm, ⟨6, _⟩ => ⟨S2048x1280, .f32⟩
  | .hbm, ⟨7, _⟩ => ⟨S2048x1280, .bf16⟩
  | .hbm, ⟨8, _⟩ => ⟨S1024x1280, .f32⟩
  | .local _ .vmem, ⟨0, _⟩ => ⟨S1024x2048, .bf16⟩
  | .local _ .vmem, ⟨1, _⟩ => ⟨S2048x640, .bf16⟩
  | .local _ .vmem, ⟨2, _⟩ => ⟨S2048x640, .bf16⟩
  | .local _ .vmem, ⟨3, _⟩ => ⟨S1024x640, .f32⟩
  | .local _ .vmem, ⟨4, _⟩ => ⟨S1024x640, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefSBIdeal.lean ====
abbrev S128x8x2048 : Shape := ⟨3, ![128, 8, 2048]⟩
abbrev S2x2048x21904 : Shape := ⟨3, ![2, 2048, 21904]⟩
abbrev S1024x2048 : Shape := ⟨2, ![1024, 2048]⟩
abbrev S1x2048x21904 : Shape := ⟨3, ![1, 2048, 21904]⟩
abbrev S2048x21904 : Shape := ⟨2, ![2048, 21904]⟩
abbrev S1024x21904 : Shape := ⟨2, ![1024, 21904]⟩
abbrev S1024x1280 : Shape := ⟨2, ![1024, 1280]⟩

abbrev nBuf : Space → Nat
  | .hbm => 7
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S2x2048x21904, .f32⟩
  | .hbm, ⟨2, _⟩ => ⟨S1024x2048, .f32⟩
  | .hbm, ⟨3, _⟩ => ⟨S1x2048x21904, .f32⟩
  | .hbm, ⟨4, _⟩ => ⟨S2048x21904, .f32⟩
  | .hbm, ⟨5, _⟩ => ⟨S1024x21904, .f32⟩
  | .hbm, ⟨6, _⟩ => ⟨S1024x1280, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SampQ.lean ====
abbrev S128x8x2048 : Shape := ⟨3, ![128, 8, 2048]⟩
abbrev S2x2048x21904 : Shape := ⟨3, ![2, 2048, 21904]⟩
abbrev S1024x2048 : Shape := ⟨2, ![1024, 2048]⟩
abbrev S1x2048x21904 : Shape := ⟨3, ![1, 2048, 21904]⟩
abbrev S2048x21904 : Shape := ⟨2, ![2048, 21904]⟩
abbrev S2048x1024 : Shape := ⟨2, ![2048, 1024]⟩
abbrev S1024x1024 : Shape := ⟨2, ![1024, 1024]⟩

abbrev nBuf : Space → Nat
  | .hbm => 9
  | .vmem => 3
  | .smem => 0
  | _ => 0

abbrev bufTy : (tb : Table) → Fin (tcTables nBuf tb) → BufTy
  | .hbm, ⟨0, _⟩ => ⟨S128x8x2048, .f32⟩
  | .hbm, ⟨1, _⟩ => ⟨S2x2048x21904, .f32⟩
  | .hbm, ⟨2, _⟩ => ⟨S1024x2048, .f32⟩
  | .hbm, ⟨3, _⟩ => ⟨S1024x2048, .bf16⟩
  | .hbm, ⟨4, _⟩ => ⟨S1x2048x21904, .f32⟩
  | .hbm, ⟨5, _⟩ => ⟨S2048x21904, .f32⟩
  | .hbm, ⟨6, _⟩ => ⟨S2048x1024, .f32⟩
  | .hbm, ⟨7, _⟩ => ⟨S2048x1024, .bf16⟩
  | .hbm, ⟨8, _⟩ => ⟨S1024x1024, .f32⟩
  | .local _ .vmem, ⟨0, _⟩ => ⟨S1024x2048, .bf16⟩
  | .local _ .vmem, ⟨1, _⟩ => ⟨S2048x1024, .bf16⟩
  | .local _ .vmem, ⟨2, _⟩ => ⟨S1024x1024, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== RefSQIdeal.lean ====
abbrev S128x8x2048 : Shape := ⟨3, ![128, 8, 2048]⟩
abbrev S2x2048x21904 : Shape := ⟨3, ![2, 2048, 21904]⟩
abbrev S1024x2048 : Shape := ⟨2, ![1024, 2048]⟩
abbrev S1x2048x21904 : Shape := ⟨3, ![1, 2048, 21904]⟩
abbrev S2048x21904 : Shape := ⟨2, ![2048, 21904]⟩
abbrev S1024x21904 : Shape := ⟨2, ![1024, 21904]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S2x2048x21904, .f32⟩
  | .hbm, ⟨2, _⟩ => ⟨S1024x2048, .f32⟩
  | .hbm, ⟨3, _⟩ => ⟨S1x2048x21904, .f32⟩
  | .hbm, ⟨4, _⟩ => ⟨S2048x21904, .f32⟩
  | .hbm, ⟨5, _⟩ => ⟨S1024x21904, .f32⟩
  | .hbm, ⟨6, _⟩ => ⟨S1024x1024, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SampO.lean ====
abbrev S1024x2048 : Shape := ⟨2, ![1024, 2048]⟩
abbrev S2x2048x2048 : Shape := ⟨3, ![2, 2048, 2048]⟩
abbrev S128x8x2048 : Shape := ⟨3, ![128, 8, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 11
  | .smem => 0
  | _ => 0

abbrev bufTy : (tb : Table) → Fin (tcTables nBuf tb) → BufTy
  | .hbm, ⟨0, _⟩ => ⟨S1024x2048, .bf16⟩
  | .hbm, ⟨1, _⟩ => ⟨S2x2048x2048, .f32⟩
  | .hbm, ⟨2, _⟩ => ⟨S128x8x2048, .f32⟩
  | .hbm, ⟨3, _⟩ => ⟨S2x2048, .f32⟩
  | .hbm, ⟨4, _⟩ => ⟨S2x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S1024x2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S1024x2048, .f32⟩
  | .hbm, ⟨16, _⟩ => ⟨S1024x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefSOIdeal.lean ====
abbrev S1024x2048 : Shape := ⟨2, ![1024, 2048]⟩
abbrev S2x2048x2048 : Shape := ⟨3, ![2, 2048, 2048]⟩
abbrev S128x8x2048 : Shape := ⟨3, ![128, 8, 2048]⟩
abbrev S2x2048 : Shape := ⟨2, ![2, 2048]⟩
abbrev S1x2048x2048 : Shape := ⟨3, ![1, 2048, 2048]⟩
abbrev S2048x2048 : Shape := ⟨2, ![2048, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2x2048x2048, .f32⟩
  | .hbm, ⟨2, _⟩ => ⟨S128x8x2048, .f32⟩
  | .hbm, ⟨3, _⟩ => ⟨S2x2048, .f32⟩
  | .hbm, ⟨4, _⟩ => ⟨S2x2048, .f32⟩
  | .hbm, ⟨5, _⟩ => ⟨S1024x2048, .f32⟩
  | .hbm, ⟨6, _⟩ => ⟨S1x2048x2048, .f32⟩
  | .hbm, ⟨7, _⟩ => ⟨S2048x2048, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S_, .f32⟩
  | .hbm, ⟨27, _⟩ => ⟨S1024x1, .f32⟩
  | .hbm, ⟨28, _⟩ => ⟨S1024x1, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x1, .f32⟩
  | .hbm, ⟨35, _⟩ => ⟨S1024x2048, .f32⟩
  | .hbm, ⟨36, _⟩ => ⟨S1024x2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S1024x2048, .f32⟩
  | .hbm, ⟨41, _⟩ => ⟨S1024x2048, .f32⟩
  | .hbm, ⟨42, _⟩ => ⟨S1x2048, .f32⟩
  | .hbm, ⟨43, _⟩ => ⟨S2048, .f32⟩
  | .hbm, ⟨44, _⟩ => ⟨S1x2048, .f32⟩
  | .hbm, ⟨45, _⟩ => ⟨S1024x2048, .f32⟩
  | .hbm, ⟨46, _⟩ => ⟨S1024x2048, .f32⟩
  | .hbm, ⟨47, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Swa.lean ====
abbrev S4x2048x1280 : Shape := ⟨3, ![4, 2048, 1280]⟩
abbrev S4x2048x4096 : Shape := ⟨3, ![4, 2048, 4096]⟩
abbrev S2x4x128x2x64 : Shape := ⟨5, ![2, 4, 128, 2, 64]⟩
abbrev S2x16 : Shape := ⟨2, ![2, 16]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2x4x128x128 : Shape := ⟨4, ![2, 4, 128, 128]⟩
abbrev S1x16 : Shape := ⟨2, ![1, 16]⟩
abbrev S16 : Shape := ⟨1, ![16]⟩
abbrev S4x2048x1024 : Shape := ⟨3, ![4, 2048, 1024]⟩
abbrev S4x2048x128 : Shape := ⟨3, ![4, 2048, 128]⟩
abbrev S1x128x1024 : Shape := ⟨3, ![1, 128, 1024]⟩
abbrev S1x128x128 : Shape := ⟨3, ![1, 128, 128]⟩
abbrev S128x128 : Shape := ⟨2, ![128, 128]⟩
abbrev S1x1x128x128 : Shape := ⟨4, ![1, 1, 128, 128]⟩
abbrev S128x1024 : Shape := ⟨2, ![128, 1024]⟩
abbrev S128x256 : Shape := ⟨2, ![128, 256]⟩
abbrev S1 : Shape := ⟨1, ![1]⟩
abbrev S128x1 : Shape := ⟨2, ![128, 1]⟩
abbrev S256x64 : Shape := ⟨2, ![256, 64]⟩
abbrev S256x128 : Shape := ⟨2, ![256, 128]⟩
abbrev S128x64 : Shape := ⟨2, ![128, 64]⟩
abbrev S128 : Shape := ⟨1, ![128]⟩

abbrev nBuf : Space → Nat
  | .hbm => 46
  | .vmem => 22
  | .smem => 1
  | _ => 0

abbrev bufTy : (tb : Table) → Fin (tcTables nBuf tb) → BufTy
  | .hbm, ⟨0, _⟩ => ⟨S4x2048x1280, .f32⟩
  | .hbm, ⟨1, _⟩ => ⟨S4x2048x4096, .f32⟩
  | .hbm, ⟨2, _⟩ => ⟨S2x4x128x2x64, .f32⟩
  | .hbm, ⟨3, _⟩ => ⟨S2x4x128x2x64, .f32⟩
  | .hbm, ⟨4, _⟩ => ⟨S2x16, .f32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .f32⟩
  | .hbm, ⟨24, _⟩ => ⟨S2048x1, .f32⟩
  | .hbm, ⟨25, _⟩ => ⟨S1x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x64, .f32⟩
  | .hbm, ⟨32, _⟩ => ⟨S1x2048x1x64, .f32⟩
  | .hbm, ⟨33, _⟩ => ⟨S1x2048x2x64, .f32⟩
  | .hbm, ⟨34, _⟩ => ⟨S2048x128, .f32⟩
  | .hbm, ⟨35, _⟩ => ⟨S2048x32, .f32⟩
  | .hbm, ⟨36, _⟩ => ⟨S2048x64, .f32⟩
  | .hbm, ⟨37, _⟩ => ⟨S1x2048x1x64, .f32⟩
  | .hbm, ⟨38, _⟩ => ⟨S1x2048x2x64, .f32⟩
  | .hbm, ⟨39, _⟩ => ⟨S2048x128, .f32⟩
  | .hbm, ⟨40, _⟩ => ⟨S2x4x128x128, .f32⟩
  | .hbm, ⟨41, _⟩ => ⟨S2x4x128x128, .f32⟩
  | .hbm, ⟨42, _⟩ => ⟨S1x16, .f32⟩
  | .hbm, ⟨43, _⟩ => ⟨S16, .f32⟩
  | .hbm, ⟨44, _⟩ => ⟨S4x2048x1024, .bf16⟩
  | .hbm, ⟨45, _⟩ => ⟨S4x2048x128, .f32⟩
  | .local _ .vmem, ⟨0, _⟩ => ⟨S1x128x1024, .f32⟩
  | .local _ .vmem, ⟨1, _⟩ => ⟨S1x128x1024, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x1024, .f32⟩
  | .local _ .vmem, ⟨7, _⟩ => ⟨S1x128x1024, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x1x128x128, .f32⟩
  | .local _ .vmem, ⟨13, _⟩ => ⟨S1x1x128x128, .f32⟩
  | .local _ .vmem, ⟨14, _⟩ => ⟨S1x1x128x128, .f32⟩
  | .local _ .vmem, ⟨15, _⟩ => ⟨S1x1x128x128, .f32⟩
  | .local _ .vmem, ⟨16, _⟩ => ⟨S1x128x1024, .bf16⟩
  | .local _ .vmem, ⟨17, _⟩ => ⟨S1x128x1024, .bf16⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .smem, ⟨0, _⟩ => ⟨S16, .f32⟩
  | _, _ => ⟨S4x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34_0 : Ref sig .tc := ⟨.hbm, 44, rfl⟩
abbrev main_v34_1 : Ref sig .tc := ⟨.hbm, 45, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RefWIdeal.lean ====
abbrev S4x2048x1280 : Shape := ⟨3, ![4, 2048, 1280]⟩
abbrev S4x2048x4096 : Shape := ⟨3, ![4, 2048, 4096]⟩
abbrev S2x4x128x2x64 : Shape := ⟨5, ![2, 4, 128, 2, 64]⟩
abbrev S2x16 : Shape := ⟨2, ![2, 16]⟩
abbrev S4x2048x128 : Shape := ⟨3, ![4, 2048, 128]⟩
abbrev S4x2048x2x64 : Shape := ⟨4, ![4, 2048, 2, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x2x32 : Shape := ⟨4, ![4, 2048, 2, 32]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1280, .f32⟩
  | .hbm, ⟨1, _⟩ => ⟨S4x2048x4096, .f32⟩
  | .hbm, ⟨2, _⟩ => ⟨S2x4x128x2x64, .f32⟩
  | .hbm, ⟨3, _⟩ => ⟨S2x4x128x2x64, .f32⟩
  | .hbm, ⟨4, _⟩ => ⟨S2x16, .f32⟩
  | .hbm, ⟨5, _⟩ => ⟨S4x2048x128, .f32⟩
  | .hbm, ⟨6, _⟩ => ⟨S4x2048x2x64, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048, .i32⟩
  | .hbm, ⟨22, _⟩ => ⟨S2048, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S1x2048x1x32, .f32⟩
  | .hbm, ⟨30, _⟩ => ⟨S2048x32, .f32⟩
  | .hbm, ⟨31, _⟩ => ⟨S1x2048x1x32, .f32⟩
  | .hbm, ⟨32, _⟩ => ⟨S4x2048x2x32, .f32⟩
  | .hbm, ⟨33, _⟩ => ⟨S4x2048x2x32, .f32⟩
  | .hbm, ⟨34, _⟩ => ⟨S4x2048x2x32, .f32⟩
  | .hbm, ⟨35, _⟩ => ⟨S4x2048x2x32, .f32⟩
  | .hbm, ⟨36, _⟩ => ⟨S4x2048x2x32, .f32⟩
  | .hbm, ⟨37, _⟩ => ⟨S4x2048x2x32, .f32⟩
  | .hbm, ⟨38, _⟩ => ⟨S4x2048x2x32, .f32⟩
  | .hbm, ⟨39, _⟩ => ⟨S4x2048x2x32, .f32⟩
  | .hbm, ⟨40, _⟩ => ⟨S4x2048x2x32, .f32⟩
  | .hbm, ⟨41, _⟩ => ⟨S4x2048x2x32, .f32⟩
  | .hbm, ⟨42, _⟩ => ⟨S4x2048x2x32, .f32⟩
  | .hbm, ⟨43, _⟩ => ⟨S4x2048x2x32, .f32⟩
  | .hbm, ⟨44, _⟩ => ⟨S4x2048x2x64, .f32⟩
  | .hbm, ⟨45, _⟩ => ⟨S4x2048x128, .f32⟩
  | _, _ => ⟨S4x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== ProjC.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S2048x16 : Shape := ⟨2, ![2048, 16]⟩
abbrev S_ : Shape := ⟨0, ![]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 12
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S8192x2048, .bf16⟩
  | .hbm, ⟨4, _⟩ => ⟨S1x2048x21904, .f32⟩
  | .hbm, ⟨5, _⟩ => ⟨S2048x21904, .f32⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefCIdeal.lean ====
abbrev S4x2048x2048 : Shape := ⟨3, ![4, 2048, 2048]⟩
abbrev S2x2048x21904 : Shape := ⟨3, ![2, 2048, 21904]⟩
abbrev S8192x2048 : Shape := ⟨2, ![8192, 2048]⟩
abbrev S1x2048x21904 : Shape := ⟨3, ![1, 2048, 21904]⟩
abbrev S2048x21904 : Shape := ⟨2, ![2048, 21904]⟩
abbrev S8192x21904 : Shape := ⟨2, ![8192, 21904]⟩
abbrev S8192x16 : Shape := ⟨2, ![8192, 16]⟩
abbrev S_ : Shape := ⟨0, ![]⟩
abbrev S8192x128 : Shape := ⟨2, ![8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x21904, .f32⟩
  | .hbm, ⟨2, _⟩ => ⟨S8192x2048, .f32⟩
  | .hbm, ⟨3, _⟩ => ⟨S1x2048x21904, .f32⟩
  | .hbm, ⟨4, _⟩ => ⟨S2048x21904, .f32⟩
  | .hbm, ⟨5, _⟩ => ⟨S8192x21904, .f32⟩
  | .hbm, ⟨6, _⟩ => ⟨S8192x16, .f32⟩
  | .hbm, ⟨7, _⟩ => ⟨S_, .i32⟩
  | .hbm, ⟨8, _⟩ => ⟨S_, .f32⟩
  | .hbm, ⟨9, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Runs.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).1 10).trans (((dats 0 c).arrAt_in 10 rfl _).trans ((hA c 10).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an output stored at every point, under no condition). -/
theorem liveAt0_13 : ∀ t : Fin cfg0.N, cfg0.idle 13 (grid0.coords t) = false := fun _ => rfl
/-- At the points of case A the printed configuration (`Cfg.idle`) calls output 14 idle: the case stores nothing into it. -/
theorem idleAt0_14_A : ∀ t : Fin cfg0.N, cond0_0 (grid0.coords t) → ¬cond0_1 (grid0.coords t) → cfg0.idle 14 (grid0.coords t) = true := by decide +kernel
/-- At the points of case A the pipeline does not write output 14's block back. -/
theorem noFlush0_14_A : ∀ t : Fin cfg0.N, cond0_0 (grid0.coords t) → ¬cond0_1 (grid0.coords t) → (cfg0.win 14).flush t = false := by decide +kernel
/-- At the points of case B the printed configuration (`Cfg.idle`) calls output 14 idle: the case stores nothing into it. -/
theorem idleAt0_14_B : ∀ t : Fin cfg0.N, ¬cond0_0 (grid0.coords t) → ¬cond0_1 (grid0.coords t) → cfg0.idle 14 (grid0.coords t) = true := by decide +kernel
/-- At the points of case B the pipeline does not write output 14's block back. -/
theorem noFlush0_14_B : ∀ t : Fin cfg0.N, ¬cond0_0 (grid0.coords t) → ¬cond0_1 (grid0.coords t) → (cfg0.win 14).flush t = false := by decide +kernel
/-- At the points of case C the printed configuration (`Cfg.idle`) calls output 14 live: the case stores into it. -/
theorem liveAt0_14_C : ∀ t : Fin cfg0.N, ¬cond0_0 (grid0.coords t) → cond0_1 (grid0.coords t) → cfg0.idle 14 (grid0.coords t) = false := by decide +kernel

/-! ## The kernel body on any staging memrefs: a subtype the run finds -/

/-- One staging buffer of output window 13, through which its contents are stated (`View.read_writes_of_cover`: the
    choice does not matter). -/
abbrev VO0_13 : View sig .tc .vmem S1x256x1024 .bf16 := (Memref.whole cc0_stg13_0 : Memref sig .tc .vmem S1x256x1024 .bf16).view
/-- One staging buffer of output window 14, through which its contents are stated (`View.read_writes_of_cover`: the
    choice does not matter). -/
abbrev VO0_14 : View sig .tc .vmem S1x8x128x128 .f32 := (Memref.whole cc0_stg14_0 : Memref sig .tc .vmem S1x8x128x128 .f32).view
/-- Each window's current staging memref at point `t`, spelled as the pipeline passes it (`bodyAt0`), and its wholeness. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x64x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x64x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x8x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x8x128x128 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S1x8x128x128 .f32 := Memref.whole cc0_scratch0
/-- The scratch `arg17` the kernel carries between points, as a view: what it holds is stated through it. -/
abbrev VS0_0 : View sig .tc .vmem S1x8x128x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.Trip.lean ====
module

public import proofs.«01_k».proof.Proof.Gen.KernelIdeal.Loops
public import Idealize.ShloMosaic.Lib.Pipeline.Value

@[expose] public section
noncomputable section
namespace Cert.KernelIdeal.Ret
open Idealize.ShloMosaic Idealize.ShloMosaic.TcCoe Idealize.ShloMosaic.Tactic
open Cert.KernelIdeal.Gen
variable {F : FTy → Type} [FloatOps F]

/-! One trip of the retention kernel's loop over the chunks of a tile, written head by head.
The printed trip groups the same operations differently for different heads; here every head is
the same three functions of the slabs it reads. -/

/-- The state of one head after a chunk: decayed, plus the keys against the values. -/
def headS (c s : Vec F S64x128 .f32) (k v : Vec F S1x64x128 .f32) (cd : Vec F S1x1x128 .f32)
    (S : Vec F S1x1x128x128 .f32) (kd : Vec F S1x64x128 .f32) : FVec F S1x1x128x128 .f32 :=
  k0_pay58 (k0_pay6 c s k) (k0_pay7 v) cd S kd

/-- One head's retention over a chunk, before the norm. -/
def headO (c s : Vec F S64x128 .f32) (q k v : Vec F S1x64x128 .f32) (S : Vec F S1x1x128x128 .f32)
    (dm : Vec F S1x64x64 .f32) (qd : Vec F S1x64x128 .f32) : FVec F S64x128 .f32 :=
  k0_pay49 (k0_pay9 c s q S) (k0_pay48 (k0_pay7 v) (k0_pay8 c s q k) dm) qd

/-- One head's normed and gated output over a chunk. -/
def headY (c s : Vec F S64x128 .f32) (q k v : Vec F S1x64x128 .f32) (S : Vec F S1x1x128x128 .f32)
    (dm : Vec F S1x64x64 .f32) (qd : Vec F S1x64x128 .f32) (g b : Vec F S1x128 .f32)
    (z : Vec F S1x64x128 .f32) : FVec F S1x64x128 .bf16 :=
  k0_pay68 (headO c s q k v S dm qd) g b z

/-- Head `h`'s block of the state lies inside it. -/
theorem inbS (h : Fin 8) : ∀ a, (![0, h.val, 0, 0] : Fin 4 → ℕ) a + S1x1x128x128.size a ≤ S1x8x128x128.size a := by
  revert h; decide
/-- Head `h`'s decay matrix lies inside its table. -/
theorem inbM (h : Fin 8) : ∀ a, (![h.val, 0, 0] : Fin 3 → ℕ) a + S1x64x64.size a ≤ S8x64x64.size a := by
  revert h; decide
/-- Head `h`'s rows lie inside their table. -/
theorem inbD (h : Fin 8) : ∀ a, (![h.val, 0, 0] : Fin 3 → ℕ) a + S1x64x128.size a ≤ S8x64x128.size a := by
  revert h; decide
/-- Head `h`'s chunk decay lies inside its table. -/
theorem inbC (h : Fin 8) : ∀ a, (![h.val, 0, 0] : Fin 3 → ℕ) a + S1x1x128.size a ≤ S8x1x128.size a := by
  revert h; decide
/-- Head `h`'s lanes of the norm's rows. -/
theorem inbG (h : Fin 8) : ∀ a, (![0, 128 * h.val] : Fin 2 → ℕ) a + S1x128.size a ≤ S1x1024.size a := by
  revert h; decide
/-- Chunk `k` of head `h` lies inside a tile. -/
theorem inbT (k : Fin 4) (h : Fin 8) :
    ∀ a, (![0, 64 * k.val, 128 * h.val] : Fin 3 → ℕ) a + S1x64x128.size a ≤ S1x256x1024.size a := by
  revert k h; decide
/-- Chunk `k`'s rows lie inside the rope tables' tile. -/
theorem inbR (k : Fin 4) : ∀ a, (![64 * k.val, 0] : Fin 2 → ℕ) a + S64x128.size a ≤ S256x128.size a := by
  revert k; decide

/-- Chunk `k`, head `h` of a tile, as a rectangle. -/
abbrev rT (k : Fin 4) (h : Fin 8) : Rect S1x256x1024 :=
  Rect.unit (s := S1x256x1024) ![0, 64 * k.val, 128 * h.val] S1x64x128.size (inbT k h)
/-- Head `h` of the state, as a rectangle. -/
abbrev rS (h : Fin 8) : Rect S1x8x128x128 :=
  Rect.unit (s := S1x8x128x128) ![0, h.val, 0, 0] S1x1x128x128.size (inbS h)
/-- Chunk `k` of the rope tables. -/
abbrev rR (k : Fin 4) : Rect S256x128 := Rect.unit (s := S256x128) ![64 * k.val, 0] S64x128.size (inbR k)
/-- Head `h` of the decay matrices. -/
abbrev rM (h : Fin 8) : Rect S8x64x64 := Rect.unit (s := S8x64x64) ![h.val, 0, 0] S1x64x64.size (inbM h)
/-- Head `h` of a decay table. -/
abbrev rD (h : Fin 8) : Rect S8x64x128 := Rect.unit (s := S8x64x128) ![h.val, 0, 0] S1x64x128.size (inbD h)
/-- Head `h` of the chunk decay. -/
abbrev rC (h : Fin 8) : Rect S8x1x128 := Rect.unit (s := S8x1x128) ![h.val, 0, 0] S1x1x128.size (inbC h)
/-- Head `h` of a norm row. -/
abbrev rG (h : Fin 8) : Rect S1x1024 := Rect.unit (s := S1x1024) ![0, 128 * h.val] S1x128.size (inbG h)

/-- The state's piece of head `h` in a trip, over the arrays read, its slabs at the offsets `o` (of a tile)
and `oR` (of the rope tables). -/
def pieceSAt (o : Fin 3 → ℕ) (ho : ∀ a, o a + S1x64x128.size a ≤ S1x256x1024.size a) (oR : Fin 2 → ℕ)
    (hR : ∀ a, oR a + S64x128.size a ≤ S256x128.size a)
    (x3 x4 : Vec F S1x256x1024 .f32) (x6 x7 : Vec F S256x128 .f32) (x10 : Vec F S8x64x128 .f32)
    (x11 : Vec F S8x1x128 .f32) (S : Vec F S1x8x128x128 .f32) (h : Fin 8) :
    View.Piece (Elt F) S1x8x128x128 .f32 :=
  ⟨rS h, headS (View.ld x6 (Rect.unit (s := S256x128) oR S64x128.size hR))
    (View.ld x7 (Rect.unit (s := S256x128) oR S64x128.size hR))
    (View.ld x3 (Rect.unit (s := S1x256x1024) o S1x64x128.size ho))
    (View.ld x4 (Rect.unit (s := S1x256x1024) o S1x64x128.size ho)) (View.ld x11 (rC h))
    (View.ld S (rS h)) (View.ld x10 (rD h))⟩

/-- The output's piece of head `h` in a trip, over the arrays read, its slabs at the offsets `o` and `oR`. -/
def pieceYAt (o : Fin 3 → ℕ) (ho : ∀ a, o a + S1x64x128.size a ≤ S1x256x1024.size a) (oR : Fin 2 → ℕ)
    (hR : ∀ a, oR a + S64x128.size a ≤ S256x128.size a)
    (x2 x3 x4 x5 : Vec F S1x256x1024 .f32) (x6 x7 : Vec F S256x128 .f32) (x8 : Vec F S8x64x64 .f32)
    (x9 : Vec F S8x64x128 .f32) (x13 x14 : Vec F S1x1024 .f32) (S : Vec F S1x8x128x128 .f32)
    (h : Fin 8) : View.Piece (Elt F) S1x256x1024 .bf16 :=
  ⟨Rect.unit (s := S1x256x1024) o S1x64x128.size ho,
    headY (View.ld x6 (Rect.unit (s := S256x128) oR S64x128.size hR))
    (View.ld x7 (Rect.unit (s := S256x128) oR S64x128.size hR))
    (View.ld x2 (Rect.unit (s := S1x256x1024) o S1x64x128.size ho))
    (View.ld x3 (Rect.unit (s := S1x256x1024) o S1x64x128.size ho))
    (View.ld x4 (Rect.unit (s := S1x256x1024) o S1x64x128.size ho))
    (View.ld S (rS h)) (View.ld x8 (rM h)) (View.ld x9 (rD h))
    (View.ld x13 (rG h)) (View.ld x14 (rG h))
    (View.ld x5 (Rect.unit (s := S1x256x1024) o S1x64x128.size ho))⟩

/-- The state's piece of head `h` in trip `k`. -/
abbrev pieceS (x3 x4 : Vec F S1x256x1024 .f32) (x6 x7 : Vec F S256x128 .f32) (x10 : Vec F S8x64x128 .f32)
    (x11 : Vec F S8x1x128 .f32) (S : Vec F S1x8x128x128 .f32) (k : Fin 4) (h : Fin 8) :
    View.Piece (Elt F) S1x8x128x128 .f32 :=
  pieceSAt ![0, 64 * k.val, 128 * h.val] (inbT k h) ![64 * k.val, 0] (inbR k) x3 x4 x6 x7 x10 x11 S h

/-- The output's piece of head `h` in trip `k`. -/
abbrev pieceY (x2 x3 x4 x5 : Vec F S1x256x1024 .f32) (x6 x7 : Vec F S256x128 .f32) (x8 : Vec F S8x64x64 .f32)
    (x9 : Vec F S8x64x128 .f32) (x13 x14 : Vec F S1x1024 .f32) (S : Vec F S1x8x128x128 .f32)
    (k : Fin 4) (h : Fin 8) : View.Piece (Elt F) S1x256x1024 .bf16 :=
  pieceYAt ![0, 64 * k.val, 128 * h.val] (inbT k h) ![64 * k.val, 0] (inbR k) x2 x3 x4 x5 x6 x7 x8 x9 x13 x14 S h

/-- A piece depends on its offsets only through their values. -/
theorem pieceSAt_congr {o o' : Fin 3 → ℕ} {oR oR' : Fin 2 → ℕ} (e : o = o') (eR : oR = oR')
    {ho : ∀ a, o a + S1x64x128.size a ≤ S1x256x1024.size a} {hR : ∀ a, oR a + S64x128.size a ≤ S256x128.size a}
    (ho' : ∀ a, o' a + S1x64x128.size a ≤ S1x256x1024.size a) (hR' : ∀ a, oR' a + S64x128.size a ≤ S256x128.size a)
    {x3 x4 : Vec F S1x256x1024 .f32} {x6 x7 : Vec F S256x128 .f32} {x10 : Vec F S8x64x128 .f32}
    {x11 : Vec F S8x1x128 .f32} {S : Vec F S1x8x128x128 .f32} {h : Fin 8} :
    pieceSAt o ho oR hR x3 x4 x6 x7 x10 x11 S h = pieceSAt o' ho' oR' hR' x3 x4 x6 x7 x10 x11 S h := by
  subst e; subst eR; rfl

/-- The same for an output's piece. -/
theorem pieceYAt_congr {o o' : Fin 3 → ℕ} {oR oR' : Fin 2 → ℕ} (e : o = o') (eR : oR = oR')
    {ho : ∀ a, o a + S1x64x128.size a ≤ S1x256x1024.size a} {hR : ∀ a, oR a + S64x128.size a ≤ S256x128.size a}
    (ho' : ∀ a, o' a + S1x64x128.size a ≤ S1x256x1024.size a) (hR' : ∀ a, oR' a + S64x128.size a ≤ S256x128.size a)
    {x2 x3 x4 x5 : Vec F S1x256x1024 .f32} {x6 x7 : Vec F S256x128 .f32} {x8 : Vec F S8x64x64 .f32}
    {x9 : Vec F S8x64x128 .f32} {x13 x14 : Vec F S1x1024 .f32} {S : Vec F S1x8x128x128 .f32} {h : Fin 8} :
    pieceYAt o ho oR hR x2 x3 x4 x5 x6 x7 x8 x9 x13 x14 S h
      = pieceYAt o' ho' oR' hR' x2 x3 x4 x5 x6 x7 x8 x9 x13 x14 S h := by
  subst e; subst eR; rfl

/-- The trip's number, below four. -/
abbrev kk (k : Fin k0_t1_loop.trips) : Fin 4 := ⟨k.val, Nat.lt_of_lt_of_le k.isLt k0_t1_abs.2.1⟩
/-- Head 0's offset, in numbers. -/
theorem off2_eq : ∀ k : Fin k0_t1_loop.trips, k0_off2 k = ![0, 64 * (kk k).val, 128 * (0 : Fin 8).val] := by decide +kernel
/-- Head 1's offset, in numbers. -/
theorem off3_eq : ∀ k : Fin k0_t1_loop.trips, k0_off3 k = ![0, 64 * (kk k).val, 128 * (1 : Fin 8).val] := by decide +kernel
/-- Head 2's offset, in numbers. -/
theorem off4_eq : ∀ k : Fin k0_t1_loop.trips, k0_off4 k = ![0, 64 * (kk k).val, 128 * (2 : Fin 8).val] := by decide +kernel
/-- Head 3's offset, in numbers. -/
theorem off5_eq : ∀ k : Fin k0_t1_loop.trips, k0_off5 k = ![0, 64 * (kk k).val, 128 * (3 : Fin 8).val] := by decide +kernel
/-- Head 4's offset, in numbers. -/
theorem off6_eq : ∀ k : Fin k0_t1_loop.trips, k0_off6 k = ![0, 64 * (kk k).val, 128 * (4 : Fin 8).val] := by decide +kernel
/-- Head 5's offset, in numbers. -/
theorem off7_eq : ∀ k : Fin k0_t1_loop.trips, k0_off7 k = ![0, 64 * (kk k).val, 128 * (5 : Fin 8).val] := by decide +kernel
/-- Head 6's offset, in numbers. -/
theorem off8_eq : ∀ k : Fin k0_t1_loop.trips, k0_off8 k = ![0, 64 * (kk k).val, 128 * (6 : Fin 8).val] := by decide +kernel
/-- Head 7's offset, in numbers. -/
theorem off9_eq : ∀ k : Fin k0_t1_loop.trips, k0_off9 k = ![0, 64 * (kk k).val, 128 * (7 : Fin 8).val] := by decide +kernel
/-- The rope tables' offset, in numbers. -/
theorem off1_eq : ∀ k : Fin k0_t1_loop.trips, k0_off1 k = ![64 * (kk k).val, 0] := by decide +kernel

set_option maxHeartbeats 4000000 in
set_option maxRecDepth 8192 in
/-- The printed trip, head by head, at the printed offsets. -/
theorem trip_raw (𝒱 : Variants) (c : Dev nD) (bd : Option 𝒱.V) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg13 : BufTy.Contents (Elt F) arg13.view.ty) (X_arg14 : BufTy.Contents (Elt F) arg14.view.ty) (k : Fin k0_t1_loop.trips) (f_arg15 : BufTy.Contents (Elt F) arg15.view.ty) (f_arg17 : BufTy.Contents (Elt F) arg17.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg13 X_arg14 k f_arg15 f_arg17
      = ([pieceYAt (k0_off9 k) (k0_off9_inb k) (k0_off1 k) (k0_off1_inb k) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) 7,
          pieceYAt (k0_off8 k) (k0_off8_inb k) (k0_off1 k) (k0_off1_inb k) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) 6,
          pieceYAt (k0_off7 k) (k0_off7_inb k) (k0_off1 k) (k0_off1_inb k) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) 5,
          pieceYAt (k0_off6 k) (k0_off6_inb k) (k0_off1 k) (k0_off1_inb k) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) 4,
          pieceYAt (k0_off5 k) (k0_off5_inb k) (k0_off1 k) (k0_off1_inb k) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) 3,
          pieceYAt (k0_off4 k) (k0_off4_inb k) (k0_off1 k) (k0_off1_inb k) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) 2,
          pieceYAt (k0_off3 k) (k0_off3_inb k) (k0_off1 k) (k0_off1_inb k) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) 1,
          pieceYAt (k0_off2 k) (k0_off2_inb k) (k0_off1 k) (k0_off1_inb k) (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) 0],
         [pieceSAt (k0_off9 k) (k0_off9_inb k) (k0_off1 k) (k0_off1_inb k) (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) 7,
          pieceSAt (k0_off8 k) (k0_off8_inb k) (k0_off1 k) (k0_off1_inb k) (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) 6,
          pieceSAt (k0_off7 k) (k0_off7_inb k) (k0_off1 k) (k0_off1_inb k) (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) 5,
          pieceSAt (k0_off6 k) (k0_off6_inb k) (k0_off1 k) (k0_off1_inb k) (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) 4,
          pieceSAt (k0_off5 k) (k0_off5_inb k) (k0_off1 k) (k0_off1_inb k) (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) 3,
          pieceSAt (k0_off4 k) (k0_off4_inb k) (k0_off1 k) (k0_off1_inb k) (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) 2,
          pieceSAt (k0_off3 k) (k0_off3_inb k) (k0_off1 k) (k0_off1_inb k) (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) 1,
          pieceSAt (k0_off2 k) (k0_off2_inb k) (k0_off1 k) (k0_off1_inb k) (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) 0]) := by
  simp only [tripL_k0_t1]
  unfold trip_k0_t1
  dsimp only
  rfl

/-- The trip of number `k`, head by head, last head first: every piece is the head's function of the slabs. -/
theorem trip_eq (𝒱 : Variants) (c : Dev nD) (bd : Option 𝒱.V) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg13 : BufTy.Contents (Elt F) arg13.view.ty) (X_arg14 : BufTy.Contents (Elt F) arg14.view.ty) (k : Fin k0_t1_loop.trips) (f_arg15 : BufTy.Contents (Elt F) arg15.view.ty) (f_arg17 : BufTy.Contents (Elt F) arg17.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg13 X_arg14 k f_arg15 f_arg17
      = ([pieceY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) (kk k) 7,
          pieceY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) (kk k) 6,
          pieceY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) (kk k) 5,
          pieceY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) (kk k) 4,
          pieceY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) (kk k) 3,
          pieceY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) (kk k) 2,
          pieceY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) (kk k) 1,
          pieceY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg13.view.read (Elt F) X_arg13) (arg14.view.read (Elt F) X_arg14) (arg17.view.read (Elt F) f_arg17) (kk k) 0],
         [pieceS (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) (kk k) 7,
          pieceS (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) (kk k) 6,
          pieceS (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) (kk k) 5,
          pieceS (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) (kk k) 4,
          pieceS (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) (kk k) 3,
          pieceS (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) (kk k) 2,
          pieceS (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) (kk k) 1,
          pieceS (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) f_arg17) (kk k) 0]) := by
  rw [trip_raw]
  simp only [pieceYAt_congr (off9_eq k) (off1_eq k) (inbT (kk k) 7) (inbR (kk k)), pieceSAt_congr (off9_eq k) (off1_eq k) (inbT (kk k) 7) (inbR (kk k)),
    pieceYAt_congr (off8_eq k) (off1_eq k) (inbT (kk k) 6) (inbR (kk k)), pieceSAt_congr (off8_eq k) (off1_eq k) (inbT (kk k) 6) (inbR (kk k)),
    pieceYAt_congr (off7_eq k) (off1_eq k) (inbT (kk k) 5) (inbR (kk k)), pieceSAt_congr (off7_eq k) (off1_eq k) (inbT (kk k) 5) (inbR (kk k)),
    pieceYAt_congr (off6_eq k) (off1_eq k) (inbT (kk k) 4) (inbR (kk k)), pieceSAt_congr (off6_eq k) (off1_eq k) (inbT (kk k) 4) (inbR (kk k)),
    pieceYAt_congr (off5_eq k) (off1_eq k) (inbT (kk k) 3) (inbR (kk k)), pieceSAt_congr (off5_eq k) (off1_eq k) (inbT (kk k) 3) (inbR (kk k)),
    pieceYAt_congr (off4_eq k) (off1_eq k) (inbT (kk k) 2) (inbR (kk k)), pieceSAt_congr (off4_eq k) (off1_eq k) (inbT (kk k) 2) (inbR (kk k)),
    pieceYAt_congr (off3_eq k) (off1_eq k) (inbT (kk k) 1) (inbR (kk k)), pieceSAt_congr (off3_eq k) (off1_eq k) (inbT (kk k) 1) (inbR (kk k)),
    pieceYAt_congr (off2_eq k) (off1_eq k) (inbT (kk k) 0) (inbR (kk k)), pieceSAt_congr (off2_eq k) (off1_eq k) (inbT (kk k) 0) (inbR (kk k))]

end Cert.KernelIdeal.Ret
end
-- ==== Proof.Tile.lean ====
module

public import proofs.«01_k».proof.Proof.Trip

@[expose] public section
noncomputable section
namespace Cert.KernelIdeal.Ret
open Idealize.ShloMosaic Idealize.ShloMosaic.TcCoe Idealize.ShloMosaic.Tactic
open Cert.KernelIdeal.Gen
variable {F : FTy → Type} [FloatOps F]

/-! What the loop over the chunks of a tile leaves, as functions of what the inputs hold and of the
state it starts from alone. The printed recursion also mentions the contents the output's buffer had
before, which no trip reads. -/

/-- A place of one head's state. -/
def atS (d e : Fin 128) : S1x1x128x128.Idx := fun a => match a with | 0 => (0 : Fin 1) | 1 => (0 : Fin 1) | 2 => d | 3 => e
/-- A place of one head's chunk. -/
def atT (r : Fin 64) (l : Fin 128) : S1x64x128.Idx := fun a => match a with | 0 => (0 : Fin 1) | 1 => r | 2 => l

/-- The state after the chunk of trip `k`. -/
def nextS (x3 x4 : Vec F S1x256x1024 .f32) (x6 x7 : Vec F S256x128 .f32) (x10 : Vec F S8x64x128 .f32) (x11 : Vec F S8x1x128 .f32) (S : Vec F S1x8x128x128 .f32) (k : Fin 4) : Vec F S1x8x128x128 .f32 :=
  fun y => (pieceS x3 x4 x6 x7 x10 x11 S k (y 1)).2 (atS (y 2) (y 3))

/-- The state after the first `n` chunks of a tile. -/
def stateAt (x3 x4 : Vec F S1x256x1024 .f32) (x6 x7 : Vec F S256x128 .f32) (x10 : Vec F S8x64x128 .f32) (x11 : Vec F S8x1x128 .f32) (S : Vec F S1x8x128x128 .f32) : ℕ → Vec F S1x8x128x128 .f32
  | 0 => S
  | n + 1 => if h : n < 4 then nextS x3 x4 x6 x7 x10 x11 (stateAt x3 x4 x6 x7 x10 x11 S n) ⟨n, h⟩ else stateAt x3 x4 x6 x7 x10 x11 S n

/-- The chunk a tile's row lies in. -/
abbrev chunkOf (y : S1x256x1024.Idx) : Fin 4 := ⟨(y 1).val / 64, Nat.div_lt_of_lt_mul (y 1).isLt⟩
/-- The head a lane lies in. -/
abbrev headOf (y : S1x256x1024.Idx) : Fin 8 := ⟨(y 2).val / 128, Nat.div_lt_of_lt_mul (y 2).isLt⟩

/-- The tile of the output: row by row its chunk's output, from the state before that chunk. -/
def tileY (x2 x3 x4 x5 : Vec F S1x256x1024 .f32) (x6 x7 : Vec F S256x128 .f32) (x8 : Vec F S8x64x64 .f32) (x9 x10 : Vec F S8x64x128 .f32) (x11 : Vec F S8x1x128 .f32) (x13 x14 : Vec F S1x1024 .f32) (S : Vec F S1x8x128x128 .f32) : Vec F S1x256x1024 .bf16 :=
  fun y => (pieceY x2 x3 x4 x5 x6 x7 x8 x9 x13 x14 (stateAt x3 x4 x6 x7 x10 x11 S (chunkOf y).val) (chunkOf y) (headOf y)).2
    (atT ⟨(y 1).val % 64, Nat.mod_lt _ (by decide)⟩ ⟨(y 2).val % 128, Nat.mod_lt _ (by decide)⟩)

/-- The pieces of the state one trip stores, last first. -/
abbrev tripS (x3 x4 : Vec F S1x256x1024 .f32) (x6 x7 : Vec F S256x128 .f32) (x10 : Vec F S8x64x128 .f32) (x11 : Vec F S8x1x128 .f32) (S : Vec F S1x8x128x128 .f32) (k : Fin 4) : List (View.Piece (Elt F) S1x8x128x128 .f32) :=
  [pieceS x3 x4 x6 x7 x10 x11 S k 7, pieceS x3 x4 x6 x7 x10 x11 S k 6, pieceS x3 x4 x6 x7 x10 x11 S k 5, pieceS x3 x4 x6 x7 x10 x11 S k 4, pieceS x3 x4 x6 x7 x10 x11 S k 3, pieceS x3 x4 x6 x7 x10 x11 S k 2, pieceS x3 x4 x6 x7 x10 x11 S k 1, pieceS x3 x4 x6 x7 x10 x11 S k 0]
/-- The pieces of the output one trip stores, last first. -/
abbrev tripY (x2 x3 x4 x5 : Vec F S1x256x1024 .f32) (x6 x7 : Vec F S256x128 .f32) (x8 : Vec F S8x64x64 .f32) (x9 x10 : Vec F S8x64x128 .f32) (x11 : Vec F S8x1x128 .f32) (x13 x14 : Vec F S1x1024 .f32) (S : Vec F S1x8x128x128 .f32) (k : Fin 4) : List (View.Piece (Elt F) S1x256x1024 .bf16) :=
  [pieceY x2 x3 x4 x5 x6 x7 x8 x9 x13 x14 S k 7, pieceY x2 x3 x4 x5 x6 x7 x8 x9 x13 x14 S k 6, pieceY x2 x3 x4 x5 x6 x7 x8 x9 x13 x14 S k 5, pieceY x2 x3 x4 x5 x6 x7 x8 x9 x13 x14 S k 4, pieceY x2 x3 x4 x5 x6 x7 x8 x9 x13 x14 S k 3, pieceY x2 x3 x4 x5 x6 x7 x8 x9 x13 x14 S k 2, pieceY x2 x3 x4 x5 x6 x7 x8 x9 x13 x14 S k 1, pieceY x2 x3 x4 x5 x6 x7 x8 x9 x13 x14 S k 0]

/-- A piece is one of a trip's exactly when it is some head's. -/
theorem mem_tripS (x3 x4 : Vec F S1x256x1024 .f32) (x6 x7 : Vec F S256x128 .f32) (x10 : Vec F S8x64x128 .f32) (x11 : Vec F S8x1x128 .f32) (S : Vec F S1x8x128x128 .f32) (k : Fin 4) (p) :
    p ∈ tripS x3 x4 x6 x7 x10 x11 S k ↔ ∃ h, p = pieceS x3 x4 x6 x7 x10 x11 S k h := by
  show p ∈ List.map (fun h => pieceS x3 x4 x6 x7 x10 x11 S k h) [7, 6, 5, 4, 3, 2, 1, 0] ↔ _
  rw [List.mem_map]
  constructor
  · rintro ⟨h, -, rfl⟩; exact ⟨h, rfl⟩
  · rintro ⟨h, rfl⟩; exact ⟨h, by revert h; decide, rfl⟩
theorem mem_tripY (x2 x3 x4 x5 : Vec F S1x256x1024 .f32) (x6 x7 : Vec F S256x128 .f32) (x8 : Vec F S8x64x64 .f32) (x9 x10 : Vec F S8x64x128 .f32) (x11 : Vec F S8x1x128 .f32) (x13 x14 : Vec F S1x1024 .f32) (S : Vec F S1x8x128x128 .f32) (k : Fin 4) (p) :
    p ∈ tripY x2 x3 x4 x5 x6 x7 x8 x9 x10 x11 x13 x14 S k ↔ ∃ h, p = pieceY x2 x3 x4 x5 x6 x7 x8 x9 x13 x14 S k h := by
  show p ∈ List.map (fun h => pieceY x2 x3 x4 x5 x6 x7 x8 x9 x13 x14 S k h) [7, 6, 5, 4, 3, 2, 1, 0] ↔ _
  rw [List.mem_map]
  constructor
  · rintro ⟨h, -, rfl⟩; exact ⟨h, rfl⟩
  · rintro ⟨h, rfl⟩; exact ⟨h, by revert h; decide, rfl⟩

/-- A trip's pieces of the state are one function's restrictions. -/
theorem pieceS_apply (x3 x4 : Vec F S1x256x1024 .f32) (x6 x7 : Vec F S256x128 .f32) (x10 : Vec F S8x64x128 .f32) (x11 : Vec F S8x1x128 .f32) (S : Vec F S1x8x128x128 .f32) (k : Fin 4) (h : Fin 8)
    (x : (pieceS x3 x4 x6 x7 x10 x11 S k h).1.shape.Idx) :
    (pieceS x3 x4 x6 x7 x10 x11 S k h).2 x = nextS x3 x4 x6 x7 x10 x11 S k ((pieceS x3 x4 x6 x7 x10 x11 S k h).1.emb x) := by
  have h0 : (x 0).val < 1 := (x 0).isLt
  have h1 : (x 1).val < 1 := (x 1).isLt
  have e1 : ((pieceS x3 x4 x6 x7 x10 x11 S k h).1.emb x) 1 = h := Fin.ext (by
    show h.val + 1 * (x 1).val = h.val
    omega)
  unfold nextS
  rw [e1]
  refine congrArg (pieceS x3 x4 x6 x7 x10 x11 S k h).2 ?_
  funext a
  apply Fin.ext
  match a with
  | 0 => show (x 0).val = 0; omega
  | 1 => show (x 1).val = 0; omega
  | 2 => show (x 2).val = 0 + 1 * (x 2).val; omega
  | 3 => show (x 3).val = 0 + 1 * (x 3).val; omega

/-- Every place of the state lies in its head's piece. -/
theorem pieceS_mem (x3 x4 : Vec F S1x256x1024 .f32) (x6 x7 : Vec F S256x128 .f32) (x10 : Vec F S8x64x128 .f32) (x11 : Vec F S8x1x128 .f32) (S : Vec F S1x8x128x128 .f32) (k : Fin 4) (y : S1x8x128x128.Idx) :
    y ∈ (pieceS x3 x4 x6 x7 x10 x11 S k (y 1)).1.set := by
  have h0 : (y 0).val < 1 := (y 0).isLt
  refine (Rect.mem_set_unit (s := S1x8x128x128) (inb := inbS (y 1))).mpr ?_
  intro a
  match a with
  | 0 => exact ⟨Nat.zero_le _, (y 0).isLt⟩
  | 1 => exact ⟨le_refl _, Nat.lt_succ_self _⟩
  | 2 => exact ⟨Nat.zero_le _, by show (y 2).val < 0 + 128; have : (y 2).val < 128 := (y 2).isLt; omega⟩
  | 3 => exact ⟨Nat.zero_le _, by show (y 3).val < 0 + 128; have : (y 3).val < 128 := (y 3).isLt; omega⟩

/-- After a trip's stores the state reads as the next state, whatever was there before. -/
theorem read_tripS {q : Kind} {sp : Space} (v : View sig q sp S1x8x128x128 .f32) (f : v.ty.Contents (Elt F))
    (x3 x4 : Vec F S1x256x1024 .f32) (x6 x7 : Vec F S256x128 .f32) (x10 : Vec F S8x64x128 .f32) (x11 : Vec F S8x1x128 .f32) (S : Vec F S1x8x128x128 .f32) (k : Fin 4) (L : List (View.Piece (Elt F) S1x8x128x128 .f32)) :
    v.read (Elt F) (v.writes (Elt F) f (tripS x3 x4 x6 x7 x10 x11 S k ++ L)) = nextS x3 x4 x6 x7 x10 x11 S k := by
  rw [View.writes_append]
  funext y
  refine View.read_writes_apply_of_pieces (v := v) (Val := Elt F) _ (nextS x3 x4 x6 x7 x10 x11 S k) _ ?_ y ?_
  · intro p hp x
    obtain ⟨h, rfl⟩ := (mem_tripS x3 x4 x6 x7 x10 x11 S k p).mp hp
    exact pieceS_apply x3 x4 x6 x7 x10 x11 S k h x
  · exact ⟨_, (mem_tripS x3 x4 x6 x7 x10 x11 S k _).mpr ⟨y 1, rfl⟩, pieceS_mem x3 x4 x6 x7 x10 x11 S k y⟩

/-- The pieces of the output after the first `n` trips. -/
def piecesY (x2 x3 x4 x5 : Vec F S1x256x1024 .f32) (x6 x7 : Vec F S256x128 .f32) (x8 : Vec F S8x64x64 .f32) (x9 x10 : Vec F S8x64x128 .f32) (x11 : Vec F S8x1x128 .f32) (x13 x14 : Vec F S1x1024 .f32) (S : Vec F S1x8x128x128 .f32) : ℕ → List (View.Piece (Elt F) S1x256x1024 .bf16)
  | 0 => []
  | n + 1 => if h : n < 4 then tripY x2 x3 x4 x5 x6 x7 x8 x9 x10 x11 x13 x14 (stateAt x3 x4 x6 x7 x10 x11 S n) ⟨n, h⟩ ++ piecesY x2 x3 x4 x5 x6 x7 x8 x9 x10 x11 x13 x14 S n else piecesY x2 x3 x4 x5 x6 x7 x8 x9 x10 x11 x13 x14 S n

/-- The printed recursion, trip by trip: the output's pieces, and what the state's buffer reads. -/
theorem pb_eq (𝒱 : Variants) (c : Dev nD) (bd : Option 𝒱.V) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg13 : BufTy.Contents (Elt F) arg13.view.ty) (X_arg14 : BufTy.Contents (Elt F) arg14.view.ty) (G_arg15 : BufTy.Contents (Elt F) arg15.view.ty) (G_arg17 : BufTy.Contents (Elt F) arg17.view.ty) :
    ∀ n ≤ 4, (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg13 X_arg14 G_arg15 G_arg17 n).1
        = piecesY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg13.view.read (Elt F) X_arg13) (arg14.view.read (Elt F) X_arg14) (arg17.view.read (Elt F) G_arg17) n
      ∧ arg17.view.read (Elt F) (arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg13 X_arg14 G_arg15 G_arg17 n).2)
        = stateAt (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) G_arg17) n := by
  intro n
  induction n with
  | zero => intro _; exact ⟨rfl, rfl⟩
  | succ n ih =>
    intro hn
    obtain ⟨ih1, ih2⟩ := ih (Nat.le_of_succ_le hn)
    have hn4 : n < 4 := hn
    have hk : n < k0_t1_loop.trips := Nat.lt_of_lt_of_eq hn4 (by decide)
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg13 X_arg14 G_arg15 G_arg17 ⟨n, hk⟩
    rw [trip_eq] at e
    rw [ih2, ih1] at e
    rw [show n + 1 = (⟨n, hk⟩ : Fin k0_t1_loop.trips).val + 1 from rfl, e]
    constructor
    · show _ = piecesY _ _ _ _ _ _ _ _ _ _ _ _ _ (n + 1)
      rw [piecesY, dif_pos hn4]
    · show _ = stateAt _ _ _ _ _ _ _ (n + 1)
      rw [stateAt, dif_pos hn4]
      exact read_tripS arg17.view G_arg17 (arg3.view.read (Elt F) X_arg3) (arg4.view.read (Elt F) X_arg4) (arg6.view.read (Elt F) X_arg6) (arg7.view.read (Elt F) X_arg7) (arg10.view.read (Elt F) X_arg10) (arg11.view.read (Elt F) X_arg11) _ ⟨n, hn4⟩ _

/-- Every piece of the output is the tile's restriction. -/
theorem piecesY_apply (x2 x3 x4 x5 : Vec F S1x256x1024 .f32) (x6 x7 : Vec F S256x128 .f32) (x8 : Vec F S8x64x64 .f32) (x9 x10 : Vec F S8x64x128 .f32) (x11 : Vec F S8x1x128 .f32) (x13 x14 : Vec F S1x1024 .f32) (S : Vec F S1x8x128x128 .f32) :
    ∀ n, ∀ p ∈ piecesY x2 x3 x4 x5 x6 x7 x8 x9 x10 x11 x13 x14 S n, ∀ x : p.1.shape.Idx, p.2 x = tileY x2 x3 x4 x5 x6 x7 x8 x9 x10 x11 x13 x14 S (p.1.emb x) := by
  intro n
  induction n with
  | zero => intro p hp; exact absurd hp List.not_mem_nil
  | succ n ih =>
    intro p hp
    unfold piecesY at hp
    by_cases h : n < 4
    · rw [dif_pos h] at hp
      rcases List.mem_append.mp hp with hp | hp
      · obtain ⟨hd, rfl⟩ := (mem_tripY x2 x3 x4 x5 x6 x7 x8 x9 x10 x11 x13 x14 _ ⟨n, h⟩ p).mp hp
        intro x
        have h0 : (x 0).val < 1 := (x 0).isLt
        have h1 : (x 1).val < 64 := (x 1).isLt
        have h2 : (x 2).val < 128 := (x 2).isLt
        have hh := hd.isLt
        have ec : chunkOf ((rT ⟨n, h⟩ hd).emb x) = ⟨n, h⟩ := Fin.ext (by
          show (64 * n + 1 * (x 1).val) / 64 = n
          omega)
        have eh : headOf ((rT ⟨n, h⟩ hd).emb x) = hd := Fin.ext (by
          show (128 * hd.val + 1 * (x 2).val) / 128 = hd.val
          omega)
        show _ = tileY x2 x3 x4 x5 x6 x7 x8 x9 x10 x11 x13 x14 S ((rT ⟨n, h⟩ hd).emb x)
        unfold tileY
        rw [ec, eh]
        refine congrArg (pieceY x2 x3 x4 x5 x6 x7 x8 x9 x13 x14 (stateAt x3 x4 x6 x7 x10 x11 S n) ⟨n, h⟩ hd).2 ?_
        funext a
        apply Fin.ext
        match a with
        | 0 => show (x 0).val = 0; omega
        | 1 => show (x 1).val = (64 * n + 1 * (x 1).val) % 64; omega
        | 2 => show (x 2).val = (128 * hd.val + 1 * (x 2).val) % 128; omega
      · exact ih p hp
    · rw [dif_neg h] at hp; exact ih p hp

/-- A trip's pieces stay among the later ones. -/
theorem piecesY_mem (x2 x3 x4 x5 : Vec F S1x256x1024 .f32) (x6 x7 : Vec F S256x128 .f32) (x8 : Vec F S8x64x64 .f32) (x9 x10 : Vec F S8x64x128 .f32) (x11 : Vec F S8x1x128 .f32) (x13 x14 : Vec F S1x1024 .f32) (S : Vec F S1x8x128x128 .f32) (k : Fin 4) (h : Fin 8) :
    ∀ n, k.val < n → pieceY x2 x3 x4 x5 x6 x7 x8 x9 x13 x14 (stateAt x3 x4 x6 x7 x10 x11 S k.val) k h ∈ piecesY x2 x3 x4 x5 x6 x7 x8 x9 x10 x11 x13 x14 S n := by
  intro n
  induction n with
  | zero => intro hk; exact absurd hk (Nat.not_lt_zero _)
  | succ n ih =>
    intro hk
    unfold piecesY
    by_cases hn : n < 4
    · rw [dif_pos hn]
      rcases Nat.lt_succ_iff_lt_or_eq.mp hk with hk | hk
      · exact List.mem_append.mpr (Or.inr (ih hk))
      · subst hk
        exact List.mem_append.mpr (Or.inl ((mem_tripY x2 x3 x4 x5 x6 x7 x8 x9 x10 x11 x13 x14 _ _ _).mpr ⟨h, rfl⟩))
    · rw [dif_neg hn]; exact ih (by have := k.isLt; omega)

/-- After the four trips the output's buffer reads as the tile, whatever was there before. -/
theorem read_piecesY {q : Kind} {sp : Space} (v : View sig q sp S1x256x1024 .bf16) (f : v.ty.Contents (Elt F))
    (x2 x3 x4 x5 : Vec F S1x256x1024 .f32) (x6 x7 : Vec F S256x128 .f32) (x8 : Vec F S8x64x64 .f32) (x9 x10 : Vec F S8x64x128 .f32) (x11 : Vec F S8x1x128 .f32) (x13 x14 : Vec F S1x1024 .f32) (S : Vec F S1x8x128x128 .f32) :
    v.read (Elt F) (v.writes (Elt F) f (piecesY x2 x3 x4 x5 x6 x7 x8 x9 x10 x11 x13 x14 S 4)) = tileY x2 x3 x4 x5 x6 x7 x8 x9 x10 x11 x13 x14 S := by
  funext y
  refine View.read_writes_apply_of_pieces (v := v) (Val := Elt F) _ (tileY x2 x3 x4 x5 x6 x7 x8 x9 x10 x11 x13 x14 S) _ (piecesY_apply x2 x3 x4 x5 x6 x7 x8 x9 x10 x11 x13 x14 S 4) y
    ⟨_, piecesY_mem x2 x3 x4 x5 x6 x7 x8 x9 x10 x11 x13 x14 S (chunkOf y) (headOf y) 4 (chunkOf y).isLt, ?_⟩
  have h0 : (y 0).val < 1 := (y 0).isLt
  have h1 : (y 1).val < 256 := (y 1).isLt
  have h2 : (y 2).val < 1024 := (y 2).isLt
  refine (Rect.mem_set_unit (s := S1x256x1024) (inb := inbT (chunkOf y) (headOf y))).mpr ?_
  intro a
  match a with
  | 0 => exact ⟨Nat.zero_le _, (y 0).isLt⟩
  | 1 => exact ⟨by show 64 * ((y 1).val / 64) ≤ (y 1).val; omega, by show (y 1).val < 64 * ((y 1).val / 64) + 64; omega⟩
  | 2 => exact ⟨by show 128 * ((y 2).val / 128) ≤ (y 2).val; omega, by show (y 2).val < 128 * ((y 2).val / 128) + 128; omega⟩

/-- The whole tile, as a rectangle. -/
abbrev wY : Rect S1x256x1024 := Rect.unit (s := S1x256x1024) ![0, 0, 0] S1x256x1024.size (by decide)
/-- The whole state, as a rectangle. -/
abbrev wS : Rect S1x8x128x128 := Rect.unit (s := S1x8x128x128) ![0, 0, 0, 0] S1x8x128x128.size (by decide)

/-- A store of a whole tile reads back. -/
theorem read_wholeY {q : Kind} {sp : Space} (v : View sig q sp S1x256x1024 .bf16) (f : v.ty.Contents (Elt F))
    (w : Vec F S1x256x1024 .bf16) : v.read (Elt F) (v.writes (Elt F) f [⟨wY, w⟩]) = w := by
  funext y
  have e : wY.emb y = y := funext fun a => Fin.ext (by
    match a with
    | 0 => show 0 + 1 * (y 0).val = (y 0).val; omega
    | 1 => show 0 + 1 * (y 1).val = (y 1).val; omega
    | 2 => show 0 + 1 * (y 2).val = (y 2).val; omega)
  conv_lhs => rw [← e]
  exact View.read_writes_cons_emb ..
/-- A store of a whole state reads back. -/
theorem read_wholeS {q : Kind} {sp : Space} (v : View sig q sp S1x8x128x128 .f32) (f : v.ty.Contents (Elt F))
    (w : Vec F S1x8x128x128 .f32) (L : List (View.Piece (Elt F) S1x8x128x128 .f32)) :
    v.read (Elt F) (v.writes (Elt F) f (⟨wS, w⟩ :: L)) = w := by
  funext y
  have e : wS.emb y = y := funext fun a => Fin.ext (by
    match a with
    | 0 => show 0 + 1 * (y 0).val = (y 0).val; omega
    | 1 => show 0 + 1 * (y 1).val = (y 1).val; omega
    | 2 => show 0 + 1 * (y 2).val = (y 2).val; omega
    | 3 => show 0 + 1 * (y 3).val = (y 3).val; omega)
  conv_lhs => rw [← e]
  exact View.read_writes_cons_emb ..

/-- What the loop leaves in the output's buffer: one store of the whole tile. -/
theorem loopY (𝒱 : Variants) (c : Dev nD) (bd : Option 𝒱.V) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg13 : BufTy.Contents (Elt F) arg13.view.ty) (X_arg14 : BufTy.Contents (Elt F) arg14.view.ty) (G_arg15 : BufTy.Contents (Elt F) arg15.view.ty) (G_arg17 : BufTy.Contents (Elt F) arg17.view.ty) :
    arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg13 X_arg14 G_arg15 G_arg17 k0_t1_loop.trips).1
      = arg15.view.writes (Elt F) G_arg15 [⟨wY, tileY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg13.view.read (Elt F) X_arg13) (arg14.view.read (Elt F) X_arg14) (arg17.view.read (Elt F) G_arg17)⟩] := by
  have e : k0_t1_loop.trips = 4 := by decide
  rw [e, (pb_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg13 X_arg14 G_arg15 G_arg17 4 (le_refl 4)).1,
    harg15.eq_unread (read_piecesY arg15.view G_arg15 (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg13.view.read (Elt F) X_arg13) (arg14.view.read (Elt F) X_arg14) (arg17.view.read (Elt F) G_arg17)),
    harg15.eq_unread (read_wholeY arg15.view G_arg15 (tileY (arg2.view.read (Elt F) X_arg2) (arg3.view.read (Elt F) X_arg3) (arg4.view.read (Elt F) X_arg4) (arg5.view.read (Elt F) X_arg5) (arg6.view.read (Elt F) X_arg6) (arg7.view.read (Elt F) X_arg7) (arg8.view.read (Elt F) X_arg8) (arg9.view.read (Elt F) X_arg9) (arg10.view.read (Elt F) X_arg10) (arg11.view.read (Elt F) X_arg11) (arg13.view.read (Elt F) X_arg13) (arg14.view.read (Elt F) X_arg14) (arg17.view.read (Elt F) G_arg17)))]

/-- What the loop leaves in the state's buffer: one store of the state after the tile's four chunks. -/
theorem loopS (𝒱 : Variants) (c : Dev nD) (bd : Option 𝒱.V) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg13 : BufTy.Contents (Elt F) arg13.view.ty) (X_arg14 : BufTy.Contents (Elt F) arg14.view.ty) (G_arg15 : BufTy.Contents (Elt F) arg15.view.ty) (G_arg17 : BufTy.Contents (Elt F) arg17.view.ty) :
    arg17.view.writes (Elt F) G_arg17 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg13 X_arg14 G_arg15 G_arg17 k0_t1_loop.trips).2
      = arg17.view.writes (Elt F) G_arg17 [⟨wS, stateAt (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) G_arg17) 4⟩] := by
  have e : k0_t1_loop.trips = 4 := by decide
  rw [e, harg17.eq_unread (pb_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 X_arg6 X_arg7 X_arg8 X_arg9 X_arg10 X_arg11 X_arg13 X_arg14 G_arg15 G_arg17 4 (le_refl 4)).2,
    harg17.eq_unread (read_wholeS arg17.view G_arg17 (stateAt (arg3.view.read (Elt F) X_arg3) (arg4.view.read (Elt F) X_arg4) (arg6.view.read (Elt F) X_arg6) (arg7.view.read (Elt F) X_arg7) (arg10.view.read (Elt F) X_arg10) (arg11.view.read (Elt F) X_arg11) (arg17.view.read (Elt F) G_arg17) 4) [])]

end Cert.KernelIdeal.Ret
end
-- ==== Proof.RunA.lean ====
module

public import proofs.«01_k».proof.Proof.Runs
public import proofs.«01_k».proof.Proof.Tile

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a batch's first tile: it loads the initial state, runs the chunks and leaves the tile and the state. -/
noncomputable def kernelRun0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) :
    Σ' (L13 : List (View.Piece (Elt F) S1x256x1024 .bf16)), Σ' (L14 : List (View.Piece (Elt F) S1x8x128x128 .f32)), { LS0 : List (View.Piece (Elt F) S1x8x128x128 .f32) //
      ∀ (xi14 : Vec F S1x8x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare xi14 ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ owns (c : Thread nD τ) arg16 fullShare xi14 ∗ (∃ f, arg17.view.loc (c : Thread nD τ) ↦[arg17.view.set]{fullShare} arg17.view.writes (Elt F) f LS0)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], ?_, fun xi14 E K => ?run⟩
  case run =>
    simp only [cc0_retention_eq_skeleton]; unfold cc0_retention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg16.eq_unread hf14
    sl_exec (disch := first | sl_exact hc0 | sl_exact hc1)
    sl_step
    rw [Ret.loopY, View.writes_append, Ret.loopS]
    delta kernelRun0_A.sl.HS0_1
    simp only [Ret.read_wholeS, Memref.IsWhole.read_unread, View.readAt_eq_ld]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]
    · iexists _; isplitr; · ipureintro; exact harg16.read_unread _
      iexact H14
    iexists _; iexact HS0

end Cert.KernelIdeal.Gen

end
-- ==== Proof.RunB.lean ====
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a tile in the middle of a batch: from the state carried over to the next. -/
noncomputable def kernelRun0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) :
    Σ' (L13 : List (View.Piece (Elt F) S1x256x1024 .bf16)), Σ' (L14 : List (View.Piece (Elt F) S1x8x128x128 .f32)), { LS0 : List (View.Piece (Elt F) S1x8x128x128 .f32) //
      ∀ (xi14 : Vec F S1x8x128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare xi14 ∗ owns (c : Thread nD τ) arg17 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ owns (c : Thread nD τ) arg16 fullShare xi14 ∗ (∃ f, arg17.view.loc (c : Thread nD τ) ↦[arg17.view.set]{fullShare} arg17.view.writes (Elt F) f LS0)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], ?_, fun xi14 E K => ?run⟩
  case run =>
    simp only [cc0_retention_eq_skeleton]; unfold cc0_retention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg16.eq_unread hf14; obtain rfl := harg17.eq_unread hfs0
    sl_exec (disch := first | sl_exact hc0 | sl_exact hc1)
    sl_step
    rw [Ret.loopY, Ret.loopS]
    simp only [Memref.IsWhole.read_unread]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]
    · iexists _; isplitr; · ipureintro; exact harg16.read_unread _
      iexact H14
    iexists _; iexact HS0

end Cert.KernelIdeal.Gen

end
-- ==== Proof.RunC.lean ====
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a batch's last tile: it also copies the state out. -/
noncomputable def kernelRun0_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) :
    Σ' (L13 : List (View.Piece (Elt F) S1x256x1024 .bf16)), Σ' (L14 : List (View.Piece (Elt F) S1x8x128x128 .f32)), { LS0 : List (View.Piece (Elt F) S1x8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ owns (c : Thread nD τ) arg17 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_retention_eq_skeleton]; unfold cc0_retention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hfs0
    sl_exec (disch := first | sl_exact hc0 | sl_exact hc1)
    sl_step
    delta kernelRun0_C.sl.v7
    rw [Ret.loopY, Ret.loopS]
    simp only [Ret.read_wholeS, Memref.IsWhole.read_unread, View.readAt_eq_ld]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    iexists _; iexact HS0

end Cert.KernelIdeal.Gen

end
-- ==== Proof.Frame.lean ====
module

public import proofs.«01_k».proof.Proof.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 13 tile its block (32 stores of `S1x64x128`, checked by the kernel's evaluation: Lib/Ring.lean `Piece.tiledL`, linear in the pieces, through a loop's `@[irreducible]` trip theorem too), so they cover it. -/
theorem cover0_A_13 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (y : S1x256x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12).1 S1x256x1024.size (by sl_kernel_rfl) y

/-- What case A leaves in output 13's staging buffer: its pieces read back over junk. -/
def out0_A_13 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) : Vec F S1x256x1024 .bf16 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12).1)

/-- Case A stores nothing into output 14 (the window is idle at its points and not written back there):
    no pieces — a placeholder (junk read back) that nothing consults, since at these points the window is neither
    written back nor read at the next point (Lib/Pipeline.lean "Idle points"). -/
def out0_A_14 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) : Vec F S1x8x128x128 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12).2.1)

/-- Case A's pieces for scratch `arg17`, which the kernel carries between points, cover it: one of them a store of the WHOLE buffer (Lib/Ring.lean `sl_whole_mem`). -/
theorem scover0_A_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (y : S1x8x128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12).2.2.1 (by sl_whole_mem) y

/-- What case A leaves in scratch `arg17`: its pieces read back over junk. -/
def sout0_A_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) : Vec F S1x8x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12).2.2.1)

/-- Case B's pieces for output 13 tile its block (32 stores of `S1x64x128`, checked by the kernel's evaluation: Lib/Ring.lean `Piece.tiledL`, linear in the pieces, through a loop's `@[irreducible]` trip theorem too), so they cover it. -/
theorem cover0_B_13 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) (y : S1x256x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).1 S1x256x1024.size (by sl_kernel_rfl) y

/-- What case B leaves in output 13's staging buffer: its pieces read back over junk. -/
def out0_B_13 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) : Vec F S1x256x1024 .bf16 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).1)

/-- Case B stores nothing into output 14 (the window is idle at its points and not written back there):
    no pieces — a placeholder (junk read back) that nothing consults, since at these points the window is neither
    written back nor read at the next point (Lib/Pipeline.lean "Idle points"). -/
def out0_B_14 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) : Vec F S1x8x128x128 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).2.1)

/-- Case B's pieces for scratch `arg17`, which the kernel carries between points, cover it: 32 pieces of `S1x1x128x128` tiling it (Lib/Ring.lean `Piece.tiledL`). -/
theorem scover0_B_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) (y : S1x8x128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).2.2.1 S1x8x128x128.size (by sl_kernel_rfl) y

/-- What case B leaves in scratch `arg17`: its pieces read back over junk. -/
def sout0_B_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) : Vec F S1x8x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).2.2.1)

/-- Case C's pieces for output 13 tile its block (32 stores of `S1x64x128`, checked by the kernel's evaluation: Lib/Ring.lean `Piece.tiledL`, linear in the pieces, through a loop's `@[irreducible]` trip theorem too), so they cover it. -/
theorem cover0_C_13 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) (y : S1x256x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).1 S1x256x1024.size (by sl_kernel_rfl) y

/-- What case C leaves in output 13's staging buffer: its pieces read back over junk. -/
def out0_C_13 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) : Vec F S1x256x1024 .bf16 :=
  VO0_13.read (Elt F) (VO0_13.writes (Elt F) VO0_13.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).1)

/-- Case C's pieces for output 14 tile its block (1 store of `S1x8x128x128`, checked by the kernel's evaluation: Lib/Ring.lean `Piece.tiledL`, linear in the pieces, through a loop's `@[irreducible]` trip theorem too), so they cover it. -/
theorem cover0_C_14 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) (y : S1x8x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).2.1 S1x8x128x128.size (by sl_kernel_rfl) y

/-- What case C leaves in output 14's staging buffer: its pieces read back over junk. -/
def out0_C_14 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) : Vec F S1x8x128x128 .f32 :=
  VO0_14.read (Elt F) (VO0_14.writes (Elt F) VO0_14.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).2.1)

/-- Case C's pieces for scratch `arg17`, which the kernel carries between points, cover it: 32 pieces of `S1x1x128x128` tiling it (Lib/Ring.lean `Piece.tiledL`). -/
theorem scover0_C_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) (y : S1x8x128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).2.2.1 S1x8x128x128.size (by sl_kernel_rfl) y

/-- What case C leaves in scratch `arg17`: its pieces read back over junk. -/
def sout0_C_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) : Vec F S1x8x128x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1024 .bf16 × Vec F S1x8x128x128 .f32 × Vec F S1x8x128x128 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 8 = 0 then
      if h1 : (n + 1) % 8 = 7 then
        False.elim (by have hN : n + 1 < 32 := lt_of_lt_of_eq hn (show cfg0.N = 32 from N_0); omega)
      else
        (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      if h1 : (n + 1) % 8 = 7 then
        (out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2)
      else
        (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2)

/-- `outsAt0` at a point of case A: that case's contents. -/
theorem outsAt0_A (c : Dev nD) (t : Fin cfg0.N) (h0 : t.val % 8 = 0) (h1 : ¬t.val % 8 = 7) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [Dat.leavesExact_idle (dats m 0 c) 14 t (idleAt0_14_A t ((hcond0_0 t).mpr h0) (fun h => h1 ((hcond0_1 t).mp h))) (noFlush0_14_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_13 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexact H14
        isplitl [HS0]; · iexact HS0
        iintro ⟨H0, H1, H2, H3, H4, H5, H6, H7, H8, H9, H10, H11, H12, ⟨%e13, H13⟩, H14, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
        iexists _; iexact H14
      · rw [PhiS_castSucc m c t, PhiS_pos m c _ _ hz]
        rw [outsAt0_A m c t h0 h1]
        unfold out0_A_13 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexact H14
        isplitl [HS0]; · iexists _; iexact HS0
        iintro ⟨H0, H1, H2, H3, H4, H5, H6, H7, H8, H9, H10, H11, H12, ⟨%e13, H13⟩, H14, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _)
        iexists _; iexact H14
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14_C t (fun h => h0 ((hcond0_0 t).mp h)) ((hcond0_1 t).mpr h1)], after0_14]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold out0_C_13 out0_C_14 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [HS0]; · iexact HS0
        iintro ⟨H0, H1, H2, H3, H4, H5, H6, H7, H8, H9, H10, H11, H12, ⟨%e13, H13⟩, ⟨%e14, H14⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H14
        ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [Dat.leavesExact_idle (dats m 0 c) 14 t (idleAt0_14_B t (fun h => h0 ((hcond0_0 t).mp h)) (fun h => h1 ((hcond0_1 t).mp h))) (noFlush0_14_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold out0_B_13 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexact H14
        isplitl [HS0]; · iexact HS0
        iintro ⟨H0, H1, H2, H3, H4, H5, H6, H7, H8, H9, H10, H11, H12, ⟨%e13, H13⟩, H14, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _)
        iexists _; iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KFrame.lean ====
module

public import proofs.«01_k».proof.Proof.Gen.Kernel.Launch
public import proofs.«01_k».proof.Proof.Frame

@[expose] public section
noncomputable section

/-! The retention kernel before idealising: its program is, operation by operation, the one read over the extended reals, so what the
    frame of that one says over any float values holds here too. -/

namespace Cert.Kernel.Gen
open Idealize.ShloMosaic Idealize.SL.Sem
variable {F : FTy → Type} [FloatOps F]
set_option maxRecDepth 65536
set_option maxHeartbeats 20000000
/-- The body is the one of the program read over the extended reals, operation by operation. -/
theorem body_eq : @Cert.Kernel.cc0_retention F _ Cert.Kernel.Gen.facts = @Cert.KernelIdeal.cc0_retention F _ Cert.KernelIdeal.Gen.facts := rfl

/-- So the table of bodies is that program's. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) (funext fun l => funext fun a => ?_)
  match l, a with
  | ⟨0, _⟩, (t, s) => exact congrArg (fun k : type_of% (@Cert.KernelIdeal.cc0_retention F _ Cert.KernelIdeal.Gen.facts) => k (Cert.KernelIdeal.grid0.coords t) _ _ _ _ _ _ _ _ _ _ _ _ _ _ _ _ _ _ _ _ _ _ _ _ _ _ _ _ _ _ _ _) body_eq
/-- And so is the table with the pipeline's labels. -/
theorem defs_eq : @Cert.KernelIdeal.defs F _ Cert.KernelIdeal.Gen.facts = @Cert.Kernel.defs F _ Cert.Kernel.Gen.facts :=
  congrArg (Pipeline.defs Cert.KernelIdeal.pcfgs) defs₀_eq.symm

/-- The host code is that program's as well. -/
theorem main_eq : @Cert.KernelIdeal.main F _ Cert.KernelIdeal.Gen.facts = @Cert.Kernel.main F _ Cert.Kernel.Gen.facts := rfl

variable (m : (ℓ : Loc nD τ sig) → Buf (Elt F) ℓ) (ρ : Dev nD → PrngReg)

/-- The frame of the kernel before idealising: it is the same program, so the frame shown for the other holds for it. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have h := Cert.KernelIdeal.Gen.frame (F := F) m ρ
  rw [defs_eq, main_eq] at h
  exact h

end Cert.Kernel.Gen
end
-- ==== Proof.Value.lean ====
module

public import proofs.«01_k».proof.Proof.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 13's array: the run's contents for that window after the body (`Gen.outsAt0`: its component 0), read through the window's block. -/
theorem flushed13 (c : Dev nD) (t : Fin cfg0.N) :
    (dats m 0 c).flushed 13 t = (cfg0.win 13).cut (grid0.coords t) ((outsAt0 m c t.val t.isLt).1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 8 = 0) (h1 : ¬t.val % 8 = 7) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed13, outsAt0_A m c t h0 h1]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 8 = 0) (h1 : ¬t.val % 8 = 7) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2) := by
  simp only [flushed13, outsAt0_B m c t h0 h1]

/-- … so at a point where case C runs, what its write-back would write is that case's NAMED TERM for the window (`Gen.out0_C_13`: the pieces
    its run found, read back) at the point's memrefs and input blocks, and for an output the case reads back what the point before left (`Gen.outsAt0` at `t - 1`) — by the frame's rewriting lemma for the case. -/
theorem flushed13_C (c : Dev nD) (t : Fin cfg0.N) (h0 : ¬t.val % 8 = 0) (h1 : t.val % 8 = 7) :
    (dats m 0 c).flushed 13 t = (cfg0.win 13).cut (grid0.coords t) (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2) := by
  simp only [flushed13, outsAt0_C m c t h0 h1]

/-- The index map sends distinct grid points to distinct block indices (decided over the 32 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S4x2048x1024.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 1), read through the window's block. -/
theorem flushed14 (c : Dev nD) (t : Fin cfg0.N) :
    (dats m 0 c).flushed 14 t = (cfg0.win 14).cut (grid0.coords t) ((outsAt0 m c t.val t.isLt).2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — by the frame's rewriting lemma for the case. -/
theorem flushed14_A (c : Dev nD) (t : Fin cfg0.N) (h0 : t.val % 8 = 0) (h1 : ¬t.val % 8 = 7) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed14, outsAt0_A m c t h0 h1]

/-- … so at a point where case B runs, what its write-back would write is that case's NAMED TERM for the window (`Gen.out0_B_14`: the pieces
    its run found, read back) at the point's memrefs and input blocks, and for an output the case reads back what the point before left (`Gen.outsAt0` at `t - 1`) — by the frame's rewriting lemma for the case. -/
theorem flushed14_B (c : Dev nD) (t : Fin cfg0.N) (h0 : ¬t.val % 8 = 0) (h1 : ¬t.val % 8 = 7) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2) := by
  simp only [flushed14, outsAt0_B m c t h0 h1]

/-- … so at a point where case C runs, what its write-back would write is that case's NAMED TERM for the window (`Gen.out0_C_14`: the pieces
    its run found, read back) at the point's memrefs and input blocks, and for an output the case reads back what the point before left (`Gen.outsAt0` at `t - 1`) — by the frame's rewriting lemma for the case. -/
theorem flushed14_C (c : Dev nD) (t : Fin cfg0.N) (h0 : ¬t.val % 8 = 0) (h1 : t.val % 8 = 7) :
    (dats m 0 c).flushed 14 t = (cfg0.win 14).cut (grid0.coords t) (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2) := by
  simp only [flushed14, outsAt0_C m c t h0 h1]

-- no `blocks14`: window 14's index map revisits a block index, or its points could not be enumerated here;
-- the final array is still the frame's `arrAt`, to read with Lib/Pipeline/Value.lean's lemmas by hand

/-- An index that no flushing point's block covers keeps output window 14's array contents at region entry. -/
theorem entry14 (c : Dev nD) (i : S4x8x128x128.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v87_0) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v87_1) = (dats m 0 c).arrAt 14 cfg0.N :=
  (h c).1 14

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: input window 10 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 10).trans (((dats m 0 c).arrAt_in 10 rfl _).trans ((A_eq m c 10).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v87_0) = (dats m 0 c).arrAt 13 cfg0.N
      ∧ r.2.mem ((c : Thread nD τ).loc main_v87_1) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post13 m r h c,
      post14 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 8)
    stores the scratch whole without reading what it held, and `acc` does not enter there (nor where no point meets the
    conditions: `acc`, never read). -/
def scAt0_0 (c : Dev nD) (n : ℕ) (hb : n < cfg0.N) (acc : Vec F S1x8x128x128 .f32) : Vec F S1x8x128x128 .f32 :=
  if h0 : n % 8 = 0 then
    if h1 : n % 8 = 7 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N))
  else
    if h1 : n % 8 = 7 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc

/-- WHAT CARRIED SCRATCH 0 HOLDS after point `t`: the fold of its run up to `t`, from the reset at the run's first point
    `8·(t / 8)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (8 * (t.val / 8)) (t.val % 8)
      (by have h1 := t.isLt; have h2 := Nat.div_add_mod t.val 8; omega) :=
  Pipeline.eq_accAt_of_mod (fun n h => (outsAt0 m c n h).2.2) 8 (fun n h => scAt0_0 m c n h (VS0_0.read (Elt F) VS0_0.junk)) (scAt0_0 m c)
    (fun n h hn => by
      have hN := lt_of_lt_of_eq h (show cfg0.N = 32 from N_0)
      by_cases h0 : n % 8 = 0 <;> by_cases h1 : n % 8 = 7
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 32 from N_0)
      by_cases h0 : (n + 1) % 8 = 0 <;> by_cases h1 : (n + 1) % 8 = 7
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x256x1024 .bf16 × Vec F S1x8x128x128 .f32 × Vec F S1x8x128x128 .f32 :=
  ((VO0_13.read (Elt F) VO0_13.junk, VO0_14.read (Elt F) VO0_14.junk, VS0_0.read (Elt F) VS0_0.junk) : Vec F S1x256x1024 .bf16 × Vec F S1x8x128x128 .f32 × Vec F S1x8x128x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x256x1024 .bf16 × Vec F S1x8x128x128 .f32 × Vec F S1x8x128x128 .f32) : Vec F S1x256x1024 .bf16 × Vec F S1x8x128x128 .f32 × Vec F S1x8x128x128 .f32 :=
  if h0 : n % 8 = 0 then
    if h1 : n % 8 = 7 then
      False.elim (by have hN : n < 32 := lt_of_lt_of_eq hb (show cfg0.N = 32 from N_0); omega)
    else
      (out0_A_13 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)), out0_A_14 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)))
  else
    if h1 : n % 8 = 7 then
      (out0_C_13 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc.2.2, out0_C_14 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc.2.2)
    else
      (out0_B_13 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc.2.2, out0_B_14 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc.2.2)

/-- `stAt0` at a point of case A: that case's contents. -/
theorem stAt0_A (c : Dev nD) (t : Fin cfg0.N) (acc : Vec F S1x256x1024 .bf16 × Vec F S1x8x128x128 .f32 × Vec F S1x8x128x128 .f32) (h0 : t.val % 8 = 0) (h1 : ¬t.val % 8 = 7) :
    stAt0 m c t.val t.isLt acc = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) :=
  (dif_pos h0).trans ((dif_neg h1).trans rfl)

/-- `stAt0` at a point of case B: that case's contents, over `acc`. -/
theorem stAt0_B (c : Dev nD) (t : Fin cfg0.N) (acc : Vec F S1x256x1024 .bf16 × Vec F S1x8x128x128 .f32 × Vec F S1x8x128x128 .f32) (h0 : ¬t.val % 8 = 0) (h1 : ¬t.val % 8 = 7) :
    stAt0 m c t.val t.isLt acc = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2.2) :=
  (dif_neg h0).trans ((dif_neg h1).trans rfl)

/-- `stAt0` at a point of case C: that case's contents, over `acc`. -/
theorem stAt0_C (c : Dev nD) (t : Fin cfg0.N) (acc : Vec F S1x256x1024 .bf16 × Vec F S1x8x128x128 .f32 × Vec F S1x8x128x128 .f32) (h0 : ¬t.val % 8 = 0) (h1 : t.val % 8 = 7) :
    stAt0 m c t.val t.isLt acc = (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 32 from N_0)
  have e := Pipeline.eq_accAt_of_mod (fun n h => outsAt0 m c n h) 32 (fun n h => stAt0 m c n h junk0) (stAt0 m c)
    (fun n h _ => by
      have hN := lt_of_lt_of_eq h (show cfg0.N = 32 from N_0)
      obtain rfl : n = 0 := by omega
      exact outsAt0_zero m c h)
    (fun n h _ => outsAt0_succ m c n h)
    (by decide) n hn (by have := Nat.div_add_mod n 32; omega)
  have hd : n / 32 = 0 := Nat.div_eq_of_lt hN
  have hm : n % 32 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 13 -/

/-- The block of the array that holds index `i`, numbered in the order the points write the blocks back (one per point),
    `i`'s place in it, and the point that writes it back. -/
abbrev run13Of (i : S4x2048x1024.Idx) : ℕ := 8 * ((i 0).val / 1 - 0) + 1 * ((i 1).val / 256 - 0) + 1 * ((i 2).val / 1024 - 0)
set_option backward.proofsInPublic true in
abbrev loc13Of (i : S4x2048x1024.Idx) : S1x256x1024.Idx := fun a => match a with
  | ⟨0, _⟩ => ⟨(i 0).val % 1, Nat.mod_lt _ (by decide)⟩
  | ⟨1, _⟩ => ⟨(i 1).val % 256, Nat.mod_lt _ (by decide)⟩
  | ⟨2, _⟩ => ⟨(i 2).val % 1024, Nat.mod_lt _ (by decide)⟩
abbrev pt13Of (i : S4x2048x1024.Idx) : ℕ := run13Of i

/-- WHAT THE ARRAY ENDS HOLDING at index `i` inside the box the flushing blocks fill: output 13's component of the carried
    state's fold at the point that writes `i`'s block back, at `i`'s place in the block. `G13` states the array's contents
    only inside the box. -/
def G13 (c : Dev nD) : Buf (Elt F) ((c : Thread nD τ).loc main_v87_0) := fun i =>
  if h : pt13Of i < cfg0.N then
    (Pipeline.accAt (fun n h => stAt0 m c n h junk0) (stAt0 m c) 0 (pt13Of i) (by omega)).1 (loc13Of i)
  else V m c (Pipeline.arrRef spec0 13) i

/-- The printed index map, decided over the grid: output window 13's block indices stay in the box, and the block number
    read off them is the point's (`t`). -/
theorem idx_facts13 : ∀ t : Fin cfg0.N, 0 ≤ win0_13.index t (0 : Fin 3) ∧ win0_13.index t (0 : Fin 3) ≤ 3
    ∧ 0 ≤ win0_13.index t (1 : Fin 3) ∧ win0_13.index t (1 : Fin 3) ≤ 7
    ∧ 0 ≤ win0_13.index t (2 : Fin 3) ∧ win0_13.index t (2 : Fin 3) ≤ 0
    ∧ 8 * (win0_13.index t (0 : Fin 3) - 0) + 1 * (win0_13.index t (1 : Fin 3) - 0) + 1 * (win0_13.index t (2 : Fin 3) - 0) = t.val :=
  (by decide +kernel : ∀ t : Fin grid0.N, _)

/-- Every block of the box is SOME flushing point's: `onto13Pt`, the point that writes back the block at place `q` of the box. -/
abbrev onto13Pt (q0 : Fin 4) (q1 : Fin 8) (q2 : Fin 1) : Fin grid0.N :=
  ⟨8 * q0.val + 1 * q1.val + 1 * q2.val, lt_of_lt_of_eq (by omega) N_0.symm⟩
theorem idx_onto13 : ∀ (q0 : Fin 4) (q1 : Fin 8) (q2 : Fin 1), ∃ t : Fin cfg0.N, (cfg0.win 13).flush t = true ∧ win0_13.index t = ![q0.val + 0, q1.val + 0, q2.val + 0] :=
  fun q0 q1 q2 => ⟨onto13Pt q0 q1 q2, (by decide +kernel : ∀ (q0 : Fin 4) (q1 : Fin 8) (q2 : Fin 1), win0_13.flush (onto13Pt q0 q1 q2) = true ∧ win0_13.index (onto13Pt q0 q1 q2) = ![q0.val + 0, q1.val + 0, q2.val + 0]) q0 q1 q2⟩

/-- WHAT A FLUSHING POINT `t` WRITES BACK is block `t` of `G13`: output 13's component of the fold up to `t`. -/
theorem flushed13_eq (c : Dev nD) (t : Fin cfg0.N) (hf : (cfg0.win 13).flush t = true) :
    (dats m 0 c).flushed 13 t = ((cfg0.win 13).blk t).view.read (Elt F) (G13 m c) := by
  show (cfg0.win 13).cut (grid0.coords t) ((dats m 0 c).after 13 t) = _
  rw [after0_13, outsAt0_sweep]
  obtain ⟨e0, e1, e2, e3⟩ := idx_facts13 t
  funext y
  have hy0 : (y 0).val < 1 := (y 0).isLt
  have hy1 : (y 1).val < 256 := (y 1).isLt
  have hy2 : (y 2).val < 1024 := (y 2).isLt
  have hb0 : (((cfg0.win 13).blk t).view.emb y 0).val = win0_13.index t (0 : Fin 3) * 1 + 1 * (y 0).val := rfl
  have hb1 : (((cfg0.win 13).blk t).view.emb y 1).val = win0_13.index t (1 : Fin 3) * 256 + 1 * (y 1).val := rfl
  have hb2 : (((cfg0.win 13).blk t).view.emb y 2).val = win0_13.index t (2 : Fin 3) * 1024 + 1 * (y 2).val := rfl
  have hr : run13Of (((cfg0.win 13).blk t).view.emb y) = t.val := by
    show 8 * ((((cfg0.win 13).blk t).view.emb y 0).val / 1 - 0) + 1 * ((((cfg0.win 13).blk t).view.emb y 1).val / 256 - 0) + 1 * ((((cfg0.win 13).blk t).view.emb y 2).val / 1024 - 0) = _
    rw [hb0, hb1, hb2]
    rw [show (win0_13.index t (0 : Fin 3) * 1 + 1 * (y 0).val) / 1 = win0_13.index t (0 : Fin 3) from by omega]; rw [show (win0_13.index t (1 : Fin 3) * 256 + 1 * (y 1).val) / 256 = win0_13.index t (1 : Fin 3) from by omega]; rw [show (win0_13.index t (2 : Fin 3) * 1024 + 1 * (y 2).val) / 1024 = win0_13.index t (2 : Fin 3) from by omega]
    omega
  have hl : loc13Of (((cfg0.win 13).blk t).view.emb y) = (cfg0.win 13).xinj (grid0.coords t) y := by
    funext a; apply Fin.ext
    match a with
    | ⟨0, _⟩ => show (((cfg0.win 13).blk t).view.emb y 0).val % 1 = (y 0).val; rw [hb0]; omega
    | ⟨1, _⟩ => show (((cfg0.win 13).blk t).view.emb y 1).val % 256 = (y 1).val; rw [hb1]; omega
    | ⟨2, _⟩ => show (((cfg0.win 13).blk t).view.emb y 2).val % 1024 = (y 2).val; rw [hb2]; omega
  have hp : pt13Of (((cfg0.win 13).blk t).view.emb y) = t.val := by
    exact hr
  show (Pipeline.accAt (fun n h => stAt0 m c n h junk0) (stAt0 m c) 0 t.val _).1 ((cfg0.win 13).xinj (grid0.coords t) y) = G13 m c (((cfg0.win 13).blk t).view.emb y)
  unfold G13
  rw [dif_pos (by rw [hp]; exact t.isLt), hl, fold0_congr m c _ _ _ _ hp.symm]

/-- An index of the array is in point `t`'s block iff each coordinate is in the block's range on its axis. -/
theorem mem_blk13 (t : Fin cfg0.N) (i : S4x2048x1024.Idx) :
    i ∈ ((cfg0.win 13).blk t).view.set ↔ ∀ a : Fin 3, win0_13.index t a * S1x256x1024.size a ≤ (i a).val ∧ (i a).val < win0_13.index t a * S1x256x1024.size a + S1x256x1024.size a := by
  show i ∈ ((View.whole main_v87_0).slice (win0_13.rect t)).set ↔ _
  rw [View.set_slice_whole, Rect.mem_set_unit]
  exact Iff.rfl

/-- THE COVERED INDICES: in some flushing point's block iff inside the box those blocks fill. -/
theorem covered_iff13 (i : S4x2048x1024.Idx) :
    (∃ t : Fin cfg0.N, (cfg0.win 13).flush t = true ∧ i ∈ ((cfg0.win 13).blk t).view.set) ↔ 0 ≤ (i 0).val ∧ (i 0).val < 4 ∧ 0 ≤ (i 1).val ∧ (i 1).val < 2048 ∧ 0 ≤ (i 2).val ∧ (i 2).val < 1024 := by
  constructor
  · rintro ⟨t, -, hi⟩
    rw [mem_blk13] at hi
    have b0 : win0_13.index t (0 : Fin 3) * 1 ≤ (i 0).val ∧ (i 0).val < win0_13.index t (0 : Fin 3) * 1 + 1 := hi 0
    have b1 : win0_13.index t (1 : Fin 3) * 256 ≤ (i 1).val ∧ (i 1).val < win0_13.index t (1 : Fin 3) * 256 + 256 := hi 1
    have b2 : win0_13.index t (2 : Fin 3) * 1024 ≤ (i 2).val ∧ (i 2).val < win0_13.index t (2 : Fin 3) * 1024 + 1024 := hi 2
    obtain ⟨e0, e1, e2, e3⟩ := idx_facts13 t
    omega
  · intro h
    have hi0 : (i 0).val < 4 := (i 0).isLt
    have hi1 : (i 1).val < 2048 := (i 1).isLt
    have hi2 : (i 2).val < 1024 := (i 2).isLt
    obtain ⟨t, hft, ht⟩ := idx_onto13 ⟨(i 0).val / 1 - 0, by omega⟩ ⟨(i 1).val / 256 - 0, by omega⟩ ⟨(i 2).val / 1024 - 0, by omega⟩
    have q0 : win0_13.index t (0 : Fin 3) = (i 0).val / 1 - 0 + 0 := congrFun ht 0
    have q1 : win0_13.index t (1 : Fin 3) = (i 1).val / 256 - 0 + 0 := congrFun ht 1
    have q2 : win0_13.index t (2 : Fin 3) = (i 2).val / 1024 - 0 + 0 := congrFun ht 2
    refine ⟨t, hft, ?_⟩
    rw [mem_blk13]
    intro a
    match a with
    | ⟨0, _⟩ => show win0_13.index t (0 : Fin 3) * 1 ≤ (i 0).val ∧ (i 0).val < win0_13.index t (0 : Fin 3) * 1 + 1; omega
    | ⟨1, _⟩ => show win0_13.index t (1 : Fin 3) * 256 ≤ (i 1).val ∧ (i 1).val < win0_13.index t (1 : Fin 3) * 256 + 256; omega
    | ⟨2, _⟩ => show win0_13.index t (2 : Fin 3) * 1024 ≤ (i 2).val ∧ (i 2).val < win0_13.index t (2 : Fin 3) * 1024 + 1024; omega

/-- THE ARRAY after the run: `G13` (the flushing blocks tile it). -/
theorem final13 (c : Dev nD) : (dats m 0 c).arrAt 13 cfg0.N = G13 m c :=
  (dats m 0 c).arrAt_eq_of_cover 13 _ (fun t hf => flushed13_eq m c t hf) (fun i => (covered_iff13 i).2 (by
    have h0 : (i 0).val < 4 := (i 0).isLt; have h1 : (i 1).val < 2048 := (i 1).isLt; have h2 : (i 2).val < 1024 := (i 2).isLt; omega))

/-! ## Output window 14 -/

/-- The block of the array that holds index `i`, numbered in the order the points write the blocks back (one every 8 points),
    `i`'s place in it, and the point that writes it back (the last of its 8). -/
abbrev run14Of (i : S4x8x128x128.Idx) : ℕ := 1 * ((i 0).val / 1 - 0) + 1 * ((i 1).val / 8 - 0) + 1 * ((i 2).val / 128 - 0) + 1 * ((i 3).val / 128 - 0)
set_option backward.proofsInPublic true in
abbrev loc14Of (i : S4x8x128x128.Idx) : S1x8x128x128.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 128, Nat.mod_lt _ (by decide)⟩
  | ⟨3, _⟩ => ⟨(i 3).val % 128, Nat.mod_lt _ (by decide)⟩
abbrev pt14Of (i : S4x8x128x128.Idx) : ℕ := 8 * run14Of i + 7

/-- WHAT THE ARRAY ENDS HOLDING at index `i` inside the box the flushing blocks fill: output 14's component of the carried
    state's fold at the point that writes `i`'s block back, at `i`'s place in the block. `G14` states the array's contents
    only inside the box. -/
def G14 (c : Dev nD) : Buf (Elt F) ((c : Thread nD τ).loc main_v87_1) := fun i =>
  if h : pt14Of i < cfg0.N then
    (Pipeline.accAt (fun n h => stAt0 m c n h junk0) (stAt0 m c) 0 (pt14Of i) (by omega)).2.1 (loc14Of i)
  else V m c (Pipeline.arrRef spec0 14) i

/-- The printed index map, decided over the grid: output window 14's block indices stay in the box, and the block number
    read off them is the point's (`t / 8`). -/
theorem idx_facts14 : ∀ t : Fin cfg0.N, 0 ≤ win0_14.index t (0 : Fin 4) ∧ win0_14.index t (0 : Fin 4) ≤ 3
    ∧ 0 ≤ win0_14.index t (1 : Fin 4) ∧ win0_14.index t (1 : Fin 4) ≤ 0
    ∧ 0 ≤ win0_14.index t (2 : Fin 4) ∧ win0_14.index t (2 : Fin 4) ≤ 0
    ∧ 0 ≤ win0_14.index t (3 : Fin 4) ∧ win0_14.index t (3 : Fin 4) ≤ 0
    ∧ 1 * (win0_14.index t (0 : Fin 4) - 0) + 1 * (win0_14.index t (1 : Fin 4) - 0) + 1 * (win0_14.index t (2 : Fin 4) - 0) + 1 * (win0_14.index t (3 : Fin 4) - 0) = t.val / 8 :=
  (by decide +kernel : ∀ t : Fin grid0.N, _)

/-- Every block of the box is SOME flushing point's: `onto14Pt`, the point that writes back the block at place `q` of the box (the last point of its run). -/
abbrev onto14Pt (q0 : Fin 4) (q1 : Fin 1) (q2 : Fin 1) (q3 : Fin 1) : Fin grid0.N :=
  ⟨8 * (1 * q0.val + 1 * q1.val + 1 * q2.val + 1 * q3.val) + 7, lt_of_lt_of_eq (by omega) N_0.symm⟩
theorem idx_onto14 : ∀ (q0 : Fin 4) (q1 : Fin 1) (q2 : Fin 1) (q3 : Fin 1), ∃ t : Fin cfg0.N, (cfg0.win 14).flush t = true ∧ win0_14.index t = ![q0.val + 0, q1.val + 0, q2.val + 0, q3.val + 0] :=
  fun q0 q1 q2 q3 => ⟨onto14Pt q0 q1 q2 q3, (by decide +kernel : ∀ (q0 : Fin 4) (q1 : Fin 1) (q2 : Fin 1) (q3 : Fin 1), win0_14.flush (onto14Pt q0 q1 q2 q3) = true ∧ win0_14.index (onto14Pt q0 q1 q2 q3) = ![q0.val + 0, q1.val + 0, q2.val + 0, q3.val + 0]) q0 q1 q2 q3⟩

/-- WHAT A FLUSHING POINT `t` WRITES BACK is block `t` of `G14`: output 14's component of the fold up to `t`. -/
theorem flushed14_eq (c : Dev nD) (t : Fin cfg0.N) (hf : (cfg0.win 14).flush t = true) :
    (dats m 0 c).flushed 14 t = ((cfg0.win 14).blk t).view.read (Elt F) (G14 m c) := by
  show (cfg0.win 14).cut (grid0.coords t) ((dats m 0 c).after 14 t) = _
  rw [after0_14, outsAt0_sweep]
  have hm : t.val % 8 = 7 := (flush0_14 t).mp hf
  obtain ⟨e0, e1, e2, e3, e4⟩ := idx_facts14 t
  funext y
  have hy0 : (y 0).val < 1 := (y 0).isLt
  have hy1 : (y 1).val < 8 := (y 1).isLt
  have hy2 : (y 2).val < 128 := (y 2).isLt
  have hy3 : (y 3).val < 128 := (y 3).isLt
  have hb0 : (((cfg0.win 14).blk t).view.emb y 0).val = win0_14.index t (0 : Fin 4) * 1 + 1 * (y 0).val := rfl
  have hb1 : (((cfg0.win 14).blk t).view.emb y 1).val = win0_14.index t (1 : Fin 4) * 8 + 1 * (y 1).val := rfl
  have hb2 : (((cfg0.win 14).blk t).view.emb y 2).val = win0_14.index t (2 : Fin 4) * 128 + 1 * (y 2).val := rfl
  have hb3 : (((cfg0.win 14).blk t).view.emb y 3).val = win0_14.index t (3 : Fin 4) * 128 + 1 * (y 3).val := rfl
  have hr : run14Of (((cfg0.win 14).blk t).view.emb y) = t.val / 8 := by
    show 1 * ((((cfg0.win 14).blk t).view.emb y 0).val / 1 - 0) + 1 * ((((cfg0.win 14).blk t).view.emb y 1).val / 8 - 0) + 1 * ((((cfg0.win 14).blk t).view.emb y 2).val / 128 - 0) + 1 * ((((cfg0.win 14).blk t).view.emb y 3).val / 128 - 0) = _
    rw [hb0, hb1, hb2, hb3]
    rw [show (win0_14.index t (0 : Fin 4) * 1 + 1 * (y 0).val) / 1 = win0_14.index t (0 : Fin 4) from by omega]; rw [show (win0_14.index t (1 : Fin 4) * 8 + 1 * (y 1).val) / 8 = win0_14.index t (1 : Fin 4) from by omega]; rw [show (win0_14.index t (2 : Fin 4) * 128 + 1 * (y 2).val) / 128 = win0_14.index t (2 : Fin 4) from by omega]; rw [show (win0_14.index t (3 : Fin 4) * 128 + 1 * (y 3).val) / 128 = win0_14.index t (3 : Fin 4) from by omega]
    omega
  have hl : loc14Of (((cfg0.win 14).blk t).view.emb y) = (cfg0.win 14).xinj (grid0.coords t) y := by
    funext a; apply Fin.ext
    match a with
    | ⟨0, _⟩ => show (((cfg0.win 14).blk t).view.emb y 0).val % 1 = (y 0).val; rw [hb0]; omega
    | ⟨1, _⟩ => show (((cfg0.win 14).blk t).view.emb y 1).val % 8 = (y 1).val; rw [hb1]; omega
    | ⟨2, _⟩ => show (((cfg0.win 14).blk t).view.emb y 2).val % 128 = (y 2).val; rw [hb2]; omega
    | ⟨3, _⟩ => show (((cfg0.win 14).blk t).view.emb y 3).val % 128 = (y 3).val; rw [hb3]; omega
  have hp : pt14Of (((cfg0.win 14).blk t).view.emb y) = t.val := by
    show 8 * run14Of (((cfg0.win 14).blk t).view.emb y) + 7 = _
    rw [hr]; have := Nat.div_add_mod t.val 8; omega
  show (Pipeline.accAt (fun n h => stAt0 m c n h junk0) (stAt0 m c) 0 t.val _).2.1 ((cfg0.win 14).xinj (grid0.coords t) y) = G14 m c (((cfg0.win 14).blk t).view.emb y)
  unfold G14
  rw [dif_pos (by rw [hp]; exact t.isLt), hl, fold0_congr m c _ _ _ _ hp.symm]

/-- An index of the array is in point `t`'s block iff each coordinate is in the block's range on its axis. -/
theorem mem_blk14 (t : Fin cfg0.N) (i : S4x8x128x128.Idx) :
    i ∈ ((cfg0.win 14).blk t).view.set ↔ ∀ a : Fin 4, win0_14.index t a * S1x8x128x128.size a ≤ (i a).val ∧ (i a).val < win0_14.index t a * S1x8x128x128.size a + S1x8x128x128.size a := by
  show i ∈ ((View.whole main_v87_1).slice (win0_14.rect t)).set ↔ _
  rw [View.set_slice_whole, Rect.mem_set_unit]
  exact Iff.rfl

/-- THE COVERED INDICES: in some flushing point's block iff inside the box those blocks fill. -/
theorem covered_iff14 (i : S4x8x128x128.Idx) :
    (∃ t : Fin cfg0.N, (cfg0.win 14).flush t = true ∧ i ∈ ((cfg0.win 14).blk t).view.set) ↔ 0 ≤ (i 0).val ∧ (i 0).val < 4 ∧ 0 ≤ (i 1).val ∧ (i 1).val < 8 ∧ 0 ≤ (i 2).val ∧ (i 2).val < 128 ∧ 0 ≤ (i 3).val ∧ (i 3).val < 128 := by
  constructor
  · rintro ⟨t, -, hi⟩
    rw [mem_blk14] at hi
    have b0 : win0_14.index t (0 : Fin 4) * 1 ≤ (i 0).val ∧ (i 0).val < win0_14.index t (0 : Fin 4) * 1 + 1 := hi 0
    have b1 : win0_14.index t (1 : Fin 4) * 8 ≤ (i 1).val ∧ (i 1).val < win0_14.index t (1 : Fin 4) * 8 + 8 := hi 1
    have b2 : win0_14.index t (2 : Fin 4) * 128 ≤ (i 2).val ∧ (i 2).val < win0_14.index t (2 : Fin 4) * 128 + 128 := hi 2
    have b3 : win0_14.index t (3 : Fin 4) * 128 ≤ (i 3).val ∧ (i 3).val < win0_14.index t (3 : Fin 4) * 128 + 128 := hi 3
    obtain ⟨e0, e1, e2, e3, e4⟩ := idx_facts14 t
    omega
  · intro h
    have hi0 : (i 0).val < 4 := (i 0).isLt
    have hi1 : (i 1).val < 8 := (i 1).isLt
    have hi2 : (i 2).val < 128 := (i 2).isLt
    have hi3 : (i 3).val < 128 := (i 3).isLt
    obtain ⟨t, hft, ht⟩ := idx_onto14 ⟨(i 0).val / 1 - 0, by omega⟩ ⟨(i 1).val / 8 - 0, by omega⟩ ⟨(i 2).val / 128 - 0, by omega⟩ ⟨(i 3).val / 128 - 0, by omega⟩
    have q0 : win0_14.index t (0 : Fin 4) = (i 0).val / 1 - 0 + 0 := congrFun ht 0
    have q1 : win0_14.index t (1 : Fin 4) = (i 1).val / 8 - 0 + 0 := congrFun ht 1
    have q2 : win0_14.index t (2 : Fin 4) = (i 2).val / 128 - 0 + 0 := congrFun ht 2
    have q3 : win0_14.index t (3 : Fin 4) = (i 3).val / 128 - 0 + 0 := congrFun ht 3
    refine ⟨t, hft, ?_⟩
    rw [mem_blk14]
    intro a
    match a with
    | ⟨0, _⟩ => show win0_14.index t (0 : Fin 4) * 1 ≤ (i 0).val ∧ (i 0).val < win0_14.index t (0 : Fin 4) * 1 + 1; omega
    | ⟨1, _⟩ => show win0_14.index t (1 : Fin 4) * 8 ≤ (i 1).val ∧ (i 1).val < win0_14.index t (1 : Fin 4) * 8 + 8; omega
    | ⟨2, _⟩ => show win0_14.index t (2 : Fin 4) * 128 ≤ (i 2).val ∧ (i 2).val < win0_14.index t (2 : Fin 4) * 128 + 128; omega
    | ⟨3, _⟩ => show win0_14.index t (3 : Fin 4) * 128 ≤ (i 3).val ∧ (i 3).val < win0_14.index t (3 : Fin 4) * 128 + 128; omega

/-- THE ARRAY after the run: `G14` (the flushing blocks tile it). -/
theorem final14 (c : Dev nD) : (dats m 0 c).arrAt 14 cfg0.N = G14 m c :=
  (dats m 0 c).arrAt_eq_of_cover 14 _ (fun t hf => flushed14_eq m c t hf) (fun i => (covered_iff14 i).2 (by
    have h0 : (i 0).val < 4 := (i 0).isLt; have h1 : (i 1).val < 8 := (i 1).isLt; have h2 : (i 2).val < 128 := (i 2).isLt; have h3 : (i 3).val < 128 := (i 3).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v87_0) = G13 m c
      ∧ r.2.mem ((c : Thread nD τ).loc main_v87_1) = G14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post13 m r h c).trans (final13 m c),
      (post14 m r h c).trans (final14 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.StepRun.lean ====
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v130_8) = s.main_v130_8
  f_9 : V0 (Proc.devRef .tc main_v130_9) = s.main_v130_9
  f_0 : V0 (Proc.devRef .tc main_v130_0) = s.main_v130_0
  f_1 : V0 (Proc.devRef .tc main_v130_1) = s.main_v130_1
  f_2 : V0 (Proc.devRef .tc main_v130_2) = s.main_v130_2
  n_7 : V0 (Proc.devRef .tc main_v130_7) = constantI S_ 32 (BitVec.ofNat 32 j)
  k_3 : V0 (Proc.devRef .tc main_v130_3) = Cert.ReferenceIdeal.Step.K_main_v101 (F := F)
  k_4 : V0 (Proc.devRef .tc main_v130_4) = Cert.ReferenceIdeal.Step.K_main_v109 (F := F)
  k_5 : V0 (Proc.devRef .tc main_v130_5) = Cert.ReferenceIdeal.Step.K_main_v120 (F := F)
  k_6 : V0 (Proc.devRef .tc main_v130_6) = Cert.ReferenceIdeal.Step.K_main_v117 (F := F)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x64x8x128 (V0 (Proc.devRef .tc main_v130_0)) (fun k => (((![V0 (Proc.devRef .tc main_v130_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x128_S1x4x64x8x128 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_7]
  try rfl
set_option maxRecDepth 8192 in
theorem al_5 (h : Holds V0 s j) : (res_main_while0b_v165 V0 : (Proc.devRef .tc main_while0b_v165 : DevRef τ sig).ty.Contents (Elt F)) = Cert.ReferenceIdeal.Step.b5 j s := by
  unfold res_main_while0b_v165 Cert.ReferenceIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x64x8x128 (V0 (Proc.devRef .tc main_v130_1)) (fun k => (((![V0 (Proc.devRef .tc main_v130_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x128_S1x4x64x8x128 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_7]
  try rfl
set_option maxRecDepth 8192 in
theorem al_11 (h : Holds V0 s j) : (res_main_while0b_v166 V0 : (Proc.devRef .tc main_while0b_v166 : DevRef τ sig).ty.Contents (Elt F)) = Cert.ReferenceIdeal.Step.b11 j s := by
  unfold res_main_while0b_v166 Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x64x8x128 (V0 (Proc.devRef .tc main_v130_2)) (fun k => (((![V0 (Proc.devRef .tc main_v130_7), constantI S_ 32 0#32, constantI S_ 32 0#32, constantI S_ 32 0#32, constantI S_ 32 0#32] : Fin 5 → (⟨S_, .i32⟩ : BufTy).Contents (Elt F))) k (Shape.Idx.first h_S_)).toInt) sliceFits_S32x4x64x8x128_S1x4x64x8x128 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_7]
  try rfl
set_option maxRecDepth 8192 in
theorem al_17 (h : Holds V0 s j) : (res_main_while0b_v167 V0 : (Proc.devRef .tc main_while0b_v167 : DevRef τ sig).ty.Contents (Elt F)) = Cert.ReferenceIdeal.Step.b17 j s := by
  unfold res_main_while0b_v167 Cert.ReferenceIdeal.Step.b17
  rw [← al_16 h]
  try rfl
set_option maxRecDepth 8192 in
theorem al_18 (h : Holds V0 s j) : (Host.dotGeneral dot_S4x64x8x128_S4x64x8x128_S4x8x64x64_3_3_1_1_02_02 none (res_main_while0b_v165 V0) (res_main_while0b_v166 V0) : (Proc.devRef .tc main_while0b_v168 : DevRef τ sig).ty.Contents (Elt F)) = Cert.ReferenceIdeal.Step.b18 j s := by
  unfold Cert.ReferenceIdeal.Step.b18
  rw [← al_5 h, ← al_11 h]
  try rfl
set_option maxRecDepth 8192 in
theorem al_19 (h : Holds V0 s j) : (broadcastInDim S1x8x64x64 ![1, 2, 3] bcast_S8x64x64_S1x8x64x64_1_2_3 (V0 (Proc.devRef .tc main_v130_3)) : (Proc.devRef .tc main_while0b_v169 : DevRef τ sig).ty.Contents (Elt F)) = Cert.ReferenceIdeal.Step.b19 j s := by
  unfold Cert.ReferenceIdeal.Step.b19
  rw [h.k_3]
  try rfl
set_option maxRecDepth 8192 in
theorem al_20 (h : Holds V0 s j) : (broadcastInDim S4x8x64x64 ![0, 1, 2, 3] bcast_S1x8x64x64_S4x8x64x64_0_1_2_3 (broadcastInDim S1x8x64x64 ![1, 2, 3] bcast_S8x64x64_S1x8x64x64_1_2_3 (V0 (Proc.devRef .tc main_v130_3))) : (Proc.devRef .tc main_while0b_v170 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (mulf (Host.dotGeneral dot_S4x64x8x128_S4x64x8x128_S4x8x64x64_3_3_1_1_02_02 none (res_main_while0b_v165 V0) (res_main_while0b_v166 V0)) (broadcastInDim S4x8x64x64 ![0, 1, 2, 3] bcast_S1x8x64x64_S4x8x64x64_0_1_2_3 (broadcastInDim S1x8x64x64 ![1, 2, 3] bcast_S8x64x64_S1x8x64x64_1_2_3 (V0 (Proc.devRef .tc main_v130_3)))) : (Proc.devRef .tc main_while0b_v171 : DevRef τ sig).ty.Contents (Elt F)) = Cert.ReferenceIdeal.Step.b21 j s := by
  unfold Cert.ReferenceIdeal.Step.b21
  rw [← al_18 h, ← al_20 h]
  try rfl
set_option maxRecDepth 8192 in
theorem al_22 (h : Holds V0 s j) : (Host.dotGeneral dot_S4x64x8x128_S4x8x64x64_S4x8x128x64_1_3_3_2_02_01 none (res_main_while0b_v167 V0) (mulf (Host.dotGeneral dot_S4x64x8x128_S4x64x8x128_S4x8x64x64_3_3_1_1_02_02 none (res_main_while0b_v165 V0) (res_main_while0b_v166 V0)) (broadcastInDim S4x8x64x64 ![0, 1, 2, 3] bcast_S1x8x64x64_S4x8x64x64_0_1_2_3 (broadcastInDim S1x8x64x64 ![1, 2, 3] bcast_S8x64x64_S1x8x64x64_1_2_3 (V0 (Proc.devRef .tc main_v130_3))))) : (Proc.devRef .tc main_while0b_v172 : DevRef τ sig).ty.Contents (Elt F)) = Cert.ReferenceIdeal.Step.b22 j s := by
  unfold Cert.ReferenceIdeal.Step.b22
  rw [← al_17 h, ← al_21 h]
  try rfl
set_option maxRecDepth 8192 in
theorem al_23 (h : Holds V0 s j) : (transpose S4x64x8x128 [0, 3, 1, 2] (Host.dotGeneral dot_S4x64x8x128_S4x8x64x64_S4x8x128x64_1_3_3_2_02_01 none (res_main_while0b_v167 V0) (mulf (Host.dotGeneral dot_S4x64x8x128_S4x64x8x128_S4x8x64x64_3_3_1_1_02_02 none (res_main_while0b_v165 V0) (res_main_while0b_v166 V0)) (broadcastInDim S4x8x64x64 ![0, 1, 2, 3] bcast_S1x8x64x64_S4x8x64x64_0_1_2_3 (broadcastInDim S1x8x64x64 ![1, 2, 3] bcast_S8x64x64_S1x8x64x64_1_2_3 (V0 (Proc.devRef .tc main_v130_3)))))) transposes_S4x8x128x64_S4x64x8x128_0_3_1_2 : (Proc.devRef .tc main_while0b_v173 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (Host.dotGeneral dot_S4x8x128x128_S4x64x8x128_S4x8x128x64_2_3_3_1_01_02 none (V0 (Proc.devRef .tc main_v130_8)) (res_main_while0b_v165 V0) : (Proc.devRef .tc main_while0b_v174 : DevRef τ sig).ty.Contents (Elt F)) = Cert.ReferenceIdeal.Step.b24 j s := by
  unfold Cert.ReferenceIdeal.Step.b24
  rw [← al_5 h, h.f_8]
  try rfl
set_option maxRecDepth 8192 in
theorem al_25 (h : Holds V0 s j) : (transpose S4x64x8x128 [0, 3, 1, 2] (Host.dotGeneral dot_S4x8x128x128_S4x64x8x128_S4x8x128x64_2_3_3_1_01_02 none (V0 (Proc.devRef .tc main_v130_8)) (res_main_while0b_v165 V0)) transposes_S4x8x128x64_S4x64x8x128_0_3_1_2 : (Proc.devRef .tc main_while0b_v175 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (transpose S64x8 [1, 0] (V0 (Proc.devRef .tc main_v130_4)) transposes_S8x64_S64x8_1_0 : (Proc.devRef .tc main_while0b_v176 : DevRef τ sig).ty.Contents (Elt F)) = Cert.ReferenceIdeal.Step.b26 j s := by
  unfold Cert.ReferenceIdeal.Step.b26
  rw [h.k_4]
  try rfl
set_option maxRecDepth 8192 in
theorem al_27 (h : Holds V0 s j) : (broadcastInDim S1x64x8x1 ![1, 2] bcast_S64x8_S1x64x8x1_1_2 (transpose S64x8 [1, 0] (V0 (Proc.devRef .tc main_v130_4)) transposes_S8x64_S64x8_1_0) : (Proc.devRef .tc main_while0b_v177 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_4)) transposes_S8x64_S64x8_1_0)) : (Proc.devRef .tc main_while0b_v178 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (mulf (transpose S4x64x8x128 [0, 3, 1, 2] (Host.dotGeneral dot_S4x8x128x128_S4x64x8x128_S4x8x128x64_2_3_3_1_01_02 none (V0 (Proc.devRef .tc main_v130_8)) (res_main_while0b_v165 V0)) transposes_S4x8x128x64_S4x64x8x128_0_3_1_2) (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_4)) transposes_S8x64_S64x8_1_0))) : (Proc.devRef .tc main_while0b_v179 : DevRef τ sig).ty.Contents (Elt F)) = Cert.ReferenceIdeal.Step.b29 j s := by
  unfold Cert.ReferenceIdeal.Step.b29
  rw [← al_25 h, ← al_28 h]
  try rfl
set_option maxRecDepth 8192 in
theorem al_30 (h : Holds V0 s j) : (addf (transpose S4x64x8x128 [0, 3, 1, 2] (Host.dotGeneral dot_S4x64x8x128_S4x8x64x64_S4x8x128x64_1_3_3_2_02_01 none (res_main_while0b_v167 V0) (mulf (Host.dotGeneral dot_S4x64x8x128_S4x64x8x128_S4x8x64x64_3_3_1_1_02_02 none (res_main_while0b_v165 V0) (res_main_while0b_v166 V0)) (broadcastInDim S4x8x64x64 ![0, 1, 2, 3] bcast_S1x8x64x64_S4x8x64x64_0_1_2_3 (broadcastInDim S1x8x64x64 ![1, 2, 3] bcast_S8x64x64_S1x8x64x64_1_2_3 (V0 (Proc.devRef .tc main_v130_3)))))) transposes_S4x8x128x64_S4x64x8x128_0_3_1_2) (mulf (transpose S4x64x8x128 [0, 3, 1, 2] (Host.dotGeneral dot_S4x8x128x128_S4x64x8x128_S4x8x128x64_2_3_3_1_01_02 none (V0 (Proc.devRef .tc main_v130_8)) (res_main_while0b_v165 V0)) transposes_S4x8x128x64_S4x64x8x128_0_3_1_2) (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_4)) transposes_S8x64_S64x8_1_0)))) : (Proc.devRef .tc main_while0b_v180 : DevRef τ sig).ty.Contents (Elt F)) = Cert.ReferenceIdeal.Step.b30 j s := by
  unfold Cert.ReferenceIdeal.Step.b30
  rw [← al_23 h, ← al_29 h]
  try rfl
set_option maxRecDepth 8192 in
theorem al_31 (h : Holds V0 s j) : (broadcastInDim S1x8x1x1 ![1] bcast_S8_S1x8x1x1_1 (V0 (Proc.devRef .tc main_v130_5)) : (Proc.devRef .tc main_while0b_v181 : DevRef τ sig).ty.Contents (Elt F)) = Cert.ReferenceIdeal.Step.b31 j s := by
  unfold Cert.ReferenceIdeal.Step.b31
  rw [h.k_5]
  try rfl
set_option maxRecDepth 8192 in
theorem al_32 (h : Holds V0 s j) : (broadcastInDim S4x8x128x128 ![0, 1, 2, 3] bcast_S1x8x1x1_S4x8x128x128_0_1_2_3 (broadcastInDim S1x8x1x1 ![1] bcast_S8_S1x8x1x1_1 (V0 (Proc.devRef .tc main_v130_5))) : (Proc.devRef .tc main_while0b_v182 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (mulf (broadcastInDim S4x8x128x128 ![0, 1, 2, 3] bcast_S1x8x1x1_S4x8x128x128_0_1_2_3 (broadcastInDim S1x8x1x1 ![1] bcast_S8_S1x8x1x1_1 (V0 (Proc.devRef .tc main_v130_5)))) (V0 (Proc.devRef .tc main_v130_8)) : (Proc.devRef .tc main_while0b_v183 : DevRef τ sig).ty.Contents (Elt F)) = Cert.ReferenceIdeal.Step.b33 j s := by
  unfold Cert.ReferenceIdeal.Step.b33
  rw [← al_32 h, h.f_8]
  try rfl
set_option maxRecDepth 8192 in
theorem al_34 (h : Holds V0 s j) : (transpose S64x8 [1, 0] (V0 (Proc.devRef .tc main_v130_6)) transposes_S8x64_S64x8_1_0 : (Proc.devRef .tc main_while0b_v184 : DevRef τ sig).ty.Contents (Elt F)) = Cert.ReferenceIdeal.Step.b34 j s := by
  unfold Cert.ReferenceIdeal.Step.b34
  rw [h.k_6]
  try rfl
set_option maxRecDepth 8192 in
theorem al_35 (h : Holds V0 s j) : (broadcastInDim S1x64x8x1 ![1, 2] bcast_S64x8_S1x64x8x1_1_2 (transpose S64x8 [1, 0] (V0 (Proc.devRef .tc main_v130_6)) transposes_S8x64_S64x8_1_0) : (Proc.devRef .tc main_while0b_v185 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_6)) transposes_S8x64_S64x8_1_0)) : (Proc.devRef .tc main_while0b_v186 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (mulf (res_main_while0b_v166 V0) (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_6)) transposes_S8x64_S64x8_1_0))) : (Proc.devRef .tc main_while0b_v187 : DevRef τ sig).ty.Contents (Elt F)) = Cert.ReferenceIdeal.Step.b37 j s := by
  unfold Cert.ReferenceIdeal.Step.b37
  rw [← al_11 h, ← al_36 h]
  try rfl
set_option maxRecDepth 8192 in
theorem al_38 (h : Holds V0 s j) : (Host.dotGeneral dot_S4x64x8x128_S4x64x8x128_S4x8x128x128_1_1_3_3_02_02 none (mulf (res_main_while0b_v166 V0) (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_6)) transposes_S8x64_S64x8_1_0)))) (res_main_while0b_v167 V0) : (Proc.devRef .tc main_while0b_v188 : DevRef τ sig).ty.Contents (Elt F)) = Cert.ReferenceIdeal.Step.b38 j s := by
  unfold Cert.ReferenceIdeal.Step.b38
  rw [← al_37 h, ← al_17 h]
  try rfl
set_option maxRecDepth 8192 in
theorem al_39 (h : Holds V0 s j) : (addf (mulf (broadcastInDim S4x8x128x128 ![0, 1, 2, 3] bcast_S1x8x1x1_S4x8x128x128_0_1_2_3 (broadcastInDim S1x8x1x1 ![1] bcast_S8_S1x8x1x1_1 (V0 (Proc.devRef .tc main_v130_5)))) (V0 (Proc.devRef .tc main_v130_8))) (Host.dotGeneral dot_S4x64x8x128_S4x64x8x128_S4x8x128x128_1_1_3_3_02_02 none (mulf (res_main_while0b_v166 V0) (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_6)) transposes_S8x64_S64x8_1_0)))) (res_main_while0b_v167 V0)) : (Proc.devRef .tc main_while0b_v189 : DevRef τ sig).ty.Contents (Elt F)) = Cert.ReferenceIdeal.Step.b39 j s := by
  unfold Cert.ReferenceIdeal.Step.b39
  rw [← al_33 h, ← al_38 h]
  try rfl
set_option maxRecDepth 8192 in
theorem al_40 (h : Holds V0 s j) : (broadcastInDim S1x4x64x8x128 ![1, 2, 3, 4] bcast_S4x64x8x128_S1x4x64x8x128_1_2_3_4 (addf (transpose S4x64x8x128 [0, 3, 1, 2] (Host.dotGeneral dot_S4x64x8x128_S4x8x64x64_S4x8x128x64_1_3_3_2_02_01 none (res_main_while0b_v167 V0) (mulf (Host.dotGeneral dot_S4x64x8x128_S4x64x8x128_S4x8x64x64_3_3_1_1_02_02 none (res_main_while0b_v165 V0) (res_main_while0b_v166 V0)) (broadcastInDim S4x8x64x64 ![0, 1, 2, 3] bcast_S1x8x64x64_S4x8x64x64_0_1_2_3 (broadcastInDim S1x8x64x64 ![1, 2, 3] bcast_S8x64x64_S1x8x64x64_1_2_3 (V0 (Proc.devRef .tc main_v130_3)))))) transposes_S4x8x128x64_S4x64x8x128_0_3_1_2) (mulf (transpose S4x64x8x128 [0, 3, 1, 2] (Host.dotGeneral dot_S4x8x128x128_S4x64x8x128_S4x8x128x64_2_3_3_1_01_02 none (V0 (Proc.devRef .tc main_v130_8)) (res_main_while0b_v165 V0)) transposes_S4x8x128x64_S4x64x8x128_0_3_1_2) (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_4)) transposes_S8x64_S64x8_1_0))))) : (Proc.devRef .tc main_while0b_call4_v0 : DevRef τ sig).ty.Contents (Elt F)) = Cert.ReferenceIdeal.Step.b40 j s := by
  unfold Cert.ReferenceIdeal.Step.b40
  rw [← al_30 h]
  try rfl
set_option maxRecDepth 8192 in
theorem al_41 (h : Holds V0 s j) : (constantI S_ 32 0#32 : (Proc.devRef .tc main_while0b_call4_c : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call4_c_0 : DevRef τ sig).ty.Contents (Elt F)) = Cert.ReferenceIdeal.Step.b42 j s := by
  unfold Cert.ReferenceIdeal.Step.b42
  rfl
set_option maxRecDepth 8192 in
theorem al_43 (h : Holds V0 s j) : (constantI S_ 32 0#32 : (Proc.devRef .tc main_while0b_call4_c_1 : DevRef τ sig).ty.Contents (Elt F)) = Cert.ReferenceIdeal.Step.b43 j s := by
  unfold Cert.ReferenceIdeal.Step.b43
  rfl
set_option maxRecDepth 8192 in
theorem al_44 (h : Holds V0 s j) : (constantI S_ 32 0#32 : (Proc.devRef .tc main_while0b_call4_c_2 : DevRef τ sig).ty.Contents (Elt F)) = Cert.ReferenceIdeal.Step.b44 j s := by
  unfold Cert.ReferenceIdeal.Step.b44
  rfl
set_option maxRecDepth 8192 in
theorem al_45 (h : Holds V0 s j) : (Host.dynamicUpdateSlice (V0 (Proc.devRef .tc main_v130_9)) (broadcastInDim S1x4x64x8x128 ![1, 2, 3, 4] bcast_S4x64x8x128_S1x4x64x8x128_1_2_3_4 (addf (transpose S4x64x8x128 [0, 3, 1, 2] (Host.dotGeneral dot_S4x64x8x128_S4x8x64x64_S4x8x128x64_1_3_3_2_02_01 none (res_main_while0b_v167 V0) (mulf (Host.dotGeneral dot_S4x64x8x128_S4x64x8x128_S4x8x64x64_3_3_1_1_02_02 none (res_main_while0b_v165 V0) (res_main_while0b_v166 V0)) (broadcastInDim S4x8x64x64 ![0, 1, 2, 3] bcast_S1x8x64x64_S4x8x64x64_0_1_2_3 (broadcastInDim S1x8x64x64 ![1, 2, 3] bcast_S8x64x64_S1x8x64x64_1_2_3 (V0 (Proc.devRef .tc main_v130_3)))))) transposes_S4x8x128x64_S4x64x8x128_0_3_1_2) (mulf (transpose S4x64x8x128 [0, 3, 1, 2] (Host.dotGeneral dot_S4x8x128x128_S4x64x8x128_S4x8x128x64_2_3_3_1_01_02 none (V0 (Proc.devRef .tc main_v130_8)) (res_main_while0b_v165 V0)) transposes_S4x8x128x64_S4x64x8x128_0_3_1_2) (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_4)) transposes_S8x64_S64x8_1_0)))))) (fun k => (((![V0 (Proc.devRef .tc main_v130_7), constantI S_ 32 0#32, constantI S_ 32 0#32, constantI S_ 32 0#32, constantI S_ 32 0#32] : Fin 5 → (⟨S_, .i32⟩ : BufTy).Contents (Elt F))) k (Shape.Idx.first h_S_)).toInt) updateFits_S32x4x64x8x128_S1x4x64x8x128 : (Proc.devRef .tc main_while0b_v190 : DevRef τ sig).ty.Contents (Elt F)) = Cert.ReferenceIdeal.Step.b45 j s := by
  unfold Cert.ReferenceIdeal.Step.b45
  rw [← al_40 h, ← al_41 h, ← al_42 h, ← al_43 h, ← al_44 h, h.f_9, h.n_7]
  try rfl

/-! One trip's step of the carried values is `step`, field by field; a counter steps to the next number. -/

theorem step_8 (h : Holds V0 s j) : step_main_v130_8 V0 = (step j s).main_v130_8 := by
  unfold step_main_v130_8 Cert.ReferenceIdeal.Step.step
  show id (addf (mulf (broadcastInDim S4x8x128x128 ![0, 1, 2, 3] bcast_S1x8x1x1_S4x8x128x128_0_1_2_3 (broadcastInDim S1x8x1x1 ![1] bcast_S8_S1x8x1x1_1 (V0 (Proc.devRef .tc main_v130_5)))) (V0 (Proc.devRef .tc main_v130_8))) (Host.dotGeneral dot_S4x64x8x128_S4x64x8x128_S4x8x128x128_1_1_3_3_02_02 none (mulf (res_main_while0b_v166 V0) (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_6)) transposes_S8x64_S64x8_1_0)))) (res_main_while0b_v167 V0))) = _
  rw [al_39 h]
  try rfl
theorem step_9 (h : Holds V0 s j) : step_main_v130_9 V0 = (step j s).main_v130_9 := by
  unfold step_main_v130_9 Cert.ReferenceIdeal.Step.step
  show id (Host.dynamicUpdateSlice (V0 (Proc.devRef .tc main_v130_9)) (broadcastInDim S1x4x64x8x128 ![1, 2, 3, 4] bcast_S4x64x8x128_S1x4x64x8x128_1_2_3_4 (addf (transpose S4x64x8x128 [0, 3, 1, 2] (Host.dotGeneral dot_S4x64x8x128_S4x8x64x64_S4x8x128x64_1_3_3_2_02_01 none (res_main_while0b_v167 V0) (mulf (Host.dotGeneral dot_S4x64x8x128_S4x64x8x128_S4x8x64x64_3_3_1_1_02_02 none (res_main_while0b_v165 V0) (res_main_while0b_v166 V0)) (broadcastInDim S4x8x64x64 ![0, 1, 2, 3] bcast_S1x8x64x64_S4x8x64x64_0_1_2_3 (broadcastInDim S1x8x64x64 ![1, 2, 3] bcast_S8x64x64_S1x8x64x64_1_2_3 (V0 (Proc.devRef .tc main_v130_3)))))) transposes_S4x8x128x64_S4x64x8x128_0_3_1_2) (mulf (transpose S4x64x8x128 [0, 3, 1, 2] (Host.dotGeneral dot_S4x8x128x128_S4x64x8x128_S4x8x128x64_2_3_3_1_01_02 none (V0 (Proc.devRef .tc main_v130_8)) (res_main_while0b_v165 V0)) transposes_S4x8x128x64_S4x64x8x128_0_3_1_2) (broadcastInDim S4x64x8x128 ![0, 1, 2, 3] bcast_S1x64x8x1_S4x64x8x128_0_1_2_3 (broadcastInDim S1x64x8x1 ![1, 2] bcast_S64x8_S1x64x8x1_1_2 (transpose S64x8 [1, 0] (V0 (Proc.devRef .tc main_v130_4)) transposes_S8x64_S64x8_1_0)))))) (fun k => (((![V0 (Proc.devRef .tc main_v130_7), constantI S_ 32 0#32, constantI S_ 32 0#32, constantI S_ 32 0#32, constantI S_ 32 0#32] : Fin 5 → (⟨S_, .i32⟩ : BufTy).Contents (Elt F))) k (Shape.Idx.first h_S_)).toInt) updateFits_S32x4x64x8x128_S1x4x64x8x128) = _
  exact al_45 h
theorem step_7 (h : Holds V0 s j) : step_main_v130_7 V0 = constantI S_ 32 (BitVec.ofNat 32 (j + 1)) := by
  unfold step_main_v130_7
  rw [h.n_7]
  funext i
  show BitVec.ofNat 32 j + 1#32 = BitVec.ofNat 32 (j + 1)
  simp only [BitVec.ofNat_add]

set_option maxRecDepth 8192 in
theorem out_main_v164_holds (h : Holds V0 s j) {x_main_arg1 : (⟨S4x2048x4096, .f32⟩ : BufTy).Contents (Elt F)} (h_main_arg1 : V0 (Proc.devRef .tc main_arg1) = x_main_arg1) {x_main_arg3 : (⟨S2x1024, .f32⟩ : BufTy).Contents (Elt F)} (h_main_arg3 : V0 (Proc.devRef .tc main_arg3) = x_main_arg3) {x_main_arg4 : (⟨S2x1024, .f32⟩ : BufTy).Contents (Elt F)} (h_main_arg4 : V0 (Proc.devRef .tc main_arg4) = x_main_arg4) : out_main_v164 V0 = Cert.ReferenceIdeal.Step.R_main_v164 s x_main_arg1 x_main_arg3 x_main_arg4 := by
  unfold out_main_v164 Cert.ReferenceIdeal.Step.R_main_v164
  rw [h.f_9, h_main_arg1, h_main_arg3, h_main_arg4]
  try rfl

/-- One trip keeps the valuation holding: `step` of the state, the same set-up values, the next number. -/
theorem holds_step (h : Holds V0 s j) : Holds (STEP V0) (step j s) (j + 1) where
  f_8 := (STEP_main_v130_8 V0).trans (step_8 h)
  f_9 := (STEP_main_v130_9 V0).trans (step_9 h)
  n_7 := (STEP_main_v130_7 V0).trans (step_7 h)
  k_3 := (STEP_main_v130_3 V0).trans h.k_3
  k_4 := (STEP_main_v130_4 V0).trans h.k_4
  k_5 := (STEP_main_v130_5 V0).trans h.k_5
  k_6 := (STEP_main_v130_6 V0).trans h.k_6
  f_0 := (STEP_main_v130_0 V0).trans h.f_0
  f_1 := (STEP_main_v130_1 V0).trans h.f_1
  f_2 := (STEP_main_v130_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg2))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v164) = Cert.ReferenceIdeal.Step.R_main_v164 (it c 32) (m ((c.tc : Thread nD τ).loc main_arg1)) (m ((c.tc : Thread nD τ).loc main_arg3)) (m ((c.tc : Thread nD τ).loc main_arg4))
      ∧ r.2.mem ((c.tc : Thread nD τ).loc main_v130_8) = (it c 32).main_v130_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 32
    ⟨(h c).1.trans (out_main_v164_holds hk (iter_main_arg1 m c 32) (iter_main_arg3 m c 32) (iter_main_arg4 m c 32)), (h c).2.1.trans hk.f_8, (h c).2.2.1, (h c).2.2.2.1, (h c).2.2.2.2.1, (h c).2.2.2.2.2.1, (h c).2.2.2.2.2.2⟩) (Value.run m ρ)

end Cert.ReferenceIdeal.StepRun

end
-- ==== Proof.ProjA.lean ====
module

public import proofs.«01_k».proof.Defs
public import proofs.«01_k».proof.Proof.Gen.ProjAIdeal.Value
public import proofs.«01_k».proof.Proof.Gen.RefAIdeal.Run
public import Idealize.ShloMosaic.Lib.Pointwise

@[expose] public section
noncomputable section

/-! The input projection of the columns 0 to 3200: the kernel's blocks of 1024 rows by 640 columns put together are the
    product of the tokens with those columns of the first layer's weights, the product alone. -/

namespace Cert.ProjAIdeal.Close
open Idealize.ShloMosaic Idealize.ShloMosaic.TcCoe Idealize.SL.Sem Idealize.ShloMosaic.Pointwise
open Cert.ProjAIdeal Cert.ProjAIdeal.Gen

/-- The tokens as launched. -/
abbrev Tok := FVec Ideal S4x2048x2048 .f32
/-- The weights as launched. -/
abbrev Wts := FVec Ideal S2x2048x21904 .f32

/-- One entry of the product: a token's row against a column of the first layer's weights. -/
def entry (a : Tok) (w : Wts) (i : Fin 8192) (j : Fin 3200) : EReal :=
  ∑ k : Fin 2048, a (ix3 ⟨i.val / 2048, by omega⟩ ⟨i.val % 2048, by omega⟩ k) * w (ix3 0 k ⟨0 + j.val, by omega⟩)

/-- The whole result, entry by entry. -/
def whole (a : Tok) (w : Wts) : FVec Ideal S8192x3200 .f32 := fun i => entry a w (i 0) (i 1)

/-- What the body stores, entry by entry: the product of its two blocks. -/
theorem pay_apply (x : Vec Ideal S1024x2048 .bf16) (y : Vec Ideal S2048x640 .bf16) (r : Fin 1024) (l : Fin 640) :
    k0_pay1 x y (ix2 r l) = ∑ k : Fin 2048, x (ix2 r k) * y (ix2 k l) := by
  unfold k0_pay1
  try dsimp only
  pointwise

variable (m : (ℓ : Loc nD τ sig) → Buf (Elt Ideal) ℓ) (ρ : Dev nD → PrngReg)

/-- The tokens row by row. -/
def tok (a : Tok) : FVec Ideal S8192x2048 .bf16 := truncf .bf16 (shapeCast S8192x2048 a shapeCasts_S4x2048x2048_S8192x2048) bitsLt_bf16_f32
/-- The columns 0 to 3200 of the first layer's weights. -/
def wts (w : Wts) : FVec Ideal S2048x3200 .bf16 := truncf .bf16 (extractStridedSlice S2048x3200 ![0, 0] (shapeCast S2048x21904
    (extractStridedSlice S1x2048x21904 ![0, 0, 0] w slices_S2x2048x21904_S1x2048x21904_0_0_0)
      shapeCasts_S1x2048x21904_S2048x21904) slices_S2048x21904_S2048x3200_0_0) bitsLt_bf16_f32

/-- The tokens the region finds: the argument's, row by row. -/
theorem tok_eq (c : Dev nD) : V m c main_v1 = tok (m ((c : Thread nD τ).loc main_arg0)) := by
  show StableHlo.after hostOps0 (fun b => m (c, b)) (Proc.devRef .tc main_v1) = _
  after_results <;> rfl

/-- The weights the region finds: the columns 0 to 3200 of the argument's first layer. -/
theorem wts_eq (c : Dev nD) : V m c main_v5 = wts (m ((c : Thread nD τ).loc main_arg1)) := by
  show StableHlo.after hostOps0 (fun b => m (c, b)) (Proc.devRef .tc main_v5) = _
  after_results <;> rfl

/-- A token's entry in row-major rows. -/
theorem tok_apply (a : Tok) (i : Fin 8192) (k : Fin 2048) : tok a (ix2 i k) = a (ix3 ⟨i.val / 2048, by omega⟩ ⟨i.val % 2048, by omega⟩ k) := by
  unfold tok
  pointwise
/-- A weight's entry among its columns. -/
theorem wts_apply (w : Wts) (k : Fin 2048) (j : Fin 3200) : wts w (ix2 k j) = w (ix3 0 k ⟨0 + j.val, by omega⟩) := by
  unfold wts
  pointwise

/-- Where the windows stand at each grid point. -/
theorem idx : ∀ t : Fin cfg0.N, (win0_0.index t 0 = t.val / 5 ∧ win0_0.index t 1 = 0) ∧ (win0_1.index t 0 = 0 ∧ win0_1.index t 1 = t.val % 5)
    ∧ (win0_2.index t 0 = t.val / 5 ∧ win0_2.index t 1 = t.val % 5) :=
  (by decide +kernel : ∀ t : Fin grid0.N, _)
theorem val_lt (t : Fin cfg0.N) : t.val < 40 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S8192x2048 .bf16) (ix2 ⟨t.val / 5 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 5 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 640) :
    (iblk m c 1 t : Vec Ideal S2048x640 .bf16) (ix2 k l)
      = (V m c main_v5 : Vec Ideal S2048x3200 .bf16) (ix2 k ⟨t.val % 5 * 640 + l.val, by omega⟩) := by
  obtain ⟨-, ⟨h0, h1⟩, -⟩ := idx t
  unfold iblk
  rw [View.read_apply]
  show V m c main_v5 _ = V m c main_v5 _
  congr 1
  funext a
  apply Fin.ext
  match a with
  | ⟨0, _⟩ => show win0_1.index t 0 * 2048 + 1 * k.val = k.val; rw [h0]; omega
  | ⟨1, _⟩ => show win0_1.index t 1 * 640 + 1 * l.val = _; rw [h1]; show _ = t.val % 5 * 640 + l.val; omega

/-- The whole-buffer loads read the blocks and the one covering store leaves its payload. -/
theorem out_eq (x0 : Vec Ideal S1024x2048 .bf16) (x1 : Vec Ideal S2048x640 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x640) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 640 := (y 1).isLt
  have hb0 : (((cfg0.win 2).blk t).view.emb y 0).val = win0_2.index t 0 * 1024 + 1 * (y 0).val := rfl
  have hb1 : (((cfg0.win 2).blk t).view.emb y 1).val = win0_2.index t 1 * 640 + 1 * (y 1).val := rfl
  rw [h0] at hb0
  rw [h1] at hb1
  have e0 : ((cfg0.win 2).blk t).view.emb y 0 = (⟨t.val / 5 * 1024 + (y 0).val, by omega⟩ : Fin 8192) := Fin.ext (by rw [hb0]; simp)
  have e1 : ((cfg0.win 2).blk t).view.emb y 1 = (⟨t.val % 5 * 640 + (y 1).val, by omega⟩ : Fin 3200) := Fin.ext (by rw [hb1]; simp)
  have hy : (cfg0.win 2).xinj (grid0.coords t) y = ix2 (⟨(y 0).val, hy0⟩ : Fin 1024) (⟨(y 1).val, hy1⟩ : Fin 640) := by
    funext a; apply Fin.ext
    match a with
    | ⟨0, _⟩ => rfl
    | ⟨1, _⟩ => rfl
  show k0_pay1 (iblk m c 0 t) (iblk m c 1 t) ((cfg0.win 2).xinj (grid0.coords t) y) = entry _ _ (((cfg0.win 2).blk t).view.emb y 0) (((cfg0.win 2).blk t).view.emb y 1)
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 640) => (blk1_apply m c t k l).trans ((congrFun (wts_eq m c) _).trans (wts_apply _ _ _))
  simp only [hx, hw]

/-- Every entry is in some point's block. -/
theorem cover (i : S8192x3200.Idx) : ∃ t : Fin cfg0.N, (cfg0.win 2).flush t = true ∧ i ∈ ((cfg0.win 2).blk t).view.set := by
  have h0 : (i 0).val < 8192 := (i 0).isLt
  have h1 : (i 1).val < 3200 := (i 1).isLt
  obtain ⟨t, hv⟩ : ∃ t : Fin cfg0.N, t.val = (i 0).val / 1024 * 5 + (i 1).val / 640 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 640 ≤ (i 1).val ∧ (i 1).val < win0_2.index t 1 * 640 + 640; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.ProjAIdeal.Close

namespace Cert.RefAIdeal.Close
open Idealize.ShloMosaic Idealize.ShloMosaic.TcCoe Idealize.SL.Sem Idealize.ShloMosaic.Pointwise
open Cert.RefAIdeal Cert.RefAIdeal.Gen
open Cert.ProjAIdeal.Close (Tok Wts entry whole)

/-- The reference's result is the kernel's, entry by entry. -/
theorem ref_eq (a : Tok) (w : Wts) : ((extractStridedSlice S8192x3200 ![0, 0] (Host.dotGeneral dot_S8192x2048_S2048x21904_S8192x21904_1_0_0_1_n_n none (shapeCast _ a shapeCasts_S4x2048x2048_S8192x2048) (shapeCast _ (extractStridedSlice S1x2048x21904 ![0, 0, 0] w slices_S2x2048x21904_S1x2048x21904_0_0_0) shapeCasts_S1x2048x21904_S2048x21904)) slices_S8192x21904_S8192x3200_0_0) : FVec Ideal S8192x3200 .f32) = whole a w := by
  funext i
  rw [eq_ix2 i]
  show _ = entry a w (i 0) (i 1)
  unfold entry
  pointwise

end Cert.RefAIdeal.Close

namespace Cert.Proof
open Idealize.ShloMosaic Idealize.SL.Sem

/-- The kernel's projection of these columns and the reference's compute the same extended reals. -/
theorem algebraic_projA : Cert.algebraic_ProjAIdeal_RefAIdeal (hProjAIdeal := Cert.ProjAIdeal.Gen.facts) (hRefAIdeal := Cert.RefAIdeal.Gen.facts) := by
  intro m ρ m' ρ' _ hagree
  refine ⟨fun c => Cert.ProjAIdeal.Close.whole (m ((c.tc : Thread Cert.ProjAIdeal.nD Cert.ProjAIdeal.τ).loc Cert.ProjAIdeal.main_arg0)) (m ((c.tc : Thread Cert.ProjAIdeal.nD Cert.ProjAIdeal.τ).loc Cert.ProjAIdeal.main_arg1)),
    (θ_run _ _ _).mono (fun r h c => ⟨(h c).1.trans (Cert.ProjAIdeal.Close.final m c), (h c).2⟩) (Cert.ProjAIdeal.Value.run_blocks (F := Ideal) m ρ), ?_⟩
  refine (θ_run _ _ _).mono (fun r h c => ⟨(h c).1.trans ?_, (h c).2⟩) (Cert.RefAIdeal.Value.run (F := Ideal) m' ρ')
  rw [(hagree c).1, (hagree c).2]
  exact Cert.RefAIdeal.Close.ref_eq _ _

end Cert.Proof
end
-- ==== Proof.ProjB.lean ====
module

public import proofs.«01_k».proof.Defs
public import proofs.«01_k».proof.Proof.Gen.ProjBIdeal.Value
public import proofs.«01_k».proof.Proof.Gen.RefBIdeal.Run
public import Idealize.ShloMosaic.Lib.Pointwise

@[expose] public section
noncomputable section

/-! The input projection of the columns 3200 to 4480: the kernel's blocks of 1024 rows by 640 columns put together are the
    product of the tokens with those columns of the first layer's weights, the product alone. -/

namespace Cert.ProjBIdeal.Close
open Idealize.ShloMosaic Idealize.ShloMosaic.TcCoe Idealize.SL.Sem Idealize.ShloMosaic.Pointwise
open Cert.ProjBIdeal Cert.ProjBIdeal.Gen

/-- The tokens as launched. -/
abbrev Tok := FVec Ideal S4x2048x2048 .f32
/-- The weights as launched. -/
abbrev Wts := FVec Ideal S2x2048x21904 .f32

/-- One entry of the product: a token's row against a column of the first layer's weights. -/
def entry (a : Tok) (w : Wts) (i : Fin 8192) (j : Fin 1280) : EReal :=
  ∑ k : Fin 2048, a (ix3 ⟨i.val / 2048, by omega⟩ ⟨i.val % 2048, by omega⟩ k) * w (ix3 0 k ⟨3200 + j.val, by omega⟩)

/-- The whole result, entry by entry. -/
def whole (a : Tok) (w : Wts) : FVec Ideal S8192x1280 .f32 := fun i => entry a w (i 0) (i 1)

/-- What the body stores, entry by entry: the product of its two blocks. -/
theorem pay_apply (x : Vec Ideal S1024x2048 .bf16) (y : Vec Ideal S2048x640 .bf16) (r : Fin 1024) (l : Fin 640) :
    k0_pay1 x y (ix2 r l) = ∑ k : Fin 2048, x (ix2 r k) * y (ix2 k l) := by
  unfold k0_pay1
  try dsimp only
  pointwise

variable (m : (ℓ : Loc nD τ sig) → Buf (Elt Ideal) ℓ) (ρ : Dev nD → PrngReg)

/-- The tokens row by row. -/
def tok (a : Tok) : FVec Ideal S8192x2048 .bf16 := truncf .bf16 (shapeCast S8192x2048 a shapeCasts_S4x2048x2048_S8192x2048) bitsLt_bf16_f32
/-- The columns 3200 to 4480 of the first layer's weights. -/
def wts (w : Wts) : FVec Ideal S2048x1280 .bf16 := truncf .bf16 (extractStridedSlice S2048x1280 ![0, 3200] (shapeCast S2048x21904
    (extractStridedSlice S1x2048x21904 ![0, 0, 0] w slices_S2x2048x21904_S1x2048x21904_0_0_0)
      shapeCasts_S1x2048x21904_S2048x21904) slices_S2048x21904_S2048x1280_0_3200) bitsLt_bf16_f32

/-- The tokens the region finds: the argument's, row by row. -/
theorem tok_eq (c : Dev nD) : V m c main_v1 = tok (m ((c : Thread nD τ).loc main_arg0)) := by
  show StableHlo.after hostOps0 (fun b => m (c, b)) (Proc.devRef .tc main_v1) = _
  after_results <;> rfl

/-- The weights the region finds: the columns 3200 to 4480 of the argument's first layer. -/
theorem wts_eq (c : Dev nD) : V m c main_v5 = wts (m ((c : Thread nD τ).loc main_arg1)) := by
  show StableHlo.after hostOps0 (fun b => m (c, b)) (Proc.devRef .tc main_v5) = _
  after_results <;> rfl

/-- A token's entry in row-major rows. -/
theorem tok_apply (a : Tok) (i : Fin 8192) (k : Fin 2048) : tok a (ix2 i k) = a (ix3 ⟨i.val / 2048, by omega⟩ ⟨i.val % 2048, by omega⟩ k) := by
  unfold tok
  pointwise
/-- A weight's entry among its columns. -/
theorem wts_apply (w : Wts) (k : Fin 2048) (j : Fin 1280) : wts w (ix2 k j) = w (ix3 0 k ⟨3200 + j.val, by omega⟩) := by
  unfold wts
  pointwise

/-- Where the windows stand at each grid point. -/
theorem idx : ∀ t : Fin cfg0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) :=
  (by decide +kernel : ∀ t : Fin grid0.N, _)
theorem val_lt (t : Fin cfg0.N) : t.val < 16 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S8192x2048 .bf16) (ix2 ⟨t.val / 2 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 2 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 640) :
    (iblk m c 1 t : Vec Ideal S2048x640 .bf16) (ix2 k l)
      = (V m c main_v5 : Vec Ideal S2048x1280 .bf16) (ix2 k ⟨t.val % 2 * 640 + l.val, by omega⟩) := by
  obtain ⟨-, ⟨h0, h1⟩, -⟩ := idx t
  unfold iblk
  rw [View.read_apply]
  show V m c main_v5 _ = V m c main_v5 _
  congr 1
  funext a
  apply Fin.ext
  match a with
  | ⟨0, _⟩ => show win0_1.index t 0 * 2048 + 1 * k.val = k.val; rw [h0]; omega
  | ⟨1, _⟩ => show win0_1.index t 1 * 640 + 1 * l.val = _; rw [h1]; show _ = t.val % 2 * 640 + l.val; omega

/-- The whole-buffer loads read the blocks and the one covering store leaves its payload. -/
theorem out_eq (x0 : Vec Ideal S1024x2048 .bf16) (x1 : Vec Ideal S2048x640 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x640) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 640 := (y 1).isLt
  have hb0 : (((cfg0.win 2).blk t).view.emb y 0).val = win0_2.index t 0 * 1024 + 1 * (y 0).val := rfl
  have hb1 : (((cfg0.win 2).blk t).view.emb y 1).val = win0_2.index t 1 * 640 + 1 * (y 1).val := rfl
  rw [h0] at hb0
  rw [h1] at hb1
  have e0 : ((cfg0.win 2).blk t).view.emb y 0 = (⟨t.val / 2 * 1024 + (y 0).val, by omega⟩ : Fin 8192) := Fin.ext (by rw [hb0]; simp)
  have e1 : ((cfg0.win 2).blk t).view.emb y 1 = (⟨t.val % 2 * 640 + (y 1).val, by omega⟩ : Fin 1280) := Fin.ext (by rw [hb1]; simp)
  have hy : (cfg0.win 2).xinj (grid0.coords t) y = ix2 (⟨(y 0).val, hy0⟩ : Fin 1024) (⟨(y 1).val, hy1⟩ : Fin 640) := by
    funext a; apply Fin.ext
    match a with
    | ⟨0, _⟩ => rfl
    | ⟨1, _⟩ => rfl
  show k0_pay1 (iblk m c 0 t) (iblk m c 1 t) ((cfg0.win 2).xinj (grid0.coords t) y) = entry _ _ (((cfg0.win 2).blk t).view.emb y 0) (((cfg0.win 2).blk t).view.emb y 1)
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 640) => (blk1_apply m c t k l).trans ((congrFun (wts_eq m c) _).trans (wts_apply _ _ _))
  simp only [hx, hw]

/-- Every entry is in some point's block. -/
theorem cover (i : S8192x1280.Idx) : ∃ t : Fin cfg0.N, (cfg0.win 2).flush t = true ∧ i ∈ ((cfg0.win 2).blk t).view.set := by
  have h0 : (i 0).val < 8192 := (i 0).isLt
  have h1 : (i 1).val < 1280 := (i 1).isLt
  obtain ⟨t, hv⟩ : ∃ t : Fin cfg0.N, t.val = (i 0).val / 1024 * 2 + (i 1).val / 640 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 640 ≤ (i 1).val ∧ (i 1).val < win0_2.index t 1 * 640 + 640; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.ProjBIdeal.Close

namespace Cert.RefBIdeal.Close
open Idealize.ShloMosaic Idealize.ShloMosaic.TcCoe Idealize.SL.Sem Idealize.ShloMosaic.Pointwise
open Cert.RefBIdeal Cert.RefBIdeal.Gen
open Cert.ProjBIdeal.Close (Tok Wts entry whole)

/-- The reference's result is the kernel's, entry by entry. -/
theorem ref_eq (a : Tok) (w : Wts) : ((extractStridedSlice S8192x1280 ![0, 3200] (Host.dotGeneral dot_S8192x2048_S2048x21904_S8192x21904_1_0_0_1_n_n none (shapeCast _ a shapeCasts_S4x2048x2048_S8192x2048) (shapeCast _ (extractStridedSlice S1x2048x21904 ![0, 0, 0] w slices_S2x2048x21904_S1x2048x21904_0_0_0) shapeCasts_S1x2048x21904_S2048x21904)) slices_S8192x21904_S8192x1280_0_3200) : FVec Ideal S8192x1280 .f32) = whole a w := by
  funext i
  rw [eq_ix2 i]
  show _ = entry a w (i 0) (i 1)
  unfold entry
  pointwise

end Cert.RefBIdeal.Close

namespace Cert.Proof
open Idealize.ShloMosaic Idealize.SL.Sem

/-- The kernel's projection of these columns and the reference's compute the same extended reals. -/
theorem algebraic_projB : Cert.algebraic_ProjBIdeal_RefBIdeal (hProjBIdeal := Cert.ProjBIdeal.Gen.facts) (hRefBIdeal := Cert.RefBIdeal.Gen.facts) := by
  intro m ρ m' ρ' _ hagree
  refine ⟨fun c => Cert.ProjBIdeal.Close.whole (m ((c.tc : Thread Cert.ProjBIdeal.nD Cert.ProjBIdeal.τ).loc Cert.ProjBIdeal.main_arg0)) (m ((c.tc : Thread Cert.ProjBIdeal.nD Cert.ProjBIdeal.τ).loc Cert.ProjBIdeal.main_arg1)),
    (θ_run _ _ _).mono (fun r h c => ⟨(h c).1.trans (Cert.ProjBIdeal.Close.final m c), (h c).2⟩) (Cert.ProjBIdeal.Value.run_blocks (F := Ideal) m ρ), ?_⟩
  refine (θ_run _ _ _).mono (fun r h c => ⟨(h c).1.trans ?_, (h c).2⟩) (Cert.RefBIdeal.Value.run (F := Ideal) m' ρ')
  rw [(hagree c).1, (hagree c).2]
  exact Cert.RefBIdeal.Close.ref_eq _ _

end Cert.Proof
end
-- ==== Proof.ProjQ.lean ====
module

public import proofs.«01_k».proof.Defs
public import proofs.«01_k».proof.Proof.Gen.ProjQIdeal.Value
public import proofs.«01_k».proof.Proof.Gen.RefQIdeal.Run
public import Idealize.ShloMosaic.Lib.Pointwise

@[expose] public section
noncomputable section

/-! The input projection of the columns 4480 to 5504: the kernel's blocks of 1024 rows by 1024 columns put together are the
    product of the tokens with those columns of the first layer's weights, the product alone. -/

namespace Cert.ProjQIdeal.Close
open Idealize.ShloMosaic Idealize.ShloMosaic.TcCoe Idealize.SL.Sem Idealize.ShloMosaic.Pointwise
open Cert.ProjQIdeal Cert.ProjQIdeal.Gen

/-- The tokens as launched. -/
abbrev Tok := FVec Ideal S4x2048x2048 .f32
/-- The weights as launched. -/
abbrev Wts := FVec Ideal S2x2048x21904 .f32

/-- One entry of the product: a token's row against a column of the first layer's weights. -/
def entry (a : Tok) (w : Wts) (i : Fin 8192) (j : Fin 1024) : EReal :=
  ∑ k : Fin 2048, a (ix3 ⟨i.val / 2048, by omega⟩ ⟨i.val % 2048, by omega⟩ k) * w (ix3 0 k ⟨4480 + j.val, by omega⟩)

/-- The whole result, entry by entry. -/
def whole (a : Tok) (w : Wts) : FVec Ideal S8192x1024 .f32 := fun i => entry a w (i 0) (i 1)

/-- What the body stores, entry by entry: the product of its two blocks. -/
theorem pay_apply (x : Vec Ideal S1024x2048 .bf16) (y : Vec Ideal S2048x1024 .bf16) (r : Fin 1024) (l : Fin 1024) :
    k0_pay1 x y (ix2 r l) = ∑ k : Fin 2048, x (ix2 r k) * y (ix2 k l) := by
  unfold k0_pay1
  try dsimp only
  pointwise

variable (m : (ℓ : Loc nD τ sig) → Buf (Elt Ideal) ℓ) (ρ : Dev nD → PrngReg)

/-- The tokens row by row. -/
def tok (a : Tok) : FVec Ideal S8192x2048 .bf16 := truncf .bf16 (shapeCast S8192x2048 a shapeCasts_S4x2048x2048_S8192x2048) bitsLt_bf16_f32
/-- The columns 4480 to 5504 of the first layer's weights. -/
def wts (w : Wts) : FVec Ideal S2048x1024 .bf16 := truncf .bf16 (extractStridedSlice S2048x1024 ![0, 4480] (shapeCast S2048x21904
    (extractStridedSlice S1x2048x21904 ![0, 0, 0] w slices_S2x2048x21904_S1x2048x21904_0_0_0)
      shapeCasts_S1x2048x21904_S2048x21904) slices_S2048x21904_S2048x1024_0_4480) bitsLt_bf16_f32

/-- The tokens the region finds: the argument's, row by row. -/
theorem tok_eq (c : Dev nD) : V m c main_v1 = tok (m ((c : Thread nD τ).loc main_arg0)) := by
  show StableHlo.after hostOps0 (fun b => m (c, b)) (Proc.devRef .tc main_v1) = _
  after_results <;> rfl

/-- The weights the region finds: the columns 4480 to 5504 of the argument's first layer. -/
theorem wts_eq (c : Dev nD) : V m c main_v5 = wts (m ((c : Thread nD τ).loc main_arg1)) := by
  show StableHlo.after hostOps0 (fun b => m (c, b)) (Proc.devRef .tc main_v5) = _
  after_results <;> rfl

/-- A token's entry in row-major rows. -/
theorem tok_apply (a : Tok) (i : Fin 8192) (k : Fin 2048) : tok a (ix2 i k) = a (ix3 ⟨i.val / 2048, by omega⟩ ⟨i.val % 2048, by omega⟩ k) := by
  unfold tok
  pointwise
/-- A weight's entry among its columns. -/
theorem wts_apply (w : Wts) (k : Fin 2048) (j : Fin 1024) : wts w (ix2 k j) = w (ix3 0 k ⟨4480 + j.val, by omega⟩) := by
  unfold wts
  pointwise

/-- Where the windows stand at each grid point. -/
theorem idx : ∀ t : Fin cfg0.N, (win0_0.index t 0 = t.val / 1 ∧ win0_0.index t 1 = 0) ∧ (win0_1.index t 0 = 0 ∧ win0_1.index t 1 = t.val % 1)
    ∧ (win0_2.index t 0 = t.val / 1 ∧ win0_2.index t 1 = t.val % 1) :=
  (by decide +kernel : ∀ t : Fin grid0.N, _)
theorem val_lt (t : Fin cfg0.N) : t.val < 8 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S8192x2048 .bf16) (ix2 ⟨t.val / 1 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 1 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 1024) :
    (iblk m c 1 t : Vec Ideal S2048x1024 .bf16) (ix2 k l)
      = (V m c main_v5 : Vec Ideal S2048x1024 .bf16) (ix2 k ⟨t.val % 1 * 1024 + l.val, by omega⟩) := by
  obtain ⟨-, ⟨h0, h1⟩, -⟩ := idx t
  unfold iblk
  rw [View.read_apply]
  show V m c main_v5 _ = V m c main_v5 _
  congr 1
  funext a
  apply Fin.ext
  match a with
  | ⟨0, _⟩ => show win0_1.index t 0 * 2048 + 1 * k.val = k.val; rw [h0]; omega
  | ⟨1, _⟩ => show win0_1.index t 1 * 1024 + 1 * l.val = _; rw [h1]; show _ = t.val % 1 * 1024 + l.val; omega

/-- The whole-buffer loads read the blocks and the one covering store leaves its payload. -/
theorem out_eq (x0 : Vec Ideal S1024x2048 .bf16) (x1 : Vec Ideal S2048x1024 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x1024) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 1024 := (y 1).isLt
  have hb0 : (((cfg0.win 2).blk t).view.emb y 0).val = win0_2.index t 0 * 1024 + 1 * (y 0).val := rfl
  have hb1 : (((cfg0.win 2).blk t).view.emb y 1).val = win0_2.index t 1 * 1024 + 1 * (y 1).val := rfl
  rw [h0] at hb0
  rw [h1] at hb1
  have e0 : ((cfg0.win 2).blk t).view.emb y 0 = (⟨t.val / 1 * 1024 + (y 0).val, by omega⟩ : Fin 8192) := Fin.ext (by rw [hb0]; simp)
  have e1 : ((cfg0.win 2).blk t).view.emb y 1 = (⟨t.val % 1 * 1024 + (y 1).val, by omega⟩ : Fin 1024) := Fin.ext (by rw [hb1]; simp)
  have hy : (cfg0.win 2).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  show k0_pay1 (iblk m c 0 t) (iblk m c 1 t) ((cfg0.win 2).xinj (grid0.coords t) y) = entry _ _ (((cfg0.win 2).blk t).view.emb y 0) (((cfg0.win 2).blk t).view.emb y 1)
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 1024) => (blk1_apply m c t k l).trans ((congrFun (wts_eq m c) _).trans (wts_apply _ _ _))
  simp only [hx, hw]

/-- Every entry is in some point's block. -/
theorem cover (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  obtain ⟨t, hv⟩ : ∃ t : Fin cfg0.N, t.val = (i 0).val / 1024 * 1 + (i 1).val / 1024 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 1024 ≤ (i 1).val ∧ (i 1).val < win0_2.index t 1 * 1024 + 1024; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.ProjQIdeal.Close

namespace Cert.RefQIdeal.Close
open Idealize.ShloMosaic Idealize.ShloMosaic.TcCoe Idealize.SL.Sem Idealize.ShloMosaic.Pointwise
open Cert.RefQIdeal Cert.RefQIdeal.Gen
open Cert.ProjQIdeal.Close (Tok Wts entry whole)

/-- The reference's result is the kernel's, entry by entry. -/
theorem ref_eq (a : Tok) (w : Wts) : ((extractStridedSlice S8192x1024 ![0, 4480] (Host.dotGeneral dot_S8192x2048_S2048x21904_S8192x21904_1_0_0_1_n_n none (shapeCast _ a shapeCasts_S4x2048x2048_S8192x2048) (shapeCast _ (extractStridedSlice S1x2048x21904 ![0, 0, 0] w slices_S2x2048x21904_S1x2048x21904_0_0_0) shapeCasts_S1x2048x21904_S2048x21904)) slices_S8192x21904_S8192x1024_0_4480) : FVec Ideal S8192x1024 .f32) = whole a w := by
  funext i
  rw [eq_ix2 i]
  show _ = entry a w (i 0) (i 1)
  unfold entry
  pointwise

end Cert.RefQIdeal.Close

namespace Cert.Proof
open Idealize.ShloMosaic Idealize.SL.Sem

/-- The kernel's projection of these columns and the reference's compute the same extended reals. -/
theorem algebraic_projQ : Cert.algebraic_ProjQIdeal_RefQIdeal (hProjQIdeal := Cert.ProjQIdeal.Gen.facts) (hRefQIdeal := Cert.RefQIdeal.Gen.facts) := by
  intro m ρ m' ρ' _ hagree
  refine ⟨fun c => Cert.ProjQIdeal.Close.whole (m ((c.tc : Thread Cert.ProjQIdeal.nD Cert.ProjQIdeal.τ).loc Cert.ProjQIdeal.main_arg0)) (m ((c.tc : Thread Cert.ProjQIdeal.nD Cert.ProjQIdeal.τ).loc Cert.ProjQIdeal.main_arg1)),
    (θ_run _ _ _).mono (fun r h c => ⟨(h c).1.trans (Cert.ProjQIdeal.Close.final m c), (h c).2⟩) (Cert.ProjQIdeal.Value.run_blocks (F := Ideal) m ρ), ?_⟩
  refine (θ_run _ _ _).mono (fun r h c => ⟨(h c).1.trans ?_, (h c).2⟩) (Cert.RefQIdeal.Value.run (F := Ideal) m' ρ')
  rw [(hagree c).1, (hagree c).2]
  exact Cert.RefQIdeal.Close.ref_eq _ _

end Cert.Proof
end
-- ==== Proof.ProjV.lean ====
module

public import proofs.«01_k».proof.Defs
public import proofs.«01_k».proof.Proof.Gen.ProjVIdeal.Value
public import proofs.«01_k».proof.Proof.Gen.RefVIdeal.Run
public import Idealize.ShloMosaic.Lib.Pointwise

@[expose] public section
noncomputable section

/-! The input projection of the columns 5504 to 6528: the kernel's blocks of 1024 rows by 1024 columns put together are the
    product of the tokens with those columns of the first layer's weights, the product alone. -/

namespace Cert.ProjVIdeal.Close
open Idealize.ShloMosaic Idealize.ShloMosaic.TcCoe Idealize.SL.Sem Idealize.ShloMosaic.Pointwise
open Cert.ProjVIdeal Cert.ProjVIdeal.Gen

/-- The tokens as launched. -/
abbrev Tok := FVec Ideal S4x2048x2048 .f32
/-- The weights as launched. -/
abbrev Wts := FVec Ideal S2x2048x21904 .f32

/-- One entry of the product: a token's row against a column of the first layer's weights. -/
def entry (a : Tok) (w : Wts) (i : Fin 8192) (j : Fin 1024) : EReal :=
  ∑ k : Fin 2048, a (ix3 ⟨i.val / 2048, by omega⟩ ⟨i.val % 2048, by omega⟩ k) * w (ix3 0 k ⟨5504 + j.val, by omega⟩)

/-- The whole result, entry by entry. -/
def whole (a : Tok) (w : Wts) : FVec Ideal S8192x1024 .f32 := fun i => entry a w (i 0) (i 1)

/-- What the body stores, entry by entry: the product of its two blocks. -/
theorem pay_apply (x : Vec Ideal S1024x2048 .bf16) (y : Vec Ideal S2048x1024 .bf16) (r : Fin 1024) (l : Fin 1024) :
    k0_pay1 x y (ix2 r l) = ∑ k : Fin 2048, x (ix2 r k) * y (ix2 k l) := by
  unfold k0_pay1
  try dsimp only
  pointwise

variable (m : (ℓ : Loc nD τ sig) → Buf (Elt Ideal) ℓ) (ρ : Dev nD → PrngReg)

/-- The tokens row by row. -/
def tok (a : Tok) : FVec Ideal S8192x2048 .bf16 := truncf .bf16 (shapeCast S8192x2048 a shapeCasts_S4x2048x2048_S8192x2048) bitsLt_bf16_f32
/-- The columns 5504 to 6528 of the first layer's weights. -/
def wts (w : Wts) : FVec Ideal S2048x1024 .bf16 := truncf .bf16 (extractStridedSlice S2048x1024 ![0, 5504] (shapeCast S2048x21904
    (extractStridedSlice S1x2048x21904 ![0, 0, 0] w slices_S2x2048x21904_S1x2048x21904_0_0_0)
      shapeCasts_S1x2048x21904_S2048x21904) slices_S2048x21904_S2048x1024_0_5504) bitsLt_bf16_f32

/-- The tokens the region finds: the argument's, row by row. -/
theorem tok_eq (c : Dev nD) : V m c main_v1 = tok (m ((c : Thread nD τ).loc main_arg0)) := by
  show StableHlo.after hostOps0 (fun b => m (c, b)) (Proc.devRef .tc main_v1) = _
  after_results <;> rfl

/-- The weights the region finds: the columns 5504 to 6528 of the argument's first layer. -/
theorem wts_eq (c : Dev nD) : V m c main_v5 = wts (m ((c : Thread nD τ).loc main_arg1)) := by
  show StableHlo.after hostOps0 (fun b => m (c, b)) (Proc.devRef .tc main_v5) = _
  after_results <;> rfl

/-- A token's entry in row-major rows. -/
theorem tok_apply (a : Tok) (i : Fin 8192) (k : Fin 2048) : tok a (ix2 i k) = a (ix3 ⟨i.val / 2048, by omega⟩ ⟨i.val % 2048, by omega⟩ k) := by
  unfold tok
  pointwise
/-- A weight's entry among its columns. -/
theorem wts_apply (w : Wts) (k : Fin 2048) (j : Fin 1024) : wts w (ix2 k j) = w (ix3 0 k ⟨5504 + j.val, by omega⟩) := by
  unfold wts
  pointwise

/-- Where the windows stand at each grid point. -/
theorem idx : ∀ t : Fin cfg0.N, (win0_0.index t 0 = t.val / 1 ∧ win0_0.index t 1 = 0) ∧ (win0_1.index t 0 = 0 ∧ win0_1.index t 1 = t.val % 1)
    ∧ (win0_2.index t 0 = t.val / 1 ∧ win0_2.index t 1 = t.val % 1) :=
  (by decide +kernel : ∀ t : Fin grid0.N, _)
theorem val_lt (t : Fin cfg0.N) : t.val < 8 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S8192x2048 .bf16) (ix2 ⟨t.val / 1 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 1 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 1024) :
    (iblk m c 1 t : Vec Ideal S2048x1024 .bf16) (ix2 k l)
      = (V m c main_v5 : Vec Ideal S2048x1024 .bf16) (ix2 k ⟨t.val % 1 * 1024 + l.val, by omega⟩) := by
  obtain ⟨-, ⟨h0, h1⟩, -⟩ := idx t
  unfold iblk
  rw [View.read_apply]
  show V m c main_v5 _ = V m c main_v5 _
  congr 1
  funext a
  apply Fin.ext
  match a with
  | ⟨0, _⟩ => show win0_1.index t 0 * 2048 + 1 * k.val = k.val; rw [h0]; omega
  | ⟨1, _⟩ => show win0_1.index t 1 * 1024 + 1 * l.val = _; rw [h1]; show _ = t.val % 1 * 1024 + l.val; omega

/-- The whole-buffer loads read the blocks and the one covering store leaves its payload. -/
theorem out_eq (x0 : Vec Ideal S1024x2048 .bf16) (x1 : Vec Ideal S2048x1024 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x1024) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 1024 := (y 1).isLt
  have hb0 : (((cfg0.win 2).blk t).view.emb y 0).val = win0_2.index t 0 * 1024 + 1 * (y 0).val := rfl
  have hb1 : (((cfg0.win 2).blk t).view.emb y 1).val = win0_2.index t 1 * 1024 + 1 * (y 1).val := rfl
  rw [h0] at hb0
  rw [h1] at hb1
  have e0 : ((cfg0.win 2).blk t).view.emb y 0 = (⟨t.val / 1 * 1024 + (y 0).val, by omega⟩ : Fin 8192) := Fin.ext (by rw [hb0]; simp)
  have e1 : ((cfg0.win 2).blk t).view.emb y 1 = (⟨t.val % 1 * 1024 + (y 1).val, by omega⟩ : Fin 1024) := Fin.ext (by rw [hb1]; simp)
  have hy : (cfg0.win 2).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  show k0_pay1 (iblk m c 0 t) (iblk m c 1 t) ((cfg0.win 2).xinj (grid0.coords t) y) = entry _ _ (((cfg0.win 2).blk t).view.emb y 0) (((cfg0.win 2).blk t).view.emb y 1)
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 1024) => (blk1_apply m c t k l).trans ((congrFun (wts_eq m c) _).trans (wts_apply _ _ _))
  simp only [hx, hw]

/-- Every entry is in some point's block. -/
theorem cover (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  obtain ⟨t, hv⟩ : ∃ t : Fin cfg0.N, t.val = (i 0).val / 1024 * 1 + (i 1).val / 1024 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 1024 ≤ (i 1).val ∧ (i 1).val < win0_2.index t 1 * 1024 + 1024; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.ProjVIdeal.Close

namespace Cert.RefVIdeal.Close
open Idealize.ShloMosaic Idealize.ShloMosaic.TcCoe Idealize.SL.Sem Idealize.ShloMosaic.Pointwise
open Cert.RefVIdeal Cert.RefVIdeal.Gen
open Cert.ProjVIdeal.Close (Tok Wts entry whole)

/-- The reference's result is the kernel's, entry by entry. -/
theorem ref_eq (a : Tok) (w : Wts) : ((extractStridedSlice S8192x1024 ![0, 5504] (Host.dotGeneral dot_S8192x2048_S2048x21904_S8192x21904_1_0_0_1_n_n none (shapeCast _ a shapeCasts_S4x2048x2048_S8192x2048) (shapeCast _ (extractStridedSlice S1x2048x21904 ![0, 0, 0] w slices_S2x2048x21904_S1x2048x21904_0_0_0) shapeCasts_S1x2048x21904_S2048x21904)) slices_S8192x21904_S8192x1024_0_5504) : FVec Ideal S8192x1024 .f32) = whole a w := by
  funext i
  rw [eq_ix2 i]
  show _ = entry a w (i 0) (i 1)
  unfold entry
  pointwise

end Cert.RefVIdeal.Close

namespace Cert.Proof
open Idealize.ShloMosaic Idealize.SL.Sem

/-- The kernel's projection of these columns and the reference's compute the same extended reals. -/
theorem algebraic_projV : Cert.algebraic_ProjVIdeal_RefVIdeal (hProjVIdeal := Cert.ProjVIdeal.Gen.facts) (hRefVIdeal := Cert.RefVIdeal.Gen.facts) := by
  intro m ρ m' ρ' _ hagree
  refine ⟨fun c => Cert.ProjVIdeal.Close.whole (m ((c.tc : Thread Cert.ProjVIdeal.nD Cert.ProjVIdeal.τ).loc Cert.ProjVIdeal.main_arg0)) (m ((c.tc : Thread Cert.ProjVIdeal.nD Cert.ProjVIdeal.τ).loc Cert.ProjVIdeal.main_arg1)),
    (θ_run _ _ _).mono (fun r h c => ⟨(h c).1.trans (Cert.ProjVIdeal.Close.final m c), (h c).2⟩) (Cert.ProjVIdeal.Value.run_blocks (F := Ideal) m ρ), ?_⟩
  refine (θ_run _ _ _).mono (fun r h c => ⟨(h c).1.trans ?_, (h c).2⟩) (Cert.RefVIdeal.Value.run (F := Ideal) m' ρ')
  rw [(hagree c).1, (hagree c).2]
  exact Cert.RefVIdeal.Close.ref_eq _ _

end Cert.Proof
end
-- ==== Proof.ProjD.lean ====
module

public import proofs.«01_k».proof.Defs
public import proofs.«01_k».proof.Proof.Gen.ProjDIdeal.Value
public import proofs.«01_k».proof.Proof.Gen.RefDIdeal.Run
public import Idealize.ShloMosaic.Lib.Pointwise

@[expose] public section
noncomputable section

/-! The input projection of the columns 6544 to 9616: the kernel's blocks of 1024 rows by 1024 columns put together are the
    product of the tokens with those columns of the first layer's weights, the product alone. -/

namespace Cert.ProjDIdeal.Close
open Idealize.ShloMosaic Idealize.ShloMosaic.TcCoe Idealize.SL.Sem Idealize.ShloMosaic.Pointwise
open Cert.ProjDIdeal Cert.ProjDIdeal.Gen

/-- The tokens as launched. -/
abbrev Tok := FVec Ideal S4x2048x2048 .f32
/-- The weights as launched. -/
abbrev Wts := FVec Ideal S2x2048x21904 .f32

/-- One entry of the product: a token's row against a column of the first layer's weights. -/
def entry (a : Tok) (w : Wts) (i : Fin 8192) (j : Fin 3072) : EReal :=
  ∑ k : Fin 2048, a (ix3 ⟨i.val / 2048, by omega⟩ ⟨i.val % 2048, by omega⟩ k) * w (ix3 0 k ⟨6544 + j.val, by omega⟩)

/-- The whole result, entry by entry. -/
def whole (a : Tok) (w : Wts) : FVec Ideal S8192x3072 .f32 := fun i => entry a w (i 0) (i 1)

/-- What the body stores, entry by entry: the product of its two blocks. -/
theorem pay_apply (x : Vec Ideal S1024x2048 .bf16) (y : Vec Ideal S2048x1024 .bf16) (r : Fin 1024) (l : Fin 1024) :
    k0_pay1 x y (ix2 r l) = ∑ k : Fin 2048, x (ix2 r k) * y (ix2 k l) := by
  unfold k0_pay1
  try dsimp only
  pointwise

variable (m : (ℓ : Loc nD τ sig) → Buf (Elt Ideal) ℓ) (ρ : Dev nD → PrngReg)

/-- The tokens row by row. -/
def tok (a : Tok) : FVec Ideal S8192x2048 .bf16 := truncf .bf16 (shapeCast S8192x2048 a shapeCasts_S4x2048x2048_S8192x2048) bitsLt_bf16_f32
/-- The columns 6544 to 9616 of the first layer's weights. -/
def wts (w : Wts) : FVec Ideal S2048x3072 .bf16 := truncf .bf16 (extractStridedSlice S2048x3072 ![0, 6544] (shapeCast S2048x21904
    (extractStridedSlice S1x2048x21904 ![0, 0, 0] w slices_S2x2048x21904_S1x2048x21904_0_0_0)
      shapeCasts_S1x2048x21904_S2048x21904) slices_S2048x21904_S2048x3072_0_6544) bitsLt_bf16_f32

/-- The tokens the region finds: the argument's, row by row. -/
theorem tok_eq (c : Dev nD) : V m c main_v1 = tok (m ((c : Thread nD τ).loc main_arg0)) := by
  show StableHlo.after hostOps0 (fun b => m (c, b)) (Proc.devRef .tc main_v1) = _
  after_results <;> rfl

/-- The weights the region finds: the columns 6544 to 9616 of the argument's first layer. -/
theorem wts_eq (c : Dev nD) : V m c main_v5 = wts (m ((c : Thread nD τ).loc main_arg1)) := by
  show StableHlo.after hostOps0 (fun b => m (c, b)) (Proc.devRef .tc main_v5) = _
  after_results <;> rfl

/-- A token's entry in row-major rows. -/
theorem tok_apply (a : Tok) (i : Fin 8192) (k : Fin 2048) : tok a (ix2 i k) = a (ix3 ⟨i.val / 2048, by omega⟩ ⟨i.val % 2048, by omega⟩ k) := by
  unfold tok
  pointwise
/-- A weight's entry among its columns. -/
theorem wts_apply (w : Wts) (k : Fin 2048) (j : Fin 3072) : wts w (ix2 k j) = w (ix3 0 k ⟨6544 + j.val, by omega⟩) := by
  unfold wts
  pointwise

/-- Where the windows stand at each grid point. -/
theorem idx : ∀ t : Fin cfg0.N, (win0_0.index t 0 = t.val / 3 ∧ win0_0.index t 1 = 0) ∧ (win0_1.index t 0 = 0 ∧ win0_1.index t 1 = t.val % 3)
    ∧ (win0_2.index t 0 = t.val / 3 ∧ win0_2.index t 1 = t.val % 3) :=
  (by decide +kernel : ∀ t : Fin grid0.N, _)
theorem val_lt (t : Fin cfg0.N) : t.val < 24 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S8192x2048 .bf16) (ix2 ⟨t.val / 3 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 3 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 1024) :
    (iblk m c 1 t : Vec Ideal S2048x1024 .bf16) (ix2 k l)
      = (V m c main_v5 : Vec Ideal S2048x3072 .bf16) (ix2 k ⟨t.val % 3 * 1024 + l.val, by omega⟩) := by
  obtain ⟨-, ⟨h0, h1⟩, -⟩ := idx t
  unfold iblk
  rw [View.read_apply]
  show V m c main_v5 _ = V m c main_v5 _
  congr 1
  funext a
  apply Fin.ext
  match a with
  | ⟨0, _⟩ => show win0_1.index t 0 * 2048 + 1 * k.val = k.val; rw [h0]; omega
  | ⟨1, _⟩ => show win0_1.index t 1 * 1024 + 1 * l.val = _; rw [h1]; show _ = t.val % 3 * 1024 + l.val; omega

/-- The whole-buffer loads read the blocks and the one covering store leaves its payload. -/
theorem out_eq (x0 : Vec Ideal S1024x2048 .bf16) (x1 : Vec Ideal S2048x1024 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x1024) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 1024 := (y 1).isLt
  have hb0 : (((cfg0.win 2).blk t).view.emb y 0).val = win0_2.index t 0 * 1024 + 1 * (y 0).val := rfl
  have hb1 : (((cfg0.win 2).blk t).view.emb y 1).val = win0_2.index t 1 * 1024 + 1 * (y 1).val := rfl
  rw [h0] at hb0
  rw [h1] at hb1
  have e0 : ((cfg0.win 2).blk t).view.emb y 0 = (⟨t.val / 3 * 1024 + (y 0).val, by omega⟩ : Fin 8192) := Fin.ext (by rw [hb0]; simp)
  have e1 : ((cfg0.win 2).blk t).view.emb y 1 = (⟨t.val % 3 * 1024 + (y 1).val, by omega⟩ : Fin 3072) := Fin.ext (by rw [hb1]; simp)
  have hy : (cfg0.win 2).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  show k0_pay1 (iblk m c 0 t) (iblk m c 1 t) ((cfg0.win 2).xinj (grid0.coords t) y) = entry _ _ (((cfg0.win 2).blk t).view.emb y 0) (((cfg0.win 2).blk t).view.emb y 1)
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 1024) => (blk1_apply m c t k l).trans ((congrFun (wts_eq m c) _).trans (wts_apply _ _ _))
  simp only [hx, hw]

/-- Every entry is in some point's block. -/
theorem cover (i : S8192x3072.Idx) : ∃ t : Fin cfg0.N, (cfg0.win 2).flush t = true ∧ i ∈ ((cfg0.win 2).blk t).view.set := by
  have h0 : (i 0).val < 8192 := (i 0).isLt
  have h1 : (i 1).val < 3072 := (i 1).isLt
  obtain ⟨t, hv⟩ : ∃ t : Fin cfg0.N, t.val = (i 0).val / 1024 * 3 + (i 1).val / 1024 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 1024 ≤ (i 1).val ∧ (i 1).val < win0_2.index t 1 * 1024 + 1024; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.ProjDIdeal.Close

namespace Cert.RefDIdeal.Close
open Idealize.ShloMosaic Idealize.ShloMosaic.TcCoe Idealize.SL.Sem Idealize.ShloMosaic.Pointwise
open Cert.RefDIdeal Cert.RefDIdeal.Gen
open Cert.ProjDIdeal.Close (Tok Wts entry whole)

/-- The reference's result is the kernel's, entry by entry. -/
theorem ref_eq (a : Tok) (w : Wts) : ((extractStridedSlice S8192x3072 ![0, 6544] (Host.dotGeneral dot_S8192x2048_S2048x21904_S8192x21904_1_0_0_1_n_n none (shapeCast _ a shapeCasts_S4x2048x2048_S8192x2048) (shapeCast _ (extractStridedSlice S1x2048x21904 ![0, 0, 0] w slices_S2x2048x21904_S1x2048x21904_0_0_0) shapeCasts_S1x2048x21904_S2048x21904)) slices_S8192x21904_S8192x3072_0_6544) : FVec Ideal S8192x3072 .f32) = whole a w := by
  funext i
  rw [eq_ix2 i]
  show _ = entry a w (i 0) (i 1)
  unfold entry
  pointwise

end Cert.RefDIdeal.Close

namespace Cert.Proof
open Idealize.ShloMosaic Idealize.SL.Sem

/-- The kernel's projection of these columns and the reference's compute the same extended reals. -/
theorem algebraic_projD : Cert.algebraic_ProjDIdeal_RefDIdeal (hProjDIdeal := Cert.ProjDIdeal.Gen.facts) (hRefDIdeal := Cert.RefDIdeal.Gen.facts) := by
  intro m ρ m' ρ' _ hagree
  refine ⟨fun c => Cert.ProjDIdeal.Close.whole (m ((c.tc : Thread Cert.ProjDIdeal.nD Cert.ProjDIdeal.τ).loc Cert.ProjDIdeal.main_arg0)) (m ((c.tc : Thread Cert.ProjDIdeal.nD Cert.ProjDIdeal.τ).loc Cert.ProjDIdeal.main_arg1)),
    (θ_run _ _ _).mono (fun r h c => ⟨(h c).1.trans (Cert.ProjDIdeal.Close.final m c), (h c).2⟩) (Cert.ProjDIdeal.Value.run_blocks (F := Ideal) m ρ), ?_⟩
  refine (θ_run _ _ _).mono (fun r h c => ⟨(h c).1.trans ?_, (h c).2⟩) (Cert.RefDIdeal.Value.run (F := Ideal) m' ρ')
  rw [(hagree c).1, (hagree c).2]
  exact Cert.RefDIdeal.Close.ref_eq _ _

end Cert.Proof
end
-- ==== Proof.ProjZ.lean ====
module

public import proofs.«01_k».proof.Defs
public import proofs.«01_k».proof.Proof.Gen.ProjZIdeal.Value
public import proofs.«01_k».proof.Proof.Gen.RefZIdeal.Run
public import Idealize.ShloMosaic.Lib.Pointwise

@[expose] public section
noncomputable section

/-! The input projection of the columns 9616 to 13712: the kernel's blocks of 1024 rows by 1024 columns put together are the
    product of the tokens with those columns of the first layer's weights, the product through the gate `x / (1 + exp (-x))`. -/

namespace Cert.ProjZIdeal.Close
open Idealize.ShloMosaic Idealize.ShloMosaic.TcCoe Idealize.SL.Sem Idealize.ShloMosaic.Pointwise
open Cert.ProjZIdeal Cert.ProjZIdeal.Gen

/-- The tokens as launched. -/
abbrev Tok := FVec Ideal S4x2048x2048 .f32
/-- The weights as launched. -/
abbrev Wts := FVec Ideal S2x2048x21904 .f32
/-- The logistic function of a sum, as the reference spells it. -/
def sigm (x : EReal) : EReal := Ideal.div (Ideal.ofBits .f32 0x3F800000#32) (Ideal.ofBits .f32 0x3F800000#32 + Ideal.exp (-x))
/-- A value times its logistic. -/
def silu (x : EReal) : EReal := x * sigm x

/-- One entry of the product: a token's row against a column of the first layer's weights. -/
def entry (a : Tok) (w : Wts) (i : Fin 8192) (j : Fin 4096) : EReal :=
  ∑ k : Fin 2048, a (ix3 ⟨i.val / 2048, by omega⟩ ⟨i.val % 2048, by omega⟩ k) * w (ix3 0 k ⟨9616 + j.val, by omega⟩)

/-- The whole result, entry by entry. -/
def whole (a : Tok) (w : Wts) : FVec Ideal S8192x4096 .f32 := fun i => silu (entry a w (i 0) (i 1))

/-- What the body stores, entry by entry: the product of its two blocks. -/
theorem pay_apply (x : Vec Ideal S1024x2048 .bf16) (y : Vec Ideal S2048x1024 .bf16) (r : Fin 1024) (l : Fin 1024) :
    k0_pay1 x y (ix2 r l) = silu (∑ k : Fin 2048, x (ix2 r k) * y (ix2 k l)) := by
  unfold k0_pay1 Cert.ProjZIdeal.Close.silu Cert.ProjZIdeal.Close.sigm
  try dsimp only
  pointwise
  rfl

variable (m : (ℓ : Loc nD τ sig) → Buf (Elt Ideal) ℓ) (ρ : Dev nD → PrngReg)

/-- The tokens row by row. -/
def tok (a : Tok) : FVec Ideal S8192x2048 .bf16 := truncf .bf16 (shapeCast S8192x2048 a shapeCasts_S4x2048x2048_S8192x2048) bitsLt_bf16_f32
/-- The columns 9616 to 13712 of the first layer's weights. -/
def wts (w : Wts) : FVec Ideal S2048x4096 .bf16 := truncf .bf16 (extractStridedSlice S2048x4096 ![0, 9616] (shapeCast S2048x21904
    (extractStridedSlice S1x2048x21904 ![0, 0, 0] w slices_S2x2048x21904_S1x2048x21904_0_0_0)
      shapeCasts_S1x2048x21904_S2048x21904) slices_S2048x21904_S2048x4096_0_9616) bitsLt_bf16_f32

/-- The tokens the region finds: the argument's, row by row. -/
theorem tok_eq (c : Dev nD) : V m c main_v1 = tok (m ((c : Thread nD τ).loc main_arg0)) := by
  show StableHlo.after hostOps0 (fun b => m (c, b)) (Proc.devRef .tc main_v1) = _
  after_results <;> rfl

/-- The weights the region finds: the columns 9616 to 13712 of the argument's first layer. -/
theorem wts_eq (c : Dev nD) : V m c main_v5 = wts (m ((c : Thread nD τ).loc main_arg1)) := by
  show StableHlo.after hostOps0 (fun b => m (c, b)) (Proc.devRef .tc main_v5) = _
  after_results <;> rfl

/-- A token's entry in row-major rows. -/
theorem tok_apply (a : Tok) (i : Fin 8192) (k : Fin 2048) : tok a (ix2 i k) = a (ix3 ⟨i.val / 2048, by omega⟩ ⟨i.val % 2048, by omega⟩ k) := by
  unfold tok
  pointwise
/-- A weight's entry among its columns. -/
theorem wts_apply (w : Wts) (k : Fin 2048) (j : Fin 4096) : wts w (ix2 k j) = w (ix3 0 k ⟨9616 + j.val, by omega⟩) := by
  unfold wts
  pointwise

/-- Where the windows stand at each grid point. -/
theorem idx : ∀ t : Fin cfg0.N, (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) :=
  (by decide +kernel : ∀ t : Fin grid0.N, _)
theorem val_lt (t : Fin cfg0.N) : t.val < 32 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S8192x2048 .bf16) (ix2 ⟨t.val / 4 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 4 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 1024) :
    (iblk m c 1 t : Vec Ideal S2048x1024 .bf16) (ix2 k l)
      = (V m c main_v5 : Vec Ideal S2048x4096 .bf16) (ix2 k ⟨t.val % 4 * 1024 + l.val, by omega⟩) := by
  obtain ⟨-, ⟨h0, h1⟩, -⟩ := idx t
  unfold iblk
  rw [View.read_apply]
  show V m c main_v5 _ = V m c main_v5 _
  congr 1
  funext a
  apply Fin.ext
  match a with
  | ⟨0, _⟩ => show win0_1.index t 0 * 2048 + 1 * k.val = k.val; rw [h0]; omega
  | ⟨1, _⟩ => show win0_1.index t 1 * 1024 + 1 * l.val = _; rw [h1]; show _ = t.val % 4 * 1024 + l.val; omega

/-- The whole-buffer loads read the blocks and the one covering store leaves its payload. -/
theorem out_eq (x0 : Vec Ideal S1024x2048 .bf16) (x1 : Vec Ideal S2048x1024 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x1024) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 1024 := (y 1).isLt
  have hb0 : (((cfg0.win 2).blk t).view.emb y 0).val = win0_2.index t 0 * 1024 + 1 * (y 0).val := rfl
  have hb1 : (((cfg0.win 2).blk t).view.emb y 1).val = win0_2.index t 1 * 1024 + 1 * (y 1).val := rfl
  rw [h0] at hb0
  rw [h1] at hb1
  have e0 : ((cfg0.win 2).blk t).view.emb y 0 = (⟨t.val / 4 * 1024 + (y 0).val, by omega⟩ : Fin 8192) := Fin.ext (by rw [hb0]; simp)
  have e1 : ((cfg0.win 2).blk t).view.emb y 1 = (⟨t.val % 4 * 1024 + (y 1).val, by omega⟩ : Fin 4096) := Fin.ext (by rw [hb1]; simp)
  have hy : (cfg0.win 2).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  show k0_pay1 (iblk m c 0 t) (iblk m c 1 t) ((cfg0.win 2).xinj (grid0.coords t) y) = silu (entry _ _ (((cfg0.win 2).blk t).view.emb y 0) (((cfg0.win 2).blk t).view.emb y 1))
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 1024) => (blk1_apply m c t k l).trans ((congrFun (wts_eq m c) _).trans (wts_apply _ _ _))
  simp only [hx, hw]

/-- Every entry is in some point's block. -/
theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  obtain ⟨t, hv⟩ : ∃ t : Fin cfg0.N, t.val = (i 0).val / 1024 * 4 + (i 1).val / 1024 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 1024 ≤ (i 1).val ∧ (i 1).val < win0_2.index t 1 * 1024 + 1024; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.ProjZIdeal.Close

namespace Cert.RefZIdeal.Close
open Idealize.ShloMosaic Idealize.ShloMosaic.TcCoe Idealize.SL.Sem Idealize.ShloMosaic.Pointwise
open Cert.RefZIdeal Cert.RefZIdeal.Gen
open Cert.ProjZIdeal.Close (Tok Wts entry whole)

/-- The reference's result is the kernel's, entry by entry. -/
theorem ref_eq (a : Tok) (w : Wts) : (mulf (extractStridedSlice S8192x4096 ![0, 9616] (Host.dotGeneral dot_S8192x2048_S2048x21904_S8192x21904_1_0_0_1_n_n none (shapeCast _ a shapeCasts_S4x2048x2048_S8192x2048) (shapeCast _ (extractStridedSlice S1x2048x21904 ![0, 0, 0] w slices_S2x2048x21904_S1x2048x21904_0_0_0) shapeCasts_S1x2048x21904_S2048x21904)) slices_S8192x21904_S8192x4096_0_9616) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extractStridedSlice S8192x4096 ![0, 9616] (Host.dotGeneral dot_S8192x2048_S2048x21904_S8192x21904_1_0_0_1_n_n none (shapeCast _ a shapeCasts_S4x2048x2048_S8192x2048) (shapeCast _ (extractStridedSlice S1x2048x21904 ![0, 0, 0] w slices_S2x2048x21904_S1x2048x21904_0_0_0) shapeCasts_S1x2048x21904_S2048x21904)) slices_S8192x21904_S8192x4096_0_9616))))) : FVec Ideal S8192x4096 .f32) = whole a w := by
  funext i
  rw [eq_ix2 i]
  show _ = Cert.ProjZIdeal.Close.silu (entry a w (i 0) (i 1))
  unfold entry Cert.ProjZIdeal.Close.silu Cert.ProjZIdeal.Close.sigm
  pointwise

end Cert.RefZIdeal.Close

namespace Cert.Proof
open Idealize.ShloMosaic Idealize.SL.Sem

/-- The kernel's projection of these columns and the reference's compute the same extended reals. -/
theorem algebraic_projZ : Cert.algebraic_ProjZIdeal_RefZIdeal (hProjZIdeal := Cert.ProjZIdeal.Gen.facts) (hRefZIdeal := Cert.RefZIdeal.Gen.facts) := by
  intro m ρ m' ρ' _ hagree
  refine ⟨fun c => Cert.ProjZIdeal.Close.whole (m ((c.tc : Thread Cert.ProjZIdeal.nD Cert.ProjZIdeal.τ).loc Cert.ProjZIdeal.main_arg0)) (m ((c.tc : Thread Cert.ProjZIdeal.nD Cert.ProjZIdeal.τ).loc Cert.ProjZIdeal.main_arg1)),
    (θ_run _ _ _).mono (fun r h c => ⟨(h c).1.trans (Cert.ProjZIdeal.Close.final m c), (h c).2⟩) (Cert.ProjZIdeal.Value.run_blocks (F := Ideal) m ρ), ?_⟩
  refine (θ_run _ _ _).mono (fun r h c => ⟨(h c).1.trans ?_, (h c).2⟩) (Cert.RefZIdeal.Value.run (F := Ideal) m' ρ')
  rw [(hagree c).1, (hagree c).2]
  exact Cert.RefZIdeal.Close.ref_eq _ _

end Cert.Proof
end
-- ==== Proof.ProjG.lean ====
module

public import proofs.«01_k».proof.Defs
public import proofs.«01_k».proof.Proof.Gen.ProjGIdeal.Value
public import proofs.«01_k».proof.Proof.Gen.RefGIdeal.Run
public import Idealize.ShloMosaic.Lib.Pointwise

@[expose] public section
noncomputable section

/-! The input projection of the columns 13712 to 21904: the kernel's blocks of 1024 rows by 1024 columns put together are the
    product of the tokens with those columns of the first layer's weights, the product through the logistic function. -/

namespace Cert.ProjGIdeal.Close
open Idealize.ShloMosaic Idealize.ShloMosaic.TcCoe Idealize.SL.Sem Idealize.ShloMosaic.Pointwise
open Cert.ProjGIdeal Cert.ProjGIdeal.Gen

/-- The tokens as launched. -/
abbrev Tok := FVec Ideal S4x2048x2048 .f32
/-- The weights as launched. -/
abbrev Wts := FVec Ideal S2x2048x21904 .f32
/-- The logistic function of a sum, as the reference spells it. -/
def sigm (x : EReal) : EReal := Ideal.div (Ideal.ofBits .f32 0x3F800000#32) (Ideal.ofBits .f32 0x3F800000#32 + Ideal.exp (-x))

/-- One entry of the product: a token's row against a column of the first layer's weights. -/
def entry (a : Tok) (w : Wts) (i : Fin 8192) (j : Fin 8192) : EReal :=
  ∑ k : Fin 2048, a (ix3 ⟨i.val / 2048, by omega⟩ ⟨i.val % 2048, by omega⟩ k) * w (ix3 0 k ⟨13712 + j.val, by omega⟩)

/-- The whole result, entry by entry. -/
def whole (a : Tok) (w : Wts) : FVec Ideal S8192x8192 .f32 := fun i => sigm (entry a w (i 0) (i 1))

/-- What the body stores, entry by entry: the product of its two blocks. -/
theorem pay_apply (x : Vec Ideal S1024x2048 .bf16) (y : Vec Ideal S2048x1024 .bf16) (r : Fin 1024) (l : Fin 1024) :
    k0_pay1 x y (ix2 r l) = sigm (∑ k : Fin 2048, x (ix2 r k) * y (ix2 k l)) := by
  unfold k0_pay1 Cert.ProjGIdeal.Close.sigm
  try dsimp only
  pointwise
  rfl

variable (m : (ℓ : Loc nD τ sig) → Buf (Elt Ideal) ℓ) (ρ : Dev nD → PrngReg)

/-- The tokens row by row. -/
def tok (a : Tok) : FVec Ideal S8192x2048 .bf16 := truncf .bf16 (shapeCast S8192x2048 a shapeCasts_S4x2048x2048_S8192x2048) bitsLt_bf16_f32
/-- The columns 13712 to 21904 of the first layer's weights. -/
def wts (w : Wts) : FVec Ideal S2048x8192 .bf16 := truncf .bf16 (extractStridedSlice S2048x8192 ![0, 13712] (shapeCast S2048x21904
    (extractStridedSlice S1x2048x21904 ![0, 0, 0] w slices_S2x2048x21904_S1x2048x21904_0_0_0)
      shapeCasts_S1x2048x21904_S2048x21904) slices_S2048x21904_S2048x8192_0_13712) bitsLt_bf16_f32

/-- The tokens the region finds: the argument's, row by row. -/
theorem tok_eq (c : Dev nD) : V m c main_v1 = tok (m ((c : Thread nD τ).loc main_arg0)) := by
  show StableHlo.after hostOps0 (fun b => m (c, b)) (Proc.devRef .tc main_v1) = _
  after_results <;> rfl

/-- The weights the region finds: the columns 13712 to 21904 of the argument's first layer. -/
theorem wts_eq (c : Dev nD) : V m c main_v5 = wts (m ((c : Thread nD τ).loc main_arg1)) := by
  show StableHlo.after hostOps0 (fun b => m (c, b)) (Proc.devRef .tc main_v5) = _
  after_results <;> rfl

/-- A token's entry in row-major rows. -/
theorem tok_apply (a : Tok) (i : Fin 8192) (k : Fin 2048) : tok a (ix2 i k) = a (ix3 ⟨i.val / 2048, by omega⟩ ⟨i.val % 2048, by omega⟩ k) := by
  unfold tok
  pointwise
/-- A weight's entry among its columns. -/
theorem wts_apply (w : Wts) (k : Fin 2048) (j : Fin 8192) : wts w (ix2 k j) = w (ix3 0 k ⟨13712 + j.val, by omega⟩) := by
  unfold wts
  pointwise

/-- Where the windows stand at each grid point. -/
theorem idx : ∀ t : Fin cfg0.N, (win0_0.index t 0 = t.val / 8 ∧ win0_0.index t 1 = 0) ∧ (win0_1.index t 0 = 0 ∧ win0_1.index t 1 = t.val % 8)
    ∧ (win0_2.index t 0 = t.val / 8 ∧ win0_2.index t 1 = t.val % 8) :=
  (by decide +kernel : ∀ t : Fin grid0.N, _)
theorem val_lt (t : Fin cfg0.N) : t.val < 64 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S8192x2048 .bf16) (ix2 ⟨t.val / 8 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 8 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 1024) :
    (iblk m c 1 t : Vec Ideal S2048x1024 .bf16) (ix2 k l)
      = (V m c main_v5 : Vec Ideal S2048x8192 .bf16) (ix2 k ⟨t.val % 8 * 1024 + l.val, by omega⟩) := by
  obtain ⟨-, ⟨h0, h1⟩, -⟩ := idx t
  unfold iblk
  rw [View.read_apply]
  show V m c main_v5 _ = V m c main_v5 _
  congr 1
  funext a
  apply Fin.ext
  match a with
  | ⟨0, _⟩ => show win0_1.index t 0 * 2048 + 1 * k.val = k.val; rw [h0]; omega
  | ⟨1, _⟩ => show win0_1.index t 1 * 1024 + 1 * l.val = _; rw [h1]; show _ = t.val % 8 * 1024 + l.val; omega

/-- The whole-buffer loads read the blocks and the one covering store leaves its payload. -/
theorem out_eq (x0 : Vec Ideal S1024x2048 .bf16) (x1 : Vec Ideal S2048x1024 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x1024) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 1024 := (y 1).isLt
  have hb0 : (((cfg0.win 2).blk t).view.emb y 0).val = win0_2.index t 0 * 1024 + 1 * (y 0).val := rfl
  have hb1 : (((cfg0.win 2).blk t).view.emb y 1).val = win0_2.index t 1 * 1024 + 1 * (y 1).val := rfl
  rw [h0] at hb0
  rw [h1] at hb1
  have e0 : ((cfg0.win 2).blk t).view.emb y 0 = (⟨t.val / 8 * 1024 + (y 0).val, by omega⟩ : Fin 8192) := Fin.ext (by rw [hb0]; simp)
  have e1 : ((cfg0.win 2).blk t).view.emb y 1 = (⟨t.val % 8 * 1024 + (y 1).val, by omega⟩ : Fin 8192) := Fin.ext (by rw [hb1]; simp)
  have hy : (cfg0.win 2).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  show k0_pay1 (iblk m c 0 t) (iblk m c 1 t) ((cfg0.win 2).xinj (grid0.coords t) y) = sigm (entry _ _ (((cfg0.win 2).blk t).view.emb y 0) (((cfg0.win 2).blk t).view.emb y 1))
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 1024) => (blk1_apply m c t k l).trans ((congrFun (wts_eq m c) _).trans (wts_apply _ _ _))
  simp only [hx, hw]

/-- Every entry is in some point's block. -/
theorem cover (i : S8192x8192.Idx) : ∃ t : Fin cfg0.N, (cfg0.win 2).flush t = true ∧ i ∈ ((cfg0.win 2).blk t).view.set := by
  have h0 : (i 0).val < 8192 := (i 0).isLt
  have h1 : (i 1).val < 8192 := (i 1).isLt
  obtain ⟨t, hv⟩ : ∃ t : Fin cfg0.N, t.val = (i 0).val / 1024 * 8 + (i 1).val / 1024 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 1024 ≤ (i 1).val ∧ (i 1).val < win0_2.index t 1 * 1024 + 1024; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.ProjGIdeal.Close

namespace Cert.RefGIdeal.Close
open Idealize.ShloMosaic Idealize.ShloMosaic.TcCoe Idealize.SL.Sem Idealize.ShloMosaic.Pointwise
open Cert.RefGIdeal Cert.RefGIdeal.Gen
open Cert.ProjGIdeal.Close (Tok Wts entry whole)

/-- The reference's result is the kernel's, entry by entry. -/
theorem ref_eq (a : Tok) (w : Wts) : (Host.divf (broadcastInDim S8192x8192 ![] bcast_S_S8192x8192 (constant S_ .f32 0x3F800000#32)) (addf (broadcastInDim S8192x8192 ![] bcast_S_S8192x8192 (constant S_ .f32 0x3F800000#32)) (Host.exp (Host.negf (extractStridedSlice S8192x8192 ![0, 13712] (Host.dotGeneral dot_S8192x2048_S2048x21904_S8192x21904_1_0_0_1_n_n none (shapeCast _ a shapeCasts_S4x2048x2048_S8192x2048) (shapeCast _ (extractStridedSlice S1x2048x21904 ![0, 0, 0] w slices_S2x2048x21904_S1x2048x21904_0_0_0) shapeCasts_S1x2048x21904_S2048x21904)) slices_S8192x21904_S8192x8192_0_13712)))) : FVec Ideal S8192x8192 .f32) = whole a w := by
  funext i
  rw [eq_ix2 i]
  show _ = Cert.ProjGIdeal.Close.sigm (entry a w (i 0) (i 1))
  unfold entry Cert.ProjGIdeal.Close.sigm
  pointwise

end Cert.RefGIdeal.Close

namespace Cert.Proof
open Idealize.ShloMosaic Idealize.SL.Sem

/-- The kernel's projection of these columns and the reference's compute the same extended reals. -/
theorem algebraic_projG : Cert.algebraic_ProjGIdeal_RefGIdeal (hProjGIdeal := Cert.ProjGIdeal.Gen.facts) (hRefGIdeal := Cert.RefGIdeal.Gen.facts) := by
  intro m ρ m' ρ' _ hagree
  refine ⟨fun c => Cert.ProjGIdeal.Close.whole (m ((c.tc : Thread Cert.ProjGIdeal.nD Cert.ProjGIdeal.τ).loc Cert.ProjGIdeal.main_arg0)) (m ((c.tc : Thread Cert.ProjGIdeal.nD Cert.ProjGIdeal.τ).loc Cert.ProjGIdeal.main_arg1)),
    (θ_run _ _ _).mono (fun r h c => ⟨(h c).1.trans (Cert.ProjGIdeal.Close.final m c), (h c).2⟩) (Cert.ProjGIdeal.Value.run_blocks (F := Ideal) m ρ), ?_⟩
  refine (θ_run _ _ _).mono (fun r h c => ⟨(h c).1.trans ?_, (h c).2⟩) (Cert.RefGIdeal.Value.run (F := Ideal) m' ρ')
  rw [(hagree c).1, (hagree c).2]
  exact Cert.RefGIdeal.Close.ref_eq _ _

end Cert.Proof
end
-- ==== Proof.Merge.lean ====
module

public import proofs.«01_k».proof.Defs
public import proofs.«01_k».proof.Proof.Gen.MergeIdeal.Value
public import proofs.«01_k».proof.Proof.Gen.RefMIdeal.Run
public import Idealize.ShloMosaic.Lib.Pointwise
public import Idealize.ShloMosaic.Lib.VecWindow

@[expose] public section
set_option maxRecDepth 16384
noncomputable section

/-! The merge of the four branches: each block of 512 rows is visited four times, once for each branch, and the gated products
    are added up in a buffer kept between the visits; the last visit writes the sum out. -/

namespace Cert.MergeIdeal.Gen
open Idealize.ShloMosaic Idealize.ShloMosaic.TcCoe Idealize.ShloMosaic.Tactic Idealize.SL.Sem

variable {F : FTy → Type} [FloatOps F]

/-- What the body adds to the sum: the gate's rows times the branch's product with its weights, entry by entry. -/
def upd (a g : Vec F S512x2048 .f32) (y : Vec F S512x1024 .bf16) (w : Vec F S1x1024x2048 .bf16) : FVec F S512x2048 .f32 := k0_pay2 a g y w
/-- Equal operands, equal updates. -/
theorem upd_of {a a' g g' : Vec F S512x2048 .f32} {y y' : Vec F S512x1024 .bf16} {w w' : Vec F S1x1024x2048 .bf16} (ha : a = a') (hg : g = g') (hy : y = y') (hw : w = w') :
    upd a g y w = upd a' g' y' w' := by subst ha hg hy hw; rfl

/-- The sum a point of case A leaves. -/
theorem state_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x2048 .f32) (harg6 : arg6.IsWhole) (arg7 : Memref sig .tc .vmem S1x1024x2048 .bf16) (harg7 : arg7.IsWhole) (arg8 : Memref sig .tc .vmem S512x2048 .bf16) (harg8 : arg8.IsWhole) (arg9 : Memref sig .tc .vmem S512x2048 .f32) (harg9 : arg9.IsWhole) (hc0 : cond0_0 i) (hc1 : cond0_1 i) (hc2 : ¬cond0_2 i) (hc3 : ¬cond0_3 i) (hc4 : ¬cond0_4 i) (hc5 : ¬cond0_5 i)
    (x0 : Vec F S512x1024 .bf16) (x1 : Vec F S512x1024 .bf16) (x2 : Vec F S512x1024 .bf16) (x3 : Vec F S512x1024 .bf16) (x4 : Vec F S512x2048 .f32) (x5 : Vec F S1x1024x2048 .bf16) :
    sout0_A_0 c i arg2 harg2 arg3 harg3 arg4 harg4 arg5 harg5 arg6 harg6 arg7 harg7 arg8 harg8 arg9 harg9 hc0 hc1 hc2 hc3 hc4 hc5 x0 x1 x2 x3 x4 x5 = upd k0_pay1 x4 x0 x5 := by
  unfold sout0_A_0 kernelRun0_A
  dsimp only
  refine (View.read_writes_full _ _ _ _ _).trans ?_
  exact upd_of (View.readCov_full _ _ _ _ _) ((View.readAt_full _ _ _).trans (harg6.read_unread _)) ((View.readAt_full _ _ _).trans (harg2.read_unread _)) ((View.readAt_full _ _ _).trans (harg7.read_unread _))

/-- The sum a point of case B leaves. -/
theorem state_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x2048 .f32) (harg6 : arg6.IsWhole) (arg7 : Memref sig .tc .vmem S1x1024x2048 .bf16) (harg7 : arg7.IsWhole) (arg8 : Memref sig .tc .vmem S512x2048 .bf16) (harg8 : arg8.IsWhole) (arg9 : Memref sig .tc .vmem S512x2048 .f32) (harg9 : arg9.IsWhole) (hc0 : ¬cond0_0 i) (hc1 : ¬cond0_1 i) (hc2 : cond0_2 i) (hc3 : ¬cond0_3 i) (hc4 : ¬cond0_4 i) (hc5 : ¬cond0_5 i)
    (x0 : Vec F S512x1024 .bf16) (x1 : Vec F S512x1024 .bf16) (x2 : Vec F S512x1024 .bf16) (x3 : Vec F S512x1024 .bf16) (x4 : Vec F S512x2048 .f32) (x5 : Vec F S1x1024x2048 .bf16) (xs0 : Vec F S512x2048 .f32) :
    sout0_B_0 c i arg2 harg2 arg3 harg3 arg4 harg4 arg5 harg5 arg6 harg6 arg7 harg7 arg8 harg8 arg9 harg9 hc0 hc1 hc2 hc3 hc4 hc5 x0 x1 x2 x3 x4 x5 xs0 = upd xs0 x4 x1 x5 := by
  unfold sout0_B_0 kernelRun0_B
  dsimp only
  refine (View.read_writes_full _ _ _ _ _).trans ?_
  exact upd_of ((View.readAt_full _ _ _).trans (harg9.read_unread _)) ((View.readAt_full _ _ _).trans (harg6.read_unread _)) ((View.readAt_full _ _ _).trans (harg3.read_unread _)) ((View.readAt_full _ _ _).trans (harg7.read_unread _))

/-- The sum a point of case C leaves. -/
theorem state_C (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x2048 .f32) (harg6 : arg6.IsWhole) (arg7 : Memref sig .tc .vmem S1x1024x2048 .bf16) (harg7 : arg7.IsWhole) (arg8 : Memref sig .tc .vmem S512x2048 .bf16) (harg8 : arg8.IsWhole) (arg9 : Memref sig .tc .vmem S512x2048 .f32) (harg9 : arg9.IsWhole) (hc0 : ¬cond0_0 i) (hc1 : ¬cond0_1 i) (hc2 : ¬cond0_2 i) (hc3 : cond0_3 i) (hc4 : ¬cond0_4 i) (hc5 : ¬cond0_5 i)
    (x0 : Vec F S512x1024 .bf16) (x1 : Vec F S512x1024 .bf16) (x2 : Vec F S512x1024 .bf16) (x3 : Vec F S512x1024 .bf16) (x4 : Vec F S512x2048 .f32) (x5 : Vec F S1x1024x2048 .bf16) (xs0 : Vec F S512x2048 .f32) :
    sout0_C_0 c i arg2 harg2 arg3 harg3 arg4 harg4 arg5 harg5 arg6 harg6 arg7 harg7 arg8 harg8 arg9 harg9 hc0 hc1 hc2 hc3 hc4 hc5 x0 x1 x2 x3 x4 x5 xs0 = upd xs0 x4 x2 x5 := by
  unfold sout0_C_0 kernelRun0_C
  dsimp only
  refine (View.read_writes_full _ _ _ _ _).trans ?_
  exact upd_of ((View.readAt_full _ _ _).trans (harg9.read_unread _)) ((View.readAt_full _ _ _).trans (harg6.read_unread _)) ((View.readAt_full _ _ _).trans (harg4.read_unread _)) ((View.readAt_full _ _ _).trans (harg7.read_unread _))

/-- The sum a point of case D leaves. -/
theorem state_D (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x2048 .f32) (harg6 : arg6.IsWhole) (arg7 : Memref sig .tc .vmem S1x1024x2048 .bf16) (harg7 : arg7.IsWhole) (arg8 : Memref sig .tc .vmem S512x2048 .bf16) (harg8 : arg8.IsWhole) (arg9 : Memref sig .tc .vmem S512x2048 .f32) (harg9 : arg9.IsWhole) (hc0 : ¬cond0_0 i) (hc1 : ¬cond0_1 i) (hc2 : ¬cond0_2 i) (hc3 : ¬cond0_3 i) (hc4 : cond0_4 i) (hc5 : cond0_5 i)
    (x0 : Vec F S512x1024 .bf16) (x1 : Vec F S512x1024 .bf16) (x2 : Vec F S512x1024 .bf16) (x3 : Vec F S512x1024 .bf16) (x4 : Vec F S512x2048 .f32) (x5 : Vec F S1x1024x2048 .bf16) (xs0 : Vec F S512x2048 .f32) :
    sout0_D_0 c i arg2 harg2 arg3 harg3 arg4 harg4 arg5 harg5 arg6 harg6 arg7 harg7 arg8 harg8 arg9 harg9 hc0 hc1 hc2 hc3 hc4 hc5 x0 x1 x2 x3 x4 x5 xs0 = upd xs0 x4 x3 x5 := by
  unfold sout0_D_0 kernelRun0_D
  dsimp only
  delta kernelRun0_D.sl.HS0_1
  refine (View.read_writes_full _ _ _ _ _).trans ?_
  exact upd_of ((View.readAt_full _ _ _).trans (harg9.read_unread _)) ((View.readAt_full _ _ _).trans (harg6.read_unread _)) ((View.readAt_full _ _ _).trans (harg5.read_unread _)) ((View.readAt_full _ _ _).trans (harg7.read_unread _))

/-- What the last branch's point writes out. -/
theorem last_D (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x2048 .f32) (harg6 : arg6.IsWhole) (arg7 : Memref sig .tc .vmem S1x1024x2048 .bf16) (harg7 : arg7.IsWhole) (arg8 : Memref sig .tc .vmem S512x2048 .bf16) (harg8 : arg8.IsWhole) (arg9 : Memref sig .tc .vmem S512x2048 .f32) (harg9 : arg9.IsWhole) (hc0 : ¬cond0_0 i) (hc1 : ¬cond0_1 i) (hc2 : ¬cond0_2 i) (hc3 : ¬cond0_3 i) (hc4 : cond0_4 i) (hc5 : cond0_5 i)
    (x0 : Vec F S512x1024 .bf16) (x1 : Vec F S512x1024 .bf16) (x2 : Vec F S512x1024 .bf16) (x3 : Vec F S512x1024 .bf16) (x4 : Vec F S512x2048 .f32) (x5 : Vec F S1x1024x2048 .bf16) (xs0 : Vec F S512x2048 .f32) :
    out0_D_6 c i arg2 harg2 arg3 harg3 arg4 harg4 arg5 harg5 arg6 harg6 arg7 harg7 arg8 harg8 arg9 harg9 hc0 hc1 hc2 hc3 hc4 hc5 x0 x1 x2 x3 x4 x5 xs0 = k0_pay6 (upd xs0 x4 x3 x5) := by
  unfold out0_D_6 kernelRun0_D
  dsimp only
  refine (View.read_writes_full _ _ _ _ _).trans ?_
  delta kernelRun0_D.sl.v18 kernelRun0_D.sl.HS0_1
  refine congrArg k0_pay6 ((View.readCov_full _ _ _ _ _).trans ?_)
  exact upd_of ((View.readAt_full _ _ _).trans (harg9.read_unread _)) ((View.readAt_full _ _ _).trans (harg6.read_unread _)) ((View.readAt_full _ _ _).trans (harg5.read_unread _)) ((View.readAt_full _ _ _).trans (harg7.read_unread _))

end Cert.MergeIdeal.Gen

namespace Cert.MergeIdeal.Close
open Idealize.ShloMosaic Idealize.ShloMosaic.TcCoe Idealize.ShloMosaic.Tactic Idealize.SL.Sem Idealize.ShloMosaic.Pointwise
open Cert.MergeIdeal Cert.MergeIdeal.Gen

/-- A branch's product with its weights at the first layer, gated: one entry. -/
def tm (y : FVec Ideal S8192x1024 .bf16) (g : FVec Ideal S8192x8192 .f32) (w : FVec Ideal S2x4x1024x2048 .f32) (n : Fin 4) (i : Fin 8192) (j : Fin 2048) : EReal :=
  g (ix2 i ⟨n.val * 2048 + j.val, by omega⟩) * ∑ k : Fin 1024, y (ix2 i k) * w (ix4 0 n k j)

/-- One entry of the merged result: the four gated products added one after another to zero. -/
def entry (a0 a1 a2 a3 : FVec Ideal S8192x1024 .bf16) (g : FVec Ideal S8192x8192 .f32) (w : FVec Ideal S2x4x1024x2048 .f32) (i : Fin 8192) (j : Fin 2048) : EReal :=
  Ideal.ofBits .f32 0x00000000#32 + tm a0 g w 0 i j + tm a1 g w 1 i j + tm a2 g w 2 i j + tm a3 g w 3 i j

/-- The body's update, entry by entry. -/
theorem upd_apply (a g : Vec Ideal S512x2048 .f32) (y : Vec Ideal S512x1024 .bf16) (w : Vec Ideal S1x1024x2048 .bf16) (r : Fin 512) (l : Fin 2048) :
    upd a g y w (ix2 r l) = a (ix2 r l) + g (ix2 r l) * ∑ k : Fin 1024, y (ix2 r k) * w (ix3 0 k l) := by
  unfold upd k0_pay2
  pointwise

variable (m : (ℓ : Loc nD τ sig) → Buf (Elt Ideal) ℓ) (c : Dev nD)

/-- The first layer's weights by branch. -/
def wts (w : FVec Ideal S2x4x1024x2048 .f32) : FVec Ideal S4x1024x2048 .bf16 := truncf .bf16 (shapeCast S4x1024x2048
  (extractStridedSlice S1x4x1024x2048 ![0, 0, 0, 0] w slices_S2x4x1024x2048_S1x4x1024x2048_0_0_0_0) shapeCasts_S1x4x1024x2048_S4x1024x2048) bitsLt_bf16_f32

/-- The weights the region finds. -/
theorem wts_eq : V m c main_v2 = wts (m ((c : Thread nD τ).loc main_arg5)) := by
  show StableHlo.after hostOps0 (fun b => m (c, b)) (Proc.devRef .tc main_v2) = _
  after_results <;> rfl

/-- A weight's entry. -/
theorem wts_apply (w : FVec Ideal S2x4x1024x2048 .f32) (n : Fin 4) (k : Fin 1024) (l : Fin 2048) : wts w (ix3 n k l) = w (ix4 0 n k l) := by
  unfold wts
  pointwise

/-- There are 64 grid points. -/
theorem val_lt (t : Fin cfg0.N) : t.val < 64 := lt_of_lt_of_eq t.isLt N_0
/-- Row `r` of a point's block among all rows. -/
abbrev row (t : Fin cfg0.N) (r : Fin 512) : Fin 8192 := ⟨t.val / 4 * 512 + r.val, by have := val_lt t; omega⟩
/-- A point's branch. -/
abbrev br (t : Fin cfg0.N) : Fin 4 := ⟨t.val % 4, by omega⟩
/-- Column `l` of a branch's gate among all columns. -/
abbrev col (n : Fin 4) (l : Fin 2048) : Fin 8192 := ⟨n.val * 2048 + l.val, by omega⟩

/-- Where window 0 stands at each grid point. -/
theorem idx0 : ∀ t : Fin cfg0.N, win0_0.index t 0 = t.val / 4 ∧ win0_0.index t 1 = 0 :=
  (by decide +kernel : ∀ t : Fin grid0.N, _)
/-- Window 0's block at a grid point. -/
theorem blk0 (t : Fin cfg0.N) (r : Fin 512) (k : Fin 1024) : (iblk m c 0 t : Vec Ideal S512x1024 .bf16) (ix2 r k)
    = (V m c main_arg0 : Vec Ideal S8192x1024 .bf16) (ix2 (row t r) k) := by
  obtain ⟨h0, h1⟩ := idx0 t
  unfold iblk
  rw [View.read_apply]
  show V m c main_arg0 _ = V m c main_arg0 _
  congr 1
  funext a
  apply Fin.ext
  match a with
  | ⟨0, _⟩ => show win0_0.index t 0 * 512 + 1 * r.val = t.val / 4 * 512 + r.val; rw [h0] <;> omega
  | ⟨1, _⟩ => show win0_0.index t 1 * 1024 + 1 * k.val = k.val; rw [h1] <;> omega
/-- Where window 1 stands at each grid point. -/
theorem idx1 : ∀ t : Fin cfg0.N, win0_1.index t 0 = t.val / 4 ∧ win0_1.index t 1 = 0 :=
  (by decide +kernel : ∀ t : Fin grid0.N, _)
/-- Window 1's block at a grid point. -/
theorem blk1 (t : Fin cfg0.N) (r : Fin 512) (k : Fin 1024) : (iblk m c 1 t : Vec Ideal S512x1024 .bf16) (ix2 r k)
    = (V m c main_arg1 : Vec Ideal S8192x1024 .bf16) (ix2 (row t r) k) := by
  obtain ⟨h0, h1⟩ := idx1 t
  unfold iblk
  rw [View.read_apply]
  show V m c main_arg1 _ = V m c main_arg1 _
  congr 1
  funext a
  apply Fin.ext
  match a with
  | ⟨0, _⟩ => show win0_1.index t 0 * 512 + 1 * r.val = t.val / 4 * 512 + r.val; rw [h0] <;> omega
  | ⟨1, _⟩ => show win0_1.index t 1 * 1024 + 1 * k.val = k.val; rw [h1] <;> omega
/-- Where window 2 stands at each grid point. -/
theorem idx2 : ∀ t : Fin cfg0.N, win0_2.index t 0 = t.val / 4 ∧ win0_2.index t 1 = 0 :=
  (by decide +kernel : ∀ t : Fin grid0.N, _)
/-- Window 2's block at a grid point. -/
theorem blk2 (t : Fin cfg0.N) (r : Fin 512) (k : Fin 1024) : (iblk m c 2 t : Vec Ideal S512x1024 .bf16) (ix2 r k)
    = (V m c main_arg2 : Vec Ideal S8192x1024 .bf16) (ix2 (row t r) k) := by
  obtain ⟨h0, h1⟩ := idx2 t
  unfold iblk
  rw [View.read_apply]
  show V m c main_arg2 _ = V m c main_arg2 _
  congr 1
  funext a
  apply Fin.ext
  match a with
  | ⟨0, _⟩ => show win0_2.index t 0 * 512 + 1 * r.val = t.val / 4 * 512 + r.val; rw [h0] <;> omega
  | ⟨1, _⟩ => show win0_2.index t 1 * 1024 + 1 * k.val = k.val; rw [h1] <;> omega
/-- Where window 3 stands at each grid point. -/
theorem idx3 : ∀ t : Fin cfg0.N, win0_3.index t 0 = t.val / 4 ∧ win0_3.index t 1 = 0 :=
  (by decide +kernel : ∀ t : Fin grid0.N, _)
/-- Window 3's block at a grid point. -/
theorem blk3 (t : Fin cfg0.N) (r : Fin 512) (k : Fin 1024) : (iblk m c 3 t : Vec Ideal S512x1024 .bf16) (ix2 r k)
    = (V m c main_arg3 : Vec Ideal S8192x1024 .bf16) (ix2 (row t r) k) := by
  obtain ⟨h0, h1⟩ := idx3 t
  unfold iblk
  rw [View.read_apply]
  show V m c main_arg3 _ = V m c main_arg3 _
  congr 1
  funext a
  apply Fin.ext
  match a with
  | ⟨0, _⟩ => show win0_3.index t 0 * 512 + 1 * r.val = t.val / 4 * 512 + r.val; rw [h0] <;> omega
  | ⟨1, _⟩ => show win0_3.index t 1 * 1024 + 1 * k.val = k.val; rw [h1] <;> omega
/-- Where window 4 stands at each grid point. -/
theorem idx4 : ∀ t : Fin cfg0.N, win0_4.index t 0 = t.val / 4 ∧ win0_4.index t 1 = t.val % 4 :=
  (by decide +kernel : ∀ t : Fin grid0.N, _)
/-- Window 4's block at a grid point. -/
theorem blk4 (t : Fin cfg0.N) (r : Fin 512) (l : Fin 2048) : (iblk m c 4 t : Vec Ideal S512x2048 .f32) (ix2 r l)
    = (V m c main_arg4 : Vec Ideal S8192x8192 .f32) (ix2 (row t r) (col (br t) l)) := by
  obtain ⟨h0, h1⟩ := idx4 t
  unfold iblk
  rw [View.read_apply]
  show V m c main_arg4 _ = V m c main_arg4 _
  congr 1
  funext a
  apply Fin.ext
  match a with
  | ⟨0, _⟩ => show win0_4.index t 0 * 512 + 1 * r.val = t.val / 4 * 512 + r.val; rw [h0] <;> omega
  | ⟨1, _⟩ => show win0_4.index t 1 * 2048 + 1 * l.val = t.val % 4 * 2048 + l.val; rw [h1] <;> omega
/-- Where window 5 stands at each grid point. -/
theorem idx5 : ∀ t : Fin cfg0.N, win0_5.index t 0 = t.val % 4 ∧ win0_5.index t 1 = 0 ∧ win0_5.index t 2 = 0 :=
  (by decide +kernel : ∀ t : Fin grid0.N, _)
/-- Window 5's block at a grid point. -/
theorem blk5 (t : Fin cfg0.N) (k : Fin 1024) (l : Fin 2048) : (iblk m c 5 t : Vec Ideal S1x1024x2048 .bf16) (ix3 0 k l)
    = (V m c main_v2 : Vec Ideal S4x1024x2048 .bf16) (ix3 (br t) k l) := by
  obtain ⟨h0, h1, h2⟩ := idx5 t
  unfold iblk
  rw [View.read_apply]
  show V m c main_v2 _ = V m c main_v2 _
  congr 1
  funext a
  apply Fin.ext
  match a with
  | ⟨0, _⟩ => show win0_5.index t 0 * 1 + 1 * 0 = t.val % 4; rw [h0] <;> omega
  | ⟨1, _⟩ => show win0_5.index t 1 * 1024 + 1 * k.val = k.val; rw [h1] <;> omega
  | ⟨2, _⟩ => show win0_5.index t 2 * 2048 + 1 * l.val = l.val; rw [h2] <;> omega

/-- The arguments as launched: the branches' rows, the gate, the weights. -/
abbrev A0 : FVec Ideal S8192x1024 .bf16 := m ((c : Thread nD τ).loc main_arg0)
abbrev A1 : FVec Ideal S8192x1024 .bf16 := m ((c : Thread nD τ).loc main_arg1)
abbrev A2 : FVec Ideal S8192x1024 .bf16 := m ((c : Thread nD τ).loc main_arg2)
abbrev A3 : FVec Ideal S8192x1024 .bf16 := m ((c : Thread nD τ).loc main_arg3)
abbrev AG : FVec Ideal S8192x8192 .f32 := m ((c : Thread nD τ).loc main_arg4)
abbrev AW : FVec Ideal S2x4x1024x2048 .f32 := m ((c : Thread nD τ).loc main_arg5)

/-- What a point adds when it takes branch 0's rows. -/
theorem add0 (t : Fin cfg0.N) (a : Vec Ideal S512x2048 .f32) (r : Fin 512) (l : Fin 2048) :
    upd a (iblk m c 4 t) (iblk m c 0 t) (iblk m c 5 t) (ix2 r l) = a (ix2 r l) + tm (A0 m c) (AG m c) (AW m c) (br t) (row t r) l := by
  refine (upd_apply _ _ _ _ r l).trans ?_
  have hg := (blk4 m c t r l).trans (congrFun (V_main_arg4 m c) _)
  have hy := fun k : Fin 1024 => (blk0 m c t r k).trans (congrFun (V_main_arg0 m c) _)
  have hw := fun k : Fin 1024 => (blk5 m c t k l).trans ((congrFun (wts_eq m c) _).trans (wts_apply _ _ _ _))
  unfold tm
  rw [hg]
  simp only [hy, hw]
/-- What a point adds when it takes branch 1's rows. -/
theorem add1 (t : Fin cfg0.N) (a : Vec Ideal S512x2048 .f32) (r : Fin 512) (l : Fin 2048) :
    upd a (iblk m c 4 t) (iblk m c 1 t) (iblk m c 5 t) (ix2 r l) = a (ix2 r l) + tm (A1 m c) (AG m c) (AW m c) (br t) (row t r) l := by
  refine (upd_apply _ _ _ _ r l).trans ?_
  have hg := (blk4 m c t r l).trans (congrFun (V_main_arg4 m c) _)
  have hy := fun k : Fin 1024 => (blk1 m c t r k).trans (congrFun (V_main_arg1 m c) _)
  have hw := fun k : Fin 1024 => (blk5 m c t k l).trans ((congrFun (wts_eq m c) _).trans (wts_apply _ _ _ _))
  unfold tm
  rw [hg]
  simp only [hy, hw]
/-- What a point adds when it takes branch 2's rows. -/
theorem add2 (t : Fin cfg0.N) (a : Vec Ideal S512x2048 .f32) (r : Fin 512) (l : Fin 2048) :
    upd a (iblk m c 4 t) (iblk m c 2 t) (iblk m c 5 t) (ix2 r l) = a (ix2 r l) + tm (A2 m c) (AG m c) (AW m c) (br t) (row t r) l := by
  refine (upd_apply _ _ _ _ r l).trans ?_
  have hg := (blk4 m c t r l).trans (congrFun (V_main_arg4 m c) _)
  have hy := fun k : Fin 1024 => (blk2 m c t r k).trans (congrFun (V_main_arg2 m c) _)
  have hw := fun k : Fin 1024 => (blk5 m c t k l).trans ((congrFun (wts_eq m c) _).trans (wts_apply _ _ _ _))
  unfold tm
  rw [hg]
  simp only [hy, hw]
/-- What a point adds when it takes branch 3's rows. -/
theorem add3 (t : Fin cfg0.N) (a : Vec Ideal S512x2048 .f32) (r : Fin 512) (l : Fin 2048) :
    upd a (iblk m c 4 t) (iblk m c 3 t) (iblk m c 5 t) (ix2 r l) = a (ix2 r l) + tm (A3 m c) (AG m c) (AW m c) (br t) (row t r) l := by
  refine (upd_apply _ _ _ _ r l).trans ?_
  have hg := (blk4 m c t r l).trans (congrFun (V_main_arg4 m c) _)
  have hy := fun k : Fin 1024 => (blk3 m c t r k).trans (congrFun (V_main_arg3 m c) _)
  have hw := fun k : Fin 1024 => (blk5 m c t k l).trans ((congrFun (wts_eq m c) _).trans (wts_apply _ _ _ _))
  unfold tm
  rw [hg]
  simp only [hy, hw]

/-- Equal point numbers, equal contents. -/
theorem outs_congr (n n' : ℕ) (h : n < cfg0.N) (h' : n' < cfg0.N) (e : n = n') : outsAt0 m c n h = outsAt0 m c n' h' := by subst e; rfl
/-- The sum a point of branch 0 leaves. -/
theorem outsA (t : Fin cfg0.N) (h : t.val % 4 = 0) : (outsAt0 m c t.val t.isLt).2
    = upd k0_pay1 (iblk m c 4 t) (iblk m c 0 t) (iblk m c 5 t) := by
  rw [outsAt0_A m c t h h (by omega) (by omega) (by omega) (by omega)]; dsimp only; rw [state_A]
/-- The sum a point of branch 1 leaves. -/
theorem outsB (t : Fin cfg0.N) (h : t.val % 4 = 1) : (outsAt0 m c t.val t.isLt).2
    = upd (outsAt0 m c (t.val - 1) (Nat.lt_of_le_of_lt (Nat.sub_le _ _) t.isLt)).2 (iblk m c 4 t) (iblk m c 1 t) (iblk m c 5 t) := by
  rw [outsAt0_B m c t (by omega) (by omega) h (by omega) (by omega) (by omega)]; dsimp only; rw [state_B]
/-- The sum a point of branch 2 leaves. -/
theorem outsC (t : Fin cfg0.N) (h : t.val % 4 = 2) : (outsAt0 m c t.val t.isLt).2
    = upd (outsAt0 m c (t.val - 1) (Nat.lt_of_le_of_lt (Nat.sub_le _ _) t.isLt)).2 (iblk m c 4 t) (iblk m c 2 t) (iblk m c 5 t) := by
  rw [outsAt0_C m c t (by omega) (by omega) (by omega) h (by omega) (by omega)]; dsimp only; rw [state_C]
/-- The sum a point of branch 3 leaves. -/
theorem outsD (t : Fin cfg0.N) (h : t.val % 4 = 3) : (outsAt0 m c t.val t.isLt).2
    = upd (outsAt0 m c (t.val - 1) (Nat.lt_of_le_of_lt (Nat.sub_le _ _) t.isLt)).2 (iblk m c 4 t) (iblk m c 3 t) (iblk m c 5 t) := by
  rw [outsAt0_D m c t (by omega) (by omega) (by omega) (by omega) h h]; dsimp only; rw [state_D]
/-- What the last branch's point writes out. -/
theorem outsO (t : Fin cfg0.N) (h : t.val % 4 = 3) : (outsAt0 m c t.val t.isLt).1
    = k0_pay6 (upd (outsAt0 m c (t.val - 1) (Nat.lt_of_le_of_lt (Nat.sub_le _ _) t.isLt)).2 (iblk m c 4 t) (iblk m c 3 t) (iblk m c 5 t)) := by
  rw [outsAt0_D m c t (by omega) (by omega) (by omega) (by omega) h h]; dsimp only; rw [last_D]

/-- Point `n` of a block of rows. -/
abbrev pnt (q : Fin 16) (n : Fin 4) : Fin cfg0.N := ⟨4 * q.val + n.val, lt_of_lt_of_eq (by omega) N_0.symm⟩
/-- Row `r` of a block among all rows. -/
abbrev rw' (q : Fin 16) (r : Fin 512) : Fin 8192 := ⟨q.val * 512 + r.val, by omega⟩
/-- A block's points all stand at its rows. -/
theorem row_pnt (q : Fin 16) (n : Fin 4) (r : Fin 512) : row (pnt q n) r = rw' q r :=
  Fin.ext (by show (4 * q.val + n.val) / 4 * 512 + r.val = q.val * 512 + r.val; omega)
/-- Point `n` of a block takes branch `n`. -/
theorem br_pnt (q : Fin 16) (n : Fin 4) : br (pnt q n) = n :=
  Fin.ext (by show (4 * q.val + n.val) % 4 = n.val; omega)

/-- The sum after branch 0, entry by entry. -/
theorem sum0 (q : Fin 16) (r : Fin 512) (l : Fin 2048) : (outsAt0 m c (pnt q 0).val (pnt q 0).isLt).2 (ix2 r l)
    = Ideal.ofBits .f32 0x00000000#32 + tm (A0 m c) (AG m c) (AW m c) 0 (rw' q r) l := by
  refine (congrFun (outsA m c (pnt q 0) (by show (4 * q.val + 0) % 4 = 0; omega)) _).trans ((add0 m c (pnt q 0) _ r l).trans ?_)
  rw [row_pnt, br_pnt]
  refine congrArg (· + _) ?_
  rfl
/-- The sum after branch 1, entry by entry. -/
theorem sum1 (q : Fin 16) (r : Fin 512) (l : Fin 2048) : (outsAt0 m c (pnt q 1).val (pnt q 1).isLt).2 (ix2 r l)
    = Ideal.ofBits .f32 0x00000000#32 + tm (A0 m c) (AG m c) (AW m c) 0 (rw' q r) l + tm (A1 m c) (AG m c) (AW m c) 1 (rw' q r) l := by
  refine (congrFun (outsB m c (pnt q 1) (by show (4 * q.val + 1) % 4 = 1; omega)) _).trans ((add1 m c (pnt q 1) _ r l).trans ?_)
  rw [row_pnt, br_pnt]
  refine congrArg (· + _) ?_
  exact (congrFun (congrArg (fun p => p.2) (outs_congr m c _ (pnt q 0).val _ (pnt q 0).isLt (by show 4 * q.val + 1 - 1 = 4 * q.val + 0; omega))) _).trans (sum0 m c q r l)
/-- The sum after branch 2, entry by entry. -/
theorem sum2 (q : Fin 16) (r : Fin 512) (l : Fin 2048) : (outsAt0 m c (pnt q 2).val (pnt q 2).isLt).2 (ix2 r l)
    = Ideal.ofBits .f32 0x00000000#32 + tm (A0 m c) (AG m c) (AW m c) 0 (rw' q r) l + tm (A1 m c) (AG m c) (AW m c) 1 (rw' q r) l + tm (A2 m c) (AG m c) (AW m c) 2 (rw' q r) l := by
  refine (congrFun (outsC m c (pnt q 2) (by show (4 * q.val + 2) % 4 = 2; omega)) _).trans ((add2 m c (pnt q 2) _ r l).trans ?_)
  rw [row_pnt, br_pnt]
  refine congrArg (· + _) ?_
  exact (congrFun (congrArg (fun p => p.2) (outs_congr m c _ (pnt q 1).val _ (pnt q 1).isLt (by show 4 * q.val + 2 - 1 = 4 * q.val + 1; omega))) _).trans (sum1 m c q r l)
/-- What a block's last point writes out, entry by entry. -/
theorem sum3 (q : Fin 16) (r : Fin 512) (l : Fin 2048) : (outsAt0 m c (pnt q 3).val (pnt q 3).isLt).1 (ix2 r l)
    = entry (A0 m c) (A1 m c) (A2 m c) (A3 m c) (AG m c) (AW m c) (rw' q r) l := by
  refine (congrFun (outsO m c (pnt q 3) (by show (4 * q.val + 3) % 4 = 3; omega)) _).trans ?_
  refine Eq.trans (show _ = upd _ (iblk m c 4 (pnt q 3)) (iblk m c 3 (pnt q 3)) (iblk m c 5 (pnt q 3)) (ix2 r l) from rfl) ((add3 m c (pnt q 3) _ r l).trans ?_)
  rw [row_pnt, br_pnt]
  unfold entry
  refine congrArg (· + _) ?_
  exact (congrFun (congrArg (fun p => p.2) (outs_congr m c _ (pnt q 2).val _ (pnt q 2).isLt (by show 4 * q.val + 3 - 1 = 4 * q.val + 2; omega))) _).trans (sum2 m c q r l)

/-- The kernel's result, entry by entry. -/
theorem G6_apply (i : Fin 8192) (j : Fin 2048) :
    Value.G6 m c (ix2 i j) = entry (A0 m c) (A1 m c) (A2 m c) (A3 m c) (AG m c) (AW m c) i j := by
  have hp : Value.pt6Of (ix2 i j) = 4 * (i.val / 512) + 3 := by
    show 4 * (1 * (i.val / 512 - 0) + 1 * (j.val / 2048 - 0)) + 3 = _
    omega
  have hT : Value.pt6Of (ix2 i j) < cfg0.N := by rw [hp]; exact lt_of_lt_of_eq (by omega) N_0.symm
  unfold Value.G6
  rw [dif_pos hT]
  refine (congrFun (congrArg (fun p => p.1) (Value.outsAt0_sweep m c _ hT).symm) _).trans ?_
  have ey : Value.loc6Of (ix2 i j) = ix2 ⟨i.val % 512, by omega⟩ j := by
    funext a
    apply Fin.ext
    match a with
    | 0 => rfl
    | 1 => show j.val % 2048 = j.val; omega
  rw [ey]
  refine (congrFun (congrArg (fun p => p.1) (outs_congr m c _ (pnt ⟨i.val / 512, by omega⟩ 3).val _ (pnt ⟨i.val / 512, by omega⟩ 3).isLt hp)) _).trans ((sum3 m c _ _ _).trans ?_)
  have e : rw' ⟨i.val / 512, by omega⟩ ⟨i.val % 512, by omega⟩ = i := Fin.ext (by show i.val / 512 * 512 + i.val % 512 = i.val; omega)
  rw [e]

end Cert.MergeIdeal.Close

namespace Cert.RefMIdeal.Close
open Idealize.ShloMosaic Idealize.ShloMosaic.TcCoe Idealize.SL.Sem Idealize.ShloMosaic.Pointwise
open Cert.RefMIdeal Cert.RefMIdeal.Gen
open Cert.MergeIdeal.Close (tm entry)

/-- The reference's gated product of branch 0. -/
def br0 (y : FVec Ideal S8192x1024 .bf16) (g : FVec Ideal S8192x8192 .f32) (w : FVec Ideal S2x4x1024x2048 .f32) : FVec Ideal S8192x2048 .f32 :=
  mulf (shapeCast _ (extractStridedSlice S8192x1x2048 ![0, 0, 0] (shapeCast _ g shapeCasts_S8192x8192_S8192x4x2048) slices_S8192x4x2048_S8192x1x2048_0_0_0) shapeCasts_S8192x1x2048_S8192x2048) (Host.dotGeneral dot_S8192x1024_S1024x2048_S8192x2048_1_0_0_1_n_n none (extf .f32 y bitsLt_bf16_f32) (shapeCast _ (extractStridedSlice S1x1x1024x2048 ![0, 0, 0, 0] w slices_S2x4x1024x2048_S1x1x1024x2048_0_0_0_0) shapeCasts_S1x1x1024x2048_S1024x2048))
/-- Its entries. -/
theorem br0_apply (y : FVec Ideal S8192x1024 .bf16) (g : FVec Ideal S8192x8192 .f32) (w : FVec Ideal S2x4x1024x2048 .f32) (i : Fin 8192) (j : Fin 2048) :
    br0 y g w (ix2 i j) = tm y g w 0 i j := by
  unfold br0 tm
  pointwise
/-- The reference's gated product of branch 1. -/
def br1 (y : FVec Ideal S8192x1024 .bf16) (g : FVec Ideal S8192x8192 .f32) (w : FVec Ideal S2x4x1024x2048 .f32) : FVec Ideal S8192x2048 .f32 :=
  mulf (shapeCast _ (extractStridedSlice S8192x1x2048 ![0, 1, 0] (shapeCast _ g shapeCasts_S8192x8192_S8192x4x2048) slices_S8192x4x2048_S8192x1x2048_0_1_0) shapeCasts_S8192x1x2048_S8192x2048) (Host.dotGeneral dot_S8192x1024_S1024x2048_S8192x2048_1_0_0_1_n_n none (extf .f32 y bitsLt_bf16_f32) (shapeCast _ (extractStridedSlice S1x1x1024x2048 ![0, 1, 0, 0] w slices_S2x4x1024x2048_S1x1x1024x2048_0_1_0_0) shapeCasts_S1x1x1024x2048_S1024x2048))
/-- Its entries. -/
theorem br1_apply (y : FVec Ideal S8192x1024 .bf16) (g : FVec Ideal S8192x8192 .f32) (w : FVec Ideal S2x4x1024x2048 .f32) (i : Fin 8192) (j : Fin 2048) :
    br1 y g w (ix2 i j) = tm y g w 1 i j := by
  unfold br1 tm
  pointwise
/-- The reference's gated product of branch 2. -/
def br2 (y : FVec Ideal S8192x1024 .bf16) (g : FVec Ideal S8192x8192 .f32) (w : FVec Ideal S2x4x1024x2048 .f32) : FVec Ideal S8192x2048 .f32 :=
  mulf (shapeCast _ (extractStridedSlice S8192x1x2048 ![0, 2, 0] (shapeCast _ g shapeCasts_S8192x8192_S8192x4x2048) slices_S8192x4x2048_S8192x1x2048_0_2_0) shapeCasts_S8192x1x2048_S8192x2048) (Host.dotGeneral dot_S8192x1024_S1024x2048_S8192x2048_1_0_0_1_n_n none (extf .f32 y bitsLt_bf16_f32) (shapeCast _ (extractStridedSlice S1x1x1024x2048 ![0, 2, 0, 0] w slices_S2x4x1024x2048_S1x1x1024x2048_0_2_0_0) shapeCasts_S1x1x1024x2048_S1024x2048))
/-- Its entries. -/
theorem br2_apply (y : FVec Ideal S8192x1024 .bf16) (g : FVec Ideal S8192x8192 .f32) (w : FVec Ideal S2x4x1024x2048 .f32) (i : Fin 8192) (j : Fin 2048) :
    br2 y g w (ix2 i j) = tm y g w 2 i j := by
  unfold br2 tm
  pointwise
/-- The reference's gated product of branch 3. -/
def br3 (y : FVec Ideal S8192x1024 .bf16) (g : FVec Ideal S8192x8192 .f32) (w : FVec Ideal S2x4x1024x2048 .f32) : FVec Ideal S8192x2048 .f32 :=
  mulf (shapeCast _ (extractStridedSlice S8192x1x2048 ![0, 3, 0] (shapeCast _ g shapeCasts_S8192x8192_S8192x4x2048) slices_S8192x4x2048_S8192x1x2048_0_3_0) shapeCasts_S8192x1x2048_S8192x2048) (Host.dotGeneral dot_S8192x1024_S1024x2048_S8192x2048_1_0_0_1_n_n none (extf .f32 y bitsLt_bf16_f32) (shapeCast _ (extractStridedSlice S1x1x1024x2048 ![0, 3, 0, 0] w slices_S2x4x1024x2048_S1x1x1024x2048_0_3_0_0) shapeCasts_S1x1x1024x2048_S1024x2048))
/-- Its entries. -/
theorem br3_apply (y : FVec Ideal S8192x1024 .bf16) (g : FVec Ideal S8192x8192 .f32) (w : FVec Ideal S2x4x1024x2048 .f32) (i : Fin 8192) (j : Fin 2048) :
    br3 y g w (ix2 i j) = tm y g w 3 i j := by
  unfold br3 tm
  pointwise
/-- The reference's result, entry by entry. -/
theorem ref_apply (a0 a1 a2 a3 : FVec Ideal S8192x1024 .bf16) (a4 : FVec Ideal S8192x8192 .f32) (a5 : FVec Ideal S2x4x1024x2048 .f32) (i : Fin 8192) (j : Fin 2048) :
    (truncf .bf16 (addf (addf (addf (addf (broadcastInDim S8192x2048 ![] bcast_S_S8192x2048 (constant S_ .f32 0x00000000#32)) (mulf (shapeCast _ (extractStridedSlice S8192x1x2048 ![0, 0, 0] (shapeCast _ a4 shapeCasts_S8192x8192_S8192x4x2048) slices_S8192x4x2048_S8192x1x2048_0_0_0) shapeCasts_S8192x1x2048_S8192x2048) (Host.dotGeneral dot_S8192x1024_S1024x2048_S8192x2048_1_0_0_1_n_n none (extf .f32 a0 bitsLt_bf16_f32) (shapeCast _ (extractStridedSlice S1x1x1024x2048 ![0, 0, 0, 0] a5 slices_S2x4x1024x2048_S1x1x1024x2048_0_0_0_0) shapeCasts_S1x1x1024x2048_S1024x2048)))) (mulf (shapeCast _ (extractStridedSlice S8192x1x2048 ![0, 1, 0] (shapeCast _ a4 shapeCasts_S8192x8192_S8192x4x2048) slices_S8192x4x2048_S8192x1x2048_0_1_0) shapeCasts_S8192x1x2048_S8192x2048) (Host.dotGeneral dot_S8192x1024_S1024x2048_S8192x2048_1_0_0_1_n_n none (extf .f32 a1 bitsLt_bf16_f32) (shapeCast _ (extractStridedSlice S1x1x1024x2048 ![0, 1, 0, 0] a5 slices_S2x4x1024x2048_S1x1x1024x2048_0_1_0_0) shapeCasts_S1x1x1024x2048_S1024x2048)))) (mulf (shapeCast _ (extractStridedSlice S8192x1x2048 ![0, 2, 0] (shapeCast _ a4 shapeCasts_S8192x8192_S8192x4x2048) slices_S8192x4x2048_S8192x1x2048_0_2_0) shapeCasts_S8192x1x2048_S8192x2048) (Host.dotGeneral dot_S8192x1024_S1024x2048_S8192x2048_1_0_0_1_n_n none (extf .f32 a2 bitsLt_bf16_f32) (shapeCast _ (extractStridedSlice S1x1x1024x2048 ![0, 2, 0, 0] a5 slices_S2x4x1024x2048_S1x1x1024x2048_0_2_0_0) shapeCasts_S1x1x1024x2048_S1024x2048)))) (mulf (shapeCast _ (extractStridedSlice S8192x1x2048 ![0, 3, 0] (shapeCast _ a4 shapeCasts_S8192x8192_S8192x4x2048) slices_S8192x4x2048_S8192x1x2048_0_3_0) shapeCasts_S8192x1x2048_S8192x2048) (Host.dotGeneral dot_S8192x1024_S1024x2048_S8192x2048_1_0_0_1_n_n none (extf .f32 a3 bitsLt_bf16_f32) (shapeCast _ (extractStridedSlice S1x1x1024x2048 ![0, 3, 0, 0] a5 slices_S2x4x1024x2048_S1x1x1024x2048_0_3_0_0) shapeCasts_S1x1x1024x2048_S1024x2048)))) bitsLt_bf16_f32 : FVec Ideal S8192x2048 .bf16) (ix2 i j) = entry a0 a1 a2 a3 a4 a5 i j := by
  unfold entry
  rw [← br0_apply, ← br1_apply, ← br2_apply, ← br3_apply]
  rfl

end Cert.RefMIdeal.Close

namespace Cert.Proof
open Idealize.ShloMosaic Idealize.ShloMosaic.Pointwise Idealize.SL.Sem

/-- The kernel's merge of the four branches and the reference's compute the same extended reals. -/
theorem algebraic_merge : Cert.algebraic_MergeIdeal_RefMIdeal (hMergeIdeal := Cert.MergeIdeal.Gen.facts) (hRefMIdeal := Cert.RefMIdeal.Gen.facts) := by
  intro m ρ m' ρ' _ hagree
  refine ⟨fun c => Cert.MergeIdeal.Value.G6 m c,
    (θ_run _ _ _).mono (fun r h c => ⟨(h c).1, (h c).2⟩) (Cert.MergeIdeal.Value.run (F := Ideal) m ρ), ?_⟩
  refine (θ_run _ _ _).mono (fun r h c => ⟨(h c).1.trans ?_, (h c).2⟩) (Cert.RefMIdeal.Value.run (F := Ideal) m' ρ')
  funext i
  rw [eq_ix2 i]
  refine (Cert.RefMIdeal.Close.ref_apply _ _ _ _ _ _ _ _).trans (Eq.trans ?_ (Cert.MergeIdeal.Close.G6_apply m c _ _).symm)
  rw [(hagree c).1, (hagree c).2.1, (hagree c).2.2.1, (hagree c).2.2.2.1, (hagree c).2.2.2.2.1, (hagree c).2.2.2.2.2]

end Cert.Proof
end
-- ==== Proof.OutLn.lean ====
module

public import proofs.«01_k».proof.Defs
public import proofs.«01_k».proof.Proof.Gen.OutLnIdeal.Value
public import proofs.«01_k».proof.Proof.Gen.RefOIdeal.Run
public import Idealize.ShloMosaic.Lib.Pointwise

@[expose] public section
noncomputable section

/-! The layer's last call: the product of the merged branches with `w_out`, the scaled residual and the layer norm, by blocks of
    512 rows, is the layer norm of the whole arrays. -/

namespace Cert.OutLnIdeal.Close
open Idealize.ShloMosaic Idealize.ShloMosaic.TcCoe Idealize.SL.Sem Idealize.ShloMosaic.Pointwise
open Cert.OutLnIdeal Cert.OutLnIdeal.Gen

/-- The merged branches as launched. -/
abbrev Mer := FVec Ideal S8192x2048 .bf16
/-- The weights of both layers. -/
abbrev Wts := FVec Ideal S2x2048x2048 .f32
/-- The layer's input. -/
abbrev Tok := FVec Ideal S4x2048x2048 .f32
/-- A norm's weights or biases, of both layers. -/
abbrev Nrm := FVec Ideal S2x2048 .f32

/-- One entry before the norm: the scaled input plus the row's product. -/
def hid (x : EReal) (a w : Fin 2048 → EReal) : EReal := Ideal.ofBits .f32 0x3FB504F3#32 * x + ∑ k, a k * w k
/-- A row's mean. -/
def mean (h : Fin 2048 → EReal) : EReal := Ideal.div (∑ x, h x) (Ideal.ofBits .f32 0x45000000#32)
/-- A row centred, scaled to unit variance, times the norm's weight, plus its bias. -/
def lnorm (h : Fin 2048 → EReal) (g b : EReal) (l : Fin 2048) : EReal :=
  (h l - mean h) * Ideal.rsqrt (Ideal.div (∑ x, (h x - mean h) * (h x - mean h)) (Ideal.ofBits .f32 0x45000000#32)
    + Ideal.ofBits .f32 0x3727C5AC#32) * g + b

/-- One entry of the result. -/
def entry (a : Mer) (w : Wts) (x : Tok) (g b : Nrm) (i : Fin 8192) (j : Fin 2048) : EReal :=
  lnorm (fun l => hid (x (ix3 ⟨i.val / 2048, by omega⟩ ⟨i.val % 2048, by omega⟩ l)) (fun k => a (ix2 i k)) (fun k => w (ix3 0 k l)))
    (g (ix2 0 j)) (b (ix2 0 j)) j
/-- The whole result in f32. -/
def whole (a : Mer) (w : Wts) (x : Tok) (g b : Nrm) : FVec Ideal S8192x2048 .f32 := fun i => entry a w x g b (i 0) (i 1)
/-- The whole result in bf16. -/
def whole' (a : Mer) (w : Wts) (x : Tok) (g b : Nrm) : FVec Ideal S8192x2048 .bf16 := fun i => entry a w x g b (i 0) (i 1)

/-- What the body stores, entry by entry. -/
theorem pay_apply (a : Vec Ideal S512x2048 .bf16) (w : Vec Ideal S2048x2048 .bf16) (x : Vec Ideal S512x2048 .f32)
    (g b : Vec Ideal S1x2048 .f32) (r : Fin 512) (l : Fin 2048) : k0_pay1 a w x g b (ix2 r l)
      = lnorm (fun l => hid (x (ix2 r l)) (fun k => a (ix2 r k)) (fun k => w (ix2 k l))) (g (ix2 0 l)) (b (ix2 0 l)) l := by
  unfold k0_pay1 lnorm mean hid
  dsimp only
  pointwise
/-- Its second store is the same. -/
theorem pay2_apply (a : Vec Ideal S512x2048 .bf16) (w : Vec Ideal S2048x2048 .bf16) (x : Vec Ideal S512x2048 .f32)
    (g b : Vec Ideal S1x2048 .f32) (y : S512x2048.Idx) : k0_pay2 a w x g b y = k0_pay1 a w x g b y := by
  unfold k0_pay2
  rfl

variable (m : (ℓ : Loc nD τ sig) → Buf (Elt Ideal) ℓ) (ρ : Dev nD → PrngReg)

/-- The first layer's weights. -/
def wts (w : Wts) : FVec Ideal S2048x2048 .bf16 := truncf .bf16 (shapeCast S2048x2048
    (extractStridedSlice S1x2048x2048 ![0, 0, 0] w slices_S2x2048x2048_S1x2048x2048_0_0_0) shapeCasts_S1x2048x2048_S2048x2048) bitsLt_bf16_f32
/-- The layer's input row by row. -/
def tok (x : Tok) : FVec Ideal S8192x2048 .f32 := shapeCast S8192x2048 x shapeCasts_S4x2048x2048_S8192x2048
/-- The first layer's row of a norm. -/
def nrm (g : Nrm) : FVec Ideal S1x2048 .f32 := shapeCast S1x2048 (shapeCast S2048
    (extractStridedSlice S1x2048 ![0, 0] g slices_S2x2048_S1x2048_0_0) shapeCasts_S1x2048_S2048) shapeCasts_S2048_S1x2048

theorem mer_eq (c : Dev nD) : V m c main_arg0 = m ((c : Thread nD τ).loc main_arg0) := V_main_arg0 m c
theorem wts_eq (c : Dev nD) : V m c main_v2 = wts (m ((c : Thread nD τ).loc main_arg1)) := by
  show StableHlo.after hostOps0 (fun b => m (c, b)) (Proc.devRef .tc main_v2) = _
  after_results <;> rfl
theorem tok_eq (c : Dev nD) : V m c main_v3 = tok (m ((c : Thread nD τ).loc main_arg2)) := by
  show StableHlo.after hostOps0 (fun b => m (c, b)) (Proc.devRef .tc main_v3) = _
  after_results <;> rfl
theorem nrm_eq (c : Dev nD) : V m c main_v6 = nrm (m ((c : Thread nD τ).loc main_arg3)) := by
  show StableHlo.after hostOps0 (fun b => m (c, b)) (Proc.devRef .tc main_v6) = _
  after_results <;> rfl
theorem nrm'_eq (c : Dev nD) : V m c main_v9 = nrm (m ((c : Thread nD τ).loc main_arg4)) := by
  show StableHlo.after hostOps0 (fun b => m (c, b)) (Proc.devRef .tc main_v9) = _
  after_results <;> rfl

theorem tok_apply (a : Tok) (i : Fin 8192) (k : Fin 2048) : tok a (ix2 i k) = a (ix3 ⟨i.val / 2048, by omega⟩ ⟨i.val % 2048, by omega⟩ k) := by
  unfold tok
  pointwise
theorem wts_apply (w : Wts) (k j : Fin 2048) : wts w (ix2 k j) = w (ix3 0 k j) := by
  unfold wts
  pointwise
theorem nrm_apply (g : Nrm) (j : Fin 2048) : nrm g (ix2 0 j) = g (ix2 0 j) := by
  unfold nrm
  pointwise

/-- Where the windows stand at each grid point. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) :=
  (by decide +kernel : ∀ t : Fin grid0.N, _)
theorem val_lt (t : Fin cfg0.N) : t.val < 16 := lt_of_lt_of_eq t.isLt N_0
/-- Row `r` of a point's block among all rows. -/
abbrev at' (t : Fin cfg0.N) (r : Fin 512) : Fin 8192 := ⟨t.val * 512 + r.val, by have := val_lt t; omega⟩

/-- A point's block of merged rows. -/
theorem blk0_apply (c : Dev nD) (t : Fin cfg0.N) (r : Fin 512) (k : Fin 2048) :
    (iblk m c 0 t : Vec Ideal S512x2048 .bf16) (ix2 r k) = (V m c main_arg0 : Vec Ideal S8192x2048 .bf16) (ix2 (at' t r) k) := by
  obtain ⟨⟨h0, h1⟩, -⟩ := idx t
  unfold iblk
  rw [View.read_apply]
  show V m c main_arg0 _ = V m c main_arg0 _
  congr 1
  funext a
  apply Fin.ext
  match a with
  | ⟨0, _⟩ => show win0_0.index t 0 * 512 + 1 * r.val = t.val * 512 + r.val; rw [h0]; omega
  | ⟨1, _⟩ => show win0_0.index t 1 * 2048 + 1 * k.val = k.val; rw [h1]; omega

/-- A point's block of weights: all of them. -/
theorem blk1_apply (c : Dev nD) (t : Fin cfg0.N) (r k : Fin 2048) :
    (iblk m c 1 t : Vec Ideal S2048x2048 .bf16) (ix2 r k) = (V m c main_v2 : Vec Ideal S2048x2048 .bf16) (ix2 r k) := by
  obtain ⟨-, ⟨h0, h1⟩, -⟩ := idx t
  unfold iblk
  rw [View.read_apply]
  show V m c main_v2 _ = V m c main_v2 _
  congr 1
  funext a
  apply Fin.ext
  match a with
  | ⟨0, _⟩ => show win0_1.index t 0 * 2048 + 1 * r.val = r.val; rw [h0]; omega
  | ⟨1, _⟩ => show win0_1.index t 1 * 2048 + 1 * k.val = k.val; rw [h1]; omega

/-- A point's block of input rows. -/
theorem blk2_apply (c : Dev nD) (t : Fin cfg0.N) (r : Fin 512) (k : Fin 2048) :
    (iblk m c 2 t : Vec Ideal S512x2048 .f32) (ix2 r k) = (V m c main_v3 : Vec Ideal S8192x2048 .f32) (ix2 (at' t r) k) := by
  obtain ⟨-, -, ⟨h0, h1⟩, -⟩ := idx t
  unfold iblk
  rw [View.read_apply]
  show V m c main_v3 _ = V m c main_v3 _
  congr 1
  funext a
  apply Fin.ext
  match a with
  | ⟨0, _⟩ => show win0_2.index t 0 * 512 + 1 * r.val = t.val * 512 + r.val; rw [h0]; omega
  | ⟨1, _⟩ => show win0_2.index t 1 * 2048 + 1 * k.val = k.val; rw [h1]; omega

/-- A point's block of norm weights: all of them. -/
theorem blk3_apply (c : Dev nD) (t : Fin cfg0.N) (k : Fin 2048) :
    (iblk m c 3 t : Vec Ideal S1x2048 .f32) (ix2 0 k) = (V m c main_v6 : Vec Ideal S1x2048 .f32) (ix2 0 k) := by
  obtain ⟨-, -, -, ⟨h0, h1⟩, -⟩ := idx t
  unfold iblk
  rw [View.read_apply]
  show V m c main_v6 _ = V m c main_v6 _
  congr 1
  funext a
  apply Fin.ext
  match a with
  | ⟨0, _⟩ => show win0_3.index t 0 * 1 + 1 * 0 = 0; rw [h0]
  | ⟨1, _⟩ => show win0_3.index t 1 * 2048 + 1 * k.val = k.val; rw [h1]; omega

/-- A point's block of norm biases: all of them. -/
theorem blk4_apply (c : Dev nD) (t : Fin cfg0.N) (k : Fin 2048) :
    (iblk m c 4 t : Vec Ideal S1x2048 .f32) (ix2 0 k) = (V m c main_v9 : Vec Ideal S1x2048 .f32) (ix2 0 k) := by
  obtain ⟨-, -, -, -, ⟨h0, h1⟩, -⟩ := idx t
  unfold iblk
  rw [View.read_apply]
  show V m c main_v9 _ = V m c main_v9 _
  congr 1
  funext a
  apply Fin.ext
  match a with
  | ⟨0, _⟩ => show win0_4.index t 0 * 1 + 1 * 0 = 0; rw [h0]
  | ⟨1, _⟩ => show win0_4.index t 1 * 2048 + 1 * k.val = k.val; rw [h1]; omega

/-- The whole-buffer loads read the blocks and the one covering store leaves its payload. -/
theorem out5_eq (x0 : Vec Ideal S512x2048 .bf16) (x1 : Vec Ideal S2048x2048 .bf16) (x2 : Vec Ideal S512x2048 .f32) (x3 x4 : Vec Ideal S1x2048 .f32) :
    out0_5 (F := Ideal) x0 x1 x2 x3 x4 = k0_pay1 x0 x1 x2 x3 x4 := by
  have hz : (![0, 0] : Fin 2 → Nat) = fun _ => 0 := funext fun a => by fin_cases a <;> rfl
  unfold out0_5
  rw [View.canon_unit_zero hz, View.ld_unit_zero (S := S512x2048) hz, View.ld_unit_zero (S := S2048x2048) hz, View.ld_unit_zero (S := S512x2048) hz,
    View.ld_unit_zero (S := S1x2048) hz, View.ld_unit_zero (S := S1x2048) hz]
theorem out6_eq (x0 : Vec Ideal S512x2048 .bf16) (x1 : Vec Ideal S2048x2048 .bf16) (x2 : Vec Ideal S512x2048 .f32) (x3 x4 : Vec Ideal S1x2048 .f32) :
    out0_6 (F := Ideal) x0 x1 x2 x3 x4 = k0_pay2 x0 x1 x2 x3 x4 := by
  have hz : (![0, 0] : Fin 2 → Nat) = fun _ => 0 := funext fun a => by fin_cases a <;> rfl
  unfold out0_6
  rw [View.canon_unit_zero hz, View.ld_unit_zero (S := S512x2048) hz, View.ld_unit_zero (S := S2048x2048) hz, View.ld_unit_zero (S := S512x2048) hz,
    View.ld_unit_zero (S := S1x2048) hz, View.ld_unit_zero (S := S1x2048) hz]

/-- The payload of a point's blocks is its rows of the result. -/
theorem pay_blk (c : Dev nD) (t : Fin cfg0.N) (r : Fin 512) (l : Fin 2048) :
    k0_pay1 (iblk m c 0 t) (iblk m c 1 t) (iblk m c 2 t) (iblk m c 3 t) (iblk m c 4 t) (ix2 r l)
      = entry (m ((c : Thread nD τ).loc main_arg0)) (m ((c : Thread nD τ).loc main_arg1)) (m ((c : Thread nD τ).loc main_arg2))
        (m ((c : Thread nD τ).loc main_arg3)) (m ((c : Thread nD τ).loc main_arg4)) (at' t r) l := by
  rw [pay_apply]
  have h0 := fun (r : Fin 512) (k : Fin 2048) => (blk0_apply m c t r k).trans (congrFun (mer_eq m c) _)
  have h1 := fun (k l : Fin 2048) => (blk1_apply m c t k l).trans ((congrFun (wts_eq m c) _).trans (wts_apply _ _ _))
  have h2 := fun (r : Fin 512) (k : Fin 2048) => (blk2_apply m c t r k).trans ((congrFun (tok_eq m c) _).trans (tok_apply _ _ _))
  have h3 := fun (l : Fin 2048) => (blk3_apply m c t l).trans ((congrFun (nrm_eq m c) _).trans (nrm_apply _ _))
  have h4 := fun (l : Fin 2048) => (blk4_apply m c t l).trans ((congrFun (nrm'_eq m c) _).trans (nrm_apply _ _))
  unfold entry
  simp only [h0, h1, h2, h3, h4]

/-- What a point writes back to output window 5 is its block of the whole result. -/
theorem flushed5_eq (c : Dev nD) (t : Fin cfg0.N) : (dats m 0 c).flushed 5 t
    = ((cfg0.win 5).blk t).view.read (Elt Ideal) (whole (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5 m c t, out5_eq]
  obtain ⟨-, -, -, -, -, ⟨h0, h1⟩, -⟩ := idx t
  have ht := val_lt t
  funext y
  rw [View.read_apply]
  have hy0 : (y 0).val < 512 := (y 0).isLt
  have hy1 : (y 1).val < 2048 := (y 1).isLt
  have hb0 : (((cfg0.win 5).blk t).view.emb y 0).val = win0_5.index t 0 * 512 + 1 * (y 0).val := rfl
  have hb1 : (((cfg0.win 5).blk t).view.emb y 1).val = win0_5.index t 1 * 2048 + 1 * (y 1).val := rfl
  rw [h0] at hb0
  rw [h1] at hb1
  have e0 : ((cfg0.win 5).blk t).view.emb y 0 = at' t ⟨(y 0).val, hy0⟩ := Fin.ext (by rw [hb0]; simp)
  have e1 : ((cfg0.win 5).blk t).view.emb y 1 = (⟨(y 1).val, hy1⟩ : Fin 2048) := Fin.ext (by rw [hb1]; simp)
  have hy : (cfg0.win 5).xinj (grid0.coords t) y = ix2 (⟨(y 0).val, hy0⟩ : Fin 512) (⟨(y 1).val, hy1⟩ : Fin 2048) := by
    funext a; apply Fin.ext
    match a with
    | ⟨0, _⟩ => rfl
    | ⟨1, _⟩ => rfl
  show k0_pay1 (iblk m c 0 t) (iblk m c 1 t) (iblk m c 2 t) (iblk m c 3 t) (iblk m c 4 t) ((cfg0.win 5).xinj (grid0.coords t) y)
    = entry _ _ _ _ _ (((cfg0.win 5).blk t).view.emb y 0) (((cfg0.win 5).blk t).view.emb y 1)
  rw [hy, pay_blk, e0, e1]

/-- Every entry is in some point's block. -/
theorem cover5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  refine ⟨⟨(i 0).val / 512, lt_of_lt_of_eq (by omega) N_0.symm⟩, (by decide +kernel : ∀ t : Fin grid0.N, (cfg0.win 5).flush t = true) _, ?_⟩
  generalize ht : (⟨(i 0).val / 512, lt_of_lt_of_eq (by omega) N_0.symm⟩ : Fin cfg0.N) = t
  have hv : t.val = (i 0).val / 512 := by rw [← ht]
  obtain ⟨-, -, -, -, -, ⟨e0, e1⟩, -⟩ := idx t
  show i ∈ ((View.whole main_v10_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [e0]; omega
  | ⟨1, _⟩ => show win0_5.index t 1 * 2048 ≤ (i 1).val ∧ (i 1).val < win0_5.index t 1 * 2048 + 2048; rw [e1]; omega

/-- The array of output window 5 after the run. -/
theorem final5 (c : Dev nD) : (dats m 0 c).arrAt 5 cfg0.N = whole (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed5_eq m c t) cover5

/-- What a point writes back to output window 6 is its block of the whole result. -/
theorem flushed6_eq (c : Dev nD) (t : Fin cfg0.N) : (dats m 0 c).flushed 6 t
    = ((cfg0.win 6).blk t).view.read (Elt Ideal) (whole' (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed6 m c t, out6_eq]
  obtain ⟨-, -, -, -, -, -, ⟨h0, h1⟩⟩ := idx t
  have ht := val_lt t
  funext y
  rw [View.read_apply]
  have hy0 : (y 0).val < 512 := (y 0).isLt
  have hy1 : (y 1).val < 2048 := (y 1).isLt
  have hb0 : (((cfg0.win 6).blk t).view.emb y 0).val = win0_6.index t 0 * 512 + 1 * (y 0).val := rfl
  have hb1 : (((cfg0.win 6).blk t).view.emb y 1).val = win0_6.index t 1 * 2048 + 1 * (y 1).val := rfl
  rw [h0] at hb0
  rw [h1] at hb1
  have e0 : ((cfg0.win 6).blk t).view.emb y 0 = at' t ⟨(y 0).val, hy0⟩ := Fin.ext (by rw [hb0]; simp)
  have e1 : ((cfg0.win 6).blk t).view.emb y 1 = (⟨(y 1).val, hy1⟩ : Fin 2048) := Fin.ext (by rw [hb1]; simp)
  have hy : (cfg0.win 6).xinj (grid0.coords t) y = ix2 (⟨(y 0).val, hy0⟩ : Fin 512) (⟨(y 1).val, hy1⟩ : Fin 2048) := by
    funext a; apply Fin.ext
    match a with
    | ⟨0, _⟩ => rfl
    | ⟨1, _⟩ => rfl
  show k0_pay2 (iblk m c 0 t) (iblk m c 1 t) (iblk m c 2 t) (iblk m c 3 t) (iblk m c 4 t) ((cfg0.win 6).xinj (grid0.coords t) y)
    = entry _ _ _ _ _ (((cfg0.win 6).blk t).view.emb y 0) (((cfg0.win 6).blk t).view.emb y 1)
  rw [hy, pay2_apply, pay_blk, e0, e1]

/-- Every entry is in some point's block. -/
theorem cover6 (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  refine ⟨⟨(i 0).val / 512, lt_of_lt_of_eq (by omega) N_0.symm⟩, (by decide +kernel : ∀ t : Fin grid0.N, (cfg0.win 6).flush t = true) _, ?_⟩
  generalize ht : (⟨(i 0).val / 512, lt_of_lt_of_eq (by omega) N_0.symm⟩ : Fin cfg0.N) = t
  have hv : t.val = (i 0).val / 512 := by rw [← ht]
  obtain ⟨-, -, -, -, -, -, ⟨e0, e1⟩⟩ := idx t
  show i ∈ ((View.whole main_v10_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [e0]; omega
  | ⟨1, _⟩ => show win0_6.index t 1 * 2048 ≤ (i 1).val ∧ (i 1).val < win0_6.index t 1 * 2048 + 2048; rw [e1]; omega

/-- The array of output window 6 after the run. -/
theorem final6 (c : Dev nD) : (dats m 0 c).arrAt 6 cfg0.N = whole' (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 _ (fun t _ => flushed6_eq m c t) cover6

end Cert.OutLnIdeal.Close

namespace Cert.RefOIdeal.Close
open Idealize.ShloMosaic Idealize.ShloMosaic.TcCoe Idealize.SL.Sem Idealize.ShloMosaic.Pointwise
open Cert.RefOIdeal Cert.RefOIdeal.Gen Cert.RefOIdeal.Value
open Cert.OutLnIdeal.Close (Mer Wts Tok Nrm entry whole whole' lnorm mean hid)

variable (m : (ℓ : Loc nD τ sig) → Buf (Elt Ideal) ℓ)

/-- The array before the norm. -/
def hidA (a0 : Mer) (a1 : Wts) (a2 : Tok) : FVec Ideal S8192x2048 .f32 := addf (mulf (broadcastInDim S8192x2048 ![] bcast_S_S8192x2048 (constant S_ .f32 0x3FB504F3#32)) (shapeCast _ a2 shapeCasts_S4x2048x2048_S8192x2048)) (Host.dotGeneral dot_S8192x2048_S2048x2048_S8192x2048_1_0_0_1_n_n none (extf .f32 a0 bitsLt_bf16_f32) (shapeCast _ (extractStridedSlice S1x2048x2048 ![0, 0, 0] a1 slices_S2x2048x2048_S1x2048x2048_0_0_0) shapeCasts_S1x2048x2048_S2048x2048))
/-- The column of its row means. -/
def meanA (H : FVec Ideal S8192x2048 .f32) : FVec Ideal S8192x1 .f32 := Host.divf (broadcastInDim S8192x1 ![0] bcast_S8192_S8192x1_0 (Host.reduceAdd H (constant S_ .f32 0x00000000#32) reducesTo_S8192x2048_S8192_d1 h_S_)) (broadcastInDim S8192x1 ![] bcast_S_S8192x1 (constant S_ .f32 0x45000000#32))
/-- Its norm. -/
def lnA (H : FVec Ideal S8192x2048 .f32) (a3 a4 : Nrm) : FVec Ideal S8192x2048 .f32 := addf (mulf (mulf (subf H (broadcastInDim S8192x2048 ![0, 1] bcast_S8192x1_S8192x2048_0_1 (meanA H))) (broadcastInDim S8192x2048 ![0, 1] bcast_S8192x1_S8192x2048_0_1 (Host.rsqrt (addf (Host.divf (broadcastInDim S8192x1 ![0] bcast_S8192_S8192x1_0 (Host.reduceAdd (mulf (subf H (broadcastInDim S8192x2048 ![0, 1] bcast_S8192x1_S8192x2048_0_1 (meanA H))) (subf H (broadcastInDim S8192x2048 ![0, 1] bcast_S8192x1_S8192x2048_0_1 (meanA H)))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ (extractStridedSlice S1x2048 ![0, 0] a3 slices_S2x2048_S1x2048_0_0) shapeCasts_S1x2048_S2048)))) (broadcastInDim S8192x2048 ![0, 1] bcast_S1x2048_S8192x2048_0_1 (broadcastInDim S1x2048 ![1] bcast_S2048_S1x2048_1 (shapeCast _ (extractStridedSlice S1x2048 ![0, 0] a4 slices_S2x2048_S1x2048_0_0) shapeCasts_S1x2048_S2048)))
theorem hidA_apply (a0 : Mer) (a1 : Wts) (a2 : Tok) (i : Fin 8192) (l : Fin 2048) : hidA a0 a1 a2 (ix2 i l)
    = hid (a2 (ix3 ⟨i.val / 2048, by omega⟩ ⟨i.val % 2048, by omega⟩ l)) (fun k => a0 (ix2 i k)) (fun k => a1 (ix3 0 k l)) := by
  unfold hidA hid
  pointwise
theorem meanA_apply (H : FVec Ideal S8192x2048 .f32) (i : Fin 8192) : meanA H (ix2 i 0) = mean (fun l => H (ix2 i l)) := by
  unfold meanA mean
  pointwise
theorem lnA_apply (H : FVec Ideal S8192x2048 .f32) (a3 a4 : Nrm) (i : Fin 8192) (j : Fin 2048) :
    lnA H a3 a4 (ix2 i j) = lnorm (fun l => H (ix2 i l)) (a3 (ix2 0 j)) (a4 (ix2 0 j)) j := by
  unfold lnA lnorm
  pointwise
  simp only [meanA_apply]
set_option maxRecDepth 65536 in
theorem res_eq (c : Dev nD) : res_main_v35 m c = lnA (hidA (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) := by
  unfold res_main_v35
  rfl
/-- The reference's first result, entry by entry. -/
theorem ref_apply (c : Dev nD) (i : Fin 8192) (j : Fin 2048) : res_main_v35 m c (ix2 i j) = entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i j := by
  rw [res_eq]
  refine (lnA_apply _ _ _ i j).trans ?_
  unfold entry
  simp only [hidA_apply]
theorem ref0_eq (c : Dev nD) : res_main_v35 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  rw [eq_ix2 i]
  exact ref_apply m c _ _
set_option maxRecDepth 65536 in
theorem res1_eq (c : Dev nD) : res_main_v36 m c = (truncf .bf16 (res_main_v35 m c : FVec Ideal S8192x2048 .f32) bitsLt_bf16_f32 : FVec Ideal S8192x2048 .bf16) := by
  unfold res_main_v36 res_main_v35
  rfl
theorem ref1_eq (c : Dev nD) : res_main_v36 m c = whole' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [res1_eq]
  funext i
  rw [eq_ix2 i]
  exact ref_apply m c _ _

end Cert.RefOIdeal.Close

namespace Cert.Proof
open Idealize.ShloMosaic Idealize.SL.Sem

/-- The kernel's output product with its layer norm and the reference's compute the same extended reals, both results. -/
theorem algebraic_outln : Cert.algebraic_OutLnIdeal_RefOIdeal (hOutLnIdeal := Cert.OutLnIdeal.Gen.facts) (hRefOIdeal := Cert.RefOIdeal.Gen.facts) := by
  intro m ρ m' ρ' _ hagree
  refine ⟨fun c => Cert.OutLnIdeal.Close.whole (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1)) (m ((c.tc : Thread Cert.OutLnIdeal.nD Cert.OutLnIdeal.τ).loc Cert.OutLnIdeal.main_arg2)) (m ((c.tc : Thread Cert.OutLnIdeal.nD Cert.OutLnIdeal.τ).loc Cert.OutLnIdeal.main_arg3)) (m ((c.tc : Thread Cert.OutLnIdeal.nD Cert.OutLnIdeal.τ).loc Cert.OutLnIdeal.main_arg4)), fun c => Cert.OutLnIdeal.Close.whole' (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1)) (m ((c.tc : Thread Cert.OutLnIdeal.nD Cert.OutLnIdeal.τ).loc Cert.OutLnIdeal.main_arg2)) (m ((c.tc : Thread Cert.OutLnIdeal.nD Cert.OutLnIdeal.τ).loc Cert.OutLnIdeal.main_arg3)) (m ((c.tc : Thread Cert.OutLnIdeal.nD Cert.OutLnIdeal.τ).loc Cert.OutLnIdeal.main_arg4)),
    (θ_run _ _ _).mono (fun r h c => ⟨(h c).1.trans (Cert.OutLnIdeal.Close.final5 m c), (h c).2.1.trans (Cert.OutLnIdeal.Close.final6 m c), (h c).2.2⟩)
      (Cert.OutLnIdeal.Value.run_blocks (F := Ideal) m ρ), ?_⟩
  refine (θ_run _ _ _).mono (fun r h c => ⟨(h c).1.trans ?_, (h c).2.1.trans ?_, (h c).2.2⟩) (Cert.RefOIdeal.Value.run (F := Ideal) m' ρ')
  · refine (Cert.RefOIdeal.Close.ref0_eq m' c).trans ?_
    rw [(hagree c).1, (hagree c).2.1, (hagree c).2.2.1, (hagree c).2.2.2.1, (hagree c).2.2.2.2]
  · refine (Cert.RefOIdeal.Close.ref1_eq m' c).trans ?_
    rw [(hagree c).1, (hagree c).2.1, (hagree c).2.2.1, (hagree c).2.2.2.1, (hagree c).2.2.2.2]

end Cert.Proof
end
-- ==== Proof.SampA.lean ====
module

public import proofs.«01_k».proof.Defs
public import proofs.«01_k».proof.Proof.Gen.SampAIdeal.Value
public import proofs.«01_k».proof.Proof.Gen.RefSAIdeal.Run
public import Idealize.ShloMosaic.Lib.Pointwise

@[expose] public section
noncomputable section

/-! The sample group: the input projection of the columns 0 to 3200: the kernel's blocks of 1024 rows by 640 columns put together are the
    product of the tokens with those columns of the first layer's weights, the product alone. -/

namespace Cert.SampAIdeal.Close
open Idealize.ShloMosaic Idealize.ShloMosaic.TcCoe Idealize.SL.Sem Idealize.ShloMosaic.Pointwise
open Cert.SampAIdeal Cert.SampAIdeal.Gen

/-- The tokens as launched. -/
abbrev Tok := FVec Ideal S128x8x2048 .f32
/-- The weights as launched. -/
abbrev Wts := FVec Ideal S2x2048x21904 .f32

/-- One entry of the product: a token's row against a column of the first layer's weights. -/
def entry (a : Tok) (w : Wts) (i : Fin 1024) (j : Fin 3200) : EReal :=
  ∑ k : Fin 2048, a (ix3 ⟨i.val / 8, by omega⟩ ⟨i.val % 8, by omega⟩ k) * w (ix3 0 k ⟨0 + j.val, by omega⟩)

/-- The whole result, entry by entry. -/
def whole (a : Tok) (w : Wts) : FVec Ideal S1024x3200 .f32 := fun i => entry a w (i 0) (i 1)

/-- What the body stores, entry by entry: the product of its two blocks. -/
theorem pay_apply (x : Vec Ideal S1024x2048 .bf16) (y : Vec Ideal S2048x640 .bf16) (r : Fin 1024) (l : Fin 640) :
    k0_pay1 x y (ix2 r l) = ∑ k : Fin 2048, x (ix2 r k) * y (ix2 k l) := by
  unfold k0_pay1
  try dsimp only
  pointwise

variable (m : (ℓ : Loc nD τ sig) → Buf (Elt Ideal) ℓ) (ρ : Dev nD → PrngReg)

/-- The tokens row by row. -/
def tok (a : Tok) : FVec Ideal S1024x2048 .bf16 := truncf .bf16 (shapeCast S1024x2048 a shapeCasts_S128x8x2048_S1024x2048) bitsLt_bf16_f32
/-- The columns 0 to 3200 of the first layer's weights. -/
def wts (w : Wts) : FVec Ideal S2048x3200 .bf16 := truncf .bf16 (extractStridedSlice S2048x3200 ![0, 0] (shapeCast S2048x21904
    (extractStridedSlice S1x2048x21904 ![0, 0, 0] w slices_S2x2048x21904_S1x2048x21904_0_0_0)
      shapeCasts_S1x2048x21904_S2048x21904) slices_S2048x21904_S2048x3200_0_0) bitsLt_bf16_f32

/-- The tokens the region finds: the argument's, row by row. -/
theorem tok_eq (c : Dev nD) : V m c main_v1 = tok (m ((c : Thread nD τ).loc main_arg0)) := by
  show StableHlo.after hostOps0 (fun b => m (c, b)) (Proc.devRef .tc main_v1) = _
  after_results <;> rfl

/-- The weights the region finds: the columns 0 to 3200 of the argument's first layer. -/
theorem wts_eq (c : Dev nD) : V m c main_v5 = wts (m ((c : Thread nD τ).loc main_arg1)) := by
  show StableHlo.after hostOps0 (fun b => m (c, b)) (Proc.devRef .tc main_v5) = _
  after_results <;> rfl

/-- A token's entry in row-major rows. -/
theorem tok_apply (a : Tok) (i : Fin 1024) (k : Fin 2048) : tok a (ix2 i k) = a (ix3 ⟨i.val / 8, by omega⟩ ⟨i.val % 8, by omega⟩ k) := by
  unfold tok
  pointwise
/-- A weight's entry among its columns. -/
theorem wts_apply (w : Wts) (k : Fin 2048) (j : Fin 3200) : wts w (ix2 k j) = w (ix3 0 k ⟨0 + j.val, by omega⟩) := by
  unfold wts
  pointwise

/-- Where the windows stand at each grid point. -/
theorem idx : ∀ t : Fin cfg0.N, (win0_0.index t 0 = t.val / 5 ∧ win0_0.index t 1 = 0) ∧ (win0_1.index t 0 = 0 ∧ win0_1.index t 1 = t.val % 5)
    ∧ (win0_2.index t 0 = t.val / 5 ∧ win0_2.index t 1 = t.val % 5) :=
  (by decide +kernel : ∀ t : Fin grid0.N, _)
theorem val_lt (t : Fin cfg0.N) : t.val < 5 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S1024x2048 .bf16) (ix2 ⟨t.val / 5 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 5 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 640) :
    (iblk m c 1 t : Vec Ideal S2048x640 .bf16) (ix2 k l)
      = (V m c main_v5 : Vec Ideal S2048x3200 .bf16) (ix2 k ⟨t.val % 5 * 640 + l.val, by omega⟩) := by
  obtain ⟨-, ⟨h0, h1⟩, -⟩ := idx t
  unfold iblk
  rw [View.read_apply]
  show V m c main_v5 _ = V m c main_v5 _
  congr 1
  funext a
  apply Fin.ext
  match a with
  | ⟨0, _⟩ => show win0_1.index t 0 * 2048 + 1 * k.val = k.val; rw [h0]; omega
  | ⟨1, _⟩ => show win0_1.index t 1 * 640 + 1 * l.val = _; rw [h1]; show _ = t.val % 5 * 640 + l.val; omega

/-- The whole-buffer loads read the blocks and the one covering store leaves its payload. -/
theorem out_eq (x0 : Vec Ideal S1024x2048 .bf16) (x1 : Vec Ideal S2048x640 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x640) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 640 := (y 1).isLt
  have hb0 : (((cfg0.win 2).blk t).view.emb y 0).val = win0_2.index t 0 * 1024 + 1 * (y 0).val := rfl
  have hb1 : (((cfg0.win 2).blk t).view.emb y 1).val = win0_2.index t 1 * 640 + 1 * (y 1).val := rfl
  rw [h0] at hb0
  rw [h1] at hb1
  have e0 : ((cfg0.win 2).blk t).view.emb y 0 = (⟨t.val / 5 * 1024 + (y 0).val, by omega⟩ : Fin 1024) := Fin.ext (by rw [hb0]; simp)
  have e1 : ((cfg0.win 2).blk t).view.emb y 1 = (⟨t.val % 5 * 640 + (y 1).val, by omega⟩ : Fin 3200) := Fin.ext (by rw [hb1]; simp)
  have hy : (cfg0.win 2).xinj (grid0.coords t) y = ix2 (⟨(y 0).val, hy0⟩ : Fin 1024) (⟨(y 1).val, hy1⟩ : Fin 640) := by
    funext a; apply Fin.ext
    match a with
    | ⟨0, _⟩ => rfl
    | ⟨1, _⟩ => rfl
  show k0_pay1 (iblk m c 0 t) (iblk m c 1 t) ((cfg0.win 2).xinj (grid0.coords t) y) = entry _ _ (((cfg0.win 2).blk t).view.emb y 0) (((cfg0.win 2).blk t).view.emb y 1)
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 640) => (blk1_apply m c t k l).trans ((congrFun (wts_eq m c) _).trans (wts_apply _ _ _))
  simp only [hx, hw]

/-- Every entry is in some point's block. -/
theorem cover (i : S1024x3200.Idx) : ∃ t : Fin cfg0.N, (cfg0.win 2).flush t = true ∧ i ∈ ((cfg0.win 2).blk t).view.set := by
  have h0 : (i 0).val < 1024 := (i 0).isLt
  have h1 : (i 1).val < 3200 := (i 1).isLt
  obtain ⟨t, hv⟩ : ∃ t : Fin cfg0.N, t.val = (i 0).val / 1024 * 5 + (i 1).val / 640 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 640 ≤ (i 1).val ∧ (i 1).val < win0_2.index t 1 * 640 + 640; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.SampAIdeal.Close

namespace Cert.RefSAIdeal.Close
open Idealize.ShloMosaic Idealize.ShloMosaic.TcCoe Idealize.SL.Sem Idealize.ShloMosaic.Pointwise
open Cert.RefSAIdeal Cert.RefSAIdeal.Gen
open Cert.SampAIdeal.Close (Tok Wts entry whole)

/-- The reference's result is the kernel's, entry by entry. -/
theorem ref_eq (a : Tok) (w : Wts) : ((extractStridedSlice S1024x3200 ![0, 0] (Host.dotGeneral dot_S1024x2048_S2048x21904_S1024x21904_1_0_0_1_n_n none (shapeCast _ a shapeCasts_S128x8x2048_S1024x2048) (shapeCast _ (extractStridedSlice S1x2048x21904 ![0, 0, 0] w slices_S2x2048x21904_S1x2048x21904_0_0_0) shapeCasts_S1x2048x21904_S2048x21904)) slices_S1024x21904_S1024x3200_0_0) : FVec Ideal S1024x3200 .f32) = whole a w := by
  funext i
  rw [eq_ix2 i]
  show _ = entry a w (i 0) (i 1)
  unfold entry
  pointwise

end Cert.RefSAIdeal.Close

namespace Cert.Proof
open Idealize.ShloMosaic Idealize.SL.Sem

/-- The kernel's projection of the sample group to these columns and the reference's compute the same extended reals. -/
theorem algebraic_sampA : Cert.algebraic_SampAIdeal_RefSAIdeal (hSampAIdeal := Cert.SampAIdeal.Gen.facts) (hRefSAIdeal := Cert.RefSAIdeal.Gen.facts) := by
  intro m ρ m' ρ' _ hagree
  refine ⟨fun c => Cert.SampAIdeal.Close.whole (m ((c.tc : Thread Cert.SampAIdeal.nD Cert.SampAIdeal.τ).loc Cert.SampAIdeal.main_arg0)) (m ((c.tc : Thread Cert.SampAIdeal.nD Cert.SampAIdeal.τ).loc Cert.SampAIdeal.main_arg1)),
    (θ_run _ _ _).mono (fun r h c => ⟨(h c).1.trans (Cert.SampAIdeal.Close.final m c), (h c).2⟩) (Cert.SampAIdeal.Value.run_blocks (F := Ideal) m ρ), ?_⟩
  refine (θ_run _ _ _).mono (fun r h c => ⟨(h c).1.trans ?_, (h c).2⟩) (Cert.RefSAIdeal.Value.run (F := Ideal) m' ρ')
  rw [(hagree c).1, (hagree c).2]
  exact Cert.RefSAIdeal.Close.ref_eq _ _

end Cert.Proof
end
-- ==== Proof.SampB.lean ====
module

public import proofs.«01_k».proof.Defs
public import proofs.«01_k».proof.Proof.Gen.SampBIdeal.Value
public import proofs.«01_k».proof.Proof.Gen.RefSBIdeal.Run
public import Idealize.ShloMosaic.Lib.Pointwise

@[expose] public section
noncomputable section

/-! The sample group: the input projection of the columns 3200 to 4480: the kernel's blocks of 1024 rows by 640 columns put together are the
    product of the tokens with those columns of the first layer's weights, the product alone. -/

namespace Cert.SampBIdeal.Close
open Idealize.ShloMosaic Idealize.ShloMosaic.TcCoe Idealize.SL.Sem Idealize.ShloMosaic.Pointwise
open Cert.SampBIdeal Cert.SampBIdeal.Gen

/-- The tokens as launched. -/
abbrev Tok := FVec Ideal S128x8x2048 .f32
/-- The weights as launched. -/
abbrev Wts := FVec Ideal S2x2048x21904 .f32

/-- One entry of the product: a token's row against a column of the first layer's weights. -/
def entry (a : Tok) (w : Wts) (i : Fin 1024) (j : Fin 1280) : EReal :=
  ∑ k : Fin 2048, a (ix3 ⟨i.val / 8, by omega⟩ ⟨i.val % 8, by omega⟩ k) * w (ix3 0 k ⟨3200 + j.val, by omega⟩)

/-- The whole result, entry by entry. -/
def whole (a : Tok) (w : Wts) : FVec Ideal S1024x1280 .f32 := fun i => entry a w (i 0) (i 1)

/-- What the body stores, entry by entry: the product of its two blocks. -/
theorem pay_apply (x : Vec Ideal S1024x2048 .bf16) (y : Vec Ideal S2048x640 .bf16) (r : Fin 1024) (l : Fin 640) :
    k0_pay1 x y (ix2 r l) = ∑ k : Fin 2048, x (ix2 r k) * y (ix2 k l) := by
  unfold k0_pay1
  try dsimp only
  pointwise

variable (m : (ℓ : Loc nD τ sig) → Buf (Elt Ideal) ℓ) (ρ : Dev nD → PrngReg)

/-- The tokens row by row. -/
def tok (a : Tok) : FVec Ideal S1024x2048 .bf16 := truncf .bf16 (shapeCast S1024x2048 a shapeCasts_S128x8x2048_S1024x2048) bitsLt_bf16_f32
/-- The columns 3200 to 4480 of the first layer's weights. -/
def wts (w : Wts) : FVec Ideal S2048x1280 .bf16 := truncf .bf16 (extractStridedSlice S2048x1280 ![0, 3200] (shapeCast S2048x21904
    (extractStridedSlice S1x2048x21904 ![0, 0, 0] w slices_S2x2048x21904_S1x2048x21904_0_0_0)
      shapeCasts_S1x2048x21904_S2048x21904) slices_S2048x21904_S2048x1280_0_3200) bitsLt_bf16_f32

/-- The tokens the region finds: the argument's, row by row. -/
theorem tok_eq (c : Dev nD) : V m c main_v1 = tok (m ((c : Thread nD τ).loc main_arg0)) := by
  show StableHlo.after hostOps0 (fun b => m (c, b)) (Proc.devRef .tc main_v1) = _
  after_results <;> rfl

/-- The weights the region finds: the columns 3200 to 4480 of the argument's first layer. -/
theorem wts_eq (c : Dev nD) : V m c main_v5 = wts (m ((c : Thread nD τ).loc main_arg1)) := by
  show StableHlo.after hostOps0 (fun b => m (c, b)) (Proc.devRef .tc main_v5) = _
  after_results <;> rfl

/-- A token's entry in row-major rows. -/
theorem tok_apply (a : Tok) (i : Fin 1024) (k : Fin 2048) : tok a (ix2 i k) = a (ix3 ⟨i.val / 8, by omega⟩ ⟨i.val % 8, by omega⟩ k) := by
  unfold tok
  pointwise
/-- A weight's entry among its columns. -/
theorem wts_apply (w : Wts) (k : Fin 2048) (j : Fin 1280) : wts w (ix2 k j) = w (ix3 0 k ⟨3200 + j.val, by omega⟩) := by
  unfold wts
  pointwise

/-- Where the windows stand at each grid point. -/
theorem idx : ∀ t : Fin cfg0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) :=
  (by decide +kernel : ∀ t : Fin grid0.N, _)
theorem val_lt (t : Fin cfg0.N) : t.val < 2 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S1024x2048 .bf16) (ix2 ⟨t.val / 2 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 2 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 640) :
    (iblk m c 1 t : Vec Ideal S2048x640 .bf16) (ix2 k l)
      = (V m c main_v5 : Vec Ideal S2048x1280 .bf16) (ix2 k ⟨t.val % 2 * 640 + l.val, by omega⟩) := by
  obtain ⟨-, ⟨h0, h1⟩, -⟩ := idx t
  unfold iblk
  rw [View.read_apply]
  show V m c main_v5 _ = V m c main_v5 _
  congr 1
  funext a
  apply Fin.ext
  match a with
  | ⟨0, _⟩ => show win0_1.index t 0 * 2048 + 1 * k.val = k.val; rw [h0]; omega
  | ⟨1, _⟩ => show win0_1.index t 1 * 640 + 1 * l.val = _; rw [h1]; show _ = t.val % 2 * 640 + l.val; omega

/-- The whole-buffer loads read the blocks and the one covering store leaves its payload. -/
theorem out_eq (x0 : Vec Ideal S1024x2048 .bf16) (x1 : Vec Ideal S2048x640 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x640) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 640 := (y 1).isLt
  have hb0 : (((cfg0.win 2).blk t).view.emb y 0).val = win0_2.index t 0 * 1024 + 1 * (y 0).val := rfl
  have hb1 : (((cfg0.win 2).blk t).view.emb y 1).val = win0_2.index t 1 * 640 + 1 * (y 1).val := rfl
  rw [h0] at hb0
  rw [h1] at hb1
  have e0 : ((cfg0.win 2).blk t).view.emb y 0 = (⟨t.val / 2 * 1024 + (y 0).val, by omega⟩ : Fin 1024) := Fin.ext (by rw [hb0]; simp)
  have e1 : ((cfg0.win 2).blk t).view.emb y 1 = (⟨t.val % 2 * 640 + (y 1).val, by omega⟩ : Fin 1280) := Fin.ext (by rw [hb1]; simp)
  have hy : (cfg0.win 2).xinj (grid0.coords t) y = ix2 (⟨(y 0).val, hy0⟩ : Fin 1024) (⟨(y 1).val, hy1⟩ : Fin 640) := by
    funext a; apply Fin.ext
    match a with
    | ⟨0, _⟩ => rfl
    | ⟨1, _⟩ => rfl
  show k0_pay1 (iblk m c 0 t) (iblk m c 1 t) ((cfg0.win 2).xinj (grid0.coords t) y) = entry _ _ (((cfg0.win 2).blk t).view.emb y 0) (((cfg0.win 2).blk t).view.emb y 1)
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 640) => (blk1_apply m c t k l).trans ((congrFun (wts_eq m c) _).trans (wts_apply _ _ _))
  simp only [hx, hw]

/-- Every entry is in some point's block. -/
theorem cover (i : S1024x1280.Idx) : ∃ t : Fin cfg0.N, (cfg0.win 2).flush t = true ∧ i ∈ ((cfg0.win 2).blk t).view.set := by
  have h0 : (i 0).val < 1024 := (i 0).isLt
  have h1 : (i 1).val < 1280 := (i 1).isLt
  obtain ⟨t, hv⟩ : ∃ t : Fin cfg0.N, t.val = (i 0).val / 1024 * 2 + (i 1).val / 640 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 640 ≤ (i 1).val ∧ (i 1).val < win0_2.index t 1 * 640 + 640; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.SampBIdeal.Close

namespace Cert.RefSBIdeal.Close
open Idealize.ShloMosaic Idealize.ShloMosaic.TcCoe Idealize.SL.Sem Idealize.ShloMosaic.Pointwise
open Cert.RefSBIdeal Cert.RefSBIdeal.Gen
open Cert.SampBIdeal.Close (Tok Wts entry whole)

/-- The reference's result is the kernel's, entry by entry. -/
theorem ref_eq (a : Tok) (w : Wts) : ((extractStridedSlice S1024x1280 ![0, 3200] (Host.dotGeneral dot_S1024x2048_S2048x21904_S1024x21904_1_0_0_1_n_n none (shapeCast _ a shapeCasts_S128x8x2048_S1024x2048) (shapeCast _ (extractStridedSlice S1x2048x21904 ![0, 0, 0] w slices_S2x2048x21904_S1x2048x21904_0_0_0) shapeCasts_S1x2048x21904_S2048x21904)) slices_S1024x21904_S1024x1280_0_3200) : FVec Ideal S1024x1280 .f32) = whole a w := by
  funext i
  rw [eq_ix2 i]
  show _ = entry a w (i 0) (i 1)
  unfold entry
  pointwise

end Cert.RefSBIdeal.Close

namespace Cert.Proof
open Idealize.ShloMosaic Idealize.SL.Sem

/-- The kernel's projection of the sample group to these columns and the reference's compute the same extended reals. -/
theorem algebraic_sampB : Cert.algebraic_SampBIdeal_RefSBIdeal (hSampBIdeal := Cert.SampBIdeal.Gen.facts) (hRefSBIdeal := Cert.RefSBIdeal.Gen.facts) := by
  intro m ρ m' ρ' _ hagree
  refine ⟨fun c => Cert.SampBIdeal.Close.whole (m ((c.tc : Thread Cert.SampBIdeal.nD Cert.SampBIdeal.τ).loc Cert.SampBIdeal.main_arg0)) (m ((c.tc : Thread Cert.SampBIdeal.nD Cert.SampBIdeal.τ).loc Cert.SampBIdeal.main_arg1)),
    (θ_run _ _ _).mono (fun r h c => ⟨(h c).1.trans (Cert.SampBIdeal.Close.final m c), (h c).2⟩) (Cert.SampBIdeal.Value.run_blocks (F := Ideal) m ρ), ?_⟩
  refine (θ_run _ _ _).mono (fun r h c => ⟨(h c).1.trans ?_, (h c).2⟩) (Cert.RefSBIdeal.Value.run (F := Ideal) m' ρ')
  rw [(hagree c).1, (hagree c).2]
  exact Cert.RefSBIdeal.Close.ref_eq _ _

end Cert.Proof
end
-- ==== Proof.SampQ.lean ====
module

public import proofs.«01_k».proof.Defs
public import proofs.«01_k».proof.Proof.Gen.SampQIdeal.Value
public import proofs.«01_k».proof.Proof.Gen.RefSQIdeal.Run
public import Idealize.ShloMosaic.Lib.Pointwise

@[expose] public section
noncomputable section

/-! The sample group: the input projection of the columns 4480 to 5504: the kernel's blocks of 1024 rows by 1024 columns put together are the
    product of the tokens with those columns of the first layer's weights, the product alone. -/

namespace Cert.SampQIdeal.Close
open Idealize.ShloMosaic Idealize.ShloMosaic.TcCoe Idealize.SL.Sem Idealize.ShloMosaic.Pointwise
open Cert.SampQIdeal Cert.SampQIdeal.Gen

/-- The tokens as launched. -/
abbrev Tok := FVec Ideal S128x8x2048 .f32
/-- The weights as launched. -/
abbrev Wts := FVec Ideal S2x2048x21904 .f32

/-- One entry of the product: a token's row against a column of the first layer's weights. -/
def entry (a : Tok) (w : Wts) (i : Fin 1024) (j : Fin 1024) : EReal :=
  ∑ k : Fin 2048, a (ix3 ⟨i.val / 8, by omega⟩ ⟨i.val % 8, by omega⟩ k) * w (ix3 0 k ⟨4480 + j.val, by omega⟩)

/-- The whole result, entry by entry. -/
def whole (a : Tok) (w : Wts) : FVec Ideal S1024x1024 .f32 := fun i => entry a w (i 0) (i 1)

/-- What the body stores, entry by entry: the product of its two blocks. -/
theorem pay_apply (x : Vec Ideal S1024x2048 .bf16) (y : Vec Ideal S2048x1024 .bf16) (r : Fin 1024) (l : Fin 1024) :
    k0_pay1 x y (ix2 r l) = ∑ k : Fin 2048, x (ix2 r k) * y (ix2 k l) := by
  unfold k0_pay1
  try dsimp only
  pointwise

variable (m : (ℓ : Loc nD τ sig) → Buf (Elt Ideal) ℓ) (ρ : Dev nD → PrngReg)

/-- The tokens row by row. -/
def tok (a : Tok) : FVec Ideal S1024x2048 .bf16 := truncf .bf16 (shapeCast S1024x2048 a shapeCasts_S128x8x2048_S1024x2048) bitsLt_bf16_f32
/-- The columns 4480 to 5504 of the first layer's weights. -/
def wts (w : Wts) : FVec Ideal S2048x1024 .bf16 := truncf .bf16 (extractStridedSlice S2048x1024 ![0, 4480] (shapeCast S2048x21904
    (extractStridedSlice S1x2048x21904 ![0, 0, 0] w slices_S2x2048x21904_S1x2048x21904_0_0_0)
      shapeCasts_S1x2048x21904_S2048x21904) slices_S2048x21904_S2048x1024_0_4480) bitsLt_bf16_f32

/-- The tokens the region finds: the argument's, row by row. -/
theorem tok_eq (c : Dev nD) : V m c main_v1 = tok (m ((c : Thread nD τ).loc main_arg0)) := by
  show StableHlo.after hostOps0 (fun b => m (c, b)) (Proc.devRef .tc main_v1) = _
  after_results <;> rfl

/-- The weights the region finds: the columns 4480 to 5504 of the argument's first layer. -/
theorem wts_eq (c : Dev nD) : V m c main_v5 = wts (m ((c : Thread nD τ).loc main_arg1)) := by
  show StableHlo.after hostOps0 (fun b => m (c, b)) (Proc.devRef .tc main_v5) = _
  after_results <;> rfl

/-- A token's entry in row-major rows. -/
theorem tok_apply (a : Tok) (i : Fin 1024) (k : Fin 2048) : tok a (ix2 i k) = a (ix3 ⟨i.val / 8, by omega⟩ ⟨i.val % 8, by omega⟩ k) := by
  unfold tok
  pointwise
/-- A weight's entry among its columns. -/
theorem wts_apply (w : Wts) (k : Fin 2048) (j : Fin 1024) : wts w (ix2 k j) = w (ix3 0 k ⟨4480 + j.val, by omega⟩) := by
  unfold wts
  pointwise

/-- Where the windows stand at each grid point. -/
theorem idx : ∀ t : Fin cfg0.N, (win0_0.index t 0 = t.val / 1 ∧ win0_0.index t 1 = 0) ∧ (win0_1.index t 0 = 0 ∧ win0_1.index t 1 = t.val % 1)
    ∧ (win0_2.index t 0 = t.val / 1 ∧ win0_2.index t 1 = t.val % 1) :=
  (by decide +kernel : ∀ t : Fin grid0.N, _)
theorem val_lt (t : Fin cfg0.N) : t.val < 1 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S1024x2048 .bf16) (ix2 ⟨t.val / 1 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 1 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 1024) :
    (iblk m c 1 t : Vec Ideal S2048x1024 .bf16) (ix2 k l)
      = (V m c main_v5 : Vec Ideal S2048x1024 .bf16) (ix2 k ⟨t.val % 1 * 1024 + l.val, by omega⟩) := by
  obtain ⟨-, ⟨h0, h1⟩, -⟩ := idx t
  unfold iblk
  rw [View.read_apply]
  show V m c main_v5 _ = V m c main_v5 _
  congr 1
  funext a
  apply Fin.ext
  match a with
  | ⟨0, _⟩ => show win0_1.index t 0 * 2048 + 1 * k.val = k.val; rw [h0]; omega
  | ⟨1, _⟩ => show win0_1.index t 1 * 1024 + 1 * l.val = _; rw [h1]; show _ = t.val % 1 * 1024 + l.val; omega

/-- The whole-buffer loads read the blocks and the one covering store leaves its payload. -/
theorem out_eq (x0 : Vec Ideal S1024x2048 .bf16) (x1 : Vec Ideal S2048x1024 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x1024) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 1024 := (y 1).isLt
  have hb0 : (((cfg0.win 2).blk t).view.emb y 0).val = win0_2.index t 0 * 1024 + 1 * (y 0).val := rfl
  have hb1 : (((cfg0.win 2).blk t).view.emb y 1).val = win0_2.index t 1 * 1024 + 1 * (y 1).val := rfl
  rw [h0] at hb0
  rw [h1] at hb1
  have e0 : ((cfg0.win 2).blk t).view.emb y 0 = (⟨t.val / 1 * 1024 + (y 0).val, by omega⟩ : Fin 1024) := Fin.ext (by rw [hb0]; simp)
  have e1 : ((cfg0.win 2).blk t).view.emb y 1 = (⟨t.val % 1 * 1024 + (y 1).val, by omega⟩ : Fin 1024) := Fin.ext (by rw [hb1]; simp)
  have hy : (cfg0.win 2).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  show k0_pay1 (iblk m c 0 t) (iblk m c 1 t) ((cfg0.win 2).xinj (grid0.coords t) y) = entry _ _ (((cfg0.win 2).blk t).view.emb y 0) (((cfg0.win 2).blk t).view.emb y 1)
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 1024) => (blk1_apply m c t k l).trans ((congrFun (wts_eq m c) _).trans (wts_apply _ _ _))
  simp only [hx, hw]

/-- Every entry is in some point's block. -/
theorem cover (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  obtain ⟨t, hv⟩ : ∃ t : Fin cfg0.N, t.val = (i 0).val / 1024 * 1 + (i 1).val / 1024 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v6).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 1024 ≤ (i 1).val ∧ (i 1).val < win0_2.index t 1 * 1024 + 1024; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.SampQIdeal.Close

namespace Cert.RefSQIdeal.Close
open Idealize.ShloMosaic Idealize.ShloMosaic.TcCoe Idealize.SL.Sem Idealize.ShloMosaic.Pointwise
open Cert.RefSQIdeal Cert.RefSQIdeal.Gen
open Cert.SampQIdeal.Close (Tok Wts entry whole)

/-- The reference's result is the kernel's, entry by entry. -/
theorem ref_eq (a : Tok) (w : Wts) : ((extractStridedSlice S1024x1024 ![0, 4480] (Host.dotGeneral dot_S1024x2048_S2048x21904_S1024x21904_1_0_0_1_n_n none (shapeCast _ a shapeCasts_S128x8x2048_S1024x2048) (shapeCast _ (extractStridedSlice S1x2048x21904 ![0, 0, 0] w slices_S2x2048x21904_S1x2048x21904_0_0_0) shapeCasts_S1x2048x21904_S2048x21904)) slices_S1024x21904_S1024x1024_0_4480) : FVec Ideal S1024x1024 .f32) = whole a w := by
  funext i
  rw [eq_ix2 i]
  show _ = entry a w (i 0) (i 1)
  unfold entry
  pointwise

end Cert.RefSQIdeal.Close

namespace Cert.Proof
open Idealize.ShloMosaic Idealize.SL.Sem

/-- The kernel's projection of the sample group to these columns and the reference's compute the same extended reals. -/
theorem algebraic_sampQ : Cert.algebraic_SampQIdeal_RefSQIdeal (hSampQIdeal := Cert.SampQIdeal.Gen.facts) (hRefSQIdeal := Cert.RefSQIdeal.Gen.facts) := by
  intro m ρ m' ρ' _ hagree
  refine ⟨fun c => Cert.SampQIdeal.Close.whole (m ((c.tc : Thread Cert.SampQIdeal.nD Cert.SampQIdeal.τ).loc Cert.SampQIdeal.main_arg0)) (m ((c.tc : Thread Cert.SampQIdeal.nD Cert.SampQIdeal.τ).loc Cert.SampQIdeal.main_arg1)),
    (θ_run _ _ _).mono (fun r h c => ⟨(h c).1.trans (Cert.SampQIdeal.Close.final m c), (h c).2⟩) (Cert.SampQIdeal.Value.run_blocks (F := Ideal) m ρ), ?_⟩
  refine (θ_run _ _ _).mono (fun r h c => ⟨(h c).1.trans ?_, (h c).2⟩) (Cert.RefSQIdeal.Value.run (F := Ideal) m' ρ')
  rw [(hagree c).1, (hagree c).2]
  exact Cert.RefSQIdeal.Close.ref_eq _ _

end Cert.Proof
end
-- ==== Proof.SampO.lean ====
module

public import proofs.«01_k».proof.Defs
public import proofs.«01_k».proof.Proof.OutLn
public import proofs.«01_k».proof.Proof.Gen.SampOIdeal.Value
public import proofs.«01_k».proof.Proof.Gen.RefSOIdeal.Run
public import Idealize.ShloMosaic.Lib.Pointwise

@[expose] public section
noncomputable section

/-! The layer's last call on the sample group: the product of the merged branches with `w_out`, the scaled residual and the layer norm, by blocks of
    512 rows, is the layer norm of the whole arrays. -/

namespace Cert.SampOIdeal.Close
open Idealize.ShloMosaic Idealize.ShloMosaic.TcCoe Idealize.SL.Sem Idealize.ShloMosaic.Pointwise
open Cert.SampOIdeal Cert.SampOIdeal.Gen
open Cert.OutLnIdeal.Close (hid mean lnorm)

/-- The merged branches as launched. -/
abbrev Mer := FVec Ideal S1024x2048 .bf16
/-- The weights of both layers. -/
abbrev Wts := FVec Ideal S2x2048x2048 .f32
/-- The layer's input. -/
abbrev Tok := FVec Ideal S128x8x2048 .f32
/-- A norm's weights or biases, of both layers. -/
abbrev Nrm := FVec Ideal S2x2048 .f32

/-- One entry of the result. -/
def entry (a : Mer) (w : Wts) (x : Tok) (g b : Nrm) (i : Fin 1024) (j : Fin 2048) : EReal :=
  lnorm (fun l => hid (x (ix3 ⟨i.val / 8, by omega⟩ ⟨i.val % 8, by omega⟩ l)) (fun k => a (ix2 i k)) (fun k => w (ix3 0 k l)))
    (g (ix2 0 j)) (b (ix2 0 j)) j
/-- The whole result in f32. -/
def whole (a : Mer) (w : Wts) (x : Tok) (g b : Nrm) : FVec Ideal S1024x2048 .f32 := fun i => entry a w x g b (i 0) (i 1)
/-- The whole result in bf16. -/
def whole' (a : Mer) (w : Wts) (x : Tok) (g b : Nrm) : FVec Ideal S1024x2048 .bf16 := fun i => entry a w x g b (i 0) (i 1)

/-- What the body stores, entry by entry. -/
theorem pay_apply (a : Vec Ideal S512x2048 .bf16) (w : Vec Ideal S2048x2048 .bf16) (x : Vec Ideal S512x2048 .f32)
    (g b : Vec Ideal S1x2048 .f32) (r : Fin 512) (l : Fin 2048) : k0_pay1 a w x g b (ix2 r l)
      = lnorm (fun l => hid (x (ix2 r l)) (fun k => a (ix2 r k)) (fun k => w (ix2 k l))) (g (ix2 0 l)) (b (ix2 0 l)) l := by
  unfold k0_pay1 lnorm mean hid
  dsimp only
  pointwise
/-- Its second store is the same. -/
theorem pay2_apply (a : Vec Ideal S512x2048 .bf16) (w : Vec Ideal S2048x2048 .bf16) (x : Vec Ideal S512x2048 .f32)
    (g b : Vec Ideal S1x2048 .f32) (y : S512x2048.Idx) : k0_pay2 a w x g b y = k0_pay1 a w x g b y := by
  unfold k0_pay2
  rfl

variable (m : (ℓ : Loc nD τ sig) → Buf (Elt Ideal) ℓ) (ρ : Dev nD → PrngReg)

/-- The first layer's weights. -/
def wts (w : Wts) : FVec Ideal S2048x2048 .bf16 := truncf .bf16 (shapeCast S2048x2048
    (extractStridedSlice S1x2048x2048 ![0, 0, 0] w slices_S2x2048x2048_S1x2048x2048_0_0_0) shapeCasts_S1x2048x2048_S2048x2048) bitsLt_bf16_f32
/-- The layer's input row by row. -/
def tok (x : Tok) : FVec Ideal S1024x2048 .f32 := shapeCast S1024x2048 x shapeCasts_S128x8x2048_S1024x2048
/-- The first layer's row of a norm. -/
def nrm (g : Nrm) : FVec Ideal S1x2048 .f32 := shapeCast S1x2048 (shapeCast S2048
    (extractStridedSlice S1x2048 ![0, 0] g slices_S2x2048_S1x2048_0_0) shapeCasts_S1x2048_S2048) shapeCasts_S2048_S1x2048

theorem mer_eq (c : Dev nD) : V m c main_arg0 = m ((c : Thread nD τ).loc main_arg0) := V_main_arg0 m c
theorem wts_eq (c : Dev nD) : V m c main_v2 = wts (m ((c : Thread nD τ).loc main_arg1)) := by
  show StableHlo.after hostOps0 (fun b => m (c, b)) (Proc.devRef .tc main_v2) = _
  after_results <;> rfl
theorem tok_eq (c : Dev nD) : V m c main_v3 = tok (m ((c : Thread nD τ).loc main_arg2)) := by
  show StableHlo.after hostOps0 (fun b => m (c, b)) (Proc.devRef .tc main_v3) = _
  after_results <;> rfl
theorem nrm_eq (c : Dev nD) : V m c main_v6 = nrm (m ((c : Thread nD τ).loc main_arg3)) := by
  show StableHlo.after hostOps0 (fun b => m (c, b)) (Proc.devRef .tc main_v6) = _
  after_results <;> rfl
theorem nrm'_eq (c : Dev nD) : V m c main_v9 = nrm (m ((c : Thread nD τ).loc main_arg4)) := by
  show StableHlo.after hostOps0 (fun b => m (c, b)) (Proc.devRef .tc main_v9) = _
  after_results <;> rfl

theorem tok_apply (a : Tok) (i : Fin 1024) (k : Fin 2048) : tok a (ix2 i k) = a (ix3 ⟨i.val / 8, by omega⟩ ⟨i.val % 8, by omega⟩ k) := by
  unfold tok
  pointwise
theorem wts_apply (w : Wts) (k j : Fin 2048) : wts w (ix2 k j) = w (ix3 0 k j) := by
  unfold wts
  pointwise
theorem nrm_apply (g : Nrm) (j : Fin 2048) : nrm g (ix2 0 j) = g (ix2 0 j) := by
  unfold nrm
  pointwise

/-- Where the windows stand at each grid point. -/
theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) :=
  (by decide +kernel : ∀ t : Fin grid0.N, _)
theorem val_lt (t : Fin cfg0.N) : t.val < 2 := lt_of_lt_of_eq t.isLt N_0
/-- Row `r` of a point's block among all rows. -/
abbrev at' (t : Fin cfg0.N) (r : Fin 512) : Fin 1024 := ⟨t.val * 512 + r.val, by have := val_lt t; omega⟩

/-- A point's block of merged rows. -/
theorem blk0_apply (c : Dev nD) (t : Fin cfg0.N) (r : Fin 512) (k : Fin 2048) :
    (iblk m c 0 t : Vec Ideal S512x2048 .bf16) (ix2 r k) = (V m c main_arg0 : Vec Ideal S1024x2048 .bf16) (ix2 (at' t r) k) := by
  obtain ⟨⟨h0, h1⟩, -⟩ := idx t
  unfold iblk
  rw [View.read_apply]
  show V m c main_arg0 _ = V m c main_arg0 _
  congr 1
  funext a
  apply Fin.ext
  match a with
  | ⟨0, _⟩ => show win0_0.index t 0 * 512 + 1 * r.val = t.val * 512 + r.val; rw [h0]; omega
  | ⟨1, _⟩ => show win0_0.index t 1 * 2048 + 1 * k.val = k.val; rw [h1]; omega

/-- A point's block of weights: all of them. -/
theorem blk1_apply (c : Dev nD) (t : Fin cfg0.N) (r k : Fin 2048) :
    (iblk m c 1 t : Vec Ideal S2048x2048 .bf16) (ix2 r k) = (V m c main_v2 : Vec Ideal S2048x2048 .bf16) (ix2 r k) := by
  obtain ⟨-, ⟨h0, h1⟩, -⟩ := idx t
  unfold iblk
  rw [View.read_apply]
  show V m c main_v2 _ = V m c main_v2 _
  congr 1
  funext a
  apply Fin.ext
  match a with
  | ⟨0, _⟩ => show win0_1.index t 0 * 2048 + 1 * r.val = r.val; rw [h0]; omega
  | ⟨1, _⟩ => show win0_1.index t 1 * 2048 + 1 * k.val = k.val; rw [h1]; omega

/-- A point's block of input rows. -/
theorem blk2_apply (c : Dev nD) (t : Fin cfg0.N) (r : Fin 512) (k : Fin 2048) :
    (iblk m c 2 t : Vec Ideal S512x2048 .f32) (ix2 r k) = (V m c main_v3 : Vec Ideal S1024x2048 .f32) (ix2 (at' t r) k) := by
  obtain ⟨-, -, ⟨h0, h1⟩, -⟩ := idx t
  unfold iblk
  rw [View.read_apply]
  show V m c main_v3 _ = V m c main_v3 _
  congr 1
  funext a
  apply Fin.ext
  match a with
  | ⟨0, _⟩ => show win0_2.index t 0 * 512 + 1 * r.val = t.val * 512 + r.val; rw [h0]; omega
  | ⟨1, _⟩ => show win0_2.index t 1 * 2048 + 1 * k.val = k.val; rw [h1]; omega

/-- A point's block of norm weights: all of them. -/
theorem blk3_apply (c : Dev nD) (t : Fin cfg0.N) (k : Fin 2048) :
    (iblk m c 3 t : Vec Ideal S1x2048 .f32) (ix2 0 k) = (V m c main_v6 : Vec Ideal S1x2048 .f32) (ix2 0 k) := by
  obtain ⟨-, -, -, ⟨h0, h1⟩, -⟩ := idx t
  unfold iblk
  rw [View.read_apply]
  show V m c main_v6 _ = V m c main_v6 _
  congr 1
  funext a
  apply Fin.ext
  match a with
  | ⟨0, _⟩ => show win0_3.index t 0 * 1 + 1 * 0 = 0; rw [h0]
  | ⟨1, _⟩ => show win0_3.index t 1 * 2048 + 1 * k.val = k.val; rw [h1]; omega

/-- A point's block of norm biases: all of them. -/
theorem blk4_apply (c : Dev nD) (t : Fin cfg0.N) (k : Fin 2048) :
    (iblk m c 4 t : Vec Ideal S1x2048 .f32) (ix2 0 k) = (V m c main_v9 : Vec Ideal S1x2048 .f32) (ix2 0 k) := by
  obtain ⟨-, -, -, -, ⟨h0, h1⟩, -⟩ := idx t
  unfold iblk
  rw [View.read_apply]
  show V m c main_v9 _ = V m c main_v9 _
  congr 1
  funext a
  apply Fin.ext
  match a with
  | ⟨0, _⟩ => show win0_4.index t 0 * 1 + 1 * 0 = 0; rw [h0]
  | ⟨1, _⟩ => show win0_4.index t 1 * 2048 + 1 * k.val = k.val; rw [h1]; omega

/-- The whole-buffer loads read the blocks and the one covering store leaves its payload. -/
theorem out5_eq (x0 : Vec Ideal S512x2048 .bf16) (x1 : Vec Ideal S2048x2048 .bf16) (x2 : Vec Ideal S512x2048 .f32) (x3 x4 : Vec Ideal S1x2048 .f32) :
    out0_5 (F := Ideal) x0 x1 x2 x3 x4 = k0_pay1 x0 x1 x2 x3 x4 := by
  have hz : (![0, 0] : Fin 2 → Nat) = fun _ => 0 := funext fun a => by fin_cases a <;> rfl
  unfold out0_5
  rw [View.canon_unit_zero hz, View.ld_unit_zero (S := S512x2048) hz, View.ld_unit_zero (S := S2048x2048) hz, View.ld_unit_zero (S := S512x2048) hz,
    View.ld_unit_zero (S := S1x2048) hz, View.ld_unit_zero (S := S1x2048) hz]
theorem out6_eq (x0 : Vec Ideal S512x2048 .bf16) (x1 : Vec Ideal S2048x2048 .bf16) (x2 : Vec Ideal S512x2048 .f32) (x3 x4 : Vec Ideal S1x2048 .f32) :
    out0_6 (F := Ideal) x0 x1 x2 x3 x4 = k0_pay2 x0 x1 x2 x3 x4 := by
  have hz : (![0, 0] : Fin 2 → Nat) = fun _ => 0 := funext fun a => by fin_cases a <;> rfl
  unfold out0_6
  rw [View.canon_unit_zero hz, View.ld_unit_zero (S := S512x2048) hz, View.ld_unit_zero (S := S2048x2048) hz, View.ld_unit_zero (S := S512x2048) hz,
    View.ld_unit_zero (S := S1x2048) hz, View.ld_unit_zero (S := S1x2048) hz]

/-- The payload of a point's blocks is its rows of the result. -/
theorem pay_blk (c : Dev nD) (t : Fin cfg0.N) (r : Fin 512) (l : Fin 2048) :
    k0_pay1 (iblk m c 0 t) (iblk m c 1 t) (iblk m c 2 t) (iblk m c 3 t) (iblk m c 4 t) (ix2 r l)
      = entry (m ((c : Thread nD τ).loc main_arg0)) (m ((c : Thread nD τ).loc main_arg1)) (m ((c : Thread nD τ).loc main_arg2))
        (m ((c : Thread nD τ).loc main_arg3)) (m ((c : Thread nD τ).loc main_arg4)) (at' t r) l := by
  rw [pay_apply]
  have h0 := fun (r : Fin 512) (k : Fin 2048) => (blk0_apply m c t r k).trans (congrFun (mer_eq m c) _)
  have h1 := fun (k l : Fin 2048) => (blk1_apply m c t k l).trans ((congrFun (wts_eq m c) _).trans (wts_apply _ _ _))
  have h2 := fun (r : Fin 512) (k : Fin 2048) => (blk2_apply m c t r k).trans ((congrFun (tok_eq m c) _).trans (tok_apply _ _ _))
  have h3 := fun (l : Fin 2048) => (blk3_apply m c t l).trans ((congrFun (nrm_eq m c) _).trans (nrm_apply _ _))
  have h4 := fun (l : Fin 2048) => (blk4_apply m c t l).trans ((congrFun (nrm'_eq m c) _).trans (nrm_apply _ _))
  unfold entry
  simp only [h0, h1, h2, h3, h4]

/-- What a point writes back to output window 5 is its block of the whole result. -/
theorem flushed5_eq (c : Dev nD) (t : Fin cfg0.N) : (dats m 0 c).flushed 5 t
    = ((cfg0.win 5).blk t).view.read (Elt Ideal) (whole (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed5 m c t, out5_eq]
  obtain ⟨-, -, -, -, -, ⟨h0, h1⟩, -⟩ := idx t
  have ht := val_lt t
  funext y
  rw [View.read_apply]
  have hy0 : (y 0).val < 512 := (y 0).isLt
  have hy1 : (y 1).val < 2048 := (y 1).isLt
  have hb0 : (((cfg0.win 5).blk t).view.emb y 0).val = win0_5.index t 0 * 512 + 1 * (y 0).val := rfl
  have hb1 : (((cfg0.win 5).blk t).view.emb y 1).val = win0_5.index t 1 * 2048 + 1 * (y 1).val := rfl
  rw [h0] at hb0
  rw [h1] at hb1
  have e0 : ((cfg0.win 5).blk t).view.emb y 0 = at' t ⟨(y 0).val, hy0⟩ := Fin.ext (by rw [hb0]; simp)
  have e1 : ((cfg0.win 5).blk t).view.emb y 1 = (⟨(y 1).val, hy1⟩ : Fin 2048) := Fin.ext (by rw [hb1]; simp)
  have hy : (cfg0.win 5).xinj (grid0.coords t) y = ix2 (⟨(y 0).val, hy0⟩ : Fin 512) (⟨(y 1).val, hy1⟩ : Fin 2048) := by
    funext a; apply Fin.ext
    match a with
    | ⟨0, _⟩ => rfl
    | ⟨1, _⟩ => rfl
  show k0_pay1 (iblk m c 0 t) (iblk m c 1 t) (iblk m c 2 t) (iblk m c 3 t) (iblk m c 4 t) ((cfg0.win 5).xinj (grid0.coords t) y)
    = entry _ _ _ _ _ (((cfg0.win 5).blk t).view.emb y 0) (((cfg0.win 5).blk t).view.emb y 1)
  rw [hy, pay_blk, e0, e1]

/-- Every entry is in some point's block. -/
theorem cover5 (i : S1024x2048.Idx) : ∃ t : Fin cfg0.N, (cfg0.win 5).flush t = true ∧ i ∈ ((cfg0.win 5).blk t).view.set := by
  have h0 : (i 0).val < 1024 := (i 0).isLt
  have h1 : (i 1).val < 2048 := (i 1).isLt
  refine ⟨⟨(i 0).val / 512, lt_of_lt_of_eq (by omega) N_0.symm⟩, (by decide +kernel : ∀ t : Fin grid0.N, (cfg0.win 5).flush t = true) _, ?_⟩
  generalize ht : (⟨(i 0).val / 512, lt_of_lt_of_eq (by omega) N_0.symm⟩ : Fin cfg0.N) = t
  have hv : t.val = (i 0).val / 512 := by rw [← ht]
  obtain ⟨-, -, -, -, -, ⟨e0, e1⟩, -⟩ := idx t
  show i ∈ ((View.whole main_v10_0).slice (win0_5.rect t)).set
  rw [View.set_slice_whole, Rect.mem_set_unit]
  intro a
  match a with
  | ⟨0, _⟩ => show win0_5.index t 0 * 512 ≤ (i 0).val ∧ (i 0).val < win0_5.index t 0 * 512 + 512; rw [e0]; omega
  | ⟨1, _⟩ => show win0_5.index t 1 * 2048 ≤ (i 1).val ∧ (i 1).val < win0_5.index t 1 * 2048 + 2048; rw [e1]; omega

/-- The array of output window 5 after the run. -/
theorem final5 (c : Dev nD) : (dats m 0 c).arrAt 5 cfg0.N = whole (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed5_eq m c t) cover5

/-- What a point writes back to output window 6 is its block of the whole result. -/
theorem flushed6_eq (c : Dev nD) (t : Fin cfg0.N) : (dats m 0 c).flushed 6 t
    = ((cfg0.win 6).blk t).view.read (Elt Ideal) (whole' (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed6 m c t, out6_eq]
  obtain ⟨-, -, -, -, -, -, ⟨h0, h1⟩⟩ := idx t
  have ht := val_lt t
  funext y
  rw [View.read_apply]
  have hy0 : (y 0).val < 512 := (y 0).isLt
  have hy1 : (y 1).val < 2048 := (y 1).isLt
  have hb0 : (((cfg0.win 6).blk t).view.emb y 0).val = win0_6.index t 0 * 512 + 1 * (y 0).val := rfl
  have hb1 : (((cfg0.win 6).blk t).view.emb y 1).val = win0_6.index t 1 * 2048 + 1 * (y 1).val := rfl
  rw [h0] at hb0
  rw [h1] at hb1
  have e0 : ((cfg0.win 6).blk t).view.emb y 0 = at' t ⟨(y 0).val, hy0⟩ := Fin.ext (by rw [hb0]; simp)
  have e1 : ((cfg0.win 6).blk t).view.emb y 1 = (⟨(y 1).val, hy1⟩ : Fin 2048) := Fin.ext (by rw [hb1]; simp)
  have hy : (cfg0.win 6).xinj (grid0.coords t) y = ix2 (⟨(y 0).val, hy0⟩ : Fin 512) (⟨(y 1).val, hy1⟩ : Fin 2048) := by
    funext a; apply Fin.ext
    match a with
    | ⟨0, _⟩ => rfl
    | ⟨1, _⟩ => rfl
  show k0_pay2 (iblk m c 0 t) (iblk m c 1 t) (iblk m c 2 t) (iblk m c 3 t) (iblk m c 4 t) ((cfg0.win 6).xinj (grid0.coords t) y)
    = entry _ _ _ _ _ (((cfg0.win 6).blk t).view.emb y 0) (((cfg0.win 6).blk t).view.emb y 1)
  rw [hy, pay2_apply, pay_blk, e0, e1]

/-- Every entry is in some point's block. -/
theorem cover6 (i : S1024x2048.Idx) : ∃ t : Fin cfg0.N, (cfg0.win 6).flush t = true ∧ i ∈ ((cfg0.win 6).blk t).view.set := by
  have h0 : (i 0).val < 1024 := (i 0).isLt
  have h1 : (i 1).val < 2048 := (i 1).isLt
  refine ⟨⟨(i 0).val / 512, lt_of_lt_of_eq (by omega) N_0.symm⟩, (by decide +kernel : ∀ t : Fin grid0.N, (cfg0.win 6).flush t = true) _, ?_⟩
  generalize ht : (⟨(i 0).val / 512, lt_of_lt_of_eq (by omega) N_0.symm⟩ : Fin cfg0.N) = t
  have hv : t.val = (i 0).val / 512 := by rw [← ht]
  obtain ⟨-, -, -, -, -, -, ⟨e0, e1⟩⟩ := idx t
  show i ∈ ((View.whole main_v10_1).slice (win0_6.rect t)).set
  rw [View.set_slice_whole, Rect.mem_set_unit]
  intro a
  match a with
  | ⟨0, _⟩ => show win0_6.index t 0 * 512 ≤ (i 0).val ∧ (i 0).val < win0_6.index t 0 * 512 + 512; rw [e0]; omega
  | ⟨1, _⟩ => show win0_6.index t 1 * 2048 ≤ (i 1).val ∧ (i 1).val < win0_6.index t 1 * 2048 + 2048; rw [e1]; omega

/-- The array of output window 6 after the run. -/
theorem final6 (c : Dev nD) : (dats m 0 c).arrAt 6 cfg0.N = whole' (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 _ (fun t _ => flushed6_eq m c t) cover6

end Cert.SampOIdeal.Close

namespace Cert.RefSOIdeal.Close
open Idealize.ShloMosaic Idealize.ShloMosaic.TcCoe Idealize.SL.Sem Idealize.ShloMosaic.Pointwise
open Cert.RefSOIdeal Cert.RefSOIdeal.Gen Cert.RefSOIdeal.Value
open Cert.SampOIdeal.Close (Mer Wts Tok Nrm entry whole whole')
open Cert.OutLnIdeal.Close (hid mean lnorm)

variable (m : (ℓ : Loc nD τ sig) → Buf (Elt Ideal) ℓ)

/-- The array before the norm. -/
def hidA (a0 : Mer) (a1 : Wts) (a2 : Tok) : FVec Ideal S1024x2048 .f32 := addf (mulf (broadcastInDim S1024x2048 ![] bcast_S_S1024x2048 (constant S_ .f32 0x3FB504F3#32)) (shapeCast _ a2 shapeCasts_S128x8x2048_S1024x2048)) (Host.dotGeneral dot_S1024x2048_S2048x2048_S1024x2048_1_0_0_1_n_n none (extf .f32 a0 bitsLt_bf16_f32) (shapeCast _ (extractStridedSlice S1x2048x2048 ![0, 0, 0] a1 slices_S2x2048x2048_S1x2048x2048_0_0_0) shapeCasts_S1x2048x2048_S2048x2048))
/-- The column of its row means. -/
def meanA (H : FVec Ideal S1024x2048 .f32) : FVec Ideal S1024x1 .f32 := Host.divf (broadcastInDim S1024x1 ![0] bcast_S1024_S1024x1_0 (Host.reduceAdd H (constant S_ .f32 0x00000000#32) reducesTo_S1024x2048_S1024_d1 h_S_)) (broadcastInDim S1024x1 ![] bcast_S_S1024x1 (constant S_ .f32 0x45000000#32))
/-- Its norm. -/
def lnA (H : FVec Ideal S1024x2048 .f32) (a3 a4 : Nrm) : FVec Ideal S1024x2048 .f32 := addf (mulf (mulf (subf H (broadcastInDim S1024x2048 ![0, 1] bcast_S1024x1_S1024x2048_0_1 (meanA H))) (broadcastInDim S1024x2048 ![0, 1] bcast_S1024x1_S1024x2048_0_1 (Host.rsqrt (addf (Host.divf (broadcastInDim S1024x1 ![0] bcast_S1024_S1024x1_0 (Host.reduceAdd (mulf (subf H (broadcastInDim S1024x2048 ![0, 1] bcast_S1024x1_S1024x2048_0_1 (meanA H))) (subf H (broadcastInDim S1024x2048 ![0, 1] bcast_S1024x1_S1024x2048_0_1 (meanA H)))) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x3727C5AC#32)))))) (broadcastInDim S1024x2048 ![0, 1] bcast_S1x2048_S1024x2048_0_1 (broadcastInDim S1x2048 ![1] bcast_S2048_S1x2048_1 (shapeCast _ (extractStridedSlice S1x2048 ![0, 0] a3 slices_S2x2048_S1x2048_0_0) shapeCasts_S1x2048_S2048)))) (broadcastInDim S1024x2048 ![0, 1] bcast_S1x2048_S1024x2048_0_1 (broadcastInDim S1x2048 ![1] bcast_S2048_S1x2048_1 (shapeCast _ (extractStridedSlice S1x2048 ![0, 0] a4 slices_S2x2048_S1x2048_0_0) shapeCasts_S1x2048_S2048)))
theorem hidA_apply (a0 : Mer) (a1 : Wts) (a2 : Tok) (i : Fin 1024) (l : Fin 2048) : hidA a0 a1 a2 (ix2 i l)
    = hid (a2 (ix3 ⟨i.val / 8, by omega⟩ ⟨i.val % 8, by omega⟩ l)) (fun k => a0 (ix2 i k)) (fun k => a1 (ix3 0 k l)) := by
  unfold hidA hid
  pointwise
theorem meanA_apply (H : FVec Ideal S1024x2048 .f32) (i : Fin 1024) : meanA H (ix2 i 0) = mean (fun l => H (ix2 i l)) := by
  unfold meanA mean
  pointwise
theorem lnA_apply (H : FVec Ideal S1024x2048 .f32) (a3 a4 : Nrm) (i : Fin 1024) (j : Fin 2048) :
    lnA H a3 a4 (ix2 i j) = lnorm (fun l => H (ix2 i l)) (a3 (ix2 0 j)) (a4 (ix2 0 j)) j := by
  unfold lnA lnorm
  pointwise
  simp only [meanA_apply]
set_option maxRecDepth 65536 in
theorem res_eq (c : Dev nD) : res_main_v35 m c = lnA (hidA (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) := by
  unfold res_main_v35
  rfl
/-- The reference's first result, entry by entry. -/
theorem ref_apply (c : Dev nD) (i : Fin 1024) (j : Fin 2048) : res_main_v35 m c (ix2 i j) = entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i j := by
  rw [res_eq]
  refine (lnA_apply _ _ _ i j).trans ?_
  unfold entry
  simp only [hidA_apply]
theorem ref0_eq (c : Dev nD) : res_main_v35 m c = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  rw [eq_ix2 i]
  exact ref_apply m c _ _
set_option maxRecDepth 65536 in
theorem res1_eq (c : Dev nD) : res_main_v36 m c = (truncf .bf16 (res_main_v35 m c : FVec Ideal S1024x2048 .f32) bitsLt_bf16_f32 : FVec Ideal S1024x2048 .bf16) := by
  unfold res_main_v36 res_main_v35
  rfl
theorem ref1_eq (c : Dev nD) : res_main_v36 m c = whole' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [res1_eq]
  funext i
  rw [eq_ix2 i]
  exact ref_apply m c _ _

end Cert.RefSOIdeal.Close

namespace Cert.Proof
open Idealize.ShloMosaic Idealize.SL.Sem

/-- The kernel's output product with its layer norm and the reference's compute the same extended reals, both results. -/
theorem algebraic_sampO : Cert.algebraic_SampOIdeal_RefSOIdeal (hSampOIdeal := Cert.SampOIdeal.Gen.facts) (hRefSOIdeal := Cert.RefSOIdeal.Gen.facts) := by
  intro m ρ m' ρ' _ hagree
  refine ⟨fun c => Cert.SampOIdeal.Close.whole (m ((c.tc : Thread Cert.SampOIdeal.nD Cert.SampOIdeal.τ).loc Cert.SampOIdeal.main_arg0)) (m ((c.tc : Thread Cert.SampOIdeal.nD Cert.SampOIdeal.τ).loc Cert.SampOIdeal.main_arg1)) (m ((c.tc : Thread Cert.SampOIdeal.nD Cert.SampOIdeal.τ).loc Cert.SampOIdeal.main_arg2)) (m ((c.tc : Thread Cert.SampOIdeal.nD Cert.SampOIdeal.τ).loc Cert.SampOIdeal.main_arg3)) (m ((c.tc : Thread Cert.SampOIdeal.nD Cert.SampOIdeal.τ).loc Cert.SampOIdeal.main_arg4)), fun c => Cert.SampOIdeal.Close.whole' (m ((c.tc : Thread Cert.SampOIdeal.nD Cert.SampOIdeal.τ).loc Cert.SampOIdeal.main_arg0)) (m ((c.tc : Thread Cert.SampOIdeal.nD Cert.SampOIdeal.τ).loc Cert.SampOIdeal.main_arg1)) (m ((c.tc : Thread Cert.SampOIdeal.nD Cert.SampOIdeal.τ).loc Cert.SampOIdeal.main_arg2)) (m ((c.tc : Thread Cert.SampOIdeal.nD Cert.SampOIdeal.τ).loc Cert.SampOIdeal.main_arg3)) (m ((c.tc : Thread Cert.SampOIdeal.nD Cert.SampOIdeal.τ).loc Cert.SampOIdeal.main_arg4)),
    (θ_run _ _ _).mono (fun r h c => ⟨(h c).1.trans (Cert.SampOIdeal.Close.final5 m c), (h c).2.1.trans (Cert.SampOIdeal.Close.final6 m c), (h c).2.2⟩)
      (Cert.SampOIdeal.Value.run_blocks (F := Ideal) m ρ), ?_⟩
  refine (θ_run _ _ _).mono (fun r h c => ⟨(h c).1.trans ?_, (h c).2.1.trans ?_, (h c).2.2⟩) (Cert.RefSOIdeal.Value.run (F := Ideal) m' ρ')
  · refine (Cert.RefSOIdeal.Close.ref0_eq m' c).trans ?_
    rw [(hagree c).1, (hagree c).2.1, (hagree c).2.2.1, (hagree c).2.2.2.1, (hagree c).2.2.2.2]
  · refine (Cert.RefSOIdeal.Close.ref1_eq m' c).trans ?_
    rw [(hagree c).1, (hagree c).2.1, (hagree c).2.2.1, (hagree c).2.2.2.1, (hagree c).2.2.2.2]

end Cert.Proof
end
-- ==== Proof.Head.lean ====
module

public import proofs.«01_k».proof.Proof.Tile
public import Idealize.ShloMosaic.Lib.Pointwise

@[expose] public section
noncomputable section
namespace Cert.KernelIdeal.Ret
open Idealize.ShloMosaic Idealize.ShloMosaic.TcCoe Idealize.ShloMosaic.Tactic Idealize.ShloMosaic.Pointwise
open Cert.KernelIdeal.Gen

/-! The retention kernel's tile over the extended reals, entry by entry. -/

/-- The lane a rotation by half a head brings to lane `d`. -/
abbrev half (d : Fin 128) : Fin 128 := ⟨(d.val + 128 - 64) % 128, Nat.mod_lt _ (by decide)⟩
/-- Lane `d` of head `h` among all lanes. -/
abbrev lane (h : Fin 8) (d : Fin 128) : Fin 1024 := ⟨128 * h.val + d.val, by omega⟩
/-- Row `r` of chunk `k` among a tile's rows. -/
abbrev row (k : Fin 4) (r : Fin 64) : Fin 256 := ⟨64 * k.val + r.val, by omega⟩

/-- One head's state after a chunk: decayed, plus the sum over the chunk of rotated and scaled keys times values. -/
theorem headS_apply (c s : Vec Ideal S64x128 .f32) (k v : Vec Ideal S1x64x128 .f32) (cd : Vec Ideal S1x1x128 .f32)
    (S : Vec Ideal S1x1x128x128 .f32) (kd : Vec Ideal S1x64x128 .f32) (y : S1x1x128x128.Idx) :
    headS c s k v cd S kd y = cd (ix3 0 0 (y 3)) * S y + ∑ x : Fin 64, (k (ix3 0 x (y 2)) * c (ix2 x (y 2))
      + k (ix3 0 x (half (y 2))) * s (ix2 x (y 2))) * Ideal.ofBits .f32 1035273459#32 * kd (ix3 0 x (y 2)) * v (ix3 0 x (y 3)) := by
  unfold headS k0_pay58 k0_pay6 k0_pay7 k0_pay3 k0_pay4
  dsimp only
  pointwise
/-- One head's retention over a chunk: within the chunk through the decay matrix, and from the state before it. -/
theorem headO_apply (c s : Vec Ideal S64x128 .f32) (q k v : Vec Ideal S1x64x128 .f32)
    (S : Vec Ideal S1x1x128x128 .f32) (dm : Vec Ideal S1x64x64 .f32) (qd : Vec Ideal S1x64x128 .f32) (y : S64x128.Idx) :
    headO c s q k v S dm qd y =
      (∑ x : Fin 64, (∑ d : Fin 128, (q (ix3 0 (y 0) d) * c (ix2 (y 0) d) + q (ix3 0 (y 0) (half d)) * s (ix2 (y 0) d))
        * ((k (ix3 0 x d) * c (ix2 x d) + k (ix3 0 x (half d)) * s (ix2 x d)) * Ideal.ofBits .f32 1035273459#32))
          * dm (ix3 0 (y 0) x) * v (ix3 0 x (y 1)))
      + (∑ d : Fin 128, (q (ix3 0 (y 0) d) * c (ix2 (y 0) d) + q (ix3 0 (y 0) (half d)) * s (ix2 (y 0) d)) * S (ix4 0 0 d (y 1)))
        * qd (ix3 0 (y 0) (y 1)) := by
  unfold headO k0_pay49 k0_pay9 k0_pay48 k0_pay7 k0_pay8 k0_pay6 k0_pay5 k0_pay3 k0_pay4
  dsimp only
  pointwise
/-- Centred, scaled to unit variance, then the norm's weight, its bias and the gate. -/
def normed (o : Fin 128 → EReal) (g b z : EReal) (l : Fin 128) : EReal :=
  ((o l - Ideal.div (∑ x, o x) (Ideal.ofBits .f32 1124073472#32))
    * Ideal.rsqrt (Ideal.div (∑ x, (o x - Ideal.div (∑ x, o x) (Ideal.ofBits .f32 1124073472#32))
        * (o x - Ideal.div (∑ x, o x) (Ideal.ofBits .f32 1124073472#32))) (Ideal.ofBits .f32 1124073472#32)
      + Ideal.ofBits .f32 925353388#32) * g + b) * z
/-- The norm of equal parts. -/
theorem normed_congr {o o' : Fin 128 → EReal} {g g' b b' z z' : EReal} (ho : o = o') (hg : g = g') (hb : b = b')
    (hz : z = z') (l : Fin 128) : normed o g b z l = normed o' g' b' z' l := by
  subst ho hg hb hz; rfl
/-- The printed norm of one head's output at an entry. -/
theorem norm_apply (o : Vec Ideal S64x128 .f32) (g b : Vec Ideal S1x128 .f32) (z : Vec Ideal S1x64x128 .f32) (y : S1x64x128.Idx) :
    k0_pay68 o g b z y = normed (fun l => o (ix2 (y 1) l)) (g (ix2 0 (y 2))) (b (ix2 0 (y 2))) (z y) (y 2) := by
  unfold k0_pay68 normed
  dsimp only
  pointwise

/-! ### The slabs a head reads of a tile's arrays -/

theorem ld_T {φ : EltTy} (x : Vec Ideal S1x256x1024 φ) (k : Fin 4) (h : Fin 8) (r : Fin 64) (d : Fin 128) :
    View.ld x (rT k h) (ix3 0 r d) = x (ix3 0 (row k r) (lane h d)) := by
  refine congrArg x (funext fun a => Fin.ext ?_)
  match a with
  | 0 => rfl
  | 1 => show 64 * k.val + 1 * r.val = 64 * k.val + r.val; omega
  | 2 => show 128 * h.val + 1 * d.val = 128 * h.val + d.val; omega
theorem ld_R {φ : EltTy} (x : Vec Ideal S256x128 φ) (k : Fin 4) (r : Fin 64) (d : Fin 128) :
    View.ld x (rR k) (ix2 r d) = x (ix2 (row k r) d) := by
  refine congrArg x (funext fun a => Fin.ext ?_)
  match a with
  | 0 => show 64 * k.val + 1 * r.val = 64 * k.val + r.val; omega
  | 1 => show 0 + 1 * d.val = d.val; omega
theorem ld_S {φ : EltTy} (x : Vec Ideal S1x8x128x128 φ) (h : Fin 8) (d e : Fin 128) :
    View.ld x (rS h) (ix4 0 0 d e) = x (ix4 0 h d e) := by
  refine congrArg x (funext fun a => Fin.ext ?_)
  match a with
  | 0 => rfl
  | 1 => show h.val + 1 * 0 = h.val; omega
  | 2 => show 0 + 1 * d.val = d.val; omega
  | 3 => show 0 + 1 * e.val = e.val; omega
theorem ld_M {φ : EltTy} (x : Vec Ideal S8x64x64 φ) (h : Fin 8) (r u : Fin 64) :
    View.ld x (rM h) (ix3 0 r u) = x (ix3 h r u) := by
  refine congrArg x (funext fun a => Fin.ext ?_)
  match a with
  | 0 => show h.val + 1 * 0 = h.val; omega
  | 1 => show 0 + 1 * r.val = r.val; omega
  | 2 => show 0 + 1 * u.val = u.val; omega
theorem ld_D {φ : EltTy} (x : Vec Ideal S8x64x128 φ) (h : Fin 8) (r : Fin 64) (d : Fin 128) :
    View.ld x (rD h) (ix3 0 r d) = x (ix3 h r d) := by
  refine congrArg x (funext fun a => Fin.ext ?_)
  match a with
  | 0 => show h.val + 1 * 0 = h.val; omega
  | 1 => show 0 + 1 * r.val = r.val; omega
  | 2 => show 0 + 1 * d.val = d.val; omega
theorem ld_C {φ : EltTy} (x : Vec Ideal S8x1x128 φ) (h : Fin 8) (d : Fin 128) :
    View.ld x (rC h) (ix3 0 0 d) = x (ix3 h 0 d) := by
  refine congrArg x (funext fun a => Fin.ext ?_)
  match a with
  | 0 => show h.val + 1 * 0 = h.val; omega
  | 1 => rfl
  | 2 => show 0 + 1 * d.val = d.val; omega
theorem ld_G {φ : EltTy} (x : Vec Ideal S1x1024 φ) (h : Fin 8) (d : Fin 128) :
    View.ld x (rG h) (ix2 0 d) = x (ix2 0 (lane h d)) := by
  refine congrArg x (funext fun a => Fin.ext ?_)
  match a with
  | 0 => rfl
  | 1 => show 128 * h.val + 1 * d.val = 128 * h.val + d.val; omega

/-- A tile's array rotated, at row `r` of chunk `k`, lane `d` of head `h`. -/
def rotT (x : Vec Ideal S1x256x1024 .f32) (c s : Vec Ideal S256x128 .f32) (k : Fin 4) (h : Fin 8) (r : Fin 64) (d : Fin 128) : EReal :=
  x (ix3 0 (row k r) (lane h d)) * c (ix2 (row k r) d) + x (ix3 0 (row k r) (lane h (half d))) * s (ix2 (row k r) d)

/-- The state after a chunk, at an entry. -/
theorem nextS_apply (x3 x4 : Vec Ideal S1x256x1024 .f32) (x6 x7 : Vec Ideal S256x128 .f32) (x10 : Vec Ideal S8x64x128 .f32)
    (x11 : Vec Ideal S8x1x128 .f32) (S : Vec Ideal S1x8x128x128 .f32) (k : Fin 4) (h : Fin 8) (d e : Fin 128) :
    nextS x3 x4 x6 x7 x10 x11 S k (ix4 0 h d e) = x11 (ix3 h 0 e) * S (ix4 0 h d e)
      + ∑ x : Fin 64, rotT x3 x6 x7 k h x d * Ideal.ofBits .f32 1035273459#32 * x10 (ix3 h x d)
          * x4 (ix3 0 (row k x) (lane h e)) := by
  refine (headS_apply _ _ _ _ _ _ _ (atS d e)).trans ?_
  have e0 : View.ld S (rS h) (atS d e) = S (ix4 0 h d e) := by
    rw [← ld_S S h d e]
    exact congrArg (View.ld S (rS h)) (funext fun a => by match a with | 0 => rfl | 1 => rfl | 2 => rfl | 3 => rfl)
  have e1 := ld_C x11 h e
  refine congrArg₂ (· + ·) (congrArg₂ (· * ·) e1 e0) (Finset.sum_congr rfl fun x _ => ?_)
  unfold rotT
  rw [← ld_T x3 k h x d, ← ld_T x3 k h x (half d), ← ld_T x4 k h x e, ← ld_R x6 k x d, ← ld_R x7 k x d, ← ld_D x10 h x d]
  rfl

/-- A head's retention over a chunk of a tile, at an entry. -/
def retT (x2 x3 x4 : Vec Ideal S1x256x1024 .f32) (x6 x7 : Vec Ideal S256x128 .f32) (x8 : Vec Ideal S8x64x64 .f32)
    (x9 : Vec Ideal S8x64x128 .f32) (S : Vec Ideal S1x8x128x128 .f32) (k : Fin 4) (h : Fin 8) (r : Fin 64) (e : Fin 128) : EReal :=
  (∑ x : Fin 64, (∑ d : Fin 128, rotT x2 x6 x7 k h r d * (rotT x3 x6 x7 k h x d * Ideal.ofBits .f32 1035273459#32))
      * x8 (ix3 h r x) * x4 (ix3 0 (row k x) (lane h e)))
    + (∑ d : Fin 128, rotT x2 x6 x7 k h r d * S (ix4 0 h d e)) * x9 (ix3 h r e)

/-- The slabs a head of a tile reads, put into its retention. -/
theorem headO_tile (x2 x3 x4 : Vec Ideal S1x256x1024 .f32) (x6 x7 : Vec Ideal S256x128 .f32) (x8 : Vec Ideal S8x64x64 .f32)
    (x9 : Vec Ideal S8x64x128 .f32) (S : Vec Ideal S1x8x128x128 .f32) (k : Fin 4) (h : Fin 8) (r : Fin 64) (e : Fin 128) :
    headO (View.ld x6 (rR k)) (View.ld x7 (rR k)) (View.ld x2 (rT k h)) (View.ld x3 (rT k h)) (View.ld x4 (rT k h))
      (View.ld S (rS h)) (View.ld x8 (rM h)) (View.ld x9 (rD h)) (ix2 r e) = retT x2 x3 x4 x6 x7 x8 x9 S k h r e := by
  refine (headO_apply _ _ _ _ _ _ _ _ (ix2 r e)).trans ?_
  unfold retT rotT
  refine congrArg₂ (· + ·) (Finset.sum_congr rfl fun x _ => congrArg₂ (· * ·) (congrArg₂ (· * ·) (Finset.sum_congr rfl fun d _ => ?_) ?_) ?_)
    (congrArg₂ (· * ·) (Finset.sum_congr rfl fun d _ => ?_) ?_)
  · rw [← ld_T x2 k h r d, ← ld_T x2 k h r (half d), ← ld_T x3 k h x d, ← ld_T x3 k h x (half d), ← ld_R x6 k r d, ← ld_R x7 k r d, ← ld_R x6 k x d, ← ld_R x7 k x d]
    rfl
  · exact ld_M x8 h r x
  · exact ld_T x4 k h x e
  · rw [← ld_T x2 k h r d, ← ld_T x2 k h r (half d), ← ld_R x6 k r d, ← ld_R x7 k r d, ← ld_S S h d e]
    rfl
  · exact ld_D x9 h r e

/-- The output's tile at row `r` of chunk `k`, lane `e` of head `h`. -/
theorem tileY_apply (x2 x3 x4 x5 : Vec Ideal S1x256x1024 .f32) (x6 x7 : Vec Ideal S256x128 .f32) (x8 : Vec Ideal S8x64x64 .f32)
    (x9 x10 : Vec Ideal S8x64x128 .f32) (x11 : Vec Ideal S8x1x128 .f32) (x13 x14 : Vec Ideal S1x1024 .f32)
    (S : Vec Ideal S1x8x128x128 .f32) (k : Fin 4) (h : Fin 8) (r : Fin 64) (e : Fin 128) :
    tileY x2 x3 x4 x5 x6 x7 x8 x9 x10 x11 x13 x14 S (ix3 0 (row k r) (lane h e))
      = normed (fun l => retT x2 x3 x4 x6 x7 x8 x9 (stateAt x3 x4 x6 x7 x10 x11 S k.val) k h r l)
          (x13 (ix2 0 (lane h e))) (x14 (ix2 0 (lane h e))) (x5 (ix3 0 (row k r) (lane h e))) e := by
  have ek : chunkOf (ix3 0 (row k r) (lane h e)) = k := Fin.ext (by show (64 * k.val + r.val) / 64 = k.val; omega)
  have eh : headOf (ix3 0 (row k r) (lane h e)) = h := Fin.ext (by show (128 * h.val + e.val) / 128 = h.val; omega)
  have er : (⟨(64 * k.val + r.val) % 64, Nat.mod_lt _ (by decide)⟩ : Fin 64) = r := Fin.ext (by show (64 * k.val + r.val) % 64 = r.val; omega)
  have ee : (⟨(128 * h.val + e.val) % 128, Nat.mod_lt _ (by decide)⟩ : Fin 128) = e := Fin.ext (by show (128 * h.val + e.val) % 128 = e.val; omega)
  unfold tileY
  rw [ek, eh]
  show headY _ _ _ _ _ _ _ _ _ _ _ (atT ⟨(64 * k.val + r.val) % 64, _⟩ ⟨(128 * h.val + e.val) % 128, _⟩) = _
  rw [er, ee]
  unfold headY
  refine (norm_apply _ _ _ _ (atT r e)).trans ?_
  show normed _ _ _ _ e = _
  have ez : View.ld x5 (rT k h) (atT r e) = x5 (ix3 0 (row k r) (lane h e)) := by
    rw [← ld_T x5 k h r e]
    exact congrArg (View.ld x5 (rT k h)) (funext fun a => by match a with | 0 => rfl | 1 => rfl | 2 => rfl)
  have eg := ld_G x13 h e
  have eb := ld_G x14 h e
  have eo : (fun l => headO (View.ld x6 (rR k)) (View.ld x7 (rR k)) (View.ld x2 (rT k h)) (View.ld x3 (rT k h)) (View.ld x4 (rT k h))
      (View.ld (stateAt x3 x4 x6 x7 x10 x11 S k.val) (rS h)) (View.ld x8 (rM h)) (View.ld x9 (rD h)) (ix2 r l))
      = fun l => retT x2 x3 x4 x6 x7 x8 x9 (stateAt x3 x4 x6 x7 x10 x11 S k.val) k h r l :=
    funext fun l => headO_tile _ _ _ _ _ _ _ _ k h r l
  exact normed_congr eo eg eb ez e

end Cert.KernelIdeal.Ret
-- ==== Proof.RetRun.lean ====
module

public import proofs.«01_k».proof.Proof.Value
public import proofs.«01_k».proof.Proof.Head

@[expose] public section
set_option maxRecDepth 16384
noncomputable section
namespace Cert.KernelIdeal.Gen
open Idealize.ShloMosaic Idealize.ShloMosaic.TcCoe Idealize.ShloMosaic.Tactic Idealize.SL.Sem

/-! What a grid point leaves, read off the pieces its run stores. -/

variable {F : FTy → Type} [FloatOps F]

/-- The state a batch starts from: its initial state's block. -/
def s0Of (x10 : Vec F S1x1x8x128x128 .f32) : FVec F S1x8x128x128 .f32 :=
  k0_pay1 (View.ld x10 (Rect.unit (s := S1x1x8x128x128) ![0, 0, 0, 0, 0] S1x1x8x128x128.size (by decide)))

/-- Loading the whole state gives it back. -/
theorem ld_wholeS (S : Vec F S1x8x128x128 .f32) : View.ld S Ret.wS = S := by
  funext y
  have e : Ret.wS.emb y = y := funext fun a => Fin.ext (by
    match a with
    | 0 => show 0 + 1 * (y 0).val = (y 0).val; omega
    | 1 => show 0 + 1 * (y 1).val = (y 1).val; omega
    | 2 => show 0 + 1 * (y 2).val = (y 2).val; omega
    | 3 => show 0 + 1 * (y 3).val = (y 3).val; omega)
  exact congrArg S e

/-- The tile a point of case A leaves. -/
theorem tile_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 = Ret.tileY x0 x1 x2 x3 x4 x5 x6 x7 x8 x9 x11 x12 (s0Of x10) :=
  by unfold out0_A_13 kernelRun0_A; dsimp only; exact (Ret.read_wholeY (F := F) _ _ _).trans (congrArg (Ret.tileY x0 x1 x2 x3 x4 x5 x6 x7 x8 x9 x11 x12) (Ret.read_wholeS (F := F) _ _ (s0Of x10) []))

/-- The state a point of case A leaves. -/
theorem state_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 = Ret.stateAt x1 x2 x4 x5 x8 x9 (s0Of x10) 4 :=
  by unfold sout0_A_0 kernelRun0_A; dsimp only; exact (Ret.read_wholeS (F := F) _ _ _ _).trans (congrArg (fun S => Ret.stateAt x1 x2 x4 x5 x8 x9 S 4) (Ret.read_wholeS (F := F) _ _ (s0Of x10) []))

/-- The tile a point of case B leaves. -/
theorem tile_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 = Ret.tileY x0 x1 x2 x3 x4 x5 x6 x7 x8 x9 x11 x12 xs0 :=
  Ret.read_wholeY _ _ _

/-- The state a point of case B leaves. -/
theorem state_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : ¬cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 = Ret.stateAt x1 x2 x4 x5 x8 x9 xs0 4 :=
  Ret.read_wholeS _ _ _ _

/-- The tile a point of case C leaves. -/
theorem tile_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 = Ret.tileY x0 x1 x2 x3 x4 x5 x6 x7 x8 x9 x11 x12 xs0 :=
  Ret.read_wholeY _ _ _

/-- The state a point of case C leaves. -/
theorem state_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 = Ret.stateAt x1 x2 x4 x5 x8 x9 xs0 4 :=
  Ret.read_wholeS _ _ _ _

/-- The state a batch's last point writes out. -/
theorem last_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S8x64x64 .f32) (harg8 : arg8.IsWhole) (arg9 : Memref sig .tc .vmem S8x64x128 .f32) (harg9 : arg9.IsWhole) (arg10 : Memref sig .tc .vmem S8x64x128 .f32) (harg10 : arg10.IsWhole) (arg11 : Memref sig .tc .vmem S8x1x128 .f32) (harg11 : arg11.IsWhole) (arg12 : Memref sig .tc .vmem S1x1x8x128x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x256x1024 .bf16) (harg15 : arg15.IsWhole) (arg16 : Memref sig .tc .vmem S1x8x128x128 .f32) (harg16 : arg16.IsWhole) (arg17 : Memref sig .tc .vmem S1x8x128x128 .f32) (harg17 : arg17.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S256x128 .f32) (x5 : Vec F S256x128 .f32) (x6 : Vec F S8x64x64 .f32) (x7 : Vec F S8x64x128 .f32) (x8 : Vec F S8x64x128 .f32) (x9 : Vec F S8x1x128 .f32) (x10 : Vec F S1x1x8x128x128 .f32) (x11 : Vec F S1x1024 .f32) (x12 : Vec F S1x1024 .f32) (xs0 : Vec F S1x8x128x128 .f32) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 = Ret.stateAt x1 x2 x4 x5 x8 x9 xs0 4 := by
  exact (Ret.read_wholeS _ _ _ _).trans (ld_wholeS _)

end Cert.KernelIdeal.Gen
-- ==== Proof.RefStep.lean ====
module

public import proofs.«01_k».proof.Proof.Gen.ReferenceIdeal.Step
public import proofs.«01_k».proof.Proof.Head
public import Idealize.ShloMosaic.Lib.Pointwise
public import Idealize.ShloMosaic.Lib.DynamicIndex

@[expose] public section
noncomputable section
namespace Cert.ReferenceIdeal.Step
open Idealize.ShloMosaic Idealize.ShloMosaic.TcCoe Idealize.ShloMosaic.Tactic Idealize.ShloMosaic.Pointwise
open Cert.ReferenceIdeal.Gen

/-! One trip of the reference over the extended reals, entry by entry. -/

/-- Where a trip's slices start. -/
abbrev starts (j : Fin 32) : Fin 5 → Int := fun a =>
  (((![(constantI S_ 32 (BitVec.ofNat 32 j.val) : (⟨S_, .i32⟩ : BufTy).Contents (Elt Ideal)), constantI S_ 32 0#32,
      constantI S_ 32 0#32, constantI S_ 32 0#32, constantI S_ 32 0#32] : Fin 5 → (⟨S_, .i32⟩ : BufTy).Contents (Elt Ideal))) a
        (Shape.Idx.first h_S_)).toInt

/-- A trip's slices start at its own number, and at the front of the other axes. -/
theorem starts_eq (j : Fin 32) (a : Fin 5) : starts j a = (((![j.val, 0, 0, 0, 0] : Fin 5 → ℕ) a : ℕ) : Int) := by
  have hj := j.isLt
  match a with
  | 0 => exact toInt_ofNat_of_lt (by omega)
  | 1 => rfl
  | 2 => rfl
  | 3 => rfl
  | 4 => rfl

/-- The slice of a trip lies inside the chunked array. -/
theorem slices_j (j : Fin 32) : S32x4x64x8x128.Slices ![j.val, 0, 0, 0, 0] S1x4x64x8x128 := by
  revert j; decide

/-- The queries of trip `j`: its chunk. -/
theorem b5_apply (j : Fin 32) (s : State Ideal) (b : Fin 4) (r : Fin 64) (h : Fin 8) (d : Fin 128) :
    b5 j.val s (ix4 b r h d) = s.main_v130_0 (ix5 j b r h d) := by
  unfold b5 b4 b3 b2 b1 b0
  rw [Host.dynamicSlice_eq_extractStridedSlice _ _ _ _ _ (slices_j j) (starts_eq j)]
  pointwise

/-- The keys of trip `j`: its chunk. -/
theorem b11_apply (j : Fin 32) (s : State Ideal) (b : Fin 4) (r : Fin 64) (h : Fin 8) (d : Fin 128) :
    b11 j.val s (ix4 b r h d) = s.main_v130_1 (ix5 j b r h d) := by
  unfold b11 b10 b9 b8 b7 b6
  rw [Host.dynamicSlice_eq_extractStridedSlice _ _ _ _ _ (slices_j j) (starts_eq j)]
  pointwise

/-- The values of trip `j`: its chunk. -/
theorem b17_apply (j : Fin 32) (s : State Ideal) (b : Fin 4) (r : Fin 64) (h : Fin 8) (d : Fin 128) :
    b17 j.val s (ix4 b r h d) = s.main_v130_2 (ix5 j b r h d) := by
  unfold b17 b16 b15 b14 b13 b12
  rw [Host.dynamicSlice_eq_extractStridedSlice _ _ _ _ _ (slices_j j) (starts_eq j)]
  pointwise

/-- The next state: decayed, plus keys times values over the chunk. -/
theorem b39_apply (j : ℕ) (s : State Ideal) (b : Fin 4) (h : Fin 8) (d e : Fin 128) :
    b39 j s (ix4 b h d e) = K_main_v120 (F := Ideal) (ix1 h) * s.main_v130_8 (ix4 b h d e)
      + ∑ x : Fin 64, b11 j s (ix4 b x h d) * K_main_v117 (F := Ideal) (ix2 h x) * b17 j s (ix4 b x h e) := by
  unfold b39 b38 b37 b36 b35 b34 b33 b32 b31
  pointwise

/-- The chunk's retention. -/
theorem b30_apply (j : ℕ) (s : State Ideal) (b : Fin 4) (r : Fin 64) (h : Fin 8) (e : Fin 128) :
    b30 j s (ix4 b r h e) = (∑ x : Fin 64, (∑ d : Fin 128, b5 j s (ix4 b r h d) * b11 j s (ix4 b x h d))
       * K_main_v101 (F := Ideal) (ix3 h r x) * b17 j s (ix4 b x h e)) +
       (∑ d : Fin 128, b5 j s (ix4 b r h d) * s.main_v130_8 (ix4 b h d e)) * K_main_v109 (F := Ideal) (ix2 h r) := by
  unfold b30 b29 b28 b27 b26 b25 b24 b23 b22 b21 b20 b19 b18
  pointwise
  exact congrArg₂ (· + ·) (Finset.sum_congr rfl fun x _ => mul_comm _ _)
    (congrArg (· * _) (Finset.sum_congr rfl fun d _ => mul_comm _ _))

/-- A trip writes its own chunk of the outputs and no other. -/
theorem b45_apply (j : Fin 32) (s : State Ideal) (n : Fin 32) (b : Fin 4) (r : Fin 64) (h : Fin 8) (d : Fin 128) :
    b45 j.val s (ix5 n b r h d) = if n = j then b30 j.val s (ix4 b r h d) else s.main_v130_9 (ix5 n b r h d) := by
  unfold b45 b44 b43 b42 b41 b40
  rw [Host.dynamicUpdateSlice_apply]
  have hs := fun a : Fin 5 => Host.clampedStart_of_le (s := S32x4x64x8x128) (t := S1x4x64x8x128) rfl (starts j) a _ (starts_eq j a)
    ((slices_j j).2 a)
  by_cases hn : n = j
  · subst hn
    rw [if_pos rfl, dif_pos (fun a => by
      rw [hs a]
      match a with
      | 0 => exact ⟨le_refl _, Nat.lt_succ_self _⟩
      | 1 => exact ⟨Nat.zero_le _, by show b.val < 0 + 4; omega⟩
      | 2 => exact ⟨Nat.zero_le _, by show r.val < 0 + 64; omega⟩
      | 3 => exact ⟨Nat.zero_le _, by show h.val < 0 + 8; omega⟩
      | 4 => exact ⟨Nat.zero_le _, by show d.val < 0 + 128; omega⟩)]
    pointwise
    refine congrArg (b30 n.val s) (funext fun a => Fin.ext ?_)
    match a with
    | 0 => show b.val - _ = b.val; rw [hs 1]; rfl
    | 1 => show r.val - _ = r.val; rw [hs 2]; rfl
    | 2 => show h.val - _ = h.val; rw [hs 3]; rfl
    | 3 => show d.val - _ = d.val; rw [hs 4]; rfl
  · rw [if_neg hn, dif_neg]
    intro hin
    have h0 := hin 0
    rw [hs 0] at h0
    exact hn (Fin.ext (by have h1 : j.val ≤ n.val := h0.1; have h2 : n.val < j.val + 1 := h0.2; omega))

/-- The head a lane lies in. -/
abbrev hd (l : Fin 1024) : Fin 8 := ⟨l.val / 128, by omega⟩
/-- A lane's place in its head. -/
abbrev ln (l : Fin 1024) : Fin 128 := ⟨l.val % 128, Nat.mod_lt _ (by decide)⟩
/-- The chunk a time step lies in. -/
abbrev ch (t : Fin 2048) : Fin 32 := ⟨t.val / 64, by omega⟩
/-- A time step's place in its chunk. -/
abbrev rw' (t : Fin 2048) : Fin 64 := ⟨t.val % 64, Nat.mod_lt _ (by decide)⟩

/-- The reference's output: the normed and gated retention of its chunk. -/
theorem out_apply (s : State Ideal) (a1 a3 a4) (b : Fin 4) (t : Fin 2048) (l : Fin 1024) :
    R_main_v164 s a1 a3 a4 (ix3 b t l) = Cert.KernelIdeal.Ret.normed (fun x => s.main_v130_9 (ix5 (ch t) b (rw' t) (hd l) x))
      (a3 (ix2 0 l)) (a4 (ix2 0 l)) (a1 (ix3 b t ⟨3072 + l.val, by omega⟩)) (ln l) := by
  unfold R_main_v164 Cert.KernelIdeal.Ret.normed
  pointwise

end Cert.ReferenceIdeal.Step
-- ==== Proof.RefArgs.lean ====
module

public import proofs.«01_k».proof.Proof.Gen.ReferenceIdeal.Step
public import proofs.«01_k».proof.Proof.Head
public import Idealize.ShloMosaic.Lib.Pointwise

@[expose] public section
noncomputable section
namespace Cert.ReferenceIdeal.Step
open Idealize.ShloMosaic Idealize.ShloMosaic.TcCoe Idealize.ShloMosaic.Tactic Idealize.ShloMosaic.Pointwise
open Cert.ReferenceIdeal.Gen

/-! The reference's arguments over the extended reals, rotated and cut in chunks, entry by entry. -/

/-- The rotation of the reference: the first half `x₁ cos - x₂ sin`, the second `x₁ sin + x₂ cos`. -/
def rope (x : Fin 128 → EReal) (c s : Fin 64 → EReal) (d : Fin 128) : EReal :=
  if h : d.val < 64 then x ⟨d.val, by omega⟩ * c ⟨d.val, h⟩ - x ⟨64 + d.val, by omega⟩ * s ⟨d.val, h⟩
  else x ⟨d.val - 64, by omega⟩ * s ⟨d.val - 64, by omega⟩ + x ⟨64 + (d.val - 64), by omega⟩ * c ⟨d.val - 64, by omega⟩

variable (a0 : (⟨S4x2048x3072, .f32⟩ : BufTy).Contents (Elt Ideal)) (a2 : (⟨S2x4x8x128x128, .f32⟩ : BufTy).Contents (Elt Ideal))

/-- The queries head by head. -/
theorem v4_apply (b : Fin 4) (t : Fin 2048) (h : Fin 8) (d : Fin 128) :
    A_main_v4 (F := Ideal) a0 a2 (ix4 b t h d) = a0 (ix3 b t ⟨(h.val * 128 + d.val), by omega⟩) := by
  unfold A_main_v4 A_main_v3
  pointwise
/-- Their first half. -/
theorem v25_apply (b : Fin 4) (t : Fin 2048) (h : Fin 8) (d : Fin 64) :
    A_main_v25 (F := Ideal) a0 a2 (ix4 b t h d) = A_main_v4 (F := Ideal) a0 a2 (ix4 b t h ⟨d.val, by omega⟩) := by
  unfold A_main_v25
  pointwise
/-- Their second half. -/
theorem v26_apply (b : Fin 4) (t : Fin 2048) (h : Fin 8) (d : Fin 64) :
    A_main_v26 (F := Ideal) a0 a2 (ix4 b t h d) = A_main_v4 (F := Ideal) a0 a2 (ix4 b t h ⟨64 + d.val, by omega⟩) := by
  unfold A_main_v26
  pointwise
/-- The rotated first half. -/
theorem v31_apply (b : Fin 4) (t : Fin 2048) (h : Fin 8) (d : Fin 64) :
    A_main_v31 (F := Ideal) a0 a2 (ix4 b t h d) = A_main_v25 (F := Ideal) a0 a2 (ix4 b t h d) * K_main_v21 (F := Ideal) (ix2 t d)
      - A_main_v26 (F := Ideal) a0 a2 (ix4 b t h d) * K_main_v23 (F := Ideal) (ix2 t d) := by
  unfold A_main_v31 A_main_v28 A_main_v30 K_main_v27 K_main_v29 K_main_v24 K_main_v22
  pointwise
/-- The rotated second half. -/
theorem v36_apply (b : Fin 4) (t : Fin 2048) (h : Fin 8) (d : Fin 64) :
    A_main_v36 (F := Ideal) a0 a2 (ix4 b t h d) = A_main_v25 (F := Ideal) a0 a2 (ix4 b t h d) * K_main_v23 (F := Ideal) (ix2 t d)
      + A_main_v26 (F := Ideal) a0 a2 (ix4 b t h d) * K_main_v21 (F := Ideal) (ix2 t d) := by
  unfold A_main_v36 A_main_v33 A_main_v35 K_main_v32 K_main_v34 K_main_v24 K_main_v22
  pointwise
/-- The two halves together. -/
theorem v37_apply (b : Fin 4) (t : Fin 2048) (h : Fin 8) (d : Fin 128) :
    A_main_v37 (F := Ideal) a0 a2 (ix4 b t h d) = if hd : d.val < 64 then A_main_v31 (F := Ideal) a0 a2 (ix4 b t h ⟨d.val, hd⟩)
      else A_main_v36 (F := Ideal) a0 a2 (ix4 b t h ⟨d.val - 64, by omega⟩) := by
  unfold A_main_v37
  pointwise
/-- The rotated queries. -/
theorem v37_rope (b : Fin 4) (t : Fin 2048) (h : Fin 8) (d : Fin 128) :
    A_main_v37 (F := Ideal) a0 a2 (ix4 b t h d) = rope (fun l => a0 (ix3 b t ⟨(h.val * 128 + l.val), by omega⟩))
      (fun x => K_main_v21 (F := Ideal) (ix2 t x)) (fun x => K_main_v23 (F := Ideal) (ix2 t x)) d := by
  rw [v37_apply]
  unfold rope
  split
  · rw [v31_apply, v25_apply, v26_apply, v4_apply, v4_apply]
  · rw [v36_apply, v25_apply, v26_apply, v4_apply, v4_apply]

/-- The keys head by head. -/
theorem v39_apply (b : Fin 4) (t : Fin 2048) (h : Fin 8) (d : Fin 128) :
    A_main_v39 (F := Ideal) a0 a2 (ix4 b t h d) = a0 (ix3 b t ⟨1024 + (h.val * 128 + d.val), by omega⟩) := by
  unfold A_main_v39 A_main_v38
  pointwise
/-- Their first half. -/
theorem v60_apply (b : Fin 4) (t : Fin 2048) (h : Fin 8) (d : Fin 64) :
    A_main_v60 (F := Ideal) a0 a2 (ix4 b t h d) = A_main_v39 (F := Ideal) a0 a2 (ix4 b t h ⟨d.val, by omega⟩) := by
  unfold A_main_v60
  pointwise
/-- Their second half. -/
theorem v61_apply (b : Fin 4) (t : Fin 2048) (h : Fin 8) (d : Fin 64) :
    A_main_v61 (F := Ideal) a0 a2 (ix4 b t h d) = A_main_v39 (F := Ideal) a0 a2 (ix4 b t h ⟨64 + d.val, by omega⟩) := by
  unfold A_main_v61
  pointwise
/-- The rotated first half. -/
theorem v66_apply (b : Fin 4) (t : Fin 2048) (h : Fin 8) (d : Fin 64) :
    A_main_v66 (F := Ideal) a0 a2 (ix4 b t h d) = A_main_v60 (F := Ideal) a0 a2 (ix4 b t h d) * K_main_v56 (F := Ideal) (ix2 t d)
      - A_main_v61 (F := Ideal) a0 a2 (ix4 b t h d) * K_main_v58 (F := Ideal) (ix2 t d) := by
  unfold A_main_v66 A_main_v63 A_main_v65 K_main_v62 K_main_v64 K_main_v59 K_main_v57
  pointwise
/-- The rotated second half. -/
theorem v71_apply (b : Fin 4) (t : Fin 2048) (h : Fin 8) (d : Fin 64) :
    A_main_v71 (F := Ideal) a0 a2 (ix4 b t h d) = A_main_v60 (F := Ideal) a0 a2 (ix4 b t h d) * K_main_v58 (F := Ideal) (ix2 t d)
      + A_main_v61 (F := Ideal) a0 a2 (ix4 b t h d) * K_main_v56 (F := Ideal) (ix2 t d) := by
  unfold A_main_v71 A_main_v68 A_main_v70 K_main_v67 K_main_v69 K_main_v59 K_main_v57
  pointwise
/-- The two halves together. -/
theorem v72_apply (b : Fin 4) (t : Fin 2048) (h : Fin 8) (d : Fin 128) :
    A_main_v72 (F := Ideal) a0 a2 (ix4 b t h d) = if hd : d.val < 64 then A_main_v66 (F := Ideal) a0 a2 (ix4 b t h ⟨d.val, hd⟩)
      else A_main_v71 (F := Ideal) a0 a2 (ix4 b t h ⟨d.val - 64, by omega⟩) := by
  unfold A_main_v72
  pointwise
/-- The rotated keys. -/
theorem v72_rope (b : Fin 4) (t : Fin 2048) (h : Fin 8) (d : Fin 128) :
    A_main_v72 (F := Ideal) a0 a2 (ix4 b t h d) = rope (fun l => a0 (ix3 b t ⟨1024 + (h.val * 128 + l.val), by omega⟩))
      (fun x => K_main_v56 (F := Ideal) (ix2 t x)) (fun x => K_main_v58 (F := Ideal) (ix2 t x)) d := by
  rw [v72_apply]
  unfold rope
  split
  · rw [v66_apply, v60_apply, v61_apply, v39_apply, v39_apply]
  · rw [v71_apply, v60_apply, v61_apply, v39_apply, v39_apply]

/-- The chunked queries at an entry. -/
theorem q_apply (j : Fin 32) (b : Fin 4) (r : Fin 64) (h : Fin 8) (d : Fin 128) :
    A_main_v124 (F := Ideal) a0 a2 (ix5 j b r h d) = A_main_v37 (F := Ideal) a0 a2 (ix4 b ⟨j.val * 64 + r.val, by omega⟩ h d) := by
  unfold A_main_v124 A_main_v123
  rw [Pointwise.transpose_apply]
  generalize A_main_v37 (F := Ideal) a0 a2 = v
  pointwise
/-- The rotated keys scaled. -/
theorem v74_apply (b : Fin 4) (t : Fin 2048) (h : Fin 8) (d : Fin 128) :
    A_main_v74 (F := Ideal) a0 a2 (ix4 b t h d) = A_main_v72 (F := Ideal) a0 a2 (ix4 b t h d) * Ideal.ofBits .f32 1035273459#32 := by
  unfold A_main_v74 K_main_v73 K_main_cst_7
  generalize A_main_v72 (F := Ideal) a0 a2 = v
  pointwise
/-- The chunked keys at an entry, scaled. -/
theorem k_apply (j : Fin 32) (b : Fin 4) (r : Fin 64) (h : Fin 8) (d : Fin 128) :
    A_main_v126 (F := Ideal) a0 a2 (ix5 j b r h d) = A_main_v72 (F := Ideal) a0 a2 (ix4 b ⟨j.val * 64 + r.val, by omega⟩ h d)
      * Ideal.ofBits .f32 1035273459#32 := by
  rw [← v74_apply]
  unfold A_main_v126 A_main_v125
  rw [Pointwise.transpose_apply]
  generalize A_main_v74 (F := Ideal) a0 a2 = v
  pointwise
/-- The chunked values at an entry. -/
theorem v_apply (j : Fin 32) (b : Fin 4) (r : Fin 64) (h : Fin 8) (d : Fin 128) :
    A_main_v128 (F := Ideal) a0 a2 (ix5 j b r h d)
      = a0 (ix3 b ⟨j.val * 64 + r.val, by omega⟩ ⟨2048 + (h.val * 128 + d.val), by omega⟩) := by
  unfold A_main_v128 A_main_v127 A_main_v76 A_main_v75
  pointwise

/-- The initial state at an entry. -/
theorem s0_apply (b : Fin 4) (h : Fin 8) (d e : Fin 128) :
    A_main_v122 (F := Ideal) a0 a2 (ix4 b h d e) = a2 (ix5 0 b h d e) := by
  unfold A_main_v122 A_main_v121
  pointwise

end Cert.ReferenceIdeal.Step
-- ==== Proof.RefIter.lean ====
module

public import proofs.«01_k».proof.Proof.RefStep
public import proofs.«01_k».proof.Proof.RefArgs

@[expose] public section
noncomputable section
namespace Cert.ReferenceIdeal.Step
open Idealize.ShloMosaic Idealize.ShloMosaic.TcCoe Idealize.ShloMosaic.Tactic Idealize.ShloMosaic.Pointwise
open Cert.ReferenceIdeal.Gen

/-! The reference's trips one after another over the extended reals. -/

/-- The state before trip `n`. -/
def it (s : State Ideal) : ℕ → State Ideal
  | 0 => s
  | n + 1 => step n (it s n)

variable (s : State Ideal)

/-- A trip keeps the chunked queries. -/
theorem step_q (j : ℕ) : (step j s).main_v130_0 = s.main_v130_0 := by unfold step; rfl
/-- A trip keeps the chunked keys. -/
theorem step_k (j : ℕ) : (step j s).main_v130_1 = s.main_v130_1 := by unfold step; rfl
/-- A trip keeps the chunked values. -/
theorem step_v (j : ℕ) : (step j s).main_v130_2 = s.main_v130_2 := by unfold step; rfl
/-- All trips keep the chunked queries. -/
theorem it_q (n : ℕ) : (it s n).main_v130_0 = s.main_v130_0 := by
  induction n with
  | zero => rfl
  | succ n ih => exact (step_q _ n).trans ih
/-- All trips keep the chunked keys. -/
theorem it_k (n : ℕ) : (it s n).main_v130_1 = s.main_v130_1 := by
  induction n with
  | zero => rfl
  | succ n ih => exact (step_k _ n).trans ih
/-- All trips keep the chunked values. -/
theorem it_v (n : ℕ) : (it s n).main_v130_2 = s.main_v130_2 := by
  induction n with
  | zero => rfl
  | succ n ih => exact (step_v _ n).trans ih

/-- A chunk of the outputs, once its trip has run, holds that trip's retention. -/
theorem it_o (k : Fin 32) (b : Fin 4) (r : Fin 64) (h : Fin 8) (d : Fin 128) (n : ℕ) (hn : n ≤ 32) (hk : k.val < n) :
    (it s n).main_v130_9 (ix5 k b r h d) = b30 k.val (it s k.val) (ix4 b r h d) := by
  induction n with
  | zero => omega
  | succ n ih =>
    show (step n (it s n)).main_v130_9 _ = _
    rw [step_main_v130_9]
    refine (b45_apply ⟨n, by omega⟩ (it s n) k b r h d).trans ?_
    by_cases e : k = ⟨n, by omega⟩
    · have hv : n = k.val := (congrArg Fin.val e).symm
      subst hv
      rw [if_pos rfl]
    · rw [if_neg e]
      exact ih (by omega) (by
        have : k.val ≠ n := fun h => e (Fin.ext h)
        omega)

variable (a0 : (⟨S4x2048x3072, .f32⟩ : BufTy).Contents (Elt Ideal)) (a2 : (⟨S2x4x8x128x128, .f32⟩ : BufTy).Contents (Elt Ideal))

/-- Time step `r` of chunk `j`. -/
abbrev tm (j : Fin 32) (r : Fin 64) : Fin 2048 := ⟨j.val * 64 + r.val, by omega⟩
/-- The queries rotated. -/
def qR (b : Fin 4) (t : Fin 2048) (h : Fin 8) (d : Fin 128) : EReal :=
  rope (fun l => a0 (ix3 b t ⟨(h.val * 128 + l.val), by omega⟩)) (fun x => K_main_v21 (F := Ideal) (ix2 t x)) (fun x => K_main_v23 (F := Ideal) (ix2 t x)) d
/-- The keys rotated. -/
def kR (b : Fin 4) (t : Fin 2048) (h : Fin 8) (d : Fin 128) : EReal :=
  rope (fun l => a0 (ix3 b t ⟨1024 + (h.val * 128 + l.val), by omega⟩)) (fun x => K_main_v21 (F := Ideal) (ix2 t x)) (fun x => K_main_v23 (F := Ideal) (ix2 t x)) d
/-- The values. -/
def vR (b : Fin 4) (t : Fin 2048) (h : Fin 8) (e : Fin 128) : EReal := a0 (ix3 b t ⟨2048 + (h.val * 128 + e.val), by omega⟩)

/-- The states one after another. -/
def SR (n : ℕ) (b : Fin 4) (h : Fin 8) (d e : Fin 128) : EReal := (it (init a0 a2) n).main_v130_8 (ix4 b h d e)

theorem SR_zero (b : Fin 4) (h : Fin 8) (d e : Fin 128) : SR a0 a2 0 b h d e = a2 (ix5 0 b h d e) :=
  s0_apply a0 a2 b h d e

theorem k56 (t : Fin 2048) (x : Fin 64) : K_main_v56 (F := Ideal) (ix2 t x) = K_main_v21 (F := Ideal) (ix2 t x) := rfl
theorem k58 (t : Fin 2048) (x : Fin 64) : K_main_v58 (F := Ideal) (ix2 t x) = K_main_v23 (F := Ideal) (ix2 t x) := rfl

theorem b5_it (j : Fin 32) (b : Fin 4) (r : Fin 64) (h : Fin 8) (d : Fin 128) :
    b5 j.val (it (init a0 a2) j.val) (ix4 b r h d) = qR a0 b (tm j r) h d := by
  rw [b5_apply, it_q]
  exact (q_apply a0 a2 j b r h d).trans (v37_rope a0 a2 _ _ _ _)
theorem b11_it (j : Fin 32) (b : Fin 4) (r : Fin 64) (h : Fin 8) (d : Fin 128) :
    b11 j.val (it (init a0 a2) j.val) (ix4 b r h d) = kR a0 b (tm j r) h d * Ideal.ofBits .f32 1035273459#32 := by
  rw [b11_apply, it_k]
  exact (k_apply a0 a2 j b r h d).trans (congrArg (· * _) (v72_rope a0 a2 _ _ _ _))
theorem b17_it (j : Fin 32) (b : Fin 4) (r : Fin 64) (h : Fin 8) (d : Fin 128) :
    b17 j.val (it (init a0 a2) j.val) (ix4 b r h d) = vR a0 b (tm j r) h d := by
  rw [b17_apply, it_v]
  exact v_apply a0 a2 j b r h d

/-- The next state from the one before. -/
theorem SR_succ (j : Fin 32) (b : Fin 4) (h : Fin 8) (d e : Fin 128) :
    SR a0 a2 (j.val + 1) b h d e = K_main_v120 (F := Ideal) (ix1 h) * SR a0 a2 j.val b h d e
      + ∑ x : Fin 64, kR a0 b (tm j x) h d * Ideal.ofBits .f32 1035273459#32 * K_main_v117 (F := Ideal) (ix2 h x) * vR a0 b (tm j x) h e := by
  show (step j.val (it (init a0 a2) j.val)).main_v130_8 _ = _
  rw [step_main_v130_8]
  refine (b39_apply _ _ b h d e).trans ?_
  simp only [b11_it, b17_it]
  rfl

/-- A chunk's retention before the norm. -/
def oR (j : Fin 32) (b : Fin 4) (r : Fin 64) (h : Fin 8) (e : Fin 128) : EReal :=
  (∑ x : Fin 64, (∑ d : Fin 128, qR a0 b (tm j r) h d * (kR a0 b (tm j x) h d * Ideal.ofBits .f32 1035273459#32))
      * K_main_v101 (F := Ideal) (ix3 h r x) * vR a0 b (tm j x) h e)
    + (∑ d : Fin 128, qR a0 b (tm j r) h d * SR a0 a2 j.val b h d e) * K_main_v109 (F := Ideal) (ix2 h r)

theorem b30_it (j : Fin 32) (b : Fin 4) (r : Fin 64) (h : Fin 8) (e : Fin 128) :
    b30 j.val (it (init a0 a2) j.val) (ix4 b r h e) = oR a0 a2 j b r h e := by
  refine (b30_apply _ _ b r h e).trans ?_
  simp only [b5_it, b11_it, b17_it]
  rfl

/-- The reference's first result, entry by entry. -/
def outR (a1 : (⟨S4x2048x4096, .f32⟩ : BufTy).Contents (Elt Ideal)) (a3 a4 : (⟨S2x1024, .f32⟩ : BufTy).Contents (Elt Ideal))
    (b : Fin 4) (t : Fin 2048) (l : Fin 1024) : EReal :=
  Cert.KernelIdeal.Ret.normed (fun x => oR a0 a2 (ch t) b (rw' t) (hd l) x)
      (a3 (ix2 0 l)) (a4 (ix2 0 l)) (a1 (ix3 b t ⟨3072 + l.val, by omega⟩)) (ln l)

theorem out_it (a1 a3 a4) (b : Fin 4) (t : Fin 2048) (l : Fin 1024) :
    R_main_v164 (it (init a0 a2) 32) a1 a3 a4 (ix3 b t l) = outR a0 a2 a1 a3 a4 b t l := by
  refine (out_apply _ a1 a3 a4 b t l).trans ?_
  unfold outR
  refine Cert.KernelIdeal.Ret.normed_congr (funext fun x => ?_) rfl rfl rfl _
  exact (it_o _ (ch t) b (rw' t) (hd l) x 32 (le_refl _) (ch t).isLt).trans (b30_it a0 a2 _ _ _ _ _)

end Cert.ReferenceIdeal.Step
-- ==== Proof.RetTables.lean ====
module

public import proofs.«01_k».proof.Proof.Runs
public import proofs.«01_k».proof.Proof.RefIter
public import Idealize.ShloMosaic.Lib.Pointwise

@[expose] public section
noncomputable section
namespace Cert.KernelIdeal.Ret
open Idealize.ShloMosaic Idealize.ShloMosaic.TcCoe Idealize.ShloMosaic.Tactic Idealize.SL.Sem Idealize.ShloMosaic.Pointwise
open Cert.KernelIdeal Cert.KernelIdeal.Gen
open Cert.ReferenceIdeal.Step (K_main_v21 K_main_v23 K_main_v101 K_main_v109 K_main_v117 K_main_v120)

/-! The decays and rotation tables the kernel's host code prepares are the reference's. -/

variable (m : (ℓ : Loc nD τ sig) → Buf (Elt Ideal) ℓ)

/-- The cosines, both halves of a head alike. -/
def cosT : FVec Ideal S2048x128 .f32 := shapeCast S2048x128 (broadcastInDim S1x2048x1x128 ![0, 1, 2, 3] bcast_S1x2048x1x128_S1x2048x1x128_0_1_2_3
  (shapeCast S1x2048x1x128 (concatenate S2048x128 1 [⟨S2048x64, K_main_v21 (F := Ideal)⟩, ⟨S2048x64, K_main_v21 (F := Ideal)⟩] concatenates_S2048x64_S2048x64_S2048x128_d1)
    shapeCasts_S2048x128_S1x2048x1x128)) shapeCasts_S1x2048x1x128_S2048x128
/-- The sines, negated in the first half of a head. -/
def sinT : FVec Ideal S2048x128 .f32 := shapeCast S2048x128 (broadcastInDim S1x2048x1x128 ![0, 1, 2, 3] bcast_S1x2048x1x128_S1x2048x1x128_0_1_2_3
  (shapeCast S1x2048x1x128 (concatenate S2048x128 1 [⟨S2048x64, Host.negf (K_main_v23 (F := Ideal) : FVec Ideal S2048x64 .f32)⟩, ⟨S2048x64, K_main_v23 (F := Ideal)⟩] concatenates_S2048x64_S2048x64_S2048x128_d1)
    shapeCasts_S2048x128_S1x2048x1x128)) shapeCasts_S1x2048x1x128_S2048x128
/-- The decay of the queries in every lane. -/
def qdT : FVec Ideal S8x64x128 .f32 := broadcastInDim S8x64x128 ![0, 1, 2] bcast_S8x64x1_S8x64x128_0_1_2
  (broadcastInDim S8x64x1 ![0, 1] bcast_S8x64_S8x64x1_0_1 (K_main_v109 (F := Ideal) : FVec Ideal S8x64 .f32))
/-- The decay of the keys in every lane. -/
def kdT : FVec Ideal S8x64x128 .f32 := broadcastInDim S8x64x128 ![0, 1, 2] bcast_S8x64x1_S8x64x128_0_1_2
  (broadcastInDim S8x64x1 ![0, 1] bcast_S8x64_S8x64x1_0_1 (K_main_v117 (F := Ideal) : FVec Ideal S8x64 .f32))
/-- The decay of the state in every lane. -/
def cdT : FVec Ideal S8x1x128 .f32 := broadcastInDim S8x1x128 ![0, 1, 2] bcast_S8x1x1_S8x1x128_0_1_2
  (broadcastInDim S8x1x1 ![0, 1] bcast_S8x1_S8x1x1_0_1 (broadcastInDim S8x1 ![0] bcast_S8_S8x1_0 (K_main_v120 (F := Ideal) : FVec Ideal S8 .f32)))
/-- The first layer's row of a norm. -/
def nrmT (g : FVec Ideal S2x1024 .f32) : FVec Ideal S1x1024 .f32 := shapeCast S1x1024 (shapeCast S1024
    (extractStridedSlice S1x1024 ![0, 0] g slices_S2x1024_S1x1024_0_0) shapeCasts_S1x1024_S1024) shapeCasts_S1024_S1x1024

theorem cosT_lo (t : Fin 2048) (d : Fin 128) (hd : d.val < 64) : cosT (ix2 t d) = K_main_v21 (F := Ideal) (ix2 t ⟨d.val, hd⟩) := by
  unfold cosT
  pointwise
  simp only [hd, dite_true]
theorem cosT_hi (t : Fin 2048) (d : Fin 128) (hd : ¬ d.val < 64) : cosT (ix2 t d) = K_main_v21 (F := Ideal) (ix2 t ⟨d.val - 64, by omega⟩) := by
  unfold cosT
  pointwise
  simp only [hd, dite_false]
theorem sinT_lo (t : Fin 2048) (d : Fin 128) (hd : d.val < 64) : sinT (ix2 t d) = - K_main_v23 (F := Ideal) (ix2 t ⟨d.val, hd⟩) := by
  unfold sinT
  pointwise
  simp only [hd, dite_true]
theorem sinT_hi (t : Fin 2048) (d : Fin 128) (hd : ¬ d.val < 64) : sinT (ix2 t d) = K_main_v23 (F := Ideal) (ix2 t ⟨d.val - 64, by omega⟩) := by
  unfold sinT
  pointwise
  simp only [hd, dite_false]
theorem qdT_apply (h : Fin 8) (r : Fin 64) (e : Fin 128) : qdT (ix3 h r e) = K_main_v109 (F := Ideal) (ix2 h r) := by
  unfold qdT
  pointwise
theorem kdT_apply (h : Fin 8) (r : Fin 64) (e : Fin 128) : kdT (ix3 h r e) = K_main_v117 (F := Ideal) (ix2 h r) := by
  unfold kdT
  pointwise
theorem cdT_apply (h : Fin 8) (e : Fin 128) : cdT (ix3 h 0 e) = K_main_v120 (F := Ideal) (ix1 h) := by
  unfold cdT
  pointwise
theorem nrmT_apply (g : FVec Ideal S2x1024 .f32) (l : Fin 1024) : nrmT g (ix2 0 l) = g (ix2 0 l) := by
  unfold nrmT
  pointwise

end Cert.KernelIdeal.Ret
-- ==== Proof.RetHost.lean ====
module

public import proofs.«01_k».proof.Proof.RetTables

@[expose] public section
noncomputable section
namespace Cert.KernelIdeal.Ret
open Idealize.ShloMosaic Idealize.ShloMosaic.TcCoe Idealize.ShloMosaic.Tactic Idealize.SL.Sem Idealize.ShloMosaic.Pointwise
open Cert.KernelIdeal Cert.KernelIdeal.Gen
open Cert.ReferenceIdeal.Step (K_main_v21 K_main_v23 K_main_v101 K_main_v109 K_main_v117 K_main_v120)

/-! What the kernel's host code leaves before the launch. -/

variable (m : (ℓ : Loc nD τ sig) → Buf (Elt Ideal) ℓ)

set_option maxRecDepth 65536 in
set_option maxHeartbeats 2000000 in
theorem dm_eq (c : Dev nD) : V m c main_v24 = (K_main_v101 (F := Ideal) : FVec Ideal S8x64x64 .f32) := by
  show StableHlo.after (List.flatten [hostOps0, hostOps0_1, hostOps0_2]) (fun b => m (c, b)) (Proc.devRef .tc main_v24) = _
  simp only [hostOps0, hostOps0_1, hostOps0_2, List.flatten_cons, List.flatten_nil, List.append_nil, List.cons_append, List.nil_append]
  after_results <;> rfl
set_option maxRecDepth 65536 in
set_option maxHeartbeats 2000000 in
theorem qd_eq (c : Dev nD) : V m c main_v45 = (qdT) := by
  show StableHlo.after (List.flatten [hostOps0, hostOps0_1, hostOps0_2]) (fun b => m (c, b)) (Proc.devRef .tc main_v45) = _
  simp only [hostOps0, hostOps0_1, hostOps0_2, List.flatten_cons, List.flatten_nil, List.append_nil, List.cons_append, List.nil_append]
  after_results <;> rfl
set_option maxRecDepth 65536 in
set_option maxHeartbeats 2000000 in
theorem kd_eq (c : Dev nD) : V m c main_v47 = (kdT) := by
  show StableHlo.after (List.flatten [hostOps0, hostOps0_1, hostOps0_2]) (fun b => m (c, b)) (Proc.devRef .tc main_v47) = _
  simp only [hostOps0, hostOps0_1, hostOps0_2, List.flatten_cons, List.flatten_nil, List.append_nil, List.cons_append, List.nil_append]
  after_results <;> rfl
set_option maxRecDepth 65536 in
set_option maxHeartbeats 2000000 in
theorem cd_eq (c : Dev nD) : V m c main_v50 = (cdT) := by
  show StableHlo.after (List.flatten [hostOps0, hostOps0_1, hostOps0_2]) (fun b => m (c, b)) (Proc.devRef .tc main_v50) = _
  simp only [hostOps0, hostOps0_1, hostOps0_2, List.flatten_cons, List.flatten_nil, List.append_nil, List.cons_append, List.nil_append]
  after_results <;> rfl
set_option maxRecDepth 65536 in
set_option maxHeartbeats 2000000 in
theorem cos_eq (c : Dev nD) : V m c main_v81 = (cosT) := by
  show StableHlo.after (List.flatten [hostOps0, hostOps0_1, hostOps0_2]) (fun b => m (c, b)) (Proc.devRef .tc main_v81) = _
  simp only [hostOps0, hostOps0_1, hostOps0_2, List.flatten_cons, List.flatten_nil, List.append_nil, List.cons_append, List.nil_append]
  after_results <;> rfl
set_option maxRecDepth 65536 in
set_option maxHeartbeats 2000000 in
theorem sin_eq (c : Dev nD) : V m c main_v86 = (sinT) := by
  show StableHlo.after (List.flatten [hostOps0, hostOps0_1, hostOps0_2]) (fun b => m (c, b)) (Proc.devRef .tc main_v86) = _
  simp only [hostOps0, hostOps0_1, hostOps0_2, List.flatten_cons, List.flatten_nil, List.append_nil, List.cons_append, List.nil_append]
  after_results <;> rfl
set_option maxRecDepth 65536 in
set_option maxHeartbeats 2000000 in
theorem g_eq (c : Dev nD) : V m c main_v53 = (nrmT (m ((c : Thread nD τ).loc main_arg3))) := by
  show StableHlo.after (List.flatten [hostOps0, hostOps0_1, hostOps0_2]) (fun b => m (c, b)) (Proc.devRef .tc main_v53) = _
  simp only [hostOps0, hostOps0_1, hostOps0_2, List.flatten_cons, List.flatten_nil, List.append_nil, List.cons_append, List.nil_append]
  after_results <;> rfl
set_option maxRecDepth 65536 in
set_option maxHeartbeats 2000000 in
theorem b_eq (c : Dev nD) : V m c main_v56 = (nrmT (m ((c : Thread nD τ).loc main_arg4))) := by
  show StableHlo.after (List.flatten [hostOps0, hostOps0_1, hostOps0_2]) (fun b => m (c, b)) (Proc.devRef .tc main_v56) = _
  simp only [hostOps0, hostOps0_1, hostOps0_2, List.flatten_cons, List.flatten_nil, List.append_nil, List.cons_append, List.nil_append]
  after_results <;> rfl

end Cert.KernelIdeal.Ret
-- ==== Proof.RetBlk.lean ====
module

public import proofs.«01_k».proof.Proof.RetHost

@[expose] public section
noncomputable section
namespace Cert.KernelIdeal.Ret
open Idealize.ShloMosaic Idealize.ShloMosaic.TcCoe Idealize.ShloMosaic.Tactic Idealize.SL.Sem Idealize.ShloMosaic.Pointwise
open Cert.KernelIdeal Cert.KernelIdeal.Gen
open Cert.ReferenceIdeal.Step (K_main_v21 K_main_v23 K_main_v101 K_main_v109 K_main_v117 K_main_v120)

/-! What each grid point's input blocks hold, entry by entry. -/

variable (m : (ℓ : Loc nD τ sig) → Buf (Elt Ideal) ℓ)

theorem val_lt (t : Fin cfg0.N) : t.val < 32 := lt_of_lt_of_eq t.isLt N_0
/-- The batch of a grid point. -/
abbrev bat (t : Fin cfg0.N) : Fin 4 := ⟨t.val / 8, by have := val_lt t; omega⟩
/-- Row `r` of a grid point's tile among all time steps. -/
abbrev tim (t : Fin cfg0.N) (r : Fin 256) : Fin 2048 := ⟨t.val % 8 * 256 + r.val, by omega⟩
theorem idx0 : ∀ t : Fin cfg0.N, win0_0.index t 0 = t.val / 8 ∧ win0_0.index t 1 = t.val % 8 ∧ win0_0.index t 2 = 0 :=
  (by decide +kernel : ∀ t : Fin grid0.N, _)
theorem idx1 : ∀ t : Fin cfg0.N, win0_1.index t 0 = t.val / 8 ∧ win0_1.index t 1 = t.val % 8 ∧ win0_1.index t 2 = 1 :=
  (by decide +kernel : ∀ t : Fin grid0.N, _)
theorem idx2 : ∀ t : Fin cfg0.N, win0_2.index t 0 = t.val / 8 ∧ win0_2.index t 1 = t.val % 8 ∧ win0_2.index t 2 = 2 :=
  (by decide +kernel : ∀ t : Fin grid0.N, _)
theorem idx3 : ∀ t : Fin cfg0.N, win0_3.index t 0 = t.val / 8 ∧ win0_3.index t 1 = t.val % 8 ∧ win0_3.index t 2 = 3 :=
  (by decide +kernel : ∀ t : Fin grid0.N, _)
theorem idx4 : ∀ t : Fin cfg0.N, win0_4.index t 0 = t.val % 8 ∧ win0_4.index t 1 = 0 :=
  (by decide +kernel : ∀ t : Fin grid0.N, _)
theorem idx5 : ∀ t : Fin cfg0.N, win0_5.index t 0 = t.val % 8 ∧ win0_5.index t 1 = 0 :=
  (by decide +kernel : ∀ t : Fin grid0.N, _)
theorem idx6 : ∀ t : Fin cfg0.N, win0_6.index t 0 = 0 ∧ win0_6.index t 1 = 0 ∧ win0_6.index t 2 = 0 :=
  (by decide +kernel : ∀ t : Fin grid0.N, _)
theorem idx7 : ∀ t : Fin cfg0.N, win0_7.index t 0 = 0 ∧ win0_7.index t 1 = 0 ∧ win0_7.index t 2 = 0 :=
  (by decide +kernel : ∀ t : Fin grid0.N, _)
theorem idx8 : ∀ t : Fin cfg0.N, win0_8.index t 0 = 0 ∧ win0_8.index t 1 = 0 ∧ win0_8.index t 2 = 0 :=
  (by decide +kernel : ∀ t : Fin grid0.N, _)
theorem idx9 : ∀ t : Fin cfg0.N, win0_9.index t 0 = 0 ∧ win0_9.index t 1 = 0 ∧ win0_9.index t 2 = 0 :=
  (by decide +kernel : ∀ t : Fin grid0.N, _)
theorem idx10 : ∀ t : Fin cfg0.N, win0_10.index t 0 = 0 ∧ win0_10.index t 1 = t.val / 8 ∧ win0_10.index t 2 = 0 ∧ win0_10.index t 3 = 0 ∧ win0_10.index t 4 = 0 :=
  (by decide +kernel : ∀ t : Fin grid0.N, _)
theorem idx11 : ∀ t : Fin cfg0.N, win0_11.index t 0 = 0 ∧ win0_11.index t 1 = 0 :=
  (by decide +kernel : ∀ t : Fin grid0.N, _)
theorem idx12 : ∀ t : Fin cfg0.N, win0_12.index t 0 = 0 ∧ win0_12.index t 1 = 0 :=
  (by decide +kernel : ∀ t : Fin grid0.N, _)
/-- Window 0's block at a grid point. -/
theorem blk0 (c : Dev nD) (t : Fin cfg0.N) (v : Fin 256) (w : Fin 1024) : (iblk m c 0 t : Vec Ideal S1x256x1024 .f32) (ix3 0 v w)
    = (V m c main_arg0 : Vec Ideal S4x2048x3072 .f32) (ix3 (bat t) (tim t v) ⟨0 + w.val, by omega⟩) := by
  obtain ⟨h0, h1, h2⟩ := idx0 t
  unfold iblk
  rw [View.read_apply]
  show V m c main_arg0 _ = V m c main_arg0 _
  congr 1
  funext a
  apply Fin.ext
  match a with
  | ⟨0, _⟩ => show win0_0.index t 0 * 1 + 1 * 0 = t.val / 8; rw [h0] <;> omega
  | ⟨1, _⟩ => show win0_0.index t 1 * 256 + 1 * v.val = t.val % 8 * 256 + v.val; rw [h1] <;> omega
  | ⟨2, _⟩ => show win0_0.index t 2 * 1024 + 1 * w.val = 0 + w.val; rw [h2] <;> omega
/-- Window 1's block at a grid point. -/
theorem blk1 (c : Dev nD) (t : Fin cfg0.N) (v : Fin 256) (w : Fin 1024) : (iblk m c 1 t : Vec Ideal S1x256x1024 .f32) (ix3 0 v w)
    = (V m c main_arg0 : Vec Ideal S4x2048x3072 .f32) (ix3 (bat t) (tim t v) ⟨1024 + w.val, by omega⟩) := by
  obtain ⟨h0, h1, h2⟩ := idx1 t
  unfold iblk
  rw [View.read_apply]
  show V m c main_arg0 _ = V m c main_arg0 _
  congr 1
  funext a
  apply Fin.ext
  match a with
  | ⟨0, _⟩ => show win0_1.index t 0 * 1 + 1 * 0 = t.val / 8; rw [h0] <;> omega
  | ⟨1, _⟩ => show win0_1.index t 1 * 256 + 1 * v.val = t.val % 8 * 256 + v.val; rw [h1] <;> omega
  | ⟨2, _⟩ => show win0_1.index t 2 * 1024 + 1 * w.val = 1024 + w.val; rw [h2] <;> omega
/-- Window 2's block at a grid point. -/
theorem blk2 (c : Dev nD) (t : Fin cfg0.N) (v : Fin 256) (w : Fin 1024) : (iblk m c 2 t : Vec Ideal S1x256x1024 .f32) (ix3 0 v w)
    = (V m c main_arg0 : Vec Ideal S4x2048x3072 .f32) (ix3 (bat t) (tim t v) ⟨2048 + w.val, by omega⟩) := by
  obtain ⟨h0, h1, h2⟩ := idx2 t
  unfold iblk
  rw [View.read_apply]
  show V m c main_arg0 _ = V m c main_arg0 _
  congr 1
  funext a
  apply Fin.ext
  match a with
  | ⟨0, _⟩ => show win0_2.index t 0 * 1 + 1 * 0 = t.val / 8; rw [h0] <;> omega
  | ⟨1, _⟩ => show win0_2.index t 1 * 256 + 1 * v.val = t.val % 8 * 256 + v.val; rw [h1] <;> omega
  | ⟨2, _⟩ => show win0_2.index t 2 * 1024 + 1 * w.val = 2048 + w.val; rw [h2] <;> omega
/-- Window 3's block at a grid point. -/
theorem blk3 (c : Dev nD) (t : Fin cfg0.N) (v : Fin 256) (w : Fin 1024) : (iblk m c 3 t : Vec Ideal S1x256x1024 .f32) (ix3 0 v w)
    = (V m c main_arg1 : Vec Ideal S4x2048x4096 .f32) (ix3 (bat t) (tim t v) ⟨3072 + w.val, by omega⟩) := by
  obtain ⟨h0, h1, h2⟩ := idx3 t
  unfold iblk
  rw [View.read_apply]
  show V m c main_arg1 _ = V m c main_arg1 _
  congr 1
  funext a
  apply Fin.ext
  match a with
  | ⟨0, _⟩ => show win0_3.index t 0 * 1 + 1 * 0 = t.val / 8; rw [h0] <;> omega
  | ⟨1, _⟩ => show win0_3.index t 1 * 256 + 1 * v.val = t.val % 8 * 256 + v.val; rw [h1] <;> omega
  | ⟨2, _⟩ => show win0_3.index t 2 * 1024 + 1 * w.val = 3072 + w.val; rw [h2] <;> omega
/-- Window 4's block at a grid point. -/
theorem blk4 (c : Dev nD) (t : Fin cfg0.N) (u : Fin 256) (v : Fin 128) : (iblk m c 4 t : Vec Ideal S256x128 .f32) (ix2 u v)
    = (V m c main_v81 : Vec Ideal S2048x128 .f32) (ix2 (tim t u) v) := by
  obtain ⟨h0, h1⟩ := idx4 t
  unfold iblk
  rw [View.read_apply]
  show V m c main_v81 _ = V m c main_v81 _
  congr 1
  funext a
  apply Fin.ext
  match a with
  | ⟨0, _⟩ => show win0_4.index t 0 * 256 + 1 * u.val = t.val % 8 * 256 + u.val; rw [h0] <;> omega
  | ⟨1, _⟩ => show win0_4.index t 1 * 128 + 1 * v.val = v.val; rw [h1] <;> omega
/-- Window 5's block at a grid point. -/
theorem blk5 (c : Dev nD) (t : Fin cfg0.N) (u : Fin 256) (v : Fin 128) : (iblk m c 5 t : Vec Ideal S256x128 .f32) (ix2 u v)
    = (V m c main_v86 : Vec Ideal S2048x128 .f32) (ix2 (tim t u) v) := by
  obtain ⟨h0, h1⟩ := idx5 t
  unfold iblk
  rw [View.read_apply]
  show V m c main_v86 _ = V m c main_v86 _
  congr 1
  funext a
  apply Fin.ext
  match a with
  | ⟨0, _⟩ => show win0_5.index t 0 * 256 + 1 * u.val = t.val % 8 * 256 + u.val; rw [h0] <;> omega
  | ⟨1, _⟩ => show win0_5.index t 1 * 128 + 1 * v.val = v.val; rw [h1] <;> omega
/-- Window 6's block at a grid point. -/
theorem blk6 (c : Dev nD) (t : Fin cfg0.N) (u : Fin 8) (v : Fin 64) (w : Fin 64) : (iblk m c 6 t : Vec Ideal S8x64x64 .f32) (ix3 u v w)
    = (V m c main_v24 : Vec Ideal S8x64x64 .f32) (ix3 u v w) := by
  obtain ⟨h0, h1, h2⟩ := idx6 t
  unfold iblk
  rw [View.read_apply]
  show V m c main_v24 _ = V m c main_v24 _
  congr 1
  funext a
  apply Fin.ext
  match a with
  | ⟨0, _⟩ => show win0_6.index t 0 * 8 + 1 * u.val = u.val; rw [h0] <;> omega
  | ⟨1, _⟩ => show win0_6.index t 1 * 64 + 1 * v.val = v.val; rw [h1] <;> omega
  | ⟨2, _⟩ => show win0_6.index t 2 * 64 + 1 * w.val = w.val; rw [h2] <;> omega
/-- Window 7's block at a grid point. -/
theorem blk7 (c : Dev nD) (t : Fin cfg0.N) (u : Fin 8) (v : Fin 64) (w : Fin 128) : (iblk m c 7 t : Vec Ideal S8x64x128 .f32) (ix3 u v w)
    = (V m c main_v45 : Vec Ideal S8x64x128 .f32) (ix3 u v w) := by
  obtain ⟨h0, h1, h2⟩ := idx7 t
  unfold iblk
  rw [View.read_apply]
  show V m c main_v45 _ = V m c main_v45 _
  congr 1
  funext a
  apply Fin.ext
  match a with
  | ⟨0, _⟩ => show win0_7.index t 0 * 8 + 1 * u.val = u.val; rw [h0] <;> omega
  | ⟨1, _⟩ => show win0_7.index t 1 * 64 + 1 * v.val = v.val; rw [h1] <;> omega
  | ⟨2, _⟩ => show win0_7.index t 2 * 128 + 1 * w.val = w.val; rw [h2] <;> omega
/-- Window 8's block at a grid point. -/
theorem blk8 (c : Dev nD) (t : Fin cfg0.N) (u : Fin 8) (v : Fin 64) (w : Fin 128) : (iblk m c 8 t : Vec Ideal S8x64x128 .f32) (ix3 u v w)
    = (V m c main_v47 : Vec Ideal S8x64x128 .f32) (ix3 u v w) := by
  obtain ⟨h0, h1, h2⟩ := idx8 t
  unfold iblk
  rw [View.read_apply]
  show V m c main_v47 _ = V m c main_v47 _
  congr 1
  funext a
  apply Fin.ext
  match a with
  | ⟨0, _⟩ => show win0_8.index t 0 * 8 + 1 * u.val = u.val; rw [h0] <;> omega
  | ⟨1, _⟩ => show win0_8.index t 1 * 64 + 1 * v.val = v.val; rw [h1] <;> omega
  | ⟨2, _⟩ => show win0_8.index t 2 * 128 + 1 * w.val = w.val; rw [h2] <;> omega
/-- Window 9's block at a grid point. -/
theorem blk9 (c : Dev nD) (t : Fin cfg0.N) (u : Fin 8) (w : Fin 128) : (iblk m c 9 t : Vec Ideal S8x1x128 .f32) (ix3 u 0 w)
    = (V m c main_v50 : Vec Ideal S8x1x128 .f32) (ix3 u 0 w) := by
  obtain ⟨h0, h1, h2⟩ := idx9 t
  unfold iblk
  rw [View.read_apply]
  show V m c main_v50 _ = V m c main_v50 _
  congr 1
  funext a
  apply Fin.ext
  match a with
  | ⟨0, _⟩ => show win0_9.index t 0 * 8 + 1 * u.val = u.val; rw [h0] <;> omega
  | ⟨1, _⟩ => show win0_9.index t 1 * 1 + 1 * 0 = 0; rw [h1] <;> omega
  | ⟨2, _⟩ => show win0_9.index t 2 * 128 + 1 * w.val = w.val; rw [h2] <;> omega
/-- Window 10's block at a grid point. -/
theorem blk10 (c : Dev nD) (t : Fin cfg0.N) (w : Fin 8) (x : Fin 128) (y : Fin 128) : (iblk m c 10 t : Vec Ideal S1x1x8x128x128 .f32) (ix5 0 0 w x y)
    = (V m c main_arg2 : Vec Ideal S2x4x8x128x128 .f32) (ix5 0 (bat t) w x y) := by
  obtain ⟨h0, h1, h2, h3, h4⟩ := idx10 t
  unfold iblk
  rw [View.read_apply]
  show V m c main_arg2 _ = V m c main_arg2 _
  congr 1
  funext a
  apply Fin.ext
  match a with
  | ⟨0, _⟩ => show win0_10.index t 0 * 1 + 1 * 0 = 0; rw [h0] <;> omega
  | ⟨1, _⟩ => show win0_10.index t 1 * 1 + 1 * 0 = t.val / 8; rw [h1] <;> omega
  | ⟨2, _⟩ => show win0_10.index t 2 * 8 + 1 * w.val = w.val; rw [h2] <;> omega
  | ⟨3, _⟩ => show win0_10.index t 3 * 128 + 1 * x.val = x.val; rw [h3] <;> omega
  | ⟨4, _⟩ => show win0_10.index t 4 * 128 + 1 * y.val = y.val; rw [h4] <;> omega
/-- Window 11's block at a grid point. -/
theorem blk11 (c : Dev nD) (t : Fin cfg0.N) (v : Fin 1024) : (iblk m c 11 t : Vec Ideal S1x1024 .f32) (ix2 0 v)
    = (V m c main_v53 : Vec Ideal S1x1024 .f32) (ix2 0 v) := by
  obtain ⟨h0, h1⟩ := idx11 t
  unfold iblk
  rw [View.read_apply]
  show V m c main_v53 _ = V m c main_v53 _
  congr 1
  funext a
  apply Fin.ext
  match a with
  | ⟨0, _⟩ => show win0_11.index t 0 * 1 + 1 * 0 = 0; rw [h0] <;> omega
  | ⟨1, _⟩ => show win0_11.index t 1 * 1024 + 1 * v.val = v.val; rw [h1] <;> omega
/-- Window 12's block at a grid point. -/
theorem blk12 (c : Dev nD) (t : Fin cfg0.N) (v : Fin 1024) : (iblk m c 12 t : Vec Ideal S1x1024 .f32) (ix2 0 v)
    = (V m c main_v56 : Vec Ideal S1x1024 .f32) (ix2 0 v) := by
  obtain ⟨h0, h1⟩ := idx12 t
  unfold iblk
  rw [View.read_apply]
  show V m c main_v56 _ = V m c main_v56 _
  congr 1
  funext a
  apply Fin.ext
  match a with
  | ⟨0, _⟩ => show win0_12.index t 0 * 1 + 1 * 0 = 0; rw [h0] <;> omega
  | ⟨1, _⟩ => show win0_12.index t 1 * 1024 + 1 * v.val = v.val; rw [h1] <;> omega

/-- A tile of arg0's rows rotated by the tables is the reference's rotation. -/
theorem rot_rope (X : Vec Ideal S1x256x1024 .f32) (C S : Vec Ideal S256x128 .f32) (T : Fin 2048) (k : Fin 4) (h : Fin 8) (r : Fin 64) (d : Fin 128)
    (f : Fin 128 → EReal) (hx : ∀ l, X (ix3 0 (row k r) (lane h l)) = f l)
    (hc : ∀ l, C (ix2 (row k r) l) = cosT (ix2 T l)) (hs : ∀ l, S (ix2 (row k r) l) = sinT (ix2 T l)) :
    rotT X C S k h r d = Cert.ReferenceIdeal.Step.rope f (fun x => K_main_v21 (F := Ideal) (ix2 T x)) (fun x => K_main_v23 (F := Ideal) (ix2 T x)) d := by
  unfold rotT Cert.ReferenceIdeal.Step.rope
  rw [hx, hx, hc, hs]
  by_cases hd : d.val < 64
  · rw [dif_pos hd, cosT_lo _ _ hd, sinT_lo _ _ hd, sub_eq_add_neg, mul_neg]
    have e : half d = ⟨64 + d.val, by omega⟩ := Fin.ext (by show (d.val + 128 - 64) % 128 = 64 + d.val; omega)
    rw [e]
  · rw [dif_neg hd, cosT_hi _ _ hd, sinT_hi _ _ hd]
    have e : half d = ⟨d.val - 64, by omega⟩ := Fin.ext (by show (d.val + 128 - 64) % 128 = d.val - 64; omega)
    have e' : d = ⟨64 + (d.val - 64), by omega⟩ := Fin.ext (by show d.val = 64 + (d.val - 64); omega)
    rw [e, add_comm]
    congr 2
    exact congrArg f e'

end Cert.KernelIdeal.Ret
-- ==== Proof.RetTile.lean ====
module

public import proofs.«01_k».proof.Proof.RetBlk
public import proofs.«01_k».proof.Proof.Head

@[expose] public section
noncomputable section
namespace Cert.KernelIdeal.Ret
open Idealize.ShloMosaic Idealize.ShloMosaic.TcCoe Idealize.ShloMosaic.Tactic Idealize.SL.Sem Idealize.ShloMosaic.Pointwise
open Cert.KernelIdeal Cert.KernelIdeal.Gen
open Cert.ReferenceIdeal.Step (K_main_v21 K_main_v23 K_main_v101 K_main_v109 K_main_v117 K_main_v120 qR kR vR SR oR outR tm ch rw' hd ln SR_zero SR_succ)

/-! A grid point's tile and state, from the state before it: the reference's. -/

variable (m : (ℓ : Loc nD τ sig) → Buf (Elt Ideal) ℓ)

/-- Argument 0: queries, keys and values side by side. -/
abbrev A0 (c : Dev nD) : Vec Ideal S4x2048x3072 .f32 := m ((c : Thread nD τ).loc main_arg0)
/-- Argument 1, whose last lanes gate. -/
abbrev A1 (c : Dev nD) : Vec Ideal S4x2048x4096 .f32 := m ((c : Thread nD τ).loc main_arg1)
/-- Argument 2: the initial states. -/
abbrev A2 (c : Dev nD) : Vec Ideal S2x4x8x128x128 .f32 := m ((c : Thread nD τ).loc main_arg2)
/-- Argument 3: the norm's scale. -/
abbrev A3 (c : Dev nD) : Vec Ideal S2x1024 .f32 := m ((c : Thread nD τ).loc main_arg3)
/-- Argument 4: the norm's shift. -/
abbrev A4 (c : Dev nD) : Vec Ideal S2x1024 .f32 := m ((c : Thread nD τ).loc main_arg4)

/-- Chunk `k` of a grid point's tile among all chunks. -/
abbrev jj (t : Fin cfg0.N) (k : Fin 4) : Fin 32 := ⟨4 * (t.val % 8) + k.val, by omega⟩

theorem tim_row (t : Fin cfg0.N) (k : Fin 4) (r : Fin 64) : tim t (row k r) = tm (jj t k) r :=
  Fin.ext (by show t.val % 8 * 256 + (64 * k.val + r.val) = (4 * (t.val % 8) + k.val) * 64 + r.val; omega)

variable (c : Dev nD) (t : Fin cfg0.N)

theorem cos_at (k : Fin 4) (r : Fin 64) (l : Fin 128) :
    (iblk m c 4 t : Vec Ideal S256x128 .f32) (ix2 (row k r) l) = cosT (ix2 (tm (jj t k) r) l) := by
  refine (blk4 m c t _ _).trans ((congrFun (cos_eq m c) _).trans ?_)
  rw [tim_row]
theorem sin_at (k : Fin 4) (r : Fin 64) (l : Fin 128) :
    (iblk m c 5 t : Vec Ideal S256x128 .f32) (ix2 (row k r) l) = sinT (ix2 (tm (jj t k) r) l) := by
  refine (blk5 m c t _ _).trans ((congrFun (sin_eq m c) _).trans ?_)
  rw [tim_row]
/-- The tile's queries rotated. -/
theorem q_at (k : Fin 4) (h : Fin 8) (r : Fin 64) (d : Fin 128) :
    rotT (iblk m c 0 t) (iblk m c 4 t) (iblk m c 5 t) k h r d = qR (A0 m c) (bat t) (tm (jj t k) r) h d := by
  refine rot_rope _ _ _ (tm (jj t k) r) k h r d _ (fun l => ?_) (cos_at m c t k r) (sin_at m c t k r)
  refine (blk0 m c t _ _).trans ((congrFun (V_main_arg0 m c) _).trans ?_)
  rw [tim_row]
  exact congrArg (fun z => A0 m c (ix3 (bat t) (tm (jj t k) r) z)) (Fin.ext (by show 0 + (128 * h.val + l.val) = h.val * 128 + l.val; omega))
/-- The tile's keys rotated. -/
theorem k_at (k : Fin 4) (h : Fin 8) (r : Fin 64) (d : Fin 128) :
    rotT (iblk m c 1 t) (iblk m c 4 t) (iblk m c 5 t) k h r d = kR (A0 m c) (bat t) (tm (jj t k) r) h d := by
  refine rot_rope _ _ _ (tm (jj t k) r) k h r d _ (fun l => ?_) (cos_at m c t k r) (sin_at m c t k r)
  refine (blk1 m c t _ _).trans ((congrFun (V_main_arg0 m c) _).trans ?_)
  rw [tim_row]
  exact congrArg (fun z => A0 m c (ix3 (bat t) (tm (jj t k) r) z)) (Fin.ext (by show 1024 + (128 * h.val + l.val) = 1024 + (h.val * 128 + l.val); omega))
/-- The tile's values. -/
theorem v_at (k : Fin 4) (h : Fin 8) (r : Fin 64) (e : Fin 128) :
    (iblk m c 2 t : Vec Ideal S1x256x1024 .f32) (ix3 0 (row k r) (lane h e)) = vR (A0 m c) (bat t) (tm (jj t k) r) h e := by
  refine (blk2 m c t _ _).trans ((congrFun (V_main_arg0 m c) _).trans ?_)
  rw [tim_row]
  exact congrArg (fun z => A0 m c (ix3 (bat t) (tm (jj t k) r) z)) (Fin.ext (by show 2048 + (128 * h.val + e.val) = 2048 + (h.val * 128 + e.val); omega))
theorem z_at (k : Fin 4) (r : Fin 64) (l : Fin 1024) :
    (iblk m c 3 t : Vec Ideal S1x256x1024 .f32) (ix3 0 (row k r) l) = A1 m c (ix3 (bat t) (tm (jj t k) r) ⟨3072 + l.val, by omega⟩) := by
  refine (blk3 m c t _ _).trans ((congrFun (V_main_arg1 m c) _).trans ?_)
  rw [tim_row]
theorem dm_at (h : Fin 8) (r x : Fin 64) :
    (iblk m c 6 t : Vec Ideal S8x64x64 .f32) (ix3 h r x) = K_main_v101 (F := Ideal) (ix3 h r x) :=
  (blk6 m c t _ _ _).trans (congrFun (dm_eq m c) _)
theorem qd_at (h : Fin 8) (r : Fin 64) (e : Fin 128) :
    (iblk m c 7 t : Vec Ideal S8x64x128 .f32) (ix3 h r e) = K_main_v109 (F := Ideal) (ix2 h r) :=
  (blk7 m c t _ _ _).trans ((congrFun (qd_eq m c) _).trans (qdT_apply h r e))
theorem kd_at (h : Fin 8) (r : Fin 64) (e : Fin 128) :
    (iblk m c 8 t : Vec Ideal S8x64x128 .f32) (ix3 h r e) = K_main_v117 (F := Ideal) (ix2 h r) :=
  (blk8 m c t _ _ _).trans ((congrFun (kd_eq m c) _).trans (kdT_apply h r e))
theorem cd_at (h : Fin 8) (e : Fin 128) :
    (iblk m c 9 t : Vec Ideal S8x1x128 .f32) (ix3 h 0 e) = K_main_v120 (F := Ideal) (ix1 h) :=
  (blk9 m c t _ _).trans ((congrFun (cd_eq m c) _).trans (cdT_apply h e))
theorem s0_at (h : Fin 8) (d e : Fin 128) :
    (iblk m c 10 t : Vec Ideal S1x1x8x128x128 .f32) (ix5 0 0 h d e) = SR (A0 m c) (A2 m c) 0 (bat t) h d e :=
  (blk10 m c t _ _ _).trans ((congrFun (V_main_arg2 m c) _).trans (SR_zero (A0 m c) (A2 m c) (bat t) h d e).symm)
theorem g_at (l : Fin 1024) : (iblk m c 11 t : Vec Ideal S1x1024 .f32) (ix2 0 l) = A3 m c (ix2 0 l) :=
  (blk11 m c t _).trans ((congrFun (g_eq m c) _).trans (nrmT_apply (A3 m c) l))
theorem b_at (l : Fin 1024) : (iblk m c 12 t : Vec Ideal S1x1024 .f32) (ix2 0 l) = A4 m c (ix2 0 l) :=
  (blk12 m c t _).trans ((congrFun (b_eq m c) _).trans (nrmT_apply (A4 m c) l))

variable (S : Vec Ideal S1x8x128x128 .f32)
  (hS : ∀ (h : Fin 8) (d e : Fin 128), S (ix4 0 h d e) = SR (A0 m c) (A2 m c) (4 * (t.val % 8)) (bat t) h d e)
include hS

/-- The states a grid point runs through are the reference's. -/
theorem state_at (k : ℕ) (hk : k ≤ 4) (h : Fin 8) (d e : Fin 128) :
    stateAt (iblk m c 1 t) (iblk m c 2 t) (iblk m c 4 t) (iblk m c 5 t) (iblk m c 8 t) (iblk m c 9 t) S k (ix4 0 h d e)
      = SR (A0 m c) (A2 m c) (4 * (t.val % 8) + k) (bat t) h d e := by
  induction k generalizing h d e with
  | zero => exact hS h d e
  | succ k ih =>
    have hk' : k < 4 := hk
    unfold stateAt
    rw [dif_pos hk']
    refine (nextS_apply _ _ _ _ _ _ _ ⟨k, hk'⟩ h d e).trans (Eq.trans ?_ (SR_succ (A0 m c) (A2 m c) (jj t ⟨k, hk'⟩) (bat t) h d e).symm)
    refine congrArg₂ (· + ·) (congrArg₂ (· * ·) (cd_at m c t h e) (ih (by omega) h d e)) (Finset.sum_congr rfl fun x _ => ?_)
    exact congrArg₂ (· * ·) (congrArg₂ (· * ·) (congrArg (· * _) (k_at m c t ⟨k, hk'⟩ h x d)) (kd_at m c t h x d)) (v_at m c t ⟨k, hk'⟩ h x e)

/-- A chunk's retention is the reference's. -/
theorem ret_at (k : Fin 4) (h : Fin 8) (r : Fin 64) (e : Fin 128) :
    retT (iblk m c 0 t) (iblk m c 1 t) (iblk m c 2 t) (iblk m c 4 t) (iblk m c 5 t) (iblk m c 6 t) (iblk m c 7 t)
      (stateAt (iblk m c 1 t) (iblk m c 2 t) (iblk m c 4 t) (iblk m c 5 t) (iblk m c 8 t) (iblk m c 9 t) S k.val) k h r e
      = oR (A0 m c) (A2 m c) (jj t k) (bat t) r h e := by
  unfold retT oR
  refine congrArg₂ (· + ·) (Finset.sum_congr rfl fun x _ => congrArg₂ (· * ·) (congrArg₂ (· * ·) (Finset.sum_congr rfl fun d _ =>
      congrArg₂ (· * ·) (q_at m c t k h r d) (congrArg (· * _) (k_at m c t k h x d))) (dm_at m c t h r x)) (v_at m c t k h x e))
    (congrArg₂ (· * ·) (Finset.sum_congr rfl fun d _ => congrArg₂ (· * ·) (q_at m c t k h r d) (state_at m c t S hS k.val (by omega) h d e)) (qd_at m c t h r e))

/-- The tile a grid point leaves is the reference's. -/
theorem tile_at (k : Fin 4) (h : Fin 8) (r : Fin 64) (e : Fin 128) :
    tileY (iblk m c 0 t) (iblk m c 1 t) (iblk m c 2 t) (iblk m c 3 t) (iblk m c 4 t) (iblk m c 5 t) (iblk m c 6 t) (iblk m c 7 t)
      (iblk m c 8 t) (iblk m c 9 t) (iblk m c 11 t) (iblk m c 12 t) S (ix3 0 (row k r) (lane h e))
      = outR (A0 m c) (A2 m c) (A1 m c) (A3 m c) (A4 m c) (bat t) (tm (jj t k) r) (lane h e) := by
  refine (tileY_apply _ _ _ _ _ _ _ _ _ _ _ _ _ k h r e).trans ?_
  have e1 : ch (tm (jj t k) r) = jj t k := Fin.ext (by show ((4 * (t.val % 8) + k.val) * 64 + r.val) / 64 = 4 * (t.val % 8) + k.val; omega)
  have e2 : rw' (tm (jj t k) r) = r := Fin.ext (by show ((4 * (t.val % 8) + k.val) * 64 + r.val) % 64 = r.val; omega)
  have e3 : hd (lane h e) = h := Fin.ext (by show (128 * h.val + e.val) / 128 = h.val; omega)
  have e4 : ln (lane h e) = e := Fin.ext (by show (128 * h.val + e.val) % 128 = e.val; omega)
  unfold outR
  rw [e1, e2, e3, e4]
  exact normed_congr (funext fun l => ret_at m c t S hS k h r l) (g_at m c t _) (b_at m c t _) (z_at m c t k r _) e

end Cert.KernelIdeal.Ret
-- ==== Proof.RetFold.lean ====
module

public import proofs.«01_k».proof.Proof.RetRun
public import proofs.«01_k».proof.Proof.RetTile

@[expose] public section
set_option maxRecDepth 16384
noncomputable section
namespace Cert.KernelIdeal.Ret
open Idealize.ShloMosaic Idealize.ShloMosaic.TcCoe Idealize.ShloMosaic.Tactic Idealize.SL.Sem Idealize.ShloMosaic.Pointwise
open Cert.KernelIdeal Cert.KernelIdeal.Gen
open Cert.ReferenceIdeal.Step (SR outR tm)

/-! The grid points one after another: the kernel's two results, entry by entry. -/

variable (m : (ℓ : Loc nD τ sig) → Buf (Elt Ideal) ℓ) (c : Dev nD)

/-- The state a grid point starts from. -/
def Sin (t : Fin cfg0.N) : Vec Ideal S1x8x128x128 .f32 :=
  if t.val % 8 = 0 then s0Of (iblk m c 10 t)
  else (outsAt0 m c (t.val - 1) (Nat.lt_of_le_of_lt (Nat.sub_le _ _) t.isLt)).2.2

/-- The tile a grid point leaves. -/
theorem outs1 (t : Fin cfg0.N) : (outsAt0 m c t.val t.isLt).1
    = tileY (iblk m c 0 t) (iblk m c 1 t) (iblk m c 2 t) (iblk m c 3 t) (iblk m c 4 t) (iblk m c 5 t) (iblk m c 6 t) (iblk m c 7 t)
      (iblk m c 8 t) (iblk m c 9 t) (iblk m c 11 t) (iblk m c 12 t) (Sin m c t) := by
  unfold Sin
  by_cases h0 : t.val % 8 = 0
  · rw [if_pos h0]
    rw [outsAt0_A m c t h0 (by omega)]; dsimp only; rw [tile_A]
  · rw [if_neg h0]
    by_cases h1 : t.val % 8 = 7
    · rw [outsAt0_C m c t h0 h1]; dsimp only; rw [tile_C]
    · rw [outsAt0_B m c t h0 h1]; dsimp only; rw [tile_B]

/-- The state a grid point leaves. -/
theorem outs3 (t : Fin cfg0.N) : (outsAt0 m c t.val t.isLt).2.2
    = stateAt (iblk m c 1 t) (iblk m c 2 t) (iblk m c 4 t) (iblk m c 5 t) (iblk m c 8 t) (iblk m c 9 t) (Sin m c t) 4 := by
  unfold Sin
  by_cases h0 : t.val % 8 = 0
  · rw [if_pos h0]
    rw [outsAt0_A m c t h0 (by omega)]; dsimp only; rw [state_A]
  · rw [if_neg h0]
    by_cases h1 : t.val % 8 = 7
    · rw [outsAt0_C m c t h0 h1]; dsimp only; rw [state_C]
    · rw [outsAt0_B m c t h0 h1]; dsimp only; rw [state_B]

/-- The state a batch's last grid point writes out. -/
theorem outs2 (t : Fin cfg0.N) (h1 : t.val % 8 = 7) : (outsAt0 m c t.val t.isLt).2.1
    = stateAt (iblk m c 1 t) (iblk m c 2 t) (iblk m c 4 t) (iblk m c 5 t) (iblk m c 8 t) (iblk m c 9 t) (Sin m c t) 4 := by
  have h0 : ¬ t.val % 8 = 0 := by omega
  unfold Sin
  rw [if_neg h0]
  rw [outsAt0_C m c t h0 h1]; dsimp only; rw [last_C]

theorem s0Of_apply (x : Vec Ideal S1x1x8x128x128 .f32) (h : Fin 8) (d e : Fin 128) :
    s0Of x (ix4 0 h d e) = x (ix5 0 0 h d e) := by
  have e0 : View.ld x (Rect.unit (s := S1x1x8x128x128) ![0, 0, 0, 0, 0] S1x1x8x128x128.size (by decide)) = x := by
    funext y
    refine congrArg x (funext fun a => Fin.ext ?_)
    match a with
    | 0 => show 0 + 1 * (y 0).val = (y 0).val; omega
    | 1 => show 0 + 1 * (y 1).val = (y 1).val; omega
    | 2 => show 0 + 1 * (y 2).val = (y 2).val; omega
    | 3 => show 0 + 1 * (y 3).val = (y 3).val; omega
    | 4 => show 0 + 1 * (y 4).val = (y 4).val; omega
  unfold s0Of
  rw [e0]
  unfold k0_pay1
  pointwise

/-- The state a grid point starts from is the reference's after as many chunks. -/
theorem Sin_at (n : ℕ) (hn : n < cfg0.N) (h : Fin 8) (d e : Fin 128) :
    Sin m c ⟨n, hn⟩ (ix4 0 h d e) = SR (A0 m c) (A2 m c) (4 * (n % 8)) (bat ⟨n, hn⟩) h d e := by
  induction n generalizing h d e with
  | zero =>
    unfold Sin
    rw [if_pos (show (⟨0, hn⟩ : Fin cfg0.N).val % 8 = 0 from rfl)]
    exact (s0Of_apply _ h d e).trans (s0_at m c ⟨0, hn⟩ h d e)
  | succ n ih =>
    unfold Sin
    by_cases h0 : (n + 1) % 8 = 0
    · rw [if_pos h0, h0]
      exact (s0Of_apply _ h d e).trans (s0_at m c ⟨n + 1, hn⟩ h d e)
    · rw [if_neg h0]
      have hn' : n < cfg0.N := Nat.lt_of_succ_lt hn
      refine (congrFun (outs3 m c ⟨n, hn'⟩) _).trans ((state_at m c ⟨n, hn'⟩ _ (fun h d e => ih hn' h d e) 4 (le_refl 4) h d e).trans ?_)
      have e1 : 4 * (n % 8) + 4 = 4 * ((n + 1) % 8) := by omega
      have e2 : bat ⟨n, hn'⟩ = bat ⟨n + 1, hn⟩ := Fin.ext (by show n / 8 = (n + 1) / 8; omega)
      show SR (A0 m c) (A2 m c) (4 * (n % 8) + 4) (bat ⟨n, hn'⟩) h d e = _
      rw [e1, e2]

/-- The kernel's first result, entry by entry. -/
theorem G13_apply (b : Fin 4) (t : Fin 2048) (l : Fin 1024) :
    Value.G13 m c (ix3 b t l) = outR (A0 m c) (A2 m c) (A1 m c) (A3 m c) (A4 m c) b t l := by
  have hp : Value.pt13Of (ix3 b t l) = 8 * b.val + t.val / 256 := by
    show 8 * (b.val / 1 - 0) + 1 * (t.val / 256 - 0) + 1 * (l.val / 1024 - 0) = _
    omega
  have hT : Value.pt13Of (ix3 b t l) < cfg0.N := by rw [hp]; exact lt_of_lt_of_eq (by omega) N_0.symm
  unfold Value.G13
  rw [dif_pos hT]
  refine (congrFun (congrArg (fun p => p.1) (Value.outsAt0_sweep m c _ hT).symm) _).trans ((congrFun (outs1 m c ⟨_, hT⟩) _).trans ?_)
  have ey : Value.loc13Of (ix3 b t l) = ix3 0 (row ⟨t.val % 256 / 64, by omega⟩ ⟨t.val % 64, by omega⟩) (lane ⟨l.val / 128, by omega⟩ ⟨l.val % 128, by omega⟩) := by
    funext a
    apply Fin.ext
    match a with
    | 0 => show b.val % 1 = 0; omega
    | 1 => show t.val % 256 = 64 * (t.val % 256 / 64) + t.val % 64; omega
    | 2 => show l.val % 1024 = 128 * (l.val / 128) + l.val % 128; omega
  rw [ey]
  refine (tile_at m c ⟨_, hT⟩ _ (fun h d e => Sin_at m c _ hT h d e) _ _ _ _).trans ?_
  have e1 : bat ⟨Value.pt13Of (ix3 b t l), hT⟩ = b := Fin.ext (by show Value.pt13Of (ix3 b t l) / 8 = b.val; rw [hp]; omega)
  have e2 : tm (jj ⟨Value.pt13Of (ix3 b t l), hT⟩ ⟨t.val % 256 / 64, by omega⟩) ⟨t.val % 64, by omega⟩ = t := Fin.ext (by
    show (4 * (Value.pt13Of (ix3 b t l) % 8) + t.val % 256 / 64) * 64 + t.val % 64 = t.val; rw [hp]; omega)
  have e3 : lane ⟨l.val / 128, by omega⟩ ⟨l.val % 128, by omega⟩ = l := Fin.ext (by show 128 * (l.val / 128) + l.val % 128 = l.val; omega)
  rw [e1, e2, e3]

/-- The kernel's second result, entry by entry. -/
theorem G14_apply (b : Fin 4) (h : Fin 8) (d e : Fin 128) :
    Value.G14 m c (ix4 b h d e) = SR (A0 m c) (A2 m c) 32 b h d e := by
  have hp : Value.pt14Of (ix4 b h d e) = 8 * b.val + 7 := by
    show 8 * (1 * (b.val / 1 - 0) + 1 * (h.val / 8 - 0) + 1 * (d.val / 128 - 0) + 1 * (e.val / 128 - 0)) + 7 = _
    omega
  have hT : Value.pt14Of (ix4 b h d e) < cfg0.N := by rw [hp]; exact lt_of_lt_of_eq (by omega) N_0.symm
  have h7 : Value.pt14Of (ix4 b h d e) % 8 = 7 := by rw [hp]; omega
  unfold Value.G14
  rw [dif_pos hT]
  refine (congrFun (congrArg (fun p => p.2.1) (Value.outsAt0_sweep m c _ hT).symm) _).trans ((congrFun (outs2 m c ⟨_, hT⟩ h7) _).trans ?_)
  have ey : Value.loc14Of (ix4 b h d e) = ix4 0 h d e := by
    funext a
    apply Fin.ext
    match a with
    | 0 => show b.val % 1 = 0; omega
    | 1 => show h.val % 8 = h.val; omega
    | 2 => show d.val % 128 = d.val; omega
    | 3 => show e.val % 128 = e.val; omega
  rw [ey]
  refine (state_at m c ⟨_, hT⟩ _ (fun h d e => Sin_at m c _ hT h d e) 4 (le_refl 4) h d e).trans ?_
  have e1 : bat ⟨Value.pt14Of (ix4 b h d e), hT⟩ = b := Fin.ext (by show Value.pt14Of (ix4 b h d e) / 8 = b.val; rw [hp]; omega)
  rw [e1]
  show SR (A0 m c) (A2 m c) (4 * (Value.pt14Of (ix4 b h d e) % 8) + 4) b h d e = _
  rw [h7]

end Cert.KernelIdeal.Ret
-- ==== Proof.Retention.lean ====
module

public import proofs.«01_k».proof.Defs
public import proofs.«01_k».proof.Proof.RetFold
public import proofs.«01_k».proof.Proof.StepRun

@[expose] public section
noncomputable section

/-! The retention kernel's chunks on the grid and the reference's loop over chunks compute the same extended reals. -/

namespace Cert.Proof
open Idealize.ShloMosaic Idealize.ShloMosaic.Pointwise Idealize.SL.Sem

/-- The kernel's retention and the reference's: the same normed and gated outputs and the same last states. -/
theorem algebraic_retention : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Value.G13 m c, fun c => Cert.KernelIdeal.Value.G14 m c,
    (θ_run _ _ _).mono (fun r h c => ⟨(h c).1, (h c).2.1, (h c).2.2⟩) (Cert.KernelIdeal.Value.run (F := Ideal) m ρ), ?_⟩
  refine (θ_run _ _ _).mono (fun r h c => ⟨(h c).1.trans ?_, (h c).2.1.trans ?_, (h c).2.2⟩)
    (Cert.ReferenceIdeal.StepRun.run_iter (F := Ideal) m' ρ' (fun c => Cert.ReferenceIdeal.Step.it (Cert.ReferenceIdeal.StepRun.initState m' c)) (fun _ => rfl) (fun _ _ => rfl))
  · funext i
    rw [eq_ix3 i]
    refine (Cert.ReferenceIdeal.Step.out_it _ _ _ _ _ _ _ _).trans (Eq.trans ?_ (Cert.KernelIdeal.Ret.G13_apply m c _ _ _).symm)
    rw [(hagree c).1, (hagree c).2.1, (hagree c).2.2.1, (hagree c).2.2.2.1, (hagree c).2.2.2.2]
  · funext i
    rw [eq_ix4 i]
    refine Eq.trans ?_ (Cert.KernelIdeal.Ret.G14_apply m c _ _ _ _).symm
    show Cert.ReferenceIdeal.Step.SR (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2)) 32 _ _ _ _ = _
    rw [(hagree c).1, (hagree c).2.2.1]

end Cert.Proof
end
-- ==== Proof.Keys.lean ====
module

public import proofs.«01_k».proof.Defs
public import proofs.«01_k».proof.Proof.Gen.SwaIdeal.Value
public import proofs.«01_k».proof.Proof.Gen.RefWIdeal.Run
public import Idealize.ShloMosaic.Lib.Pointwise
public import Idealize.ShloMosaic.Lib.VecWindow

@[expose] public section
noncomputable section

/-! The windowed attention's rotated keys: every point writes its block of 128 time steps, so the blocks put together are the keys of the
    whole sequence, each of the two heads' halves rotated against each other by the step's angles. The attention itself is not read here. -/

namespace Cert.RefWIdeal.Keys
open Idealize.ShloMosaic Idealize.ShloMosaic.TcCoe Idealize.SL.Sem Idealize.ShloMosaic.Pointwise
open Cert.RefWIdeal Cert.RefWIdeal.Gen

/-- The projected columns as launched: the queries', the keys' and the values'. -/
abbrev Prj := FVec Ideal S4x2048x1280 .f32
/-- The angle of each time step at each frequency. -/
def ang : FVec Ideal S2048x32 .f32 := mulf (broadcastInDim S2048x32 ![0, 1] bcast_S2048x1_S2048x32_0_1 (broadcastInDim S2048x1 ![0] bcast_S2048_S2048x1_0 (sitofp .f32 (iotaInDim S2048 32 0))))
  (broadcastInDim S2048x32 ![0, 1] bcast_S1x32_S2048x32_0_1 (broadcastInDim S1x32 ![1] bcast_S32_S1x32_1 (Host.powf (broadcastInDim S32 ![] bcast_S_S32 (constant S_ .f32 0x461C4000#32))
    (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0)))))
      (broadcastInDim S32 ![] bcast_S_S32 (constant S_ .f32 0x42800000#32))))))
/-- Its cosine. -/
def co : FVec Ideal S2048x32 .f32 := Host.cos ang
/-- Its sine. -/
def si : FVec Ideal S2048x32 .f32 := Host.sin ang

/-- One rotated key: of a batch, a time step, a head and a lane of the head. -/
def entry (a : Prj) (b : Fin 4) (t : Fin 2048) (h : Fin 2) (d : Fin 64) : EReal :=
  if hd : d.val < 32 then
    a (ix3 b t ⟨1024 + (h.val * 64 + d.val), by omega⟩) * co (ix2 t ⟨d.val, hd⟩) - a (ix3 b t ⟨1024 + (h.val * 64 + (32 + d.val)), by omega⟩) * si (ix2 t ⟨d.val, hd⟩)
  else
    a (ix3 b t ⟨1024 + (h.val * 64 + (d.val - 32)), by omega⟩) * si (ix2 t ⟨d.val - 32, by omega⟩) + a (ix3 b t ⟨1024 + (h.val * 64 + d.val), by omega⟩) * co (ix2 t ⟨d.val - 32, by omega⟩)

/-- The whole result: a lane among 128 is a head and a lane of it. -/
def whole (a : Prj) : FVec Ideal S4x2048x128 .f32 := fun i => entry a (i 0) (i 1) ⟨(i 2).val / 64, by have : (i 2).val < 128 := (i 2).isLt; omega⟩ ⟨(i 2).val % 64, by omega⟩

/-- The keys' columns, head by head. -/
def hd (a : Prj) : FVec Ideal S4x2048x2x64 .f32 := shapeCast _ (extractStridedSlice S4x2048x128 ![0, 0, 1024] a slices_S4x2048x1280_S4x2048x128_0_0_1024) shapeCasts_S4x2048x128_S4x2048x2x64
/-- The first halves. -/
def lo (a : Prj) : FVec Ideal S4x2048x2x32 .f32 := extractStridedSlice S4x2048x2x32 ![0, 0, 0, 0] (hd a) slices_S4x2048x2x64_S4x2048x2x32_0_0_0_0
/-- The second halves. -/
def hi (a : Prj) : FVec Ideal S4x2048x2x32 .f32 := extractStridedSlice S4x2048x2x32 ![0, 0, 0, 32] (hd a) slices_S4x2048x2x64_S4x2048x2x32_0_0_0_32
/-- A table at every batch and head. -/
def tab (x : FVec Ideal S2048x32 .f32) : FVec Ideal S4x2048x2x32 .f32 :=
  broadcastInDim S4x2048x2x32 ![0, 1, 2, 3] bcast_S1x2048x1x32_S4x2048x2x32_0_1_2_3 (broadcastInDim S1x2048x1x32 ![1, 3] bcast_S2048x32_S1x2048x1x32_1_3 x)
/-- The reference's result of the projected columns. -/
def res (a : Prj) : FVec Ideal S4x2048x128 .f32 := shapeCast _ (concatenate S4x2048x2x64 3 [⟨S4x2048x2x32, subf (mulf (lo a) (tab co)) (mulf (hi a) (tab si))⟩,
  ⟨S4x2048x2x32, addf (mulf (lo a) (tab si)) (mulf (hi a) (tab co))⟩] concatenates_S4x2048x2x32_S4x2048x2x32_S4x2048x2x64_d3) shapeCasts_S4x2048x2x64_S4x2048x128

theorem lo_apply (a : Prj) (b : Fin 4) (t : Fin 2048) (h : Fin 2) (d : Fin 32) : lo a (ix4 b t h d) = a (ix3 b t ⟨1024 + (h.val * 64 + d.val), by omega⟩) := by
  unfold lo hd
  pointwise
theorem hi_apply (a : Prj) (b : Fin 4) (t : Fin 2048) (h : Fin 2) (d : Fin 32) : hi a (ix4 b t h d) = a (ix3 b t ⟨1024 + (h.val * 64 + (32 + d.val)), by omega⟩) := by
  unfold hi hd
  pointwise
theorem tab_apply (x : FVec Ideal S2048x32 .f32) (b : Fin 4) (t : Fin 2048) (h : Fin 2) (d : Fin 32) : tab x (ix4 b t h d) = x (ix2 t d) := by
  unfold tab
  pointwise

/-- The reference's result, entry by entry. -/
theorem res_apply (a : Prj) (b : Fin 4) (t : Fin 2048) (l : Fin 128) : res a (ix3 b t l) = entry a b t ⟨l.val / 64, by omega⟩ ⟨l.val % 64, by omega⟩ := by
  unfold res entry
  pointwise
  simp only [lo_apply, hi_apply, tab_apply]
  by_cases h : l.val % 64 < 32
  · simp only [h, dite_true]
  · simp only [h, dite_false]
    have e : 1024 + (l.val / 64 * 64 + (32 + (l.val % 64 - 32))) = 1024 + (l.val / 64 * 64 + l.val % 64) := by omega
    simp only [e]

/-- The reference's result is the rotated keys. -/
theorem ref_eq (m : (ℓ : Loc nD τ sig) → Buf (Elt Ideal) ℓ) (c : Dev nD) :
    Value.res_main_v36 m c = whole (m ((c.tc : Thread nD τ).loc main_arg0)) := by
  have e : Value.res_main_v36 m c = res (m ((c.tc : Thread nD τ).loc main_arg0)) := rfl
  rw [e]
  funext i
  rw [eq_ix3 i]
  exact res_apply _ _ _ _

end Cert.RefWIdeal.Keys

namespace Cert.SwaIdeal.Gen
open Idealize.ShloMosaic Idealize.ShloMosaic.TcCoe Idealize.ShloMosaic.Tactic Idealize.SL.Sem
open Cert.SwaIdeal

variable {F : FTy → Type} [FloatOps F]

/-- What the body leaves as keys: its block of them rotated by the two tables' blocks. -/
def rot (x : Vec F S1x128x128 .f32) (cs sn : Vec F S128x128 .f32) : FVec F S1x128x128 .f32 := k0_pay34 (k0_pay32 (k0_pay4 cs) (k0_pay5 sn) x)
/-- Equal operands, equal rotations. -/
theorem rot_of {x x' : Vec F S1x128x128 .f32} {cs cs' sn sn' : Vec F S128x128 .f32} (hx : x = x') (hc : cs = cs') (hs : sn = sn') : rot x cs sn = rot x' cs' sn' := by
  subst hx hc hs; rfl

end Cert.SwaIdeal.Gen

namespace Cert.SwaIdeal.Keys
open Idealize.ShloMosaic Idealize.ShloMosaic.TcCoe Idealize.ShloMosaic.Tactic Idealize.SL.Sem Idealize.ShloMosaic.Pointwise
open Cert.SwaIdeal Cert.SwaIdeal.Gen
open Cert.RefWIdeal.Keys (Prj co si ang entry whole)

/-- Whether a lane is in the first half of its head, as the body counts it: the lane's remainder by 64, made positive, against 32. -/
def first (l : BitVec 32) : BitVec 1 :=
  let n : BitVec 32 := Scalar.select (Scalar.cmpi CmpIPredicate.eq 64#32 0#32) 1#32 64#32
  let r : BitVec 32 := IntOp.remsi ArithUnit.vector l n
  IntOp.cmpi CmpIPredicate.slt (Scalar.select (IntOp.andi (IntOp.xori (IntOp.cmpi CmpIPredicate.slt r 0#32) (Scalar.cmpi CmpIPredicate.slt n 0#32))
    (IntOp.cmpi CmpIPredicate.ne r 0#32)) (IntOp.addi r n) r) 32#32
theorem first_eq : ∀ l : Fin 128, first (BitVec.ofNat 32 l.val) = if l.val % 64 < 32 then 1#1 else 0#1 := by decide +kernel

/-- The lane half a head away, in the same head. -/
def other (l : Fin 128) : Fin 128 := if l.val % 64 < 32 then ⟨(l.val + 32) % 128, by omega⟩ else ⟨l.val - 32, by omega⟩

/-- The body's rotation, entry by entry. -/
theorem rot_apply (x : Vec Ideal S1x128x128 .f32) (cs sn : Vec Ideal S128x128 .f32) (r l : Fin 128) :
    rot x cs sn (ix3 0 r l) = x (ix3 0 r l) * cs (ix2 r l) + x (ix3 0 r (other l)) * sn (ix2 r l) := by
  unfold rot k0_pay34 k0_pay32 k0_pay4 k0_pay5
  dsimp only
  pointwise
  show _ + Scalar.select (first (BitVec.ofNat 32 l.val)) _ _ * _ = _
  rw [first_eq]
  unfold other
  by_cases h : l.val % 64 < 32
  · simp only [h, if_true]
    show _ + x (ix3 0 r _) * _ = _
    congr 4
  · simp only [h, if_false]
    show _ + x (ix3 0 r _) * _ = _
    congr 4
    exact Fin.ext (by show (l.val + 128 - 32) % 128 = l.val - 32; omega)

variable (m : (ℓ : Loc nD τ sig) → Buf (Elt Ideal) ℓ) (ρ : Dev nD → PrngReg)

/-- A table lane by lane: both heads alike, a head's halves the two given. -/
def tile (x y : FVec Ideal S2048x32 .f32) : FVec Ideal S2048x128 .f32 := shapeCast S2048x128 (broadcastInDim S1x2048x2x64 ![0, 1, 2, 3] bcast_S1x2048x1x64_S1x2048x2x64_0_1_2_3
  (shapeCast S1x2048x1x64 (concatenate S2048x64 1 [⟨S2048x32, x⟩, ⟨S2048x32, y⟩] concatenates_S2048x32_S2048x32_S2048x64_d1) shapeCasts_S2048x64_S1x2048x1x64)) shapeCasts_S1x2048x2x64_S2048x128

/-- The time steps counted from zero are the time steps. -/
theorem iota_zero : addi (broadcastInDim S2048 ![] bcast_S_S2048 (constantI S_ 32 0#32)) (iotaInDim S2048 32 0) = iotaInDim S2048 32 0 :=
  funext fun _ => BitVec.zero_add _

/-- The cosines the region finds. -/
theorem cos_eq (c : Dev nD) : V m c main_v24 = tile co co := by
  unfold co ang
  rw [← iota_zero]
  show StableHlo.after hostOps0 (fun b => m (c, b)) (Proc.devRef .tc main_v24) = _
  after_results <;> rfl

/-- The sines the region finds, those of the first halves negated. -/
theorem sin_eq (c : Dev nD) : V m c main_v29 = tile (Host.negf si) si := by
  unfold si ang
  rw [← iota_zero]
  show StableHlo.after hostOps0 (fun b => m (c, b)) (Proc.devRef .tc main_v29) = _
  after_results <;> rfl

theorem tile_lo (x y : FVec Ideal S2048x32 .f32) (t : Fin 2048) (l : Fin 128) (hl : l.val % 64 < 32) : tile x y (ix2 t l) = x (ix2 t ⟨l.val % 64, hl⟩) := by
  unfold tile
  pointwise
  simp only [hl, dite_true]
theorem tile_hi (x y : FVec Ideal S2048x32 .f32) (t : Fin 2048) (l : Fin 128) (hl : ¬ l.val % 64 < 32) : tile x y (ix2 t l) = y (ix2 t ⟨l.val % 64 - 32, by omega⟩) := by
  unfold tile
  pointwise
  simp only [hl, dite_false]

theorem val_lt (t : Fin cfg0.N) : t.val < 64 := lt_of_lt_of_eq t.isLt N_0
/-- Where the windows stand at each grid point. -/
theorem idx2 : ∀ t : Fin cfg0.N, win0_2.index t 0 = t.val / 16 ∧ win0_2.index t 1 = t.val % 16 ∧ win0_2.index t 2 = 8 :=
  (by decide +kernel : ∀ t : Fin grid0.N, _)
theorem idx5 : ∀ t : Fin cfg0.N, win0_5.index t 0 = t.val % 16 ∧ win0_5.index t 1 = 0 :=
  (by decide +kernel : ∀ t : Fin grid0.N, _)
theorem idx6 : ∀ t : Fin cfg0.N, win0_6.index t 0 = t.val % 16 ∧ win0_6.index t 1 = 0 :=
  (by decide +kernel : ∀ t : Fin grid0.N, _)
theorem idx10 : ∀ t : Fin cfg0.N, win0_10.index t 0 = t.val / 16 ∧ win0_10.index t 1 = t.val % 16 ∧ win0_10.index t 2 = 0 :=
  (by decide +kernel : ∀ t : Fin grid0.N, _)

/-- The time step of a point's row. -/
abbrev tim (t : Fin cfg0.N) (r : Fin 128) : Fin 2048 := ⟨t.val % 16 * 128 + r.val, by omega⟩

/-- A point's block of keys. -/
theorem blk2 (c : Dev nD) (t : Fin cfg0.N) (r l : Fin 128) : (iblk m c 2 t : Vec Ideal S1x128x128 .f32) (ix3 0 r l)
    = (V m c main_arg0 : Vec Ideal S4x2048x1280 .f32) (ix3 ⟨t.val / 16, by have := val_lt t; omega⟩ (tim t r) ⟨1024 + l.val, by omega⟩) := by
  obtain ⟨h0, h1, h2⟩ := idx2 t
  unfold iblk
  rw [View.read_apply]
  show V m c main_arg0 _ = V m c main_arg0 _
  congr 1
  funext a
  apply Fin.ext
  match a with
  | ⟨0, _⟩ => show win0_2.index t 0 * 1 + 1 * 0 = t.val / 16; rw [h0]; omega
  | ⟨1, _⟩ => show win0_2.index t 1 * 128 + 1 * r.val = t.val % 16 * 128 + r.val; rw [h1]; omega
  | ⟨2, _⟩ => show win0_2.index t 2 * 128 + 1 * l.val = 1024 + l.val; rw [h2]; omega
/-- A point's block of cosines. -/
theorem blk5 (c : Dev nD) (t : Fin cfg0.N) (r l : Fin 128) : (iblk m c 5 t : Vec Ideal S128x128 .f32) (ix2 r l)
    = (V m c main_v24 : Vec Ideal S2048x128 .f32) (ix2 (tim t r) l) := by
  obtain ⟨h0, h1⟩ := idx5 t
  unfold iblk
  rw [View.read_apply]
  show V m c main_v24 _ = V m c main_v24 _
  congr 1
  funext a
  apply Fin.ext
  match a with
  | ⟨0, _⟩ => show win0_5.index t 0 * 128 + 1 * r.val = t.val % 16 * 128 + r.val; rw [h0]; omega
  | ⟨1, _⟩ => show win0_5.index t 1 * 128 + 1 * l.val = l.val; rw [h1]; omega
/-- A point's block of sines. -/
theorem blk6 (c : Dev nD) (t : Fin cfg0.N) (r l : Fin 128) : (iblk m c 6 t : Vec Ideal S128x128 .f32) (ix2 r l)
    = (V m c main_v29 : Vec Ideal S2048x128 .f32) (ix2 (tim t r) l) := by
  obtain ⟨h0, h1⟩ := idx6 t
  unfold iblk
  rw [View.read_apply]
  show V m c main_v29 _ = V m c main_v29 _
  congr 1
  funext a
  apply Fin.ext
  match a with
  | ⟨0, _⟩ => show win0_6.index t 0 * 128 + 1 * r.val = t.val % 16 * 128 + r.val; rw [h0]; omega
  | ⟨1, _⟩ => show win0_6.index t 1 * 128 + 1 * l.val = l.val; rw [h1]; omega

/-- What a point leaves, entry by entry. -/
theorem rot_entry (c : Dev nD) (t : Fin cfg0.N) (r l : Fin 128) : rot (F := Ideal) (iblk m c 2 t) (iblk m c 5 t) (iblk m c 6 t) (ix3 0 r l)
    = entry (m ((c : Thread nD τ).loc main_arg0)) ⟨t.val / 16, by have := val_lt t; omega⟩ (tim t r) ⟨l.val / 64, by omega⟩ ⟨l.val % 64, by omega⟩ := by
  have hx := fun (r l : Fin 128) => (blk2 m c t r l).trans (congrFun (V_main_arg0 m c) _)
  rw [rot_apply, hx, hx, blk5, blk6, cos_eq, sin_eq]
  unfold entry other
  by_cases h : l.val % 64 < 32
  · simp only [h, if_true, dite_true]
    rw [tile_lo _ _ _ _ h, tile_lo _ _ _ _ h]
    show _ + _ * (- si _) = _
    rw [mul_neg, ← sub_eq_add_neg]
    congr 2
    · exact congrArg (fun z => m ((c : Thread nD τ).loc main_arg0) (ix3 _ _ z)) (Fin.ext (by show 1024 + l.val = 1024 + (l.val / 64 * 64 + l.val % 64); omega))
    · exact congrArg (fun z => m ((c : Thread nD τ).loc main_arg0) (ix3 _ _ z)) (Fin.ext (by show 1024 + (l.val + 32) % 128 = 1024 + (l.val / 64 * 64 + (32 + l.val % 64)); omega))
  · simp only [h, if_false, dite_false]
    rw [tile_hi _ _ _ _ h, tile_hi _ _ _ _ h, add_comm]
    congr 2
    · exact congrArg (fun z => m ((c : Thread nD τ).loc main_arg0) (ix3 _ _ z)) (Fin.ext (by show 1024 + (l.val - 32) = 1024 + (l.val / 64 * 64 + (l.val % 64 - 32)); omega))
    · exact congrArg (fun z => m ((c : Thread nD τ).loc main_arg0) (ix3 _ _ z)) (Fin.ext (by show 1024 + l.val = 1024 + (l.val / 64 * 64 + l.val % 64); omega))

/-- What any point writes back. -/
theorem flushed_rot (c : Dev nD) (t : Fin cfg0.N) : (dats m 0 c).flushed 10 t = (cfg0.win 10).cut (grid0.coords t) (rot (F := Ideal) (iblk m c 2 t) (iblk m c 5 t) (iblk m c 6 t)) := by
  by_cases h : t.val % 16 = 0
  · rw [Value.flushed10_A m c t h]
    unfold out0_A_10 kernelRun0_A
    refine congrArg _ ((View.read_writes_full _ _ _ _ _).trans ?_)
    exact rot_of ((View.readAt_full _ _ _).trans ((hs0_2 t).read_unread _)) ((View.readAt_full _ _ _).trans ((hs0_5 t).read_unread _)) ((View.readAt_full _ _ _).trans ((hs0_6 t).read_unread _))
  · rw [Value.flushed10_B m c t h]
    unfold out0_B_10 kernelRun0_B
    refine congrArg _ ((View.read_writes_full _ _ _ _ _).trans ?_)
    exact rot_of ((View.readAt_full _ _ _).trans ((hs0_2 t).read_unread _)) ((View.readAt_full _ _ _).trans ((hs0_5 t).read_unread _)) ((View.readAt_full _ _ _).trans ((hs0_6 t).read_unread _))

/-- What a point writes back is its block of the whole result. -/
theorem flushed_eq (c : Dev nD) (t : Fin cfg0.N) : (dats m 0 c).flushed 10 t
    = ((cfg0.win 10).blk t).view.read (Elt Ideal) (whole (m ((c : Thread nD τ).loc main_arg0))) := by
  rw [flushed_rot]
  obtain ⟨h0, h1, h2⟩ := idx10 t
  have ht := val_lt t
  funext y
  rw [View.read_apply]
  have hy0 : (y 0).val < 1 := (y 0).isLt
  have hy1 : (y 1).val < 128 := (y 1).isLt
  have hy2 : (y 2).val < 128 := (y 2).isLt
  have hb0 : (((cfg0.win 10).blk t).view.emb y 0).val = win0_10.index t 0 * 1 + 1 * (y 0).val := rfl
  have hb1 : (((cfg0.win 10).blk t).view.emb y 1).val = win0_10.index t 1 * 128 + 1 * (y 1).val := rfl
  have hb2 : (((cfg0.win 10).blk t).view.emb y 2).val = win0_10.index t 2 * 128 + 1 * (y 2).val := rfl
  rw [h0] at hb0
  rw [h1] at hb1
  rw [h2] at hb2
  have e : ((cfg0.win 10).blk t).view.emb y = ix3 (⟨t.val / 16, by omega⟩ : Fin 4) (tim t ⟨(y 1).val, hy1⟩) (⟨(y 2).val, hy2⟩ : Fin 128) := by
    funext a; apply Fin.ext
    match a with
    | ⟨0, _⟩ => show (((cfg0.win 10).blk t).view.emb y 0).val = t.val / 16; omega
    | ⟨1, _⟩ => show (((cfg0.win 10).blk t).view.emb y 1).val = t.val % 16 * 128 + (y 1).val; omega
    | ⟨2, _⟩ => show (((cfg0.win 10).blk t).view.emb y 2).val = (y 2).val; omega
  have hy : (cfg0.win 10).xinj (grid0.coords t) y = ix3 (0 : Fin 1) (⟨(y 1).val, hy1⟩ : Fin 128) (⟨(y 2).val, hy2⟩ : Fin 128) := by
    funext a; apply Fin.ext
    match a with
    | ⟨0, _⟩ => show (y 0).val = 0; omega
    | ⟨1, _⟩ => rfl
    | ⟨2, _⟩ => rfl
  rw [e]
  show rot (F := Ideal) (iblk m c 2 t) (iblk m c 5 t) (iblk m c 6 t) ((cfg0.win 10).xinj (grid0.coords t) y) = entry _ _ _ _ _
  rw [hy]
  exact rot_entry m c t _ _

/-- The array after the run. -/
theorem final (c : Dev nD) : (dats m 0 c).arrAt 10 cfg0.N = whole (m ((c : Thread nD τ).loc main_arg0)) :=
  (dats m 0 c).arrAt_eq_of_cover 10 _ (fun t _ => flushed_eq m c t) (fun i => (Value.covered_iff10 i).2 (by
    have h0 : (i 0).val < 4 := (i 0).isLt; have h1 : (i 1).val < 2048 := (i 1).isLt; have h2 : (i 2).val < 128 := (i 2).isLt; omega))

end Cert.SwaIdeal.Keys

namespace Cert.Proof
open Idealize.ShloMosaic Idealize.SL.Sem

/-- The kernel's rotated keys and the reference's compute the same extended reals. -/
theorem algebraic_keys : Cert.algebraic_SwaIdeal_RefWIdeal (hSwaIdeal := Cert.SwaIdeal.Gen.facts) (hRefWIdeal := Cert.RefWIdeal.Gen.facts) := by
  intro m ρ m' ρ' _ hagree
  refine ⟨fun c => Cert.RefWIdeal.Keys.whole (m ((c.tc : Thread Cert.SwaIdeal.nD Cert.SwaIdeal.τ).loc Cert.SwaIdeal.main_arg0)),
    (θ_run _ _ _).mono (fun r h c => ⟨(h c).2.1.trans (Cert.SwaIdeal.Keys.final m c), (h c).2.2⟩) (Cert.SwaIdeal.Value.run_blocks (F := Ideal) m ρ), ?_⟩
  refine (θ_run _ _ _).mono (fun r h c => ⟨(h c).1.trans ?_, (h c).2⟩) (Cert.RefWIdeal.Value.run (F := Ideal) m' ρ')
  rw [Cert.RefWIdeal.Keys.ref_eq, (hagree c).1]

end Cert.Proof
end
-- ==== Proof.ProjC.lean ====
module

public import proofs.«01_k».proof.Defs
public import proofs.«01_k».proof.Proof.Gen.ProjCIdeal.Value
public import proofs.«01_k».proof.Proof.Gen.RefCIdeal.Run
public import Idealize.ShloMosaic.Lib.Pointwise
public import Idealize.ShloMosaic.Lib.KernelVsHost

@[expose] public section
noncomputable section

/-! The input projection of the columns 6528 to 6544, padded with zeros to 128 lanes: the kernel's blocks of 1024 rows by 128 columns put together are the
    product of the tokens with those columns of the first layer's weights, the product alone. -/

namespace Cert.ProjCIdeal.Close
open Idealize.ShloMosaic Idealize.ShloMosaic.TcCoe Idealize.SL.Sem Idealize.ShloMosaic.Pointwise
open Cert.ProjCIdeal Cert.ProjCIdeal.Gen

/-- The tokens as launched. -/
abbrev Tok := FVec Ideal S4x2048x2048 .f32
/-- The weights as launched. -/
abbrev Wts := FVec Ideal S2x2048x21904 .f32

/-- One entry of the result: a token's row against a column of the first layer's weights, and zero past the 16 columns. -/
def entry (a : Tok) (w : Wts) (i : Fin 8192) (j : Fin 128) : EReal :=
  if h : j.val < 16 then ∑ k : Fin 2048, a (ix3 ⟨i.val / 2048, by omega⟩ ⟨i.val % 2048, by omega⟩ k) * w (ix3 0 k ⟨6528 + j.val, by omega⟩)
  else 0

/-- The whole result, entry by entry. -/
def whole (a : Tok) (w : Wts) : FVec Ideal S8192x128 .f32 := fun i => entry a w (i 0) (i 1)

/-- What the body stores, entry by entry: the product of its two blocks. -/
theorem pay_apply (x : Vec Ideal S1024x2048 .bf16) (y : Vec Ideal S2048x128 .bf16) (r : Fin 1024) (l : Fin 128) :
    k0_pay1 x y (ix2 r l) = ∑ k : Fin 2048, x (ix2 r k) * y (ix2 k l) := by
  unfold k0_pay1
  try dsimp only
  pointwise

variable (m : (ℓ : Loc nD τ sig) → Buf (Elt Ideal) ℓ) (ρ : Dev nD → PrngReg)

/-- The tokens row by row. -/
def tok (a : Tok) : FVec Ideal S8192x2048 .bf16 := truncf .bf16 (shapeCast S8192x2048 a shapeCasts_S4x2048x2048_S8192x2048) bitsLt_bf16_f32
/-- The columns 6528 to 6544 of the first layer's weights, padded with zeros. -/
def wts (w : Wts) : FVec Ideal S2048x128 .bf16 := truncf .bf16 (pad S2048x128 ![0, 0] ![0, 112] ![0, 0] (extractStridedSlice S2048x16 ![0, 6528]
    (shapeCast S2048x21904 (extractStridedSlice S1x2048x21904 ![0, 0, 0] w slices_S2x2048x21904_S1x2048x21904_0_0_0)
      shapeCasts_S1x2048x21904_S2048x21904) slices_S2048x21904_S2048x16_0_6528) (sitofp (F := Ideal) .f32 (constantI S_ 32 0#32))
    pads_S2048x16_S2048x128_000_01120 h_S_) bitsLt_bf16_f32

/-- The tokens the region finds: the argument's, row by row. -/
theorem tok_eq (c : Dev nD) : V m c main_v1 = tok (m ((c : Thread nD τ).loc main_arg0)) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- The weights the region finds: the padded columns of the argument's first layer. -/
theorem wts_eq (c : Dev nD) : V m c main_v6 = wts (m ((c : Thread nD τ).loc main_arg1)) := by
  show StableHlo.after (List.flatten [hostOps0, hostOps0_1, hostOps0_2]) (fun b => m (c, b)) (Proc.devRef .tc main_v6) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results <;> rfl

/-- A token's entry in row-major rows. -/
theorem tok_apply (a : Tok) (i : Fin 8192) (k : Fin 2048) : tok a (ix2 i k) = a (ix3 ⟨i.val / 2048, by omega⟩ ⟨i.val % 2048, by omega⟩ k) := by
  unfold tok
  pointwise
/-- The value that fills is zero. -/
theorem fill_zero (j : S_.Idx) : (sitofp (F := Ideal) .f32 (constantI S_ 32 0#32) : FVec Ideal S_ .f32) j = 0 := by
  show ((((0#32 : BitVec 32).toInt : ℤ) : ℝ) : EReal) = 0
  simp
/-- A weight's entry among the padded columns. -/
theorem wts_apply (w : Wts) (k : Fin 2048) (j : Fin 128) :
    wts w (ix2 k j) = if h : j.val < 16 then w (ix3 0 k ⟨6528 + j.val, by omega⟩) else 0 := by
  unfold wts
  show pad (s := S2048x16) S2048x128 ![0, 0] ![0, 112] ![0, 0] _ _ pads_S2048x16_S2048x128_000_01120 h_S_ (ix2 k j) = _
  split
  · rename_i h
    refine (pad_apply_of_inside _ _ _ _ _ _ _ _ (ix2 k ⟨j.val, h⟩) fun a => ?_).trans ?_
    · match a with
      | ⟨0, _⟩ => show k.val = 0 + k.val * 1; omega
      | ⟨1, _⟩ => show j.val = 0 + j.val * 1; omega
    · pointwise
  · rename_i h
    refine (pad_apply_of_not_inside _ _ _ _ _ _ _ _ ⟨1, by decide⟩ fun hin => h ?_).trans (fill_zero _)
    have h2 : (j.val - 0) / (0 + 1) < 16 := hin.2.2
    omega

/-- Where the windows stand at each grid point. -/
theorem idx : ∀ t : Fin cfg0.N, (win0_0.index t 0 = t.val / 1 ∧ win0_0.index t 1 = 0) ∧ (win0_1.index t 0 = 0 ∧ win0_1.index t 1 = t.val % 1)
    ∧ (win0_2.index t 0 = t.val / 1 ∧ win0_2.index t 1 = t.val % 1) :=
  (by decide +kernel : ∀ t : Fin grid0.N, _)
theorem val_lt (t : Fin cfg0.N) : t.val < 8 := lt_of_lt_of_eq t.isLt N_0

/-- A point's block of tokens. -/
theorem blk0_apply (c : Dev nD) (t : Fin cfg0.N) (r : Fin 1024) (k : Fin 2048) :
    (iblk m c 0 t : Vec Ideal S1024x2048 .bf16) (ix2 r k)
      = (V m c main_v1 : Vec Ideal S8192x2048 .bf16) (ix2 ⟨t.val / 1 * 1024 + r.val, by have := val_lt t; omega⟩ k) := by
  obtain ⟨⟨h0, h1⟩, -, -⟩ := idx t
  unfold iblk
  rw [View.read_apply]
  show V m c main_v1 _ = V m c main_v1 _
  congr 1
  funext a
  apply Fin.ext
  match a with
  | ⟨0, _⟩ => show win0_0.index t 0 * 1024 + 1 * r.val = _; rw [h0]; show _ = t.val / 1 * 1024 + r.val; omega
  | ⟨1, _⟩ => show win0_0.index t 1 * 2048 + 1 * k.val = k.val; rw [h1]; omega

/-- A point's block of weights. -/
theorem blk1_apply (c : Dev nD) (t : Fin cfg0.N) (k : Fin 2048) (l : Fin 128) :
    (iblk m c 1 t : Vec Ideal S2048x128 .bf16) (ix2 k l)
      = (V m c main_v6 : Vec Ideal S2048x128 .bf16) (ix2 k ⟨t.val % 1 * 128 + l.val, by omega⟩) := by
  obtain ⟨-, ⟨h0, h1⟩, -⟩ := idx t
  unfold iblk
  rw [View.read_apply]
  show V m c main_v6 _ = V m c main_v6 _
  congr 1
  funext a
  apply Fin.ext
  match a with
  | ⟨0, _⟩ => show win0_1.index t 0 * 2048 + 1 * k.val = k.val; rw [h0]; omega
  | ⟨1, _⟩ => show win0_1.index t 1 * 128 + 1 * l.val = _; rw [h1]; show _ = t.val % 1 * 128 + l.val; omega

/-- The whole-buffer loads read the blocks and the one covering store leaves its payload. -/
theorem out_eq (x0 : Vec Ideal S1024x2048 .bf16) (x1 : Vec Ideal S2048x128 .bf16) : out0_2 (F := Ideal) x0 x1 = k0_pay1 x0 x1 := by
  have hz : (![0, 0] : Fin 2 → Nat) = fun _ => 0 := funext fun a => by fin_cases a <;> rfl
  unfold out0_2
  rw [View.canon_unit_zero hz, View.ld_unit_zero (S := S1024x2048) hz, View.ld_unit_zero (S := S2048x128) hz]

/-- What a point writes back is its block of the whole result. -/
theorem flushed_eq (c : Dev nD) (t : Fin cfg0.N) : (dats m 0 c).flushed 2 t
    = ((cfg0.win 2).blk t).view.read (Elt Ideal) (whole (m ((c : Thread nD τ).loc main_arg0)) (m ((c : Thread nD τ).loc main_arg1))) := by
  rw [Value.flushed2 m c t, out_eq]
  obtain ⟨-, -, ⟨h0, h1⟩⟩ := idx t
  have ht := val_lt t
  funext y
  rw [View.read_apply]
  have hy0 : (y 0).val < 1024 := (y 0).isLt
  have hy1 : (y 1).val < 128 := (y 1).isLt
  have hb0 : (((cfg0.win 2).blk t).view.emb y 0).val = win0_2.index t 0 * 1024 + 1 * (y 0).val := rfl
  have hb1 : (((cfg0.win 2).blk t).view.emb y 1).val = win0_2.index t 1 * 128 + 1 * (y 1).val := rfl
  rw [h0] at hb0
  rw [h1] at hb1
  have e0 : ((cfg0.win 2).blk t).view.emb y 0 = (⟨t.val / 1 * 1024 + (y 0).val, by omega⟩ : Fin 8192) := Fin.ext (by rw [hb0]; simp)
  have e1 : ((cfg0.win 2).blk t).view.emb y 1 = (⟨t.val % 1 * 128 + (y 1).val, by omega⟩ : Fin 128) := Fin.ext (by rw [hb1]; simp)
  have hy : (cfg0.win 2).xinj (grid0.coords t) y = ix2 (⟨(y 0).val, hy0⟩ : Fin 1024) (⟨(y 1).val, hy1⟩ : Fin 128) := by
    funext a; apply Fin.ext
    match a with
    | ⟨0, _⟩ => rfl
    | ⟨1, _⟩ => rfl
  show k0_pay1 (iblk m c 0 t) (iblk m c 1 t) ((cfg0.win 2).xinj (grid0.coords t) y) = entry _ _ (((cfg0.win 2).blk t).view.emb y 0) (((cfg0.win 2).blk t).view.emb y 1)
  rw [hy, pay_apply, e0, e1]
  unfold entry
  have hx := fun (r : Fin 1024) (k : Fin 2048) => (blk0_apply m c t r k).trans ((congrFun (tok_eq m c) _).trans (tok_apply _ _ _))
  have hw := fun (k : Fin 2048) (l : Fin 128) => (blk1_apply m c t k l).trans ((congrFun (wts_eq m c) _).trans (wts_apply _ _ _))
  split
  · rename_i h
    refine Finset.sum_congr rfl fun k _ => ?_
    rw [hx, hw, dif_pos h]
  · rename_i h
    refine Finset.sum_eq_zero fun k _ => ?_
    rw [hw, dif_neg h, mul_zero]

/-- Every entry is in some point's block. -/
theorem cover (i : S8192x128.Idx) : ∃ t : Fin cfg0.N, (cfg0.win 2).flush t = true ∧ i ∈ ((cfg0.win 2).blk t).view.set := by
  have h0 : (i 0).val < 8192 := (i 0).isLt
  have h1 : (i 1).val < 128 := (i 1).isLt
  obtain ⟨t, hv⟩ : ∃ t : Fin cfg0.N, t.val = (i 0).val / 1024 * 1 + (i 1).val / 128 := ⟨⟨_, lt_of_lt_of_eq (by omega) N_0.symm⟩, rfl⟩
  refine ⟨t, (by decide +kernel : ∀ t : Fin grid0.N, (cfg0.win 2).flush t = true) _, ?_⟩
  obtain ⟨-, -, ⟨e0, e1⟩⟩ := idx t
  show i ∈ ((View.whole main_v7).slice (win0_2.rect t)).set
  rw [View.set_slice_whole, Rect.mem_set_unit]
  intro a
  match a with
  | ⟨0, _⟩ => show win0_2.index t 0 * 1024 ≤ (i 0).val ∧ (i 0).val < win0_2.index t 0 * 1024 + 1024; rw [e0]; omega
  | ⟨1, _⟩ => show win0_2.index t 1 * 128 ≤ (i 1).val ∧ (i 1).val < win0_2.index t 1 * 128 + 128; rw [e1]; omega

/-- The array after the run. -/
theorem final (c : Dev nD) : (dats m 0 c).arrAt 2 cfg0.N = whole (m ((c : Thread nD τ).loc main_arg0)) (m ((c : Thread nD τ).loc main_arg1)) :=
  (dats m 0 c).arrAt_eq_of_cover 2 _ (fun t _ => flushed_eq m c t) cover

end Cert.ProjCIdeal.Close

namespace Cert.RefCIdeal.Close
open Idealize.ShloMosaic Idealize.ShloMosaic.TcCoe Idealize.SL.Sem Idealize.ShloMosaic.Pointwise
open Cert.RefCIdeal Cert.RefCIdeal.Gen
open Cert.ProjCIdeal.Close (Tok Wts entry whole)

/-- The reference's result is the kernel's, entry by entry. -/
theorem ref_eq (a : Tok) (w : Wts) : (pad S8192x128 ![0, 0] ![0, 112] ![0, 0] (extractStridedSlice S8192x16 ![0, 6528] (Host.dotGeneral dot_S8192x2048_S2048x21904_S8192x21904_1_0_0_1_n_n none (shapeCast _ a shapeCasts_S4x2048x2048_S8192x2048) (shapeCast _ (extractStridedSlice S1x2048x21904 ![0, 0, 0] w slices_S2x2048x21904_S1x2048x21904_0_0_0) shapeCasts_S1x2048x21904_S2048x21904)) slices_S8192x21904_S8192x16_0_6528) (sitofp (F := Ideal) .f32 (constantI S_ 32 0#32)) pads_S8192x16_S8192x128_000_01120 h_S_ : FVec Ideal S8192x128 .f32) = whole a w := by
  funext i
  rw [eq_ix2 i]
  show _ = entry a w (i 0) (i 1)
  unfold entry
  generalize i 0 = r
  generalize (i 1 : Fin 128) = l
  split
  · rename_i h
    refine (pad_apply_of_inside _ _ _ _ _ _ _ _ (ix2 r ⟨l.val, h⟩) fun a => ?_).trans ?_
    · match a with
      | ⟨0, _⟩ => show r.val = 0 + r.val * 1; omega
      | ⟨1, _⟩ => show l.val = 0 + l.val * 1; omega
    · pointwise
  · rename_i h
    refine (pad_apply_of_not_inside _ _ _ _ _ _ _ _ ⟨1, by decide⟩ fun hin => h ?_).trans (Cert.ProjCIdeal.Close.fill_zero _)
    have h2 : (l.val - 0) / (0 + 1) < 16 := hin.2.2
    omega

end Cert.RefCIdeal.Close

namespace Cert.Proof
open Idealize.ShloMosaic Idealize.SL.Sem

/-- The kernel's projection of these columns and the reference's compute the same extended reals. -/
theorem algebraic_projC : Cert.algebraic_ProjCIdeal_RefCIdeal (hProjCIdeal := Cert.ProjCIdeal.Gen.facts) (hRefCIdeal := Cert.RefCIdeal.Gen.facts) := by
  intro m ρ m' ρ' _ hagree
  refine ⟨fun c => Cert.ProjCIdeal.Close.whole (m ((c.tc : Thread Cert.ProjCIdeal.nD Cert.ProjCIdeal.τ).loc Cert.ProjCIdeal.main_arg0)) (m ((c.tc : Thread Cert.ProjCIdeal.nD Cert.ProjCIdeal.τ).loc Cert.ProjCIdeal.main_arg1)),
    (θ_run _ _ _).mono (fun r h c => ⟨(h c).1.trans (Cert.ProjCIdeal.Close.final m c), (h c).2⟩) (Cert.ProjCIdeal.Value.run_blocks (F := Ideal) m ρ), ?_⟩
  refine (θ_run _ _ _).mono (fun r h c => ⟨(h c).1.trans ?_, (h c).2⟩) (Cert.RefCIdeal.Value.run (F := Ideal) m' ρ')
  rw [(hagree c).1, (hagree c).2]
  exact Cert.RefCIdeal.Close.ref_eq _ _

end Cert.Proof
end
-- ==== Proof.lean ====
module

public import proofs.«01_k».proof.Defs
public import proofs.«01_k».proof.Proof.KFrame
public import proofs.«01_k».proof.Proof.Value
public import proofs.«01_k».proof.Proof.StepRun
public import proofs.«01_k».proof.Proof.Gen.ProjA.Frame
public import proofs.«01_k».proof.Proof.ProjA
public import proofs.«01_k».proof.Proof.Gen.ProjB.Frame
public import proofs.«01_k».proof.Proof.ProjB
public import proofs.«01_k».proof.Proof.Gen.ProjQ.Frame
public import proofs.«01_k».proof.Proof.ProjQ
public import proofs.«01_k».proof.Proof.Gen.ProjV.Frame
public import proofs.«01_k».proof.Proof.ProjV
public import proofs.«01_k».proof.Proof.Gen.ProjD.Frame
public import proofs.«01_k».proof.Proof.ProjD
public import proofs.«01_k».proof.Proof.Gen.ProjZ.Frame
public import proofs.«01_k».proof.Proof.ProjZ
public import proofs.«01_k».proof.Proof.Gen.ProjG.Frame
public import proofs.«01_k».proof.Proof.ProjG
public import proofs.«01_k».proof.Proof.Gen.Merge.Frame
public import proofs.«01_k».proof.Proof.Merge
public import proofs.«01_k».proof.Proof.Gen.OutLn.Frame
public import proofs.«01_k».proof.Proof.OutLn
public import proofs.«01_k».proof.Proof.Gen.SampA.Frame
public import proofs.«01_k».proof.Proof.SampA
public import proofs.«01_k».proof.Proof.Gen.SampB.Frame
public import proofs.«01_k».proof.Proof.SampB
public import proofs.«01_k».proof.Proof.Gen.SampQ.Frame
public import proofs.«01_k».proof.Proof.SampQ
public import proofs.«01_k».proof.Proof.Gen.SampO.Frame
public import proofs.«01_k».proof.Proof.SampO
public import proofs.«01_k».proof.Proof.Retention
public import proofs.«01_k».proof.Proof.Gen.Swa.Frame
public import proofs.«01_k».proof.Proof.Keys
public import proofs.«01_k».proof.Proof.Gen.ProjC.Frame
public import proofs.«01_k».proof.Proof.ProjC
public import Idealize.ShloMosaic.Lib.Quiescent

@[expose] public section

noncomputable section

namespace Cert.Proof

open Idealize.ShloMosaic Idealize.SL.Sem

/-- The host program `ReferenceIdeal` ends with its arguments unchanged: its run, read at them. It has no semaphore. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2.2,
    Idealize.ShloMosaic.sem_eq_zero_of_no_sems (by decide) r.2⟩) (Cert.ReferenceIdeal.Value.run (F := Ideal) m ρ)

/-- The host program `RefAIdeal` ends with its arguments unchanged: its run, read at them. It has no semaphore. -/
theorem frame_RefAIdeal : Cert.quiescent_RefAIdeal (hRefAIdeal := Cert.RefAIdeal.Gen.facts) := fun m ρ _ =>
  (θ_run Cert.RefAIdeal.defs _ _).mono (fun r h => ⟨fun c => (h c).2,
    Idealize.ShloMosaic.sem_eq_zero_of_no_sems (by decide) r.2⟩) (Cert.RefAIdeal.Value.run (F := Ideal) m ρ)

/-- The host program `RefBIdeal` ends with its arguments unchanged: its run, read at them. It has no semaphore. -/
theorem frame_RefBIdeal : Cert.quiescent_RefBIdeal (hRefBIdeal := Cert.RefBIdeal.Gen.facts) := fun m ρ _ =>
  (θ_run Cert.RefBIdeal.defs _ _).mono (fun r h => ⟨fun c => (h c).2,
    Idealize.ShloMosaic.sem_eq_zero_of_no_sems (by decide) r.2⟩) (Cert.RefBIdeal.Value.run (F := Ideal) m ρ)

/-- The host program `RefQIdeal` ends with its arguments unchanged: its run, read at them. It has no semaphore. -/
theorem frame_RefQIdeal : Cert.quiescent_RefQIdeal (hRefQIdeal := Cert.RefQIdeal.Gen.facts) := fun m ρ _ =>
  (θ_run Cert.RefQIdeal.defs _ _).mono (fun r h => ⟨fun c => (h c).2,
    Idealize.ShloMosaic.sem_eq_zero_of_no_sems (by decide) r.2⟩) (Cert.RefQIdeal.Value.run (F := Ideal) m ρ)

/-- The host program `RefVIdeal` ends with its arguments unchanged: its run, read at them. It has no semaphore. -/
theorem frame_RefVIdeal : Cert.quiescent_RefVIdeal (hRefVIdeal := Cert.RefVIdeal.Gen.facts) := fun m ρ _ =>
  (θ_run Cert.RefVIdeal.defs _ _).mono (fun r h => ⟨fun c => (h c).2,
    Idealize.ShloMosaic.sem_eq_zero_of_no_sems (by decide) r.2⟩) (Cert.RefVIdeal.Value.run (F := Ideal) m ρ)

/-- The host program `RefDIdeal` ends with its arguments unchanged: its run, read at them. It has no semaphore. -/
theorem frame_RefDIdeal : Cert.quiescent_RefDIdeal (hRefDIdeal := Cert.RefDIdeal.Gen.facts) := fun m ρ _ =>
  (θ_run Cert.RefDIdeal.defs _ _).mono (fun r h => ⟨fun c => (h c).2,
    Idealize.ShloMosaic.sem_eq_zero_of_no_sems (by decide) r.2⟩) (Cert.RefDIdeal.Value.run (F := Ideal) m ρ)

/-- The host program `RefZIdeal` ends with its arguments unchanged: its run, read at them. It has no semaphore. -/
theorem frame_RefZIdeal : Cert.quiescent_RefZIdeal (hRefZIdeal := Cert.RefZIdeal.Gen.facts) := fun m ρ _ =>
  (θ_run Cert.RefZIdeal.defs _ _).mono (fun r h => ⟨fun c => (h c).2,
    Idealize.ShloMosaic.sem_eq_zero_of_no_sems (by decide) r.2⟩) (Cert.RefZIdeal.Value.run (F := Ideal) m ρ)

/-- The host program `RefGIdeal` ends with its arguments unchanged: its run, read at them. It has no semaphore. -/
theorem frame_RefGIdeal : Cert.quiescent_RefGIdeal (hRefGIdeal := Cert.RefGIdeal.Gen.facts) := fun m ρ _ =>
  (θ_run Cert.RefGIdeal.defs _ _).mono (fun r h => ⟨fun c => (h c).2,
    Idealize.ShloMosaic.sem_eq_zero_of_no_sems (by decide) r.2⟩) (Cert.RefGIdeal.Value.run (F := Ideal) m ρ)

/-- The host program `RefMIdeal` ends with its arguments unchanged: its run, read at them. It has no semaphore. -/
theorem frame_RefMIdeal : Cert.quiescent_RefMIdeal (hRefMIdeal := Cert.RefMIdeal.Gen.facts) := fun m ρ _ =>
  (θ_run Cert.RefMIdeal.defs _ _).mono (fun r h => ⟨fun c => (h c).2,
    Idealize.ShloMosaic.sem_eq_zero_of_no_sems (by decide) r.2⟩) (Cert.RefMIdeal.Value.run (F := Ideal) m ρ)

/-- The host program `RefOIdeal` ends with its arguments unchanged: its run, read at them. It has no semaphore. -/
theorem frame_RefOIdeal : Cert.quiescent_RefOIdeal (hRefOIdeal := Cert.RefOIdeal.Gen.facts) := fun m ρ _ =>
  (θ_run Cert.RefOIdeal.defs _ _).mono (fun r h => ⟨fun c => (h c).2.2,
    Idealize.ShloMosaic.sem_eq_zero_of_no_sems (by decide) r.2⟩) (Cert.RefOIdeal.Value.run (F := Ideal) m ρ)

/-- The host program `RefSAIdeal` ends with its arguments unchanged: its run, read at them. It has no semaphore. -/
theorem frame_RefSAIdeal : Cert.quiescent_RefSAIdeal (hRefSAIdeal := Cert.RefSAIdeal.Gen.facts) := fun m ρ _ =>
  (θ_run Cert.RefSAIdeal.defs _ _).mono (fun r h => ⟨fun c => (h c).2,
    Idealize.ShloMosaic.sem_eq_zero_of_no_sems (by decide) r.2⟩) (Cert.RefSAIdeal.Value.run (F := Ideal) m ρ)

/-- The host program `RefSBIdeal` ends with its arguments unchanged: its run, read at them. It has no semaphore. -/
theorem frame_RefSBIdeal : Cert.quiescent_RefSBIdeal (hRefSBIdeal := Cert.RefSBIdeal.Gen.facts) := fun m ρ _ =>
  (θ_run Cert.RefSBIdeal.defs _ _).mono (fun r h => ⟨fun c => (h c).2,
    Idealize.ShloMosaic.sem_eq_zero_of_no_sems (by decide) r.2⟩) (Cert.RefSBIdeal.Value.run (F := Ideal) m ρ)

/-- The host program `RefSQIdeal` ends with its arguments unchanged: its run, read at them. It has no semaphore. -/
theorem frame_RefSQIdeal : Cert.quiescent_RefSQIdeal (hRefSQIdeal := Cert.RefSQIdeal.Gen.facts) := fun m ρ _ =>
  (θ_run Cert.RefSQIdeal.defs _ _).mono (fun r h => ⟨fun c => (h c).2,
    Idealize.ShloMosaic.sem_eq_zero_of_no_sems (by decide) r.2⟩) (Cert.RefSQIdeal.Value.run (F := Ideal) m ρ)

/-- The host program `RefSOIdeal` ends with its arguments unchanged: its run, read at them. It has no semaphore. -/
theorem frame_RefSOIdeal : Cert.quiescent_RefSOIdeal (hRefSOIdeal := Cert.RefSOIdeal.Gen.facts) := fun m ρ _ =>
  (θ_run Cert.RefSOIdeal.defs _ _).mono (fun r h => ⟨fun c => (h c).2.2,
    Idealize.ShloMosaic.sem_eq_zero_of_no_sems (by decide) r.2⟩) (Cert.RefSOIdeal.Value.run (F := Ideal) m ρ)

/-- The host program `RefWIdeal` ends with its arguments unchanged: its run, read at them. It has no semaphore. -/
theorem frame_RefWIdeal : Cert.quiescent_RefWIdeal (hRefWIdeal := Cert.RefWIdeal.Gen.facts) := fun m ρ _ =>
  (θ_run Cert.RefWIdeal.defs _ _).mono (fun r h => ⟨fun c => (h c).2,
    Idealize.ShloMosaic.sem_eq_zero_of_no_sems (by decide) r.2⟩) (Cert.RefWIdeal.Value.run (F := Ideal) m ρ)

/-- The host program `RefCIdeal` ends with its arguments unchanged: its run, read at them. It has no semaphore. -/
theorem frame_RefCIdeal : Cert.quiescent_RefCIdeal (hRefCIdeal := Cert.RefCIdeal.Gen.facts) := fun m ρ _ =>
  (θ_run Cert.RefCIdeal.defs _ _).mono (fun r h => ⟨fun c => (h c).2,
    Idealize.ShloMosaic.sem_eq_zero_of_no_sems (by decide) r.2⟩) (Cert.RefCIdeal.Value.run (F := Ideal) m ρ)

/-- Every claim of the certificate: the facts of the programs, their frames, and what each kernel computes. -/
theorem claim : Cert.Claim := ⟨
  Cert.Kernel.Gen.facts,
  Cert.KernelIdeal.Gen.facts,
  Cert.ReferenceIdeal.Gen.facts,
  Cert.ProjA.Gen.facts,
  Cert.ProjAIdeal.Gen.facts,
  Cert.RefAIdeal.Gen.facts,
  Cert.ProjB.Gen.facts,
  Cert.ProjBIdeal.Gen.facts,
  Cert.RefBIdeal.Gen.facts,
  Cert.ProjQ.Gen.facts,
  Cert.ProjQIdeal.Gen.facts,
  Cert.RefQIdeal.Gen.facts,
  Cert.ProjV.Gen.facts,
  Cert.ProjVIdeal.Gen.facts,
  Cert.RefVIdeal.Gen.facts,
  Cert.ProjD.Gen.facts,
  Cert.ProjDIdeal.Gen.facts,
  Cert.RefDIdeal.Gen.facts,
  Cert.ProjZ.Gen.facts,
  Cert.ProjZIdeal.Gen.facts,
  Cert.RefZIdeal.Gen.facts,
  Cert.ProjG.Gen.facts,
  Cert.ProjGIdeal.Gen.facts,
  Cert.RefGIdeal.Gen.facts,
  Cert.Merge.Gen.facts,
  Cert.MergeIdeal.Gen.facts,
  Cert.RefMIdeal.Gen.facts,
  Cert.OutLn.Gen.facts,
  Cert.OutLnIdeal.Gen.facts,
  Cert.RefOIdeal.Gen.facts,
  Cert.SampA.Gen.facts,
  Cert.SampAIdeal.Gen.facts,
  Cert.RefSAIdeal.Gen.facts,
  Cert.SampB.Gen.facts,
  Cert.SampBIdeal.Gen.facts,
  Cert.RefSBIdeal.Gen.facts,
  Cert.SampQ.Gen.facts,
  Cert.SampQIdeal.Gen.facts,
  Cert.RefSQIdeal.Gen.facts,
  Cert.SampO.Gen.facts,
  Cert.SampOIdeal.Gen.facts,
  Cert.RefSOIdeal.Gen.facts,
  Cert.Swa.Gen.facts,
  Cert.SwaIdeal.Gen.facts,
  Cert.RefWIdeal.Gen.facts,
  Cert.ProjC.Gen.facts,
  Cert.ProjCIdeal.Gen.facts,
  Cert.RefCIdeal.Gen.facts,
  fun m ρ _ => Cert.Kernel.Gen.frame m ρ,
  fun m ρ _ => Cert.KernelIdeal.Gen.frame m ρ,
  frame_ReferenceIdeal,
  fun m ρ _ => Cert.ProjA.Gen.frame m ρ,
  fun m ρ _ => Cert.ProjAIdeal.Gen.frame m ρ,
  frame_RefAIdeal,
  fun m ρ _ => Cert.ProjB.Gen.frame m ρ,
  fun m ρ _ => Cert.ProjBIdeal.Gen.frame m ρ,
  frame_RefBIdeal,
  fun m ρ _ => Cert.ProjQ.Gen.frame m ρ,
  fun m ρ _ => Cert.ProjQIdeal.Gen.frame m ρ,
  frame_RefQIdeal,
  fun m ρ _ => Cert.ProjV.Gen.frame m ρ,
  fun m ρ _ => Cert.ProjVIdeal.Gen.frame m ρ,
  frame_RefVIdeal,
  fun m ρ _ => Cert.ProjD.Gen.frame m ρ,
  fun m ρ _ => Cert.ProjDIdeal.Gen.frame m ρ,
  frame_RefDIdeal,
  fun m ρ _ => Cert.ProjZ.Gen.frame m ρ,
  fun m ρ _ => Cert.ProjZIdeal.Gen.frame m ρ,
  frame_RefZIdeal,
  fun m ρ _ => Cert.ProjG.Gen.frame m ρ,
  fun m ρ _ => Cert.ProjGIdeal.Gen.frame m ρ,
  frame_RefGIdeal,
  fun m ρ _ => Cert.Merge.Gen.frame m ρ,
  fun m ρ _ => Cert.MergeIdeal.Gen.frame m ρ,
  frame_RefMIdeal,
  fun m ρ _ => Cert.OutLn.Gen.frame m ρ,
  fun m ρ _ => Cert.OutLnIdeal.Gen.frame m ρ,
  frame_RefOIdeal,
  fun m ρ _ => Cert.SampA.Gen.frame m ρ,
  fun m ρ _ => Cert.SampAIdeal.Gen.frame m ρ,
  frame_RefSAIdeal,
  fun m ρ _ => Cert.SampB.Gen.frame m ρ,
  fun m ρ _ => Cert.SampBIdeal.Gen.frame m ρ,
  frame_RefSBIdeal,
  fun m ρ _ => Cert.SampQ.Gen.frame m ρ,
  fun m ρ _ => Cert.SampQIdeal.Gen.frame m ρ,
  frame_RefSQIdeal,
  fun m ρ _ => Cert.SampO.Gen.frame m ρ,
  fun m ρ _ => Cert.SampOIdeal.Gen.frame m ρ,
  frame_RefSOIdeal,
  fun m ρ _ => Cert.Swa.Gen.frame m ρ,
  fun m ρ _ => Cert.SwaIdeal.Gen.frame m ρ,
  frame_RefWIdeal,
  fun m ρ _ => Cert.ProjC.Gen.frame m ρ,
  fun m ρ _ => Cert.ProjCIdeal.Gen.frame m ρ,
  frame_RefCIdeal,
  trivial,
  algebraic_retention,
  trivial,
  algebraic_projA,
  trivial,
  algebraic_projB,
  trivial,
  algebraic_projQ,
  trivial,
  algebraic_projV,
  trivial,
  algebraic_projD,
  trivial,
  algebraic_projZ,
  trivial,
  algebraic_projG,
  trivial,
  algebraic_merge,
  trivial,
  algebraic_outln,
  trivial,
  algebraic_sampA,
  trivial,
  algebraic_sampB,
  trivial,
  algebraic_sampQ,
  trivial,
  algebraic_sampO,
  trivial,
  algebraic_keys,
  trivial,
  algebraic_projC⟩

end Cert.Proof

end
